-- ==== Defs.lean ====
def Pre_Kernel [hPre_own_cloud : Cert.Pre_own_cloud.Facts] (m : (ℓ : Loc Cert.Kernel.nD Cert.Kernel.τ Cert.Kernel.sig) → Buf (Elt Bits) ℓ) : Prop :=
  ∀ c : Dev Cert.Kernel.nD,
    (Cert.Pre_own_cloud.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_own_cloud : Cert.Pre_own_cloud.Facts] (m : (ℓ : Loc Cert.KernelIdeal.nD Cert.KernelIdeal.τ Cert.KernelIdeal.sig) → Buf (Elt Ideal) ℓ) : Prop :=
  ∀ c : Dev Cert.KernelIdeal.nD,
    (Cert.Pre_own_cloud.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_cloud [hPre_own_cloud : Cert.Pre_own_cloud.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_cloud.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_FeaturesIdeal_finite1 [hPre_finite1 : Cert.Pre_finite1.Facts] (m : (ℓ : Loc Cert.FeaturesIdeal.nD Cert.FeaturesIdeal.τ Cert.FeaturesIdeal.sig) → Buf (Elt Ideal) ℓ) : Prop :=
  ∀ c : Dev Cert.FeaturesIdeal.nD,
    (Cert.Pre_finite1.fn (F := Ideal) (m ((c.tc : Thread Cert.FeaturesIdeal.nD Cert.FeaturesIdeal.τ).loc Cert.FeaturesIdeal.main_arg0)) (m ((c.tc : Thread Cert.FeaturesIdeal.nD Cert.FeaturesIdeal.τ).loc Cert.FeaturesIdeal.main_arg1)) (m ((c.tc : Thread Cert.FeaturesIdeal.nD Cert.FeaturesIdeal.τ).loc Cert.FeaturesIdeal.main_arg2)) (m ((c.tc : Thread Cert.FeaturesIdeal.nD Cert.FeaturesIdeal.τ).loc Cert.FeaturesIdeal.main_arg3)) (m ((c.tc : Thread Cert.FeaturesIdeal.nD Cert.FeaturesIdeal.τ).loc Cert.FeaturesIdeal.main_arg4)) (m ((c.tc : Thread Cert.FeaturesIdeal.nD Cert.FeaturesIdeal.τ).loc Cert.FeaturesIdeal.main_arg5)) (m ((c.tc : Thread Cert.FeaturesIdeal.nD Cert.FeaturesIdeal.τ).loc Cert.FeaturesIdeal.main_arg6)) (m ((c.tc : Thread Cert.FeaturesIdeal.nD Cert.FeaturesIdeal.τ).loc Cert.FeaturesIdeal.main_arg7))) = (fun _ => 1#1)

def Pre_FeaturesReferenceIdeal (m : (ℓ : Loc Cert.FeaturesReferenceIdeal.nD Cert.FeaturesReferenceIdeal.τ Cert.FeaturesReferenceIdeal.sig) → Buf (Elt Ideal) ℓ) : Prop :=
  True

def Pre_FeaturesReferenceIdeal_finite1 [hPre_finite1 : Cert.Pre_finite1.Facts] (m : (ℓ : Loc Cert.FeaturesReferenceIdeal.nD Cert.FeaturesReferenceIdeal.τ Cert.FeaturesReferenceIdeal.sig) → Buf (Elt Ideal) ℓ) : Prop :=
  ∀ c : Dev Cert.FeaturesReferenceIdeal.nD,
    (Cert.Pre_finite1.fn (F := Ideal) (m ((c.tc : Thread Cert.FeaturesReferenceIdeal.nD Cert.FeaturesReferenceIdeal.τ).loc Cert.FeaturesReferenceIdeal.main_arg0)) (m ((c.tc : Thread Cert.FeaturesReferenceIdeal.nD Cert.FeaturesReferenceIdeal.τ).loc Cert.FeaturesReferenceIdeal.main_arg1)) (m ((c.tc : Thread Cert.FeaturesReferenceIdeal.nD Cert.FeaturesReferenceIdeal.τ).loc Cert.FeaturesReferenceIdeal.main_arg2)) (m ((c.tc : Thread Cert.FeaturesReferenceIdeal.nD Cert.FeaturesReferenceIdeal.τ).loc Cert.FeaturesReferenceIdeal.main_arg3)) (m ((c.tc : Thread Cert.FeaturesReferenceIdeal.nD Cert.FeaturesReferenceIdeal.τ).loc Cert.FeaturesReferenceIdeal.main_arg4)) (m ((c.tc : Thread Cert.FeaturesReferenceIdeal.nD Cert.FeaturesReferenceIdeal.τ).loc Cert.FeaturesReferenceIdeal.main_arg5)) (m ((c.tc : Thread Cert.FeaturesReferenceIdeal.nD Cert.FeaturesReferenceIdeal.τ).loc Cert.FeaturesReferenceIdeal.main_arg6)) (m ((c.tc : Thread Cert.FeaturesReferenceIdeal.nD Cert.FeaturesReferenceIdeal.τ).loc Cert.FeaturesReferenceIdeal.main_arg7))) = (fun _ => 1#1)

def Pre_Result (m : (ℓ : Loc Cert.Result.nD Cert.Result.τ Cert.Result.sig) → Buf (Elt Bits) ℓ) : Prop :=
  True

def Pre_ResultIdeal (m : (ℓ : Loc Cert.ResultIdeal.nD Cert.ResultIdeal.τ Cert.ResultIdeal.sig) → Buf (Elt Ideal) ℓ) : Prop :=
  True

def Pre_ResultIdeal_apart [hPre_apart : Cert.Pre_apart.Facts] (m : (ℓ : Loc Cert.ResultIdeal.nD Cert.ResultIdeal.τ Cert.ResultIdeal.sig) → Buf (Elt Ideal) ℓ) : Prop :=
  ∀ c : Dev Cert.ResultIdeal.nD,
    (Cert.Pre_apart.fn (F := Ideal) (m ((c.tc : Thread Cert.ResultIdeal.nD Cert.ResultIdeal.τ).loc Cert.ResultIdeal.main_arg0)) (m ((c.tc : Thread Cert.ResultIdeal.nD Cert.ResultIdeal.τ).loc Cert.ResultIdeal.main_arg1)) (m ((c.tc : Thread Cert.ResultIdeal.nD Cert.ResultIdeal.τ).loc Cert.ResultIdeal.main_arg2)) (m ((c.tc : Thread Cert.ResultIdeal.nD Cert.ResultIdeal.τ).loc Cert.ResultIdeal.main_arg3)) (m ((c.tc : Thread Cert.ResultIdeal.nD Cert.ResultIdeal.τ).loc Cert.ResultIdeal.main_arg4)) (m ((c.tc : Thread Cert.ResultIdeal.nD Cert.ResultIdeal.τ).loc Cert.ResultIdeal.main_arg5)) (m ((c.tc : Thread Cert.ResultIdeal.nD Cert.ResultIdeal.τ).loc Cert.ResultIdeal.main_arg6)) (m ((c.tc : Thread Cert.ResultIdeal.nD Cert.ResultIdeal.τ).loc Cert.ResultIdeal.main_arg7))) = (fun _ => 1#1)

def Pre_ResultReferenceIdeal (m : (ℓ : Loc Cert.ResultReferenceIdeal.nD Cert.ResultReferenceIdeal.τ Cert.ResultReferenceIdeal.sig) → Buf (Elt Ideal) ℓ) : Prop :=
  True

def Pre_ResultReferenceIdeal_apart [hPre_apart : Cert.Pre_apart.Facts] (m : (ℓ : Loc Cert.ResultReferenceIdeal.nD Cert.ResultReferenceIdeal.τ Cert.ResultReferenceIdeal.sig) → Buf (Elt Ideal) ℓ) : Prop :=
  ∀ c : Dev Cert.ResultReferenceIdeal.nD,
    (Cert.Pre_apart.fn (F := Ideal) (m ((c.tc : Thread Cert.ResultReferenceIdeal.nD Cert.ResultReferenceIdeal.τ).loc Cert.ResultReferenceIdeal.main_arg0)) (m ((c.tc : Thread Cert.ResultReferenceIdeal.nD Cert.ResultReferenceIdeal.τ).loc Cert.ResultReferenceIdeal.main_arg1)) (m ((c.tc : Thread Cert.ResultReferenceIdeal.nD Cert.ResultReferenceIdeal.τ).loc Cert.ResultReferenceIdeal.main_arg2)) (m ((c.tc : Thread Cert.ResultReferenceIdeal.nD Cert.ResultReferenceIdeal.τ).loc Cert.ResultReferenceIdeal.main_arg3)) (m ((c.tc : Thread Cert.ResultReferenceIdeal.nD Cert.ResultReferenceIdeal.τ).loc Cert.ResultReferenceIdeal.main_arg4)) (m ((c.tc : Thread Cert.ResultReferenceIdeal.nD Cert.ResultReferenceIdeal.τ).loc Cert.ResultReferenceIdeal.main_arg5)) (m ((c.tc : Thread Cert.ResultReferenceIdeal.nD Cert.ResultReferenceIdeal.τ).loc Cert.ResultReferenceIdeal.main_arg6)) (m ((c.tc : Thread Cert.ResultReferenceIdeal.nD Cert.ResultReferenceIdeal.τ).loc Cert.ResultReferenceIdeal.main_arg7))) = (fun _ => 1#1)

def Pre_Centres (m : (ℓ : Loc Cert.Centres.nD Cert.Centres.τ Cert.Centres.sig) → Buf (Elt Bits) ℓ) : Prop :=
  True

def Pre_CentresIdeal (m : (ℓ : Loc Cert.CentresIdeal.nD Cert.CentresIdeal.τ Cert.CentresIdeal.sig) → Buf (Elt Ideal) ℓ) : Prop :=
  True

def Pre_CentresReferenceIdeal (m : (ℓ : Loc Cert.CentresReferenceIdeal.nD Cert.CentresReferenceIdeal.τ Cert.CentresReferenceIdeal.sig) → Buf (Elt Ideal) ℓ) : Prop :=
  True

def Pre_Neighbours (m : (ℓ : Loc Cert.Neighbours.nD Cert.Neighbours.τ Cert.Neighbours.sig) → Buf (Elt Bits) ℓ) : Prop :=
  True

def Pre_NeighboursIdeal (m : (ℓ : Loc Cert.NeighboursIdeal.nD Cert.NeighboursIdeal.τ Cert.NeighboursIdeal.sig) → Buf (Elt Ideal) ℓ) : Prop :=
  True

def Pre_NeighboursIdeal_within [hPre_within : Cert.Pre_within.Facts] (m : (ℓ : Loc Cert.NeighboursIdeal.nD Cert.NeighboursIdeal.τ Cert.NeighboursIdeal.sig) → Buf (Elt Ideal) ℓ) : Prop :=
  ∀ c : Dev Cert.NeighboursIdeal.nD,
    (Cert.Pre_within.fn (F := Ideal) (m ((c.tc : Thread Cert.NeighboursIdeal.nD Cert.NeighboursIdeal.τ).loc Cert.NeighboursIdeal.main_arg0)) (m ((c.tc : Thread Cert.NeighboursIdeal.nD Cert.NeighboursIdeal.τ).loc Cert.NeighboursIdeal.main_arg1))) = (fun _ => 1#1)

def Pre_NeighboursReferenceIdeal (m : (ℓ : Loc Cert.NeighboursReferenceIdeal.nD Cert.NeighboursReferenceIdeal.τ Cert.NeighboursReferenceIdeal.sig) → Buf (Elt Ideal) ℓ) : Prop :=
  True

def Pre_NeighboursReferenceIdeal_within [hPre_within : Cert.Pre_within.Facts] (m : (ℓ : Loc Cert.NeighboursReferenceIdeal.nD Cert.NeighboursReferenceIdeal.τ Cert.NeighboursReferenceIdeal.sig) → Buf (Elt Ideal) ℓ) : Prop :=
  ∀ c : Dev Cert.NeighboursReferenceIdeal.nD,
    (Cert.Pre_within.fn (F := Ideal) (m ((c.tc : Thread Cert.NeighboursReferenceIdeal.nD Cert.NeighboursReferenceIdeal.τ).loc Cert.NeighboursReferenceIdeal.main_arg0)) (m ((c.tc : Thread Cert.NeighboursReferenceIdeal.nD Cert.NeighboursReferenceIdeal.τ).loc Cert.NeighboursReferenceIdeal.main_arg1))) = (fun _ => 1#1)

def quiescent_Kernel [hKernel : Cert.Kernel.Facts] [hPre_own_cloud : Cert.Pre_own_cloud.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_own_cloud : Cert.Pre_own_cloud.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_own_cloud [hReferenceIdeal : Cert.ReferenceIdeal.Facts] [hPre_own_cloud : Cert.Pre_own_cloud.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_cloud m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4)
      ∧ r.2.mem ((c.tc : Thread Cert.Features.nD Cert.Features.τ).loc Cert.Features.main_arg5) = m ((c.tc : Thread Cert.Features.nD Cert.Features.τ).loc Cert.Features.main_arg5)
      ∧ r.2.mem ((c.tc : Thread Cert.Features.nD Cert.Features.τ).loc Cert.Features.main_arg6) = m ((c.tc : Thread Cert.Features.nD Cert.Features.τ).loc Cert.Features.main_arg6)
      ∧ r.2.mem ((c.tc : Thread Cert.Features.nD Cert.Features.τ).loc Cert.Features.main_arg7) = m ((c.tc : Thread Cert.Features.nD Cert.Features.τ).loc Cert.Features.main_arg7))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7))
      ∧ r.2.sem = fun _ => 0)

def quiescent_FeaturesIdeal_pre_finite1 [hFeaturesIdeal : Cert.FeaturesIdeal.Facts] [hPre_finite1 : Cert.Pre_finite1.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal_finite1 m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7))
      ∧ r.2.sem = fun _ => 0)

def quiescent_FeaturesReferenceIdeal [hFeaturesReferenceIdeal : Cert.FeaturesReferenceIdeal.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4)
      ∧ r.2.mem ((c.tc : Thread Cert.FeaturesReferenceIdeal.nD Cert.FeaturesReferenceIdeal.τ).loc Cert.FeaturesReferenceIdeal.main_arg5) = m ((c.tc : Thread Cert.FeaturesReferenceIdeal.nD Cert.FeaturesReferenceIdeal.τ).loc Cert.FeaturesReferenceIdeal.main_arg5)
      ∧ r.2.mem ((c.tc : Thread Cert.FeaturesReferenceIdeal.nD Cert.FeaturesReferenceIdeal.τ).loc Cert.FeaturesReferenceIdeal.main_arg6) = m ((c.tc : Thread Cert.FeaturesReferenceIdeal.nD Cert.FeaturesReferenceIdeal.τ).loc Cert.FeaturesReferenceIdeal.main_arg6)
      ∧ r.2.mem ((c.tc : Thread Cert.FeaturesReferenceIdeal.nD Cert.FeaturesReferenceIdeal.τ).loc Cert.FeaturesReferenceIdeal.main_arg7) = m ((c.tc : Thread Cert.FeaturesReferenceIdeal.nD Cert.FeaturesReferenceIdeal.τ).loc Cert.FeaturesReferenceIdeal.main_arg7))
      ∧ r.2.sem = fun _ => 0)

def quiescent_FeaturesReferenceIdeal_pre_finite1 [hFeaturesReferenceIdeal : Cert.FeaturesReferenceIdeal.Facts] [hPre_finite1 : Cert.Pre_finite1.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal_finite1 m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4)
      ∧ r.2.mem ((c.tc : Thread Cert.FeaturesReferenceIdeal.nD Cert.FeaturesReferenceIdeal.τ).loc Cert.FeaturesReferenceIdeal.main_arg5) = m ((c.tc : Thread Cert.FeaturesReferenceIdeal.nD Cert.FeaturesReferenceIdeal.τ).loc Cert.FeaturesReferenceIdeal.main_arg5)
      ∧ r.2.mem ((c.tc : Thread Cert.FeaturesReferenceIdeal.nD Cert.FeaturesReferenceIdeal.τ).loc Cert.FeaturesReferenceIdeal.main_arg6) = m ((c.tc : Thread Cert.FeaturesReferenceIdeal.nD Cert.FeaturesReferenceIdeal.τ).loc Cert.FeaturesReferenceIdeal.main_arg6)
      ∧ r.2.mem ((c.tc : Thread Cert.FeaturesReferenceIdeal.nD Cert.FeaturesReferenceIdeal.τ).loc Cert.FeaturesReferenceIdeal.main_arg7) = m ((c.tc : Thread Cert.FeaturesReferenceIdeal.nD Cert.FeaturesReferenceIdeal.τ).loc Cert.FeaturesReferenceIdeal.main_arg7))
      ∧ r.2.sem = fun _ => 0)

def quiescent_Result [hResult : Cert.Result.Facts] : Prop :=
  ∀ (m : (ℓ : Loc Cert.Result.nD Cert.Result.τ Cert.Result.sig) → Buf (Elt Bits) ℓ) (g : Dev Cert.Result.nD → PrngReg), Pre_Result m →
    θ_run (Cert.Result.defs (F := Bits)) (onTc (τ := Cert.Result.τ) (Cert.Result.main (F := Bits))) ⟨m, fun _ => 0, g⟩ (fun r => (∀ c : Dev Cert.Result.nD,
      r.2.mem ((c.tc : Thread Cert.Result.nD Cert.Result.τ).loc Cert.Result.main_arg0) = m ((c.tc : Thread Cert.Result.nD Cert.Result.τ).loc Cert.Result.main_arg0)
      ∧ r.2.mem ((c.tc : Thread Cert.Result.nD Cert.Result.τ).loc Cert.Result.main_arg1) = m ((c.tc : Thread Cert.Result.nD Cert.Result.τ).loc Cert.Result.main_arg1)
      ∧ r.2.mem ((c.tc : Thread Cert.Result.nD Cert.Result.τ).loc Cert.Result.main_arg2) = m ((c.tc : Thread Cert.Result.nD Cert.Result.τ).loc Cert.Result.main_arg2)
      ∧ r.2.mem ((c.tc : Thread Cert.Result.nD Cert.Result.τ).loc Cert.Result.main_arg3) = m ((c.tc : Thread Cert.Result.nD Cert.Result.τ).loc Cert.Result.main_arg3)
      ∧ r.2.mem ((c.tc : Thread Cert.Result.nD Cert.Result.τ).loc Cert.Result.main_arg4) = m ((c.tc : Thread Cert.Result.nD Cert.Result.τ).loc Cert.Result.main_arg4)
      ∧ r.2.mem ((c.tc : Thread Cert.Result.nD Cert.Result.τ).loc Cert.Result.main_arg5) = m ((c.tc : Thread Cert.Result.nD Cert.Result.τ).loc Cert.Result.main_arg5)
      ∧ r.2.mem ((c.tc : Thread Cert.Result.nD Cert.Result.τ).loc Cert.Result.main_arg6) = m ((c.tc : Thread Cert.Result.nD Cert.Result.τ).loc Cert.Result.main_arg6)
      ∧ r.2.mem ((c.tc : Thread Cert.Result.nD Cert.Result.τ).loc Cert.Result.main_arg7) = m ((c.tc : Thread Cert.Result.nD Cert.Result.τ).loc Cert.Result.main_arg7))
      ∧ r.2.sem = fun _ => 0)

def quiescent_ResultIdeal [hResultIdeal : Cert.ResultIdeal.Facts] : Prop :=
  ∀ (m : (ℓ : Loc Cert.ResultIdeal.nD Cert.ResultIdeal.τ Cert.ResultIdeal.sig) → Buf (Elt Ideal) ℓ) (g : Dev Cert.ResultIdeal.nD → PrngReg), Pre_ResultIdeal m →
    θ_run (Cert.ResultIdeal.defs (F := Ideal)) (onTc (τ := Cert.ResultIdeal.τ) (Cert.ResultIdeal.main (F := Ideal))) ⟨m, fun _ => 0, g⟩ (fun r => (∀ c : Dev Cert.ResultIdeal.nD,
      r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0)
      ∧ r.2.mem ((c.tc : Thread Cert.ResultIdeal.nD Cert.ResultIdeal.τ).loc Cert.ResultIdeal.main_arg1) = m ((c.tc : Thread Cert.ResultIdeal.nD Cert.ResultIdeal.τ).loc Cert.ResultIdeal.main_arg1)
      ∧ r.2.mem ((c.tc : Thread Cert.ResultIdeal.nD Cert.ResultIdeal.τ).loc Cert.ResultIdeal.main_arg2) = m ((c.tc : Thread Cert.ResultIdeal.nD Cert.ResultIdeal.τ).loc Cert.ResultIdeal.main_arg2)
      ∧ r.2.mem ((c.tc : Thread Cert.ResultIdeal.nD Cert.ResultIdeal.τ).loc Cert.ResultIdeal.main_arg3) = m ((c.tc : Thread Cert.ResultIdeal.nD Cert.ResultIdeal.τ).loc Cert.ResultIdeal.main_arg3)
      ∧ r.2.mem ((c.tc : Thread Cert.ResultIdeal.nD Cert.ResultIdeal.τ).loc Cert.ResultIdeal.main_arg4) = m ((c.tc : Thread Cert.ResultIdeal.nD Cert.ResultIdeal.τ).loc Cert.ResultIdeal.main_arg4)
      ∧ r.2.mem ((c.tc : Thread Cert.ResultIdeal.nD Cert.ResultIdeal.τ).loc Cert.ResultIdeal.main_arg5) = m ((c.tc : Thread Cert.ResultIdeal.nD Cert.ResultIdeal.τ).loc Cert.ResultIdeal.main_arg5)
      ∧ r.2.mem ((c.tc : Thread Cert.ResultIdeal.nD Cert.ResultIdeal.τ).loc Cert.ResultIdeal.main_arg6) = m ((c.tc : Thread Cert.ResultIdeal.nD Cert.ResultIdeal.τ).loc Cert.ResultIdeal.main_arg6)
      ∧ r.2.mem ((c.tc : Thread Cert.ResultIdeal.nD Cert.ResultIdeal.τ).loc Cert.ResultIdeal.main_arg7) = m ((c.tc : Thread Cert.ResultIdeal.nD Cert.ResultIdeal.τ).loc Cert.ResultIdeal.main_arg7))
      ∧ r.2.sem = fun _ => 0)

def quiescent_ResultIdeal_pre_apart [hResultIdeal : Cert.ResultIdeal.Facts] [hPre_apart : Cert.Pre_apart.Facts] : Prop :=
  ∀ (m : (ℓ : Loc Cert.ResultIdeal.nD Cert.ResultIdeal.τ Cert.ResultIdeal.sig) → Buf (Elt Ideal) ℓ) (g : Dev Cert.ResultIdeal.nD → PrngReg), Pre_ResultIdeal_apart m →
    θ_run (Cert.ResultIdeal.defs (F := Ideal)) (onTc (τ := Cert.ResultIdeal.τ) (Cert.ResultIdeal.main (F := Ideal))) ⟨m, fun _ => 0, g⟩ (fun r => (∀ c : Dev Cert.ResultIdeal.nD,
      r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0)
      ∧ r.2.mem ((c.tc : Thread Cert.ResultIdeal.nD Cert.ResultIdeal.τ).loc Cert.ResultIdeal.main_arg1) = m ((c.tc : Thread Cert.ResultIdeal.nD Cert.ResultIdeal.τ).loc Cert.ResultIdeal.main_arg1)
      ∧ r.2.mem ((c.tc : Thread Cert.ResultIdeal.nD Cert.ResultIdeal.τ).loc Cert.ResultIdeal.main_arg2) = m ((c.tc : Thread Cert.ResultIdeal.nD Cert.ResultIdeal.τ).loc Cert.ResultIdeal.main_arg2)
      ∧ r.2.mem ((c.tc : Thread Cert.ResultIdeal.nD Cert.ResultIdeal.τ).loc Cert.ResultIdeal.main_arg3) = m ((c.tc : Thread Cert.ResultIdeal.nD Cert.ResultIdeal.τ).loc Cert.ResultIdeal.main_arg3)
      ∧ r.2.mem ((c.tc : Thread Cert.ResultIdeal.nD Cert.ResultIdeal.τ).loc Cert.ResultIdeal.main_arg4) = m ((c.tc : Thread Cert.ResultIdeal.nD Cert.ResultIdeal.τ).loc Cert.ResultIdeal.main_arg4)
      ∧ r.2.mem ((c.tc : Thread Cert.ResultIdeal.nD Cert.ResultIdeal.τ).loc Cert.ResultIdeal.main_arg5) = m ((c.tc : Thread Cert.ResultIdeal.nD Cert.ResultIdeal.τ).loc Cert.ResultIdeal.main_arg5)
      ∧ r.2.mem ((c.tc : Thread Cert.ResultIdeal.nD Cert.ResultIdeal.τ).loc Cert.ResultIdeal.main_arg6) = m ((c.tc : Thread Cert.ResultIdeal.nD Cert.ResultIdeal.τ).loc Cert.ResultIdeal.main_arg6)
      ∧ r.2.mem ((c.tc : Thread Cert.ResultIdeal.nD Cert.ResultIdeal.τ).loc Cert.ResultIdeal.main_arg7) = m ((c.tc : Thread Cert.ResultIdeal.nD Cert.ResultIdeal.τ).loc Cert.ResultIdeal.main_arg7))
      ∧ r.2.sem = fun _ => 0)

def quiescent_ResultReferenceIdeal [hResultReferenceIdeal : Cert.ResultReferenceIdeal.Facts] : Prop :=
  ∀ (m : (ℓ : Loc Cert.ResultReferenceIdeal.nD Cert.ResultReferenceIdeal.τ Cert.ResultReferenceIdeal.sig) → Buf (Elt Ideal) ℓ) (g : Dev Cert.ResultReferenceIdeal.nD → PrngReg), Pre_ResultReferenceIdeal m →
    θ_run (Cert.ResultReferenceIdeal.defs (F := Ideal)) (onTc (τ := Cert.ResultReferenceIdeal.τ) (Cert.ResultReferenceIdeal.main (F := Ideal))) ⟨m, fun _ => 0, g⟩ (fun r => (∀ c : Dev Cert.ResultReferenceIdeal.nD,
      r.2.mem ((c.tc : Thread Cert.ResultReferenceIdeal.nD Cert.ResultReferenceIdeal.τ).loc Cert.ResultReferenceIdeal.main_arg0) = m ((c.tc : Thread Cert.ResultReferenceIdeal.nD Cert.ResultReferenceIdeal.τ).loc Cert.ResultReferenceIdeal.main_arg0)
      ∧ r.2.mem ((c.tc : Thread Cert.ResultReferenceIdeal.nD Cert.ResultReferenceIdeal.τ).loc Cert.ResultReferenceIdeal.main_arg1) = m ((c.tc : Thread Cert.ResultReferenceIdeal.nD Cert.ResultReferenceIdeal.τ).loc Cert.ResultReferenceIdeal.main_arg1)
      ∧ r.2.mem ((c.tc : Thread Cert.ResultReferenceIdeal.nD Cert.ResultReferenceIdeal.τ).loc Cert.ResultReferenceIdeal.main_arg2) = m ((c.tc : Thread Cert.ResultReferenceIdeal.nD Cert.ResultReferenceIdeal.τ).loc Cert.ResultReferenceIdeal.main_arg2)
      ∧ r.2.mem ((c.tc : Thread Cert.ResultReferenceIdeal.nD Cert.ResultReferenceIdeal.τ).loc Cert.ResultReferenceIdeal.main_arg3) = m ((c.tc : Thread Cert.ResultReferenceIdeal.nD Cert.ResultReferenceIdeal.τ).loc Cert.ResultReferenceIdeal.main_arg3)
      ∧ r.2.mem ((c.tc : Thread Cert.ResultReferenceIdeal.nD Cert.ResultReferenceIdeal.τ).loc Cert.ResultReferenceIdeal.main_arg4) = m ((c.tc : Thread Cert.ResultReferenceIdeal.nD Cert.ResultReferenceIdeal.τ).loc Cert.ResultReferenceIdeal.main_arg4)
      ∧ r.2.mem ((c.tc : Thread Cert.ResultReferenceIdeal.nD Cert.ResultReferenceIdeal.τ).loc Cert.ResultReferenceIdeal.main_arg5) = m ((c.tc : Thread Cert.ResultReferenceIdeal.nD Cert.ResultReferenceIdeal.τ).loc Cert.ResultReferenceIdeal.main_arg5)
      ∧ r.2.mem ((c.tc : Thread Cert.ResultReferenceIdeal.nD Cert.ResultReferenceIdeal.τ).loc Cert.ResultReferenceIdeal.main_arg6) = m ((c.tc : Thread Cert.ResultReferenceIdeal.nD Cert.ResultReferenceIdeal.τ).loc Cert.ResultReferenceIdeal.main_arg6)
      ∧ r.2.mem ((c.tc : Thread Cert.ResultReferenceIdeal.nD Cert.ResultReferenceIdeal.τ).loc Cert.ResultReferenceIdeal.main_arg7) = m ((c.tc : Thread Cert.ResultReferenceIdeal.nD Cert.ResultReferenceIdeal.τ).loc Cert.ResultReferenceIdeal.main_arg7))
      ∧ r.2.sem = fun _ => 0)

def quiescent_ResultReferenceIdeal_pre_apart [hResultReferenceIdeal : Cert.ResultReferenceIdeal.Facts] [hPre_apart : Cert.Pre_apart.Facts] : Prop :=
  ∀ (m : (ℓ : Loc Cert.ResultReferenceIdeal.nD Cert.ResultReferenceIdeal.τ Cert.ResultReferenceIdeal.sig) → Buf (Elt Ideal) ℓ) (g : Dev Cert.ResultReferenceIdeal.nD → PrngReg), Pre_ResultReferenceIdeal_apart m →
    θ_run (Cert.ResultReferenceIdeal.defs (F := Ideal)) (onTc (τ := Cert.ResultReferenceIdeal.τ) (Cert.ResultReferenceIdeal.main (F := Ideal))) ⟨m, fun _ => 0, g⟩ (fun r => (∀ c : Dev Cert.ResultReferenceIdeal.nD,
      r.2.mem ((c.tc : Thread Cert.ResultReferenceIdeal.nD Cert.ResultReferenceIdeal.τ).loc Cert.ResultReferenceIdeal.main_arg0) = m ((c.tc : Thread Cert.ResultReferenceIdeal.nD Cert.ResultReferenceIdeal.τ).loc Cert.ResultReferenceIdeal.main_arg0)
      ∧ r.2.mem ((c.tc : Thread Cert.ResultReferenceIdeal.nD Cert.ResultReferenceIdeal.τ).loc Cert.ResultReferenceIdeal.main_arg1) = m ((c.tc : Thread Cert.ResultReferenceIdeal.nD Cert.ResultReferenceIdeal.τ).loc Cert.ResultReferenceIdeal.main_arg1)
      ∧ r.2.mem ((c.tc : Thread Cert.ResultReferenceIdeal.nD Cert.ResultReferenceIdeal.τ).loc Cert.ResultReferenceIdeal.main_arg2) = m ((c.tc : Thread Cert.ResultReferenceIdeal.nD Cert.ResultReferenceIdeal.τ).loc Cert.ResultReferenceIdeal.main_arg2)
      ∧ r.2.mem ((c.tc : Thread Cert.ResultReferenceIdeal.nD Cert.ResultReferenceIdeal.τ).loc Cert.ResultReferenceIdeal.main_arg3) = m ((c.tc : Thread Cert.ResultReferenceIdeal.nD Cert.ResultReferenceIdeal.τ).loc Cert.ResultReferenceIdeal.main_arg3)
      ∧ r.2.mem ((c.tc : Thread Cert.ResultReferenceIdeal.nD Cert.ResultReferenceIdeal.τ).loc Cert.ResultReferenceIdeal.main_arg4) = m ((c.tc : Thread Cert.ResultReferenceIdeal.nD Cert.ResultReferenceIdeal.τ).loc Cert.ResultReferenceIdeal.main_arg4)
      ∧ r.2.mem ((c.tc : Thread Cert.ResultReferenceIdeal.nD Cert.ResultReferenceIdeal.τ).loc Cert.ResultReferenceIdeal.main_arg5) = m ((c.tc : Thread Cert.ResultReferenceIdeal.nD Cert.ResultReferenceIdeal.τ).loc Cert.ResultReferenceIdeal.main_arg5)
      ∧ r.2.mem ((c.tc : Thread Cert.ResultReferenceIdeal.nD Cert.ResultReferenceIdeal.τ).loc Cert.ResultReferenceIdeal.main_arg6) = m ((c.tc : Thread Cert.ResultReferenceIdeal.nD Cert.ResultReferenceIdeal.τ).loc Cert.ResultReferenceIdeal.main_arg6)
      ∧ r.2.mem ((c.tc : Thread Cert.ResultReferenceIdeal.nD Cert.ResultReferenceIdeal.τ).loc Cert.ResultReferenceIdeal.main_arg7) = m ((c.tc : Thread Cert.ResultReferenceIdeal.nD Cert.ResultReferenceIdeal.τ).loc Cert.ResultReferenceIdeal.main_arg7))
      ∧ r.2.sem = fun _ => 0)

def quiescent_Centres [hCentres : Cert.Centres.Facts] : Prop :=
  ∀ (m : (ℓ : Loc Cert.Centres.nD Cert.Centres.τ Cert.Centres.sig) → Buf (Elt Bits) ℓ) (g : Dev Cert.Centres.nD → PrngReg), Pre_Centres m →
    θ_run (Cert.Centres.defs (F := Bits)) (onTc (τ := Cert.Centres.τ) (Cert.Centres.main (F := Bits))) ⟨m, fun _ => 0, g⟩ (fun r => (∀ c : Dev Cert.Centres.nD,
      r.2.mem ((c.tc : Thread Cert.Centres.nD Cert.Centres.τ).loc Cert.Centres.main_arg0) = m ((c.tc : Thread Cert.Centres.nD Cert.Centres.τ).loc Cert.Centres.main_arg0))
      ∧ r.2.sem = fun _ => 0)

def quiescent_CentresIdeal [hCentresIdeal : Cert.CentresIdeal.Facts] : Prop :=
  ∀ (m : (ℓ : Loc Cert.CentresIdeal.nD Cert.CentresIdeal.τ Cert.CentresIdeal.sig) → Buf (Elt Ideal) ℓ) (g : Dev Cert.CentresIdeal.nD → PrngReg), Pre_CentresIdeal m →
    θ_run (Cert.CentresIdeal.defs (F := Ideal)) (onTc (τ := Cert.CentresIdeal.τ) (Cert.CentresIdeal.main (F := Ideal))) ⟨m, fun _ => 0, g⟩ (fun r => (∀ c : Dev Cert.CentresIdeal.nD,
      r.2.mem ((c.tc : Thread Cert.CentresIdeal.nD Cert.CentresIdeal.τ).loc Cert.CentresIdeal.main_arg0) = m ((c.tc : Thread Cert.CentresIdeal.nD Cert.CentresIdeal.τ).loc Cert.CentresIdeal.main_arg0))
      ∧ r.2.sem = fun _ => 0)

def quiescent_CentresReferenceIdeal [hCentresReferenceIdeal : Cert.CentresReferenceIdeal.Facts] : Prop :=
  ∀ (m : (ℓ : Loc Cert.CentresReferenceIdeal.nD Cert.CentresReferenceIdeal.τ Cert.CentresReferenceIdeal.sig) → Buf (Elt Ideal) ℓ) (g : Dev Cert.CentresReferenceIdeal.nD → PrngReg), Pre_CentresReferenceIdeal m →
    θ_run (Cert.CentresReferenceIdeal.defs (F := Ideal)) (onTc (τ := Cert.CentresReferenceIdeal.τ) (Cert.CentresReferenceIdeal.main (F := Ideal))) ⟨m, fun _ => 0, g⟩ (fun r => (∀ c : Dev Cert.CentresReferenceIdeal.nD,
      r.2.mem ((c.tc : Thread Cert.CentresReferenceIdeal.nD Cert.CentresReferenceIdeal.τ).loc Cert.CentresReferenceIdeal.main_arg0) = m ((c.tc : Thread Cert.CentresReferenceIdeal.nD Cert.CentresReferenceIdeal.τ).loc Cert.CentresReferenceIdeal.main_arg0))
      ∧ r.2.sem = fun _ => 0)

def quiescent_Neighbours [hNeighbours : Cert.Neighbours.Facts] : Prop :=
  ∀ (m : (ℓ : Loc Cert.Neighbours.nD Cert.Neighbours.τ Cert.Neighbours.sig) → Buf (Elt Bits) ℓ) (g : Dev Cert.Neighbours.nD → PrngReg), Pre_Neighbours m →
    θ_run (Cert.Neighbours.defs (F := Bits)) (onTc (τ := Cert.Neighbours.τ) (Cert.Neighbours.main (F := Bits))) ⟨m, fun _ => 0, g⟩ (fun r => (∀ c : Dev Cert.Neighbours.nD,
      r.2.mem ((c.tc : Thread Cert.Neighbours.nD Cert.Neighbours.τ).loc Cert.Neighbours.main_arg0) = m ((c.tc : Thread Cert.Neighbours.nD Cert.Neighbours.τ).loc Cert.Neighbours.main_arg0)
      ∧ r.2.mem ((c.tc : Thread Cert.Neighbours.nD Cert.Neighbours.τ).loc Cert.Neighbours.main_arg1) = m ((c.tc : Thread Cert.Neighbours.nD Cert.Neighbours.τ).loc Cert.Neighbours.main_arg1))
      ∧ r.2.sem = fun _ => 0)

def quiescent_NeighboursIdeal [hNeighboursIdeal : Cert.NeighboursIdeal.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursIdeal_pre_within [hNeighboursIdeal : Cert.NeighboursIdeal.Facts] [hPre_within : Cert.Pre_within.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal_within m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursReferenceIdeal [hNeighboursReferenceIdeal : Cert.NeighboursReferenceIdeal.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_NeighboursReferenceIdeal_pre_within [hNeighboursReferenceIdeal : Cert.NeighboursReferenceIdeal.Facts] [hPre_within : Cert.Pre_within.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal_within m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_own_cloud : Cert.Pre_own_cloud.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Features_FeaturesIdeal : Prop :=
  True

def algebraic_FeaturesIdeal_FeaturesReferenceIdeal_pre_finite1 [hFeaturesIdeal : Cert.FeaturesIdeal.Facts] [hFeaturesReferenceIdeal : Cert.FeaturesReferenceIdeal.Facts] [hPre_finite1 : Cert.Pre_finite1.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesReferenceIdeal.nD Cert.FeaturesReferenceIdeal.τ Cert.FeaturesReferenceIdeal.sig) → Buf (Elt Ideal) ℓ) (g' : Dev Cert.FeaturesReferenceIdeal.nD → PrngReg), Pre_FeaturesIdeal_finite1 m →
    (∀ c : Dev Cert.FeaturesIdeal.nD,
      m' ((c.tc : Thread Cert.FeaturesReferenceIdeal.nD Cert.FeaturesReferenceIdeal.τ).loc Cert.FeaturesReferenceIdeal.main_arg0) = m ((c.tc : Thread Cert.FeaturesIdeal.nD Cert.FeaturesIdeal.τ).loc Cert.FeaturesIdeal.main_arg0)
      ∧ m' ((c.tc : Thread Cert.FeaturesReferenceIdeal.nD Cert.FeaturesReferenceIdeal.τ).loc Cert.FeaturesReferenceIdeal.main_arg1) = m ((c.tc : Thread Cert.FeaturesIdeal.nD Cert.FeaturesIdeal.τ).loc Cert.FeaturesIdeal.main_arg1)
      ∧ m' ((c.tc : Thread Cert.FeaturesReferenceIdeal.nD Cert.FeaturesReferenceIdeal.τ).loc Cert.FeaturesReferenceIdeal.main_arg2) = m ((c.tc : Thread Cert.FeaturesIdeal.nD Cert.FeaturesIdeal.τ).loc Cert.FeaturesIdeal.main_arg2)
      ∧ m' ((c.tc : Thread Cert.FeaturesReferenceIdeal.nD Cert.FeaturesReferenceIdeal.τ).loc Cert.FeaturesReferenceIdeal.main_arg3) = m ((c.tc : Thread Cert.FeaturesIdeal.nD Cert.FeaturesIdeal.τ).loc Cert.FeaturesIdeal.main_arg3)
      ∧ m' ((c.tc : Thread Cert.FeaturesReferenceIdeal.nD Cert.FeaturesReferenceIdeal.τ).loc Cert.FeaturesReferenceIdeal.main_arg4) = m ((c.tc : Thread Cert.FeaturesIdeal.nD Cert.FeaturesIdeal.τ).loc Cert.FeaturesIdeal.main_arg4)
      ∧ m' ((c.tc : Thread Cert.FeaturesReferenceIdeal.nD Cert.FeaturesReferenceIdeal.τ).loc Cert.FeaturesReferenceIdeal.main_arg5) = m ((c.tc : Thread Cert.FeaturesIdeal.nD Cert.FeaturesIdeal.τ).loc Cert.FeaturesIdeal.main_arg5)
      ∧ m' ((c.tc : Thread Cert.FeaturesReferenceIdeal.nD Cert.FeaturesReferenceIdeal.τ).loc Cert.FeaturesReferenceIdeal.main_arg6) = m ((c.tc : Thread Cert.FeaturesIdeal.nD Cert.FeaturesIdeal.τ).loc Cert.FeaturesIdeal.main_arg6)
      ∧ m' ((c.tc : Thread Cert.FeaturesReferenceIdeal.nD Cert.FeaturesReferenceIdeal.τ).loc Cert.FeaturesReferenceIdeal.main_arg7) = m ((c.tc : Thread Cert.FeaturesIdeal.nD Cert.FeaturesIdeal.τ).loc Cert.FeaturesIdeal.main_arg7)) →
    ∃ (v0 : (c : Dev Cert.FeaturesIdeal.nD) → Buf (Elt Ideal) ((c.tc : Thread Cert.FeaturesIdeal.nD Cert.FeaturesIdeal.τ).loc Cert.FeaturesIdeal.main_v8)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v8) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
          ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
          ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
          ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7))
      ∧ θ_run (Cert.FeaturesReferenceIdeal.defs (F := Ideal)) (onTc (τ := Cert.FeaturesReferenceIdeal.τ) (Cert.FeaturesReferenceIdeal.main (F := Ideal))) ⟨m', fun _ => 0, g'⟩ (fun r => ∀ c : Dev Cert.FeaturesReferenceIdeal.nD,
          r.2.mem ((c.tc : Thread Cert.FeaturesReferenceIdeal.nD Cert.FeaturesReferenceIdeal.τ).loc Cert.FeaturesReferenceIdeal.main_v60) = v0 c
          ∧ r.2.mem ((c.tc : Thread Cert.FeaturesReferenceIdeal.nD Cert.FeaturesReferenceIdeal.τ).loc Cert.FeaturesReferenceIdeal.main_arg0) = m' ((c.tc : Thread Cert.FeaturesReferenceIdeal.nD Cert.FeaturesReferenceIdeal.τ).loc Cert.FeaturesReferenceIdeal.main_arg0)
          ∧ r.2.mem ((c.tc : Thread Cert.FeaturesReferenceIdeal.nD Cert.FeaturesReferenceIdeal.τ).loc Cert.FeaturesReferenceIdeal.main_arg1) = m' ((c.tc : Thread Cert.FeaturesReferenceIdeal.nD Cert.FeaturesReferenceIdeal.τ).loc Cert.FeaturesReferenceIdeal.main_arg1)
          ∧ r.2.mem ((c.tc : Thread Cert.FeaturesReferenceIdeal.nD Cert.FeaturesReferenceIdeal.τ).loc Cert.FeaturesReferenceIdeal.main_arg2) = m' ((c.tc : Thread Cert.FeaturesReferenceIdeal.nD Cert.FeaturesReferenceIdeal.τ).loc Cert.FeaturesReferenceIdeal.main_arg2)
          ∧ r.2.mem ((c.tc : Thread Cert.FeaturesReferenceIdeal.nD Cert.FeaturesReferenceIdeal.τ).loc Cert.FeaturesReferenceIdeal.main_arg3) = m' ((c.tc : Thread Cert.FeaturesReferenceIdeal.nD Cert.FeaturesReferenceIdeal.τ).loc Cert.FeaturesReferenceIdeal.main_arg3)
          ∧ r.2.mem ((c.tc : Thread Cert.FeaturesReferenceIdeal.nD Cert.FeaturesReferenceIdeal.τ).loc Cert.FeaturesReferenceIdeal.main_arg4) = m' ((c.tc : Thread Cert.FeaturesReferenceIdeal.nD Cert.FeaturesReferenceIdeal.τ).loc Cert.FeaturesReferenceIdeal.main_arg4)
          ∧ r.2.mem ((c.tc : Thread Cert.FeaturesReferenceIdeal.nD Cert.FeaturesReferenceIdeal.τ).loc Cert.FeaturesReferenceIdeal.main_arg5) = m' ((c.tc : Thread Cert.FeaturesReferenceIdeal.nD Cert.FeaturesReferenceIdeal.τ).loc Cert.FeaturesReferenceIdeal.main_arg5)
          ∧ r.2.mem ((c.tc : Thread Cert.FeaturesReferenceIdeal.nD Cert.FeaturesReferenceIdeal.τ).loc Cert.FeaturesReferenceIdeal.main_arg6) = m' ((c.tc : Thread Cert.FeaturesReferenceIdeal.nD Cert.FeaturesReferenceIdeal.τ).loc Cert.FeaturesReferenceIdeal.main_arg6)
          ∧ r.2.mem ((c.tc : Thread Cert.FeaturesReferenceIdeal.nD Cert.FeaturesReferenceIdeal.τ).loc Cert.FeaturesReferenceIdeal.main_arg7) = m' ((c.tc : Thread Cert.FeaturesReferenceIdeal.nD Cert.FeaturesReferenceIdeal.τ).loc Cert.FeaturesReferenceIdeal.main_arg7))

def preserves_Result_ResultIdeal : Prop :=
  True

def algebraic_ResultIdeal_ResultReferenceIdeal_pre_apart [hResultIdeal : Cert.ResultIdeal.Facts] [hResultReferenceIdeal : Cert.ResultReferenceIdeal.Facts] [hPre_apart : Cert.Pre_apart.Facts] : Prop :=
  ∀ (m : (ℓ : Loc Cert.ResultIdeal.nD Cert.ResultIdeal.τ Cert.ResultIdeal.sig) → Buf (Elt Ideal) ℓ) (g : Dev Cert.ResultIdeal.nD → PrngReg)
    (m' : (ℓ : Loc Cert.ResultReferenceIdeal.nD Cert.ResultReferenceIdeal.τ Cert.ResultReferenceIdeal.sig) → Buf (Elt Ideal) ℓ) (g' : Dev Cert.ResultReferenceIdeal.nD → PrngReg), Pre_ResultIdeal_apart m →
    (∀ c : Dev Cert.ResultIdeal.nD,
      m' ((c.tc : Thread Cert.ResultReferenceIdeal.nD Cert.ResultReferenceIdeal.τ).loc Cert.ResultReferenceIdeal.main_arg0) = m ((c.tc : Thread Cert.ResultIdeal.nD Cert.ResultIdeal.τ).loc Cert.ResultIdeal.main_arg0)
      ∧ m' ((c.tc : Thread Cert.ResultReferenceIdeal.nD Cert.ResultReferenceIdeal.τ).loc Cert.ResultReferenceIdeal.main_arg1) = m ((c.tc : Thread Cert.ResultIdeal.nD Cert.ResultIdeal.τ).loc Cert.ResultIdeal.main_arg1)
      ∧ m' ((c.tc : Thread Cert.ResultReferenceIdeal.nD Cert.ResultReferenceIdeal.τ).loc Cert.ResultReferenceIdeal.main_arg2) = m ((c.tc : Thread Cert.ResultIdeal.nD Cert.ResultIdeal.τ).loc Cert.ResultIdeal.main_arg2)
      ∧ m' ((c.tc : Thread Cert.ResultReferenceIdeal.nD Cert.ResultReferenceIdeal.τ).loc Cert.ResultReferenceIdeal.main_arg3) = m ((c.tc : Thread Cert.ResultIdeal.nD Cert.ResultIdeal.τ).loc Cert.ResultIdeal.main_arg3)
      ∧ m' ((c.tc : Thread Cert.ResultReferenceIdeal.nD Cert.ResultReferenceIdeal.τ).loc Cert.ResultReferenceIdeal.main_arg4) = m ((c.tc : Thread Cert.ResultIdeal.nD Cert.ResultIdeal.τ).loc Cert.ResultIdeal.main_arg4)
      ∧ m' ((c.tc : Thread Cert.ResultReferenceIdeal.nD Cert.ResultReferenceIdeal.τ).loc Cert.ResultReferenceIdeal.main_arg5) = m ((c.tc : Thread Cert.ResultIdeal.nD Cert.ResultIdeal.τ).loc Cert.ResultIdeal.main_arg5)
      ∧ m' ((c.tc : Thread Cert.ResultReferenceIdeal.nD Cert.ResultReferenceIdeal.τ).loc Cert.ResultReferenceIdeal.main_arg6) = m ((c.tc : Thread Cert.ResultIdeal.nD Cert.ResultIdeal.τ).loc Cert.ResultIdeal.main_arg6)
      ∧ m' ((c.tc : Thread Cert.ResultReferenceIdeal.nD Cert.ResultReferenceIdeal.τ).loc Cert.ResultReferenceIdeal.main_arg7) = m ((c.tc : Thread Cert.ResultIdeal.nD Cert.ResultIdeal.τ).loc Cert.ResultIdeal.main_arg7)) →
    ∃ (v0 : (c : Dev Cert.ResultIdeal.nD) → Buf (Elt Ideal) ((c.tc : Thread Cert.ResultIdeal.nD Cert.ResultIdeal.τ).loc Cert.ResultIdeal.main_v7)),
      θ_run (Cert.ResultIdeal.defs (F := Ideal)) (onTc (τ := Cert.ResultIdeal.τ) (Cert.ResultIdeal.main (F := Ideal))) ⟨m, fun _ => 0, g⟩ (fun r => ∀ c : Dev Cert.ResultIdeal.nD,
          r.2.mem ((c.tc : Thread Cert.ResultIdeal.nD Cert.ResultIdeal.τ).loc Cert.ResultIdeal.main_v7) = v0 c
          ∧ r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0)
          ∧ r.2.mem ((c.tc : Thread Cert.ResultIdeal.nD Cert.ResultIdeal.τ).loc Cert.ResultIdeal.main_arg1) = m ((c.tc : Thread Cert.ResultIdeal.nD Cert.ResultIdeal.τ).loc Cert.ResultIdeal.main_arg1)
          ∧ r.2.mem ((c.tc : Thread Cert.ResultIdeal.nD Cert.ResultIdeal.τ).loc Cert.ResultIdeal.main_arg2) = m ((c.tc : Thread Cert.ResultIdeal.nD Cert.ResultIdeal.τ).loc Cert.ResultIdeal.main_arg2)
          ∧ r.2.mem ((c.tc : Thread Cert.ResultIdeal.nD Cert.ResultIdeal.τ).loc Cert.ResultIdeal.main_arg3) = m ((c.tc : Thread Cert.ResultIdeal.nD Cert.ResultIdeal.τ).loc Cert.ResultIdeal.main_arg3)
          ∧ r.2.mem ((c.tc : Thread Cert.ResultIdeal.nD Cert.ResultIdeal.τ).loc Cert.ResultIdeal.main_arg4) = m ((c.tc : Thread Cert.ResultIdeal.nD Cert.ResultIdeal.τ).loc Cert.ResultIdeal.main_arg4)
          ∧ r.2.mem ((c.tc : Thread Cert.ResultIdeal.nD Cert.ResultIdeal.τ).loc Cert.ResultIdeal.main_arg5) = m ((c.tc : Thread Cert.ResultIdeal.nD Cert.ResultIdeal.τ).loc Cert.ResultIdeal.main_arg5)
          ∧ r.2.mem ((c.tc : Thread Cert.ResultIdeal.nD Cert.ResultIdeal.τ).loc Cert.ResultIdeal.main_arg6) = m ((c.tc : Thread Cert.ResultIdeal.nD Cert.ResultIdeal.τ).loc Cert.ResultIdeal.main_arg6)
          ∧ r.2.mem ((c.tc : Thread Cert.ResultIdeal.nD Cert.ResultIdeal.τ).loc Cert.ResultIdeal.main_arg7) = m ((c.tc : Thread Cert.ResultIdeal.nD Cert.ResultIdeal.τ).loc Cert.ResultIdeal.main_arg7))
      ∧ θ_run (Cert.ResultReferenceIdeal.defs (F := Ideal)) (onTc (τ := Cert.ResultReferenceIdeal.τ) (Cert.ResultReferenceIdeal.main (F := Ideal))) ⟨m', fun _ => 0, g'⟩ (fun r => ∀ c : Dev Cert.ResultReferenceIdeal.nD,
          r.2.mem ((c.tc : Thread Cert.ResultReferenceIdeal.nD Cert.ResultReferenceIdeal.τ).loc Cert.ResultReferenceIdeal.main_v97) = v0 c
          ∧ r.2.mem ((c.tc : Thread Cert.ResultReferenceIdeal.nD Cert.ResultReferenceIdeal.τ).loc Cert.ResultReferenceIdeal.main_arg0) = m' ((c.tc : Thread Cert.ResultReferenceIdeal.nD Cert.ResultReferenceIdeal.τ).loc Cert.ResultReferenceIdeal.main_arg0)
          ∧ r.2.mem ((c.tc : Thread Cert.ResultReferenceIdeal.nD Cert.ResultReferenceIdeal.τ).loc Cert.ResultReferenceIdeal.main_arg1) = m' ((c.tc : Thread Cert.ResultReferenceIdeal.nD Cert.ResultReferenceIdeal.τ).loc Cert.ResultReferenceIdeal.main_arg1)
          ∧ r.2.mem ((c.tc : Thread Cert.ResultReferenceIdeal.nD Cert.ResultReferenceIdeal.τ).loc Cert.ResultReferenceIdeal.main_arg2) = m' ((c.tc : Thread Cert.ResultReferenceIdeal.nD Cert.ResultReferenceIdeal.τ).loc Cert.ResultReferenceIdeal.main_arg2)
          ∧ r.2.mem ((c.tc : Thread Cert.ResultReferenceIdeal.nD Cert.ResultReferenceIdeal.τ).loc Cert.ResultReferenceIdeal.main_arg3) = m' ((c.tc : Thread Cert.ResultReferenceIdeal.nD Cert.ResultReferenceIdeal.τ).loc Cert.ResultReferenceIdeal.main_arg3)
          ∧ r.2.mem ((c.tc : Thread Cert.ResultReferenceIdeal.nD Cert.ResultReferenceIdeal.τ).loc Cert.ResultReferenceIdeal.main_arg4) = m' ((c.tc : Thread Cert.ResultReferenceIdeal.nD Cert.ResultReferenceIdeal.τ).loc Cert.ResultReferenceIdeal.main_arg4)
          ∧ r.2.mem ((c.tc : Thread Cert.ResultReferenceIdeal.nD Cert.ResultReferenceIdeal.τ).loc Cert.ResultReferenceIdeal.main_arg5) = m' ((c.tc : Thread Cert.ResultReferenceIdeal.nD Cert.ResultReferenceIdeal.τ).loc Cert.ResultReferenceIdeal.main_arg5)
          ∧ r.2.mem ((c.tc : Thread Cert.ResultReferenceIdeal.nD Cert.ResultReferenceIdeal.τ).loc Cert.ResultReferenceIdeal.main_arg6) = m' ((c.tc : Thread Cert.ResultReferenceIdeal.nD Cert.ResultReferenceIdeal.τ).loc Cert.ResultReferenceIdeal.main_arg6)
          ∧ r.2.mem ((c.tc : Thread Cert.ResultReferenceIdeal.nD Cert.ResultReferenceIdeal.τ).loc Cert.ResultReferenceIdeal.main_arg7) = m' ((c.tc : Thread Cert.ResultReferenceIdeal.nD Cert.ResultReferenceIdeal.τ).loc Cert.ResultReferenceIdeal.main_arg7))

def preserves_Centres_CentresIdeal : Prop :=
  True

def algebraic_CentresIdeal_CentresReferenceIdeal [hCentresIdeal : Cert.CentresIdeal.Facts] [hCentresReferenceIdeal : Cert.CentresReferenceIdeal.Facts] : Prop :=
  ∀ (m : (ℓ : Loc Cert.CentresIdeal.nD Cert.CentresIdeal.τ Cert.CentresIdeal.sig) → Buf (Elt Ideal) ℓ) (g : Dev Cert.CentresIdeal.nD → PrngReg)
    (m' : (ℓ : Loc Cert.CentresReferenceIdeal.nD Cert.CentresReferenceIdeal.τ Cert.CentresReferenceIdeal.sig) → Buf (Elt Ideal) ℓ) (g' : Dev Cert.CentresReferenceIdeal.nD → PrngReg), Pre_CentresIdeal m →
    (∀ c : Dev Cert.CentresIdeal.nD,
      m' ((c.tc : Thread Cert.CentresReferenceIdeal.nD Cert.CentresReferenceIdeal.τ).loc Cert.CentresReferenceIdeal.main_arg0) = m ((c.tc : Thread Cert.CentresIdeal.nD Cert.CentresIdeal.τ).loc Cert.CentresIdeal.main_arg0)) →
    ∃ (v0 : (c : Dev Cert.CentresIdeal.nD) → Buf (Elt Ideal) ((c.tc : Thread Cert.CentresIdeal.nD Cert.CentresIdeal.τ).loc Cert.CentresIdeal.main_v6)),
      θ_run (Cert.CentresIdeal.defs (F := Ideal)) (onTc (τ := Cert.CentresIdeal.τ) (Cert.CentresIdeal.main (F := Ideal))) ⟨m, fun _ => 0, g⟩ (fun r => ∀ c : Dev Cert.CentresIdeal.nD,
          r.2.mem ((c.tc : Thread Cert.CentresIdeal.nD Cert.CentresIdeal.τ).loc Cert.CentresIdeal.main_v6) = v0 c
          ∧ r.2.mem ((c.tc : Thread Cert.CentresIdeal.nD Cert.CentresIdeal.τ).loc Cert.CentresIdeal.main_arg0) = m ((c.tc : Thread Cert.CentresIdeal.nD Cert.CentresIdeal.τ).loc Cert.CentresIdeal.main_arg0))
      ∧ θ_run (Cert.CentresReferenceIdeal.defs (F := Ideal)) (onTc (τ := Cert.CentresReferenceIdeal.τ) (Cert.CentresReferenceIdeal.main (F := Ideal))) ⟨m', fun _ => 0, g'⟩ (fun r => ∀ c : Dev Cert.CentresReferenceIdeal.nD,
          r.2.mem ((c.tc : Thread Cert.CentresReferenceIdeal.nD Cert.CentresReferenceIdeal.τ).loc Cert.CentresReferenceIdeal.main_v10) = v0 c
          ∧ r.2.mem ((c.tc : Thread Cert.CentresReferenceIdeal.nD Cert.CentresReferenceIdeal.τ).loc Cert.CentresReferenceIdeal.main_arg0) = m' ((c.tc : Thread Cert.CentresReferenceIdeal.nD Cert.CentresReferenceIdeal.τ).loc Cert.CentresReferenceIdeal.main_arg0))

def preserves_Neighbours_NeighboursIdeal : Prop :=
  True

def algebraic_NeighboursIdeal_NeighboursReferenceIdeal_pre_within [hNeighboursIdeal : Cert.NeighboursIdeal.Facts] [hNeighboursReferenceIdeal : Cert.NeighboursReferenceIdeal.Facts] [hPre_within : Cert.Pre_within.Facts] : Prop :=
  ∀ (m : (ℓ : Loc Cert.NeighboursIdeal.nD Cert.NeighboursIdeal.τ Cert.NeighboursIdeal.sig) → Buf (Elt Ideal) ℓ) (g : Dev Cert.NeighboursIdeal.nD → PrngReg)
    (m' : (ℓ : Loc Cert.NeighboursReferenceIdeal.nD Cert.NeighboursReferenceIdeal.τ Cert.NeighboursReferenceIdeal.sig) → Buf (Elt Ideal) ℓ) (g' : Dev Cert.NeighboursReferenceIdeal.nD → PrngReg), Pre_NeighboursIdeal_within m →
    (∀ c : Dev Cert.NeighboursIdeal.nD,
      m' ((c.tc : Thread Cert.NeighboursReferenceIdeal.nD Cert.NeighboursReferenceIdeal.τ).loc Cert.NeighboursReferenceIdeal.main_arg0) = m ((c.tc : Thread Cert.NeighboursIdeal.nD Cert.NeighboursIdeal.τ).loc Cert.NeighboursIdeal.main_arg0)
      ∧ m' ((c.tc : Thread Cert.NeighboursReferenceIdeal.nD Cert.NeighboursReferenceIdeal.τ).loc Cert.NeighboursReferenceIdeal.main_arg1) = m ((c.tc : Thread Cert.NeighboursIdeal.nD Cert.NeighboursIdeal.τ).loc Cert.NeighboursIdeal.main_arg1)) →
    ∃ (v0 : (c : Dev Cert.NeighboursIdeal.nD) → Buf (Elt Ideal) ((c.tc : Thread Cert.NeighboursIdeal.nD Cert.NeighboursIdeal.τ).loc Cert.NeighboursIdeal.main_v2)),
      θ_run (Cert.NeighboursIdeal.defs (F := Ideal)) (onTc (τ := Cert.NeighboursIdeal.τ) (Cert.NeighboursIdeal.main (F := Ideal))) ⟨m, fun _ => 0, g⟩ (fun r => ∀ c : Dev Cert.NeighboursIdeal.nD,
          r.2.mem ((c.tc : Thread Cert.NeighboursIdeal.nD Cert.NeighboursIdeal.τ).loc Cert.NeighboursIdeal.main_v2) = v0 c
          ∧ r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
          ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ θ_run (Cert.NeighboursReferenceIdeal.defs (F := Ideal)) (onTc (τ := Cert.NeighboursReferenceIdeal.τ) (Cert.NeighboursReferenceIdeal.main (F := Ideal))) ⟨m', fun _ => 0, g'⟩ (fun r => ∀ c : Dev Cert.NeighboursReferenceIdeal.nD,
          r.2.mem ((c.tc : Thread Cert.NeighboursReferenceIdeal.nD Cert.NeighboursReferenceIdeal.τ).loc Cert.NeighboursReferenceIdeal.main_v25) = v0 c
          ∧ r.2.mem ((c.tc : Thread Cert.NeighboursReferenceIdeal.nD Cert.NeighboursReferenceIdeal.τ).loc Cert.NeighboursReferenceIdeal.main_arg0) = m' ((c.tc : Thread Cert.NeighboursReferenceIdeal.nD Cert.NeighboursReferenceIdeal.τ).loc Cert.NeighboursReferenceIdeal.main_arg0)
          ∧ r.2.mem ((c.tc : Thread Cert.NeighboursReferenceIdeal.nD Cert.NeighboursReferenceIdeal.τ).loc Cert.NeighboursReferenceIdeal.main_arg1) = m' ((c.tc : Thread Cert.NeighboursReferenceIdeal.nD Cert.NeighboursReferenceIdeal.τ).loc Cert.NeighboursReferenceIdeal.main_arg1))

def Claim : Prop :=
  ∃ (hKernel : Cert.Kernel.Facts) (hKernelIdeal : Cert.KernelIdeal.Facts) (hReferenceIdeal : Cert.ReferenceIdeal.Facts) (hFeatures : Cert.Features.Facts) (hFeaturesIdeal : Cert.FeaturesIdeal.Facts) (hFeaturesReferenceIdeal : Cert.FeaturesReferenceIdeal.Facts) (hResult : Cert.Result.Facts) (hResultIdeal : Cert.ResultIdeal.Facts) (hResultReferenceIdeal : Cert.ResultReferenceIdeal.Facts) (hCentres : Cert.Centres.Facts) (hCentresIdeal : Cert.CentresIdeal.Facts) (hCentresReferenceIdeal : Cert.CentresReferenceIdeal.Facts) (hNeighbours : Cert.Neighbours.Facts) (hNeighboursIdeal : Cert.NeighboursIdeal.Facts) (hNeighboursReferenceIdeal : Cert.NeighboursReferenceIdeal.Facts) (hPre_own_cloud : Cert.Pre_own_cloud.Facts) (hPre_finite1 : Cert.Pre_finite1.Facts) (hPre_apart : Cert.Pre_apart.Facts) (hPre_within : Cert.Pre_within.Facts),
    quiescent_Kernel (hKernel := hKernel) (hPre_own_cloud := hPre_own_cloud)
    ∧ quiescent_KernelIdeal (hKernelIdeal := hKernelIdeal) (hPre_own_cloud := hPre_own_cloud)
    ∧ quiescent_ReferenceIdeal (hReferenceIdeal := hReferenceIdeal)
    ∧ quiescent_ReferenceIdeal_pre_own_cloud (hReferenceIdeal := hReferenceIdeal) (hPre_own_cloud := hPre_own_cloud)
    ∧ quiescent_Features (hFeatures := hFeatures)
    ∧ quiescent_FeaturesIdeal (hFeaturesIdeal := hFeaturesIdeal)
    ∧ quiescent_FeaturesIdeal_pre_finite1 (hFeaturesIdeal := hFeaturesIdeal) (hPre_finite1 := hPre_finite1)
    ∧ quiescent_FeaturesReferenceIdeal (hFeaturesReferenceIdeal := hFeaturesReferenceIdeal)
    ∧ quiescent_FeaturesReferenceIdeal_pre_finite1 (hFeaturesReferenceIdeal := hFeaturesReferenceIdeal) (hPre_finite1 := hPre_finite1)
    ∧ quiescent_Result (hResult := hResult)
    ∧ quiescent_ResultIdeal (hResultIdeal := hResultIdeal)
    ∧ quiescent_ResultIdeal_pre_apart (hResultIdeal := hResultIdeal) (hPre_apart := hPre_apart)
    ∧ quiescent_ResultReferenceIdeal (hResultReferenceIdeal := hResultReferenceIdeal)
    ∧ quiescent_ResultReferenceIdeal_pre_apart (hResultReferenceIdeal := hResultReferenceIdeal) (hPre_apart := hPre_apart)
    ∧ quiescent_Centres (hCentres := hCentres)
    ∧ quiescent_CentresIdeal (hCentresIdeal := hCentresIdeal)
    ∧ quiescent_CentresReferenceIdeal (hCentresReferenceIdeal := hCentresReferenceIdeal)
    ∧ quiescent_Neighbours (hNeighbours := hNeighbours)
    ∧ quiescent_NeighboursIdeal (hNeighboursIdeal := hNeighboursIdeal)
    ∧ quiescent_NeighboursIdeal_pre_within (hNeighboursIdeal := hNeighboursIdeal) (hPre_within := hPre_within)
    ∧ quiescent_NeighboursReferenceIdeal (hNeighboursReferenceIdeal := hNeighboursReferenceIdeal)
    ∧ quiescent_NeighboursReferenceIdeal_pre_within (hNeighboursReferenceIdeal := hNeighboursReferenceIdeal) (hPre_within := hPre_within)
    ∧ preserves_Kernel_KernelIdeal
    ∧ algebraic_KernelIdeal_ReferenceIdeal (hKernelIdeal := hKernelIdeal) (hReferenceIdeal := hReferenceIdeal) (hPre_own_cloud := hPre_own_cloud)
    ∧ preserves_Features_FeaturesIdeal
    ∧ algebraic_FeaturesIdeal_FeaturesReferenceIdeal_pre_finite1 (hFeaturesIdeal := hFeaturesIdeal) (hFeaturesReferenceIdeal := hFeaturesReferenceIdeal) (hPre_finite1 := hPre_finite1)
    ∧ preserves_Result_ResultIdeal
    ∧ algebraic_ResultIdeal_ResultReferenceIdeal_pre_apart (hResultIdeal := hResultIdeal) (hResultReferenceIdeal := hResultReferenceIdeal) (hPre_apart := hPre_apart)
    ∧ preserves_Centres_CentresIdeal
    ∧ algebraic_CentresIdeal_CentresReferenceIdeal (hCentresIdeal := hCentresIdeal) (hCentresReferenceIdeal := hCentresReferenceIdeal)
    ∧ preserves_Neighbours_NeighboursIdeal
    ∧ algebraic_NeighboursIdeal_NeighboursReferenceIdeal_pre_within (hNeighboursIdeal := hNeighboursIdeal) (hNeighboursReferenceIdeal := hNeighboursReferenceIdeal) (hPre_within := hPre_within)
-- ==== Pre_apart.lean ====
abbrev S16x128x128 : Shape := ⟨3, ![16, 128, 128]⟩
abbrev S16x8x128 : Shape := ⟨3, ![16, 8, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S16x3x128 : Shape := ⟨3, ![16, 3, 128]⟩
abbrev S_ : Shape := ⟨0, ![]⟩
abbrev S16x3x128x1 : Shape := ⟨4, ![16, 3, 128, 1]⟩
abbrev S16x3x1x128 : Shape := ⟨4, ![16, 3, 1, 128]⟩
abbrev S16x3x128x128 : Shape := ⟨4, ![16, 3, 128, 128]⟩

class Facts : Prop where
  slices_S16x8x128_S16x3x128_0_0_0 : S16x8x128.Slices ![0, 0, 0] S16x3x128
  bcast_S_S16x3x128 : S_.BroadcastsInDim S16x3x128 (![] : Fin 0 → Fin S16x3x128.rank)
  reducesTo_S16x3x128_S_d0_1_2 : S16x3x128.ReducesTo [0, 1, 2] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_
  bcast_S_S128x131 : S_.BroadcastsInDim S128x131 (![] : Fin 0 → Fin S128x131.rank)
  reducesTo_S128x131_S_d0_1 : S128x131.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S16x3x128_S16x3x128x1_0_1_2 : S16x3x128.BroadcastsInDim S16x3x128x1 (![0, 1, 2] : Fin 3 → Fin S16x3x128x1.rank)
  bcast_S16x3x128_S16x3x1x128_0_1_3 : S16x3x128.BroadcastsInDim S16x3x1x128 (![0, 1, 3] : Fin 3 → Fin S16x3x1x128.rank)
  bcast_S16x3x128x1_S16x3x128x128_0_1_2_3 : S16x3x128x1.BroadcastsInDim S16x3x128x128 (![0, 1, 2, 3] : Fin 4 → Fin S16x3x128x128.rank)
  bcast_S16x3x1x128_S16x3x128x128_0_1_2_3 : S16x3x1x128.BroadcastsInDim S16x3x128x128 (![0, 1, 2, 3] : Fin 4 → Fin S16x3x128x128.rank)
  reducesTo_S16x3x128x128_S16x128x128_d1 : S16x3x128x128.ReducesTo [1] S16x128x128

variable [Facts]

def fn_part3 {F : FTy → Type} [FloatOps F] (main_v39 : IVec S_ 1) (main_v46 : FVec F S16x128x128 .f32) (main_v51 : IVec S16x128x128 1) (main_cst_17 : FVec F S_ .f32) : IVec S_ 1 :=
  let main_v52 : FVec F S16x128x128 .f32 := broadcastInDim S16x128x128 ![] bcast_S_S16x128x128 main_cst_17
  let main_v53 : IVec S16x128x128 1 := cmpf .olt main_v46 main_v52
  let main_v54 : IVec S16x128x128 1 := andi main_v51 main_v53
  let main_c_18 : IVec S_ 1 := constantI S_ 1 1#1
  let main_v55 : IVec S_ 1 := (fun x v => Host.reduce IntOp.andi x v reducesTo_S16x128x128_S_d0_1_2 h_S_) main_v54 main_c_18
  let main_v56 : IVec S_ 1 := andi main_v39 main_v55
  main_v56

def fn_part2 {F : FTy → Type} [FloatOps F] (main_arg7 : FVec F S256 .f32) (main_v0 : FVec F S16x3x128 .f32) (main_v29 : IVec S_ 1) (main_v33 : IVec S_ 1) : IVec S_ 1 :=
  let main_v34 : IVec S_ 1 := andi main_v29 main_v33
  let main_v35 : FVec F S256 .f32 := Host.absf main_arg7
  let main_cst_12 : FVec F S_ .f32 := constant S_ .f32 0x7F800000#32
  let main_v36 : FVec F S256 .f32 := broadcastInDim S256 ![] bcast_S_S256 main_cst_12
  let main_v37 : IVec S256 1 := cmpf .olt main_v35 main_v36
  let main_c_13 : IVec S_ 1 := constantI S_ 1 1#1
  let main_v38 : IVec S_ 1 := (fun x v => Host.reduce IntOp.andi x v reducesTo_S256_S_d0 h_S_) main_v37 main_c_13
  let main_v39 : IVec S_ 1 := andi main_v34 main_v38
  let main_v40 : FVec F S16x3x128x1 .f32 := broadcastInDim S16x3x128x1 ![0, 1, 2] bcast_S16x3x128_S16x3x128x1_0_1_2 main_v0
  let main_v41 : FVec F S16x3x1x128 .f32 := broadcastInDim S16x3x1x128 ![0, 1, 3] bcast_S16x3x128_S16x3x1x128_0_1_3 main_v0
  let main_v42 : FVec F S16x3x128x128 .f32 := broadcastInDim S16x3x128x128 ![0, 1, 2, 3] bcast_S16x3x128x1_S16x3x128x128_0_1_2_3 main_v40
  let main_v43 : FVec F S16x3x128x128 .f32 := broadcastInDim S16x3x128x128 ![0, 1, 2, 3] bcast_S16x3x1x128_S16x3x128x128_0_1_2_3 main_v41
  let main_v44 : FVec F S16x3x128x128 .f32 := subf main_v42 main_v43
  let main_v45 : FVec F S16x3x128x128 .f32 := mulf main_v44 main_v44
  let main_cst_14 : FVec F S_ .f32 := constant S_ .f32 0x00000000#32
  let main_v46 : FVec F S16x128x128 .f32 := (fun x v => Host.reduceAdd x v reducesTo_S16x3x128x128_S16x128x128_d1 h_S_) main_v45 main_cst_14
  let main_cst_15 : FVec F S_ .f32 := constant S_ .f32 0x00000000#32
  let main_v47 : FVec F S16x128x128 .f32 := broadcastInDim S16x128x128 ![] bcast_S_S16x128x128 main_cst_15
  let main_v48 : IVec S16x128x128 1 := cmpf .oeq main_v46 main_v47
  let main_cst_16 : FVec F S_ .f32 := constant S_ .f32 0x2B8CBCCC#32
  let main_v49 : FVec F S16x128x128 .f32 := broadcastInDim S16x128x128 ![] bcast_S_S16x128x128 main_cst_16
  let main_v50 : IVec S16x128x128 1 := cmpf .ogt main_v46 main_v49
  let main_v51 : IVec S16x128x128 1 := ori main_v48 main_v50
  let main_cst_17 : FVec F S_ .f32 := constant S_ .f32 0x7149F2CA#32
  fn_part3 (F := F) main_v39 main_v46 main_v51 main_cst_17

def fn_part1 {F : FTy → Type} [FloatOps F] (main_arg4 : FVec F S128x128 .f32) (main_arg5 : FVec F S128 .f32) (main_arg6 : FVec F S256x128 .f32) (main_arg7 : FVec F S256 .f32) (main_v0 : FVec F S16x3x128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128x128 .f32 := Host.absf main_arg4
  let main_cst_6 : FVec F S_ .f32 := constant S_ .f32 0x7F800000#32
  let main_v21 : FVec F S128x128 .f32 := broadcastInDim S128x128 ![] bcast_S_S128x128 main_cst_6
  let main_v22 : IVec S128x128 1 := cmpf .olt main_v20 main_v21
  let main_c_7 : IVec S_ 1 := constantI S_ 1 1#1
  let main_v23 : IVec S_ 1 := (fun x v => Host.reduce IntOp.andi x v reducesTo_S128x128_S_d0_1 h_S_) main_v22 main_c_7
  let main_v24 : IVec S_ 1 := andi main_v19 main_v23
  let main_v25 : FVec F S128 .f32 := Host.absf main_arg5
  let main_cst_8 : FVec F S_ .f32 := constant S_ .f32 0x7F800000#32
  let main_v26 : FVec F S128 .f32 := broadcastInDim S128 ![] bcast_S_S128 main_cst_8
  let main_v27 : IVec S128 1 := cmpf .olt main_v25 main_v26
  let main_c_9 : IVec S_ 1 := constantI S_ 1 1#1
  let main_v28 : IVec S_ 1 := (fun x v => Host.reduce IntOp.andi x v reducesTo_S128_S_d0 h_S_) main_v27 main_c_9
  let main_v29 : IVec S_ 1 := andi main_v24 main_v28
  let main_v30 : FVec F S256x128 .f32 := Host.absf main_arg6
  let main_cst_10 : FVec F S_ .f32 := constant S_ .f32 0x7F800000#32
  let main_v31 : FVec F S256x128 .f32 := broadcastInDim S256x128 ![] bcast_S_S256x128 main_cst_10
  let main_v32 : IVec S256x128 1 := cmpf .olt main_v30 main_v31
  let main_c_11 : IVec S_ 1 := constantI S_ 1 1#1
  let main_v33 : IVec S_ 1 := (fun x v => Host.reduce IntOp.andi x v reducesTo_S256x128_S_d0_1 h_S_) main_v32 main_c_11
  fn_part2 (F := F) main_arg7 main_v0 main_v29 main_v33

def fn {F : FTy → Type} [FloatOps F] (main_arg0 : FVec F S16x128x128 .f32) (main_arg1 : FVec F S16x8x128 .f32) (main_arg2 : FVec F S128x131 .f32) (main_arg3 : FVec F S128 .f32) (main_arg4 : FVec F S128x128 .f32) (main_arg5 : FVec F S128 .f32) (main_arg6 : FVec F S256x128 .f32) (main_arg7 : FVec F S256 .f32) : IVec S_ 1 :=
  let main_v0 : FVec F S16x3x128 .f32 := (extractStridedSlice S16x3x128 ![0, 0, 0] · slices_S16x8x128_S16x3x128_0_0_0) main_arg1
  let main_v1 : FVec F S16x3x128 .f32 := Host.absf main_v0
  let main_cst : FVec F S_ .f32 := constant S_ .f32 0x7F800000#32
  let main_v2 : FVec F S16x3x128 .f32 := broadcastInDim S16x3x128 ![] bcast_S_S16x3x128 main_cst
  let main_v3 : IVec S16x3x128 1 := cmpf .olt main_v1 main_v2
  let main_c : IVec S_ 1 := constantI S_ 1 1#1
  let main_v4 : IVec S_ 1 := (fun x v => Host.reduce IntOp.andi x v reducesTo_S16x3x128_S_d0_1_2 h_S_) main_v3 main_c
  let main_v5 : FVec F S16x128x128 .f32 := Host.absf main_arg0
  let main_cst_0 : FVec F S_ .f32 := constant S_ .f32 0x7F800000#32
  let main_v6 : FVec F S16x128x128 .f32 := broadcastInDim S16x128x128 ![] bcast_S_S16x128x128 main_cst_0
  let main_v7 : IVec S16x128x128 1 := cmpf .olt main_v5 main_v6
  let main_c_1 : IVec S_ 1 := constantI S_ 1 1#1
  let main_v8 : IVec S_ 1 := (fun x v => Host.reduce IntOp.andi x v reducesTo_S16x128x128_S_d0_1_2 h_S_) main_v7 main_c_1
  let main_v9 : IVec S_ 1 := andi main_v4 main_v8
  let main_v10 : FVec F S128x131 .f32 := Host.absf main_arg2
  let main_cst_2 : FVec F S_ .f32 := constant S_ .f32 0x7F800000#32
  let main_v11 : FVec F S128x131 .f32 := broadcastInDim S128x131 ![] bcast_S_S128x131 main_cst_2
  let main_v12 : IVec S128x131 1 := cmpf .olt main_v10 main_v11
  let main_c_3 : IVec S_ 1 := constantI S_ 1 1#1
  let main_v13 : IVec S_ 1 := (fun x v => Host.reduce IntOp.andi x v reducesTo_S128x131_S_d0_1 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_arg5 main_arg6 main_arg7 main_v0 main_v14 main_v15 main_v16
-- ==== Pre_finite1.lean ====
abbrev S65536x128 : Shape := ⟨2, ![65536, 128]⟩
abbrev S16x8x128 : Shape := ⟨3, ![16, 8, 128]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S65536x6 : Shape := ⟨2, ![65536, 6]⟩
abbrev S_ : Shape := ⟨0, ![]⟩
abbrev S16x3x128 : Shape := ⟨3, ![16, 3, 128]⟩

class Facts : Prop where
  slices_S65536x128_S65536x6_0_0 : S65536x128.Slices ![0, 0] S65536x6
  bcast_S_S65536x6 : S_.BroadcastsInDim S65536x6 (![] : Fin 0 → Fin S65536x6.rank)
  reducesTo_S65536x6_S_d0_1 : S65536x6.ReducesTo [0, 1] S_
  h_S_ : 0 < S_.numel
  slices_S16x8x128_S16x3x128_0_0_0 : S16x8x128.Slices ![0, 0, 0] S16x3x128
  bcast_S_S16x3x128 : S_.BroadcastsInDim S16x3x128 (![] : Fin 0 → Fin S16x3x128.rank)
  reducesTo_S16x3x128_S_d0_1_2 : S16x3x128.ReducesTo [0, 1, 2] S_
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v30 : IVec S_ 1) (main_v33 : IVec S128x64 1) (main_c_11 : IVec S_ 1) : IVec S_ 1 :=
  let main_v34 : IVec S_ 1 := (fun x v => Host.reduce IntOp.andi x v reducesTo_S128x64_S_d0_1 h_S_) main_v33 main_c_11
  let main_v35 : IVec S_ 1 := andi main_v30 main_v34
  let main_v36 : FVec F S128 .f32 := Host.absf main_arg7
  let main_cst_12 : FVec F S_ .f32 := constant S_ .f32 0x7F800000#32
  let main_v37 : FVec F S128 .f32 := broadcastInDim S128 ![] bcast_S_S128 main_cst_12
  let main_v38 : IVec S128 1 := cmpf .olt main_v36 main_v37
  let main_c_13 : IVec S_ 1 := constantI S_ 1 1#1
  let main_v39 : IVec S_ 1 := (fun x v => Host.reduce IntOp.andi x v reducesTo_S128_S_d0 h_S_) main_v38 main_c_13
  let main_v40 : IVec S_ 1 := andi main_v35 main_v39
  main_v40

def fn_part1 {F : FTy → Type} [FloatOps F] (main_arg4 : FVec F S64x64 .f32) (main_arg5 : FVec F S64 .f32) (main_arg6 : FVec F S128x64 .f32) (main_arg7 : FVec F S128 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64x64 .f32 := Host.absf main_arg4
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_c_7 : IVec S_ 1 := constantI S_ 1 1#1
  let main_v24 : IVec S_ 1 := (fun x v => Host.reduce IntOp.andi x v reducesTo_S64x64_S_d0_1 h_S_) main_v23 main_c_7
  let main_v25 : IVec S_ 1 := andi main_v20 main_v24
  let main_v26 : FVec F S64 .f32 := Host.absf main_arg5
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  let main_v31 : FVec F S128x64 .f32 := Host.absf main_arg6
  let main_cst_10 : FVec F S_ .f32 := constant S_ .f32 0x7F800000#32
  let main_v32 : FVec F S128x64 .f32 := broadcastInDim S128x64 ![] bcast_S_S128x64 main_cst_10
  let main_v33 : IVec S128x64 1 := cmpf .olt main_v31 main_v32
  let main_c_11 : IVec S_ 1 := constantI S_ 1 1#1
  fn_part2 (F := F) main_arg7 main_v30 main_v33 main_c_11

def fn {F : FTy → Type} [FloatOps F] (main_arg0 : FVec F S65536x128 .f32) (main_arg1 : FVec F S16x8x128 .f32) (main_arg2 : FVec F S64x6 .f32) (main_arg3 : FVec F S64 .f32) (main_arg4 : FVec F S64x64 .f32) (main_arg5 : FVec F S64 .f32) (main_arg6 : FVec F S128x64 .f32) (main_arg7 : FVec F S128 .f32) : IVec S_ 1 :=
  let main_v0 : FVec F S65536x6 .f32 := (extractStridedSlice S65536x6 ![0, 0] · slices_S65536x128_S65536x6_0_0) main_arg0
  let main_v1 : FVec F S65536x6 .f32 := Host.absf main_v0
  let main_cst : FVec F S_ .f32 := constant S_ .f32 0x7F800000#32
  let main_v2 : FVec F S65536x6 .f32 := broadcastInDim S65536x6 ![] bcast_S_S65536x6 main_cst
  let main_v3 : IVec S65536x6 1 := cmpf .olt main_v1 main_v2
  let main_c : IVec S_ 1 := constantI S_ 1 1#1
  let main_v4 : IVec S_ 1 := (fun x v => Host.reduce IntOp.andi x v reducesTo_S65536x6_S_d0_1 h_S_) main_v3 main_c
  let main_v5 : FVec F S16x3x128 .f32 := (extractStridedSlice S16x3x128 ![0, 0, 0] · slices_S16x8x128_S16x3x128_0_0_0) main_arg1
  let main_v6 : FVec F S16x3x128 .f32 := Host.absf main_v5
  let main_cst_0 : FVec F S_ .f32 := constant S_ .f32 0x7F800000#32
  let main_v7 : FVec F S16x3x128 .f32 := broadcastInDim S16x3x128 ![] bcast_S_S16x3x128 main_cst_0
  let main_v8 : IVec S16x3x128 1 := cmpf .olt main_v6 main_v7
  let main_c_1 : IVec S_ 1 := constantI S_ 1 1#1
  let main_v9 : IVec S_ 1 := (fun x v => Host.reduce IntOp.andi x v reducesTo_S16x3x128_S_d0_1_2 h_S_) main_v8 main_c_1
  let main_v10 : IVec S_ 1 := andi main_v4 main_v9
  let main_v11 : FVec F S64x6 .f32 := Host.absf main_arg2
  let main_cst_2 : FVec F S_ .f32 := constant S_ .f32 0x7F800000#32
  let main_v12 : FVec F S64x6 .f32 := broadcastInDim S64x6 ![] bcast_S_S64x6 main_cst_2
  let main_v13 : IVec S64x6 1 := cmpf .olt main_v11 main_v12
  let main_c_3 : IVec S_ 1 := constantI S_ 1 1#1
  let main_v14 : IVec S_ 1 := (fun x v => Host.reduce IntOp.andi x v reducesTo_S64x6_S_d0_1 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_arg5 main_arg6 main_arg7 main_v15 main_v16 main_cst_4
-- ==== Pre_own_cloud.lean ====
abbrev S16x16384x6 : Shape := ⟨3, ![16, 16384, 6]⟩
abbrev S16x128x32 : Shape := ⟨3, ![16, 128, 32]⟩
abbrev S16 : Shape := ⟨1, ![16]⟩
abbrev S16x1x1 : Shape := ⟨3, ![16, 1, 1]⟩
abbrev S_ : Shape := ⟨0, ![]⟩

class Facts : Prop where
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x128x32_0_1_2 : S16x1x1.BroadcastsInDim S16x128x32 (![0, 1, 2] : Fin 3 → Fin S16x128x32.rank)

variable [Facts]

def fn {F : FTy → Type} [FloatOps F] (main_arg0 : FVec F S16x16384x6 .f32) (main_arg1 : IVec S16x128x32 32) : IVec S16x128x32 1 :=
  let main_v0 : IVec S16 32 := iotaInDim S16 32 0
  let main_v1 : IVec S16x1x1 32 := broadcastInDim S16x1x1 ![0] bcast_S16_S16x1x1_0 main_v0
  let main_c : IVec S_ 32 := constantI S_ 32 16384#32
  let main_v2 : IVec S16x1x1 32 := broadcastInDim S16x1x1 ![] bcast_S_S16x1x1 main_c
  let main_v3 : IVec S16x1x1 32 := muli main_v2 main_v1
  let main_v4 : IVec S16x128x32 32 := broadcastInDim S16x128x32 ![0, 1, 2] bcast_S16x1x1_S16x128x32_0_1_2 main_v3
  let main_v5 : IVec S16x128x32 1 := cmpi .sle main_v4 main_arg1
  let main_c_0 : IVec S_ 32 := constantI S_ 32 16384#32
  let main_v6 : IVec S16x1x1 32 := broadcastInDim S16x1x1 ![] bcast_S_S16x1x1 main_c_0
  let main_v7 : IVec S16x1x1 32 := addi main_v3 main_v6
  let main_v8 : IVec S16x128x32 32 := broadcastInDim S16x128x32 ![0, 1, 2] bcast_S16x1x1_S16x128x32_0_1_2 main_v7
  let main_v9 : IVec S16x128x32 1 := cmpi .slt main_arg1 main_v8
  let main_v10 : IVec S16x128x32 1 := andi main_v5 main_v9
  main_v10
-- ==== Pre_within.lean ====
abbrev S16x16384x6 : Shape := ⟨3, ![16, 16384, 6]⟩
abbrev S16x8x128 : Shape := ⟨3, ![16, 8, 128]⟩
abbrev S16x16384x3 : Shape := ⟨3, ![16, 16384, 3]⟩
abbrev S16x3x128 : Shape := ⟨3, ![16, 3, 128]⟩
abbrev S_ : Shape := ⟨0, ![]⟩
abbrev S16x3x128x1 : Shape := ⟨4, ![16, 3, 128, 1]⟩
abbrev S16x3x16384 : Shape := ⟨3, ![16, 3, 16384]⟩
abbrev S16x3x1x16384 : Shape := ⟨4, ![16, 3, 1, 16384]⟩
abbrev S16x3x128x16384 : Shape := ⟨4, ![16, 3, 128, 16384]⟩
abbrev S16x128x16384 : Shape := ⟨3, ![16, 128, 16384]⟩

class Facts : Prop where
  slices_S16x16384x6_S16x16384x3_0_0_0 : S16x16384x6.Slices ![0, 0, 0] S16x16384x3
  slices_S16x8x128_S16x3x128_0_0_0 : S16x8x128.Slices ![0, 0, 0] S16x3x128
  bcast_S_S16x16384x3 : S_.BroadcastsInDim S16x16384x3 (![] : Fin 0 → Fin S16x16384x3.rank)
  reducesTo_S16x16384x3_S_d0_1_2 : S16x16384x3.ReducesTo [0, 1, 2] S_
  h_S_ : 0 < S_.numel
  bcast_S_S16x3x128 : S_.BroadcastsInDim S16x3x128 (![] : Fin 0 → Fin S16x3x128.rank)
  reducesTo_S16x3x128_S_d0_1_2 : S16x3x128.ReducesTo [0, 1, 2] S_
  bcast_S16x3x128_S16x3x128x1_0_1_2 : S16x3x128.BroadcastsInDim S16x3x128x1 (![0, 1, 2] : Fin 3 → Fin S16x3x128x1.rank)
  transposes_S16x16384x3_S16x3x16384_0_2_1 : S16x16384x3.Transposes [0, 2, 1] S16x3x16384
  bcast_S16x3x16384_S16x3x1x16384_0_1_3 : S16x3x16384.BroadcastsInDim S16x3x1x16384 (![0, 1, 3] : Fin 3 → Fin S16x3x1x16384.rank)
  bcast_S16x3x128x1_S16x3x128x16384_0_1_2_3 : S16x3x128x1.BroadcastsInDim S16x3x128x16384 (![0, 1, 2, 3] : Fin 4 → Fin S16x3x128x16384.rank)
  bcast_S16x3x1x16384_S16x3x128x16384_0_1_2_3 : S16x3x1x16384.BroadcastsInDim S16x3x128x16384 (![0, 1, 2, 3] : Fin 4 → Fin S16x3x128x16384.rank)
  reducesTo_S16x3x128x16384_S16x128x16384_d1 : S16x3x128x16384.ReducesTo [1] S16x128x16384
  bcast_S_S16x128x16384 : S_.BroadcastsInDim S16x128x16384 (![] : Fin 0 → Fin S16x128x16384.rank)
  reducesTo_S16x128x16384_S_d0_1_2 : S16x128x16384.ReducesTo [0, 1, 2] S_

variable [Facts]

def fn_part1 {F : FTy → Type} [FloatOps F] (main_v10 : IVec S_ 1) (main_v18 : FVec F S16x128x16384 .f32) : IVec S_ 1 :=
  let main_cst_3 : FVec F S_ .f32 := constant S_ .f32 0x00000000#32
  let main_v19 : FVec F S16x128x16384 .f32 := broadcastInDim S16x128x16384 ![] bcast_S_S16x128x16384 main_cst_3
  let main_v20 : IVec S16x128x16384 1 := cmpf .oeq main_v18 main_v19
  let main_cst_4 : FVec F S_ .f32 := constant S_ .f32 0x2B8CBCCC#32
  let main_v21 : FVec F S16x128x16384 .f32 := broadcastInDim S16x128x16384 ![] bcast_S_S16x128x16384 main_cst_4
  let main_v22 : IVec S16x128x16384 1 := cmpf .ogt main_v18 main_v21
  let main_v23 : IVec S16x128x16384 1 := ori main_v20 main_v22
  let main_cst_5 : FVec F S_ .f32 := constant S_ .f32 0x7149F2CA#32
  let main_v24 : FVec F S16x128x16384 .f32 := broadcastInDim S16x128x16384 ![] bcast_S_S16x128x16384 main_cst_5
  let main_v25 : IVec S16x128x16384 1 := cmpf .olt main_v18 main_v24
  let main_v26 : IVec S16x128x16384 1 := andi main_v23 main_v25
  let main_c_6 : IVec S_ 1 := constantI S_ 1 1#1
  let main_v27 : IVec S_ 1 := (fun x v => Host.reduce IntOp.andi x v reducesTo_S16x128x16384_S_d0_1_2 h_S_) main_v26 main_c_6
  let main_v28 : IVec S_ 1 := andi main_v10 main_v27
  main_v28

def fn {F : FTy → Type} [FloatOps F] (main_arg0 : FVec F S16x16384x6 .f32) (main_arg1 : FVec F S16x8x128 .f32) : IVec S_ 1 :=
  let main_v0 : FVec F S16x16384x3 .f32 := (extractStridedSlice S16x16384x3 ![0, 0, 0] · slices_S16x16384x6_S16x16384x3_0_0_0) main_arg0
  let main_v1 : FVec F S16x3x128 .f32 := (extractStridedSlice S16x3x128 ![0, 0, 0] · slices_S16x8x128_S16x3x128_0_0_0) main_arg1
  let main_v2 : FVec F S16x16384x3 .f32 := Host.absf main_v0
  let main_cst : FVec F S_ .f32 := constant S_ .f32 0x7F800000#32
  let main_v3 : FVec F S16x16384x3 .f32 := broadcastInDim S16x16384x3 ![] bcast_S_S16x16384x3 main_cst
  let main_v4 : IVec S16x16384x3 1 := cmpf .olt main_v2 main_v3
  let main_c : IVec S_ 1 := constantI S_ 1 1#1
  let main_v5 : IVec S_ 1 := (fun x v => Host.reduce IntOp.andi x v reducesTo_S16x16384x3_S_d0_1_2 h_S_) main_v4 main_c
  let main_v6 : FVec F S16x3x128 .f32 := Host.absf main_v1
  let main_cst_0 : FVec F S_ .f32 := constant S_ .f32 0x7F800000#32
  let main_v7 : FVec F S16x3x128 .f32 := broadcastInDim S16x3x128 ![] bcast_S_S16x3x128 main_cst_0
  let main_v8 : IVec S16x3x128 1 := cmpf .olt main_v6 main_v7
  let main_c_1 : IVec S_ 1 := constantI S_ 1 1#1
  let main_v9 : IVec S_ 1 := (fun x v => Host.reduce IntOp.andi x v reducesTo_S16x3x128_S_d0_1_2 h_S_) main_v8 main_c_1
  let main_v10 : IVec S_ 1 := andi main_v5 main_v9
  let main_v11 : FVec F S16x3x128x1 .f32 := broadcastInDim S16x3x128x1 ![0, 1, 2] bcast_S16x3x128_S16x3x128x1_0_1_2 main_v1
  let main_v12 : FVec F S16x3x16384 .f32 := (transpose S16x3x16384 [0, 2, 1] · transposes_S16x16384x3_S16x3x16384_0_2_1) main_v0
  let main_v13 : FVec F S16x3x1x16384 .f32 := broadcastInDim S16x3x1x16384 ![0, 1, 3] bcast_S16x3x16384_S16x3x1x16384_0_1_3 main_v12
  let main_v14 : FVec F S16x3x128x16384 .f32 := broadcastInDim S16x3x128x16384 ![0, 1, 2, 3] bcast_S16x3x128x1_S16x3x128x16384_0_1_2_3 main_v11
  let main_v15 : FVec F S16x3x128x16384 .f32 := broadcastInDim S16x3x128x16384 ![0, 1, 2, 3] bcast_S16x3x1x16384_S16x3x128x16384_0_1_2_3 main_v13
  let main_v16 : FVec F S16x3x128x16384 .f32 := subf main_v14 main_v15
  let main_v17 : FVec F S16x3x128x16384 .f32 := mulf main_v16 main_v16
  let main_cst_2 : FVec F S_ .f32 := constant S_ .f32 0x00000000#32
  let main_v18 : FVec F S16x128x16384 .f32 := (fun x v => Host.reduceAdd x v reducesTo_S16x3x128x16384_S16x128x16384_d1 h_S_) main_v17 main_cst_2
  fn_part1 (F := F) main_v10 main_v18
-- ==== Kernel.lean ====
abbrev S16x16384x6 : Shape := ⟨3, ![16, 16384, 6]⟩
abbrev S16x128x32 : Shape := ⟨3, ![16, 128, 32]⟩
abbrev S262144x6 : Shape := ⟨2, ![262144, 6]⟩
abbrev S_ : Shape := ⟨0, ![]⟩
abbrev S262144x128 : Shape := ⟨2, ![262144, 128]⟩
abbrev S65536 : Shape := ⟨1, ![65536]⟩
abbrev S65536x128 : Shape := ⟨2, ![65536, 128]⟩
abbrev S512 : Shape := ⟨1, ![512]⟩
abbrev S512x128 : Shape := ⟨2, ![512, 128]⟩

abbrev nBuf : Table → Nat
  | .hbm => 8
  | .local .scVector .vmem => 2
  | _ => 0

abbrev bufTy : (tb : Table) → Fin (nBuf tb) → BufTy
  | .hbm, ⟨0, _⟩ => ⟨S16x16384x6, .f32⟩
  | .hbm, ⟨1, _⟩ => ⟨S16x128x32, .i32⟩
  | .hbm, ⟨2, _⟩ => ⟨S262144x6, .f32⟩
  | .hbm, ⟨3, _⟩ => ⟨S_, .i32⟩
  | .hbm, ⟨4, _⟩ => ⟨S_, .f32⟩
  | .hbm, ⟨5, _⟩ => ⟨S262144x128, .f32⟩
  | .hbm, ⟨6, _⟩ => ⟨S65536, .i32⟩
  | .hbm, ⟨7, _⟩ => ⟨S65536x128, .f32⟩
  | .local .scVector .vmem, ⟨0, _⟩ => ⟨S512, .i32⟩
  | .local .scVector .vmem, ⟨1, _⟩ => ⟨S512x128, .f32⟩
  | _, _ => ⟨S16x16384x6, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  let c0_i32_16_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x16384x6 : Shape := ⟨3, ![16, 16384, 6]⟩
abbrev S16x128x32 : Shape := ⟨3, ![16, 128, 32]⟩
abbrev S16x16384x3 : Shape := ⟨3, ![16, 16384, 3]⟩
abbrev S16 : Shape := ⟨1, ![16]⟩
abbrev S16x1x1 : Shape := ⟨3, ![16, 1, 1]⟩
abbrev S_ : Shape := ⟨0, ![]⟩
abbrev S16x128x32x1 : Shape := ⟨4, ![16, 128, 32, 1]⟩
abbrev S16x128x32x3 : Shape := ⟨4, ![16, 128, 32, 3]⟩
abbrev S16x128x32x6 : Shape := ⟨4, ![16, 128, 32, 6]⟩
abbrev S16x128x32x122 : Shape := ⟨4, ![16, 128, 32, 122]⟩
abbrev S16x128x32x128 : Shape := ⟨4, ![16, 128, 32, 128]⟩
abbrev S65536x128 : Shape := ⟨2, ![65536, 128]⟩

abbrev nBuf : Space → Nat
  | .hbm => 34
  | .vmem => 0
  | .smem => 0
  | _ => 0

abbrev bufTy : (tb : Table) → Fin (tcTables nBuf tb) → BufTy
  | .hbm, ⟨0, _⟩ => ⟨S16x16384x6, .f32⟩
  | .hbm, ⟨1, _⟩ => ⟨S16x128x32, .i32⟩
  | .hbm, ⟨2, _⟩ => ⟨S16x16384x3, .f32⟩
  | .hbm, ⟨3, _⟩ => ⟨S16x16384x3, .f32⟩
  | .hbm, ⟨4, _⟩ => ⟨S16, .i32⟩
  | .hbm, ⟨5, _⟩ => ⟨S16x1x1, .i32⟩
  | .hbm, ⟨6, _⟩ => ⟨S_, .i32⟩
  | .hbm, ⟨7, _⟩ => ⟨S16x1x1, .i32⟩
  | .hbm, ⟨8, _⟩ => ⟨S16x1x1, .i32⟩
  | .hbm, ⟨9, _⟩ => ⟨S16x128x32, .i32⟩
  | .hbm, ⟨10, _⟩ => ⟨S16x128x32, .i32⟩
  | .hbm, ⟨11, _⟩ => ⟨S_, .i32⟩
  | .hbm, ⟨12, _⟩ => ⟨S16x128x32, .i32⟩
  | .hbm, ⟨13, _⟩ => ⟨S16x128x32, .i1⟩
  | .hbm, ⟨14, _⟩ => ⟨S_, .i32⟩
  | .hbm, ⟨15, _⟩ => ⟨S16x128x32, .i32⟩
  | .hbm, ⟨16, _⟩ => ⟨S16x128x32, .i32⟩
  | .hbm, ⟨17, _⟩ => ⟨S16x128x32, .i32⟩
  | .hbm, ⟨18, _⟩ => ⟨S16x128x32x1, .i32⟩
  | .hbm, ⟨19, _⟩ => ⟨S16x128x32x3, .f32⟩
  | .hbm, ⟨20, _⟩ => ⟨S_, .i32⟩
  | .hbm, ⟨21, _⟩ => ⟨S16x128x32, .i32⟩
  | .hbm, ⟨22, _⟩ => ⟨S16x128x32, .i1⟩
  | .hbm, ⟨23, _⟩ => ⟨S_, .i32⟩
  | .hbm, ⟨24, _⟩ => ⟨S16x128x32, .i32⟩
  | .hbm, ⟨25, _⟩ => ⟨S16x128x32, .i32⟩
  | .hbm, ⟨26, _⟩ => ⟨S16x128x32, .i32⟩
  | .hbm, ⟨27, _⟩ => ⟨S16x128x32x1, .i32⟩
  | .hbm, ⟨28, _⟩ => ⟨S16x128x32x3, .f32⟩
  | .hbm, ⟨29, _⟩ => ⟨S16x128x32x6, .f32⟩
  | .hbm, ⟨30, _⟩ => ⟨S_, .f32⟩
  | .hbm, ⟨31, _⟩ => ⟨S16x128x32x122, .f32⟩
  | .hbm, ⟨32, _⟩ => ⟨S16x128x32x128, .f32⟩
  | .hbm, ⟨33, _⟩ => ⟨S65536x128, .f32⟩
  | _, _ => ⟨S16x16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Features.lean ====
abbrev S65536x128 : Shape := ⟨2, ![65536, 128]⟩
abbrev S16x8x128 : Shape := ⟨3, ![16, 8, 128]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S16x4096x128 : Shape := ⟨3, ![16, 4096, 128]⟩
abbrev S_ : Shape := ⟨0, ![]⟩
abbrev S64x128 : Shape := ⟨2, ![64, 128]⟩
abbrev S1x64 : Shape := ⟨2, ![1, 64]⟩
abbrev S16x4096x64 : Shape := ⟨3, ![16, 4096, 64]⟩
abbrev S16x8x256 : Shape := ⟨3, ![16, 8, 256]⟩
abbrev S1x4096x128 : Shape := ⟨3, ![1, 4096, 128]⟩
abbrev S1x8x128 : Shape := ⟨3, ![1, 8, 128]⟩
abbrev S1x4096x64 : Shape := ⟨3, ![1, 4096, 64]⟩
abbrev S1x8x256 : Shape := ⟨3, ![1, 8, 256]⟩
abbrev S4096x128 : Shape := ⟨2, ![4096, 128]⟩
abbrev S8x128 : Shape := ⟨2, ![8, 128]⟩
abbrev S3x128 : Shape := ⟨2, ![3, 128]⟩
abbrev S4096x64 : Shape := ⟨2, ![4096, 64]⟩
abbrev S64x3 : Shape := ⟨2, ![64, 3]⟩
abbrev S128x32x64 : Shape := ⟨3, ![128, 32, 64]⟩
abbrev S128x1x64 : Shape := ⟨3, ![128, 1, 64]⟩
abbrev S1x1x64 : Shape := ⟨3, ![1, 1, 64]⟩
abbrev S192 : Shape := ⟨1, ![192]⟩
abbrev S256 : Shape := ⟨1, ![256]⟩
abbrev S1x256 : Shape := ⟨2, ![1, 256]⟩
abbrev S6x256 : Shape := ⟨2, ![6, 256]⟩
abbrev S8x256 : Shape := ⟨2, ![8, 256]⟩
abbrev S16x1x256 : Shape := ⟨3, ![16, 1, 256]⟩
abbrev S16x256 : Shape := ⟨2, ![16, 256]⟩
abbrev S1x128 : Shape := ⟨2, ![1, 128]⟩
abbrev S16x128x128 : Shape := ⟨3, ![16, 128, 128]⟩
abbrev S1x128x128 : Shape := ⟨3, ![1, 128, 128]⟩
abbrev S128x32x128 : Shape := ⟨3, ![128, 32, 128]⟩
abbrev S128x128 : Shape := ⟨2, ![128, 128]⟩

abbrev nBuf : Space → Nat
  | .hbm => 22
  | .vmem => 33
  | .smem => 0
  | _ => 0

abbrev bufTy : (tb : Table) → Fin (tcTables nBuf tb) → BufTy
  | .hbm, ⟨0, _⟩ => ⟨S65536x128, .f32⟩
  | .hbm, ⟨1, _⟩ => ⟨S16x8x128, .f32⟩
  | .hbm, ⟨2, _⟩ => ⟨S64x6, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S16x4096x128, .f32⟩
  | .hbm, ⟨9, _⟩ => ⟨S_, .i32⟩
  | .hbm, ⟨10, _⟩ => ⟨S_, .f32⟩
  | .hbm, ⟨11, _⟩ => ⟨S64x128, .f32⟩
  | .hbm, ⟨12, _⟩ => ⟨S1x64, .f32⟩
  | .hbm, ⟨13, _⟩ => ⟨S16x4096x64, .f32⟩
  | .hbm, ⟨14, _⟩ => ⟨S16x8x256, .f32⟩
  | .hbm, ⟨15, _⟩ => ⟨S1x64, .f32⟩
  | .hbm, ⟨16, _⟩ => ⟨S16x4096x64, .f32⟩
  | .hbm, ⟨17, _⟩ => ⟨S16x8x256, .f32⟩
  | .hbm, ⟨18, _⟩ => ⟨S1x128, .f32⟩
  | .hbm, ⟨19, _⟩ => ⟨S16x4096x128, .f32⟩
  | .hbm, ⟨20, _⟩ => ⟨S16x8x256, .f32⟩
  | .hbm, ⟨21, _⟩ => ⟨S16x128x128, .f32⟩
  | .local _ .vmem, ⟨0, _⟩ => ⟨S1x4096x128, .f32⟩
  | .local _ .vmem, ⟨1, _⟩ => ⟨S1x4096x128, .f32⟩
  | .local _ .vmem, ⟨2, _⟩ => ⟨S1x8x128, .f32⟩
  | .local _ .vmem, ⟨3, _⟩ => ⟨S1x8x128, .f32⟩
  | .local _ .vmem, ⟨4, _⟩ => ⟨S64x128, .f32⟩
  | .local _ .vmem, ⟨5, _⟩ => ⟨S1x64, .f32⟩
  | .local _ .vmem, ⟨6, _⟩ => ⟨S1x4096x64, .f32⟩
  | .local _ .vmem, ⟨7, _⟩ => ⟨S1x4096x64, .f32⟩
  | .local _ .vmem, ⟨8, _⟩ => ⟨S1x8x256, .f32⟩
  | .local _ .vmem, ⟨9, _⟩ => ⟨S1x8x256, .f32⟩
  | .local _ .vmem, ⟨10, _⟩ => ⟨S1x4096x64, .f32⟩
  | .local _ .vmem, ⟨11, _⟩ => ⟨S1x4096x64, .f32⟩
  | .local _ .vmem, ⟨12, _⟩ => ⟨S16x8x256, .f32⟩
  | .local _ .vmem, ⟨13, _⟩ => ⟨S64x64, .f32⟩
  | .local _ .vmem, ⟨14, _⟩ => ⟨S1x64, .f32⟩
  | .local _ .vmem, ⟨15, _⟩ => ⟨S1x4096x64, .f32⟩
  | .local _ .vmem, ⟨16, _⟩ => ⟨S1x4096x64, .f32⟩
  | .local _ .vmem, ⟨17, _⟩ => ⟨S1x8x256, .f32⟩
  | .local _ .vmem, ⟨18, _⟩ => ⟨S1x8x256, .f32⟩
  | .local _ .vmem, ⟨19, _⟩ => ⟨S1x4096x64, .f32⟩
  | .local _ .vmem, ⟨20, _⟩ => ⟨S1x4096x64, .f32⟩
  | .local _ .vmem, ⟨21, _⟩ => ⟨S16x8x256, .f32⟩
  | .local _ .vmem, ⟨22, _⟩ => ⟨S128x64, .f32⟩
  | .local _ .vmem, ⟨23, _⟩ => ⟨S1x128, .f32⟩
  | .local _ .vmem, ⟨24, _⟩ => ⟨S1x4096x128, .f32⟩
  | .local _ .vmem, ⟨25, _⟩ => ⟨S1x4096x128, .f32⟩
  | .local _ .vmem, ⟨26, _⟩ => ⟨S1x8x256, .f32⟩
  | .local _ .vmem, ⟨27, _⟩ => ⟨S1x8x256, .f32⟩
  | .local _ .vmem, ⟨28, _⟩ => ⟨S1x4096x128, .f32⟩
  | .local _ .vmem, ⟨29, _⟩ => ⟨S1x4096x128, .f32⟩
  | .local _ .vmem, ⟨30, _⟩ => ⟨S16x8x256, .f32⟩
  | .local _ .vmem, ⟨31, _⟩ => ⟨S1x128x128, .f32⟩
  | .local _ .vmem, ⟨32, _⟩ => ⟨S1x128x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== FeaturesReferenceIdeal.lean ====
abbrev S65536x128 : Shape := ⟨2, ![65536, 128]⟩
abbrev S16x8x128 : Shape := ⟨3, ![16, 8, 128]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S16x128x32x128 : Shape := ⟨4, ![16, 128, 32, 128]⟩
abbrev S16x3x128 : Shape := ⟨3, ![16, 3, 128]⟩
abbrev S16x128x3 : Shape := ⟨3, ![16, 128, 3]⟩
abbrev S16x128x32x3 : Shape := ⟨4, ![16, 128, 32, 3]⟩
abbrev S16x128x1x3 : Shape := ⟨4, ![16, 128, 1, 3]⟩
abbrev S16x128x32x6 : Shape := ⟨4, ![16, 128, 32, 6]⟩
abbrev S16x128x32x64 : Shape := ⟨4, ![16, 128, 32, 64]⟩
abbrev S1x1x1x64 : Shape := ⟨4, ![1, 1, 1, 64]⟩
abbrev S_ : Shape := ⟨0, ![]⟩
abbrev S1x1x1x128 : Shape := ⟨4, ![1, 1, 1, 128]⟩
abbrev S16x128x128 : Shape := ⟨3, ![16, 128, 128]⟩

abbrev nBuf : Space → Nat
  | .hbm => 154
  | .vmem => 0
  | .smem => 0
  | _ => 0

abbrev hbmTy0_0 (i : Nat) : BufTy := match i % 128 with
  | 0 => ⟨S65536x128, .f32⟩
  | 1 => ⟨S16x8x128, .f32⟩
  | 2 => ⟨S64x6, .f32⟩
  | 3 => ⟨S64, .f32⟩
  | 4 => ⟨S64x64, .f32⟩
  | 5 => ⟨S64, .f32⟩
  | 6 => ⟨S128x64, .f32⟩
  | 7 => ⟨S128, .f32⟩
  | 8 => ⟨S16x128x32x128, .f32⟩
  | 9 => ⟨S16x3x128, .f32⟩
  | 10 => ⟨S16x128x3, .f32⟩
  | 11 => ⟨S16x128x32x3, .f32⟩
  | 12 => ⟨S16x128x1x3, .f32⟩
  | 13 => ⟨S16x128x32x3, .f32⟩
  | 14 => ⟨S16x128x32x3, .f32⟩
  | 15 => ⟨S16x128x32x3, .f32⟩
  | 16 => ⟨S16x128x32x6, .f32⟩
  | 17 => ⟨S16x128x32x64, .f32⟩
  | 18 => ⟨S1x1x1x64, .f32⟩
  | 19 => ⟨S16x128x32x64, .f32⟩
  | 20 => ⟨S16x128x32x64, .f32⟩
  | 21 => ⟨S_, .f32⟩
  | 22 => ⟨S64, .f32⟩
  | 23 => ⟨S1x1x1x64, .f32⟩
  | 24 => ⟨S_, .f32⟩
  | 25 => ⟨S1x1x1x64, .f32⟩
  | 26 => ⟨S1x1x1x64, .f32⟩
  | 27 => ⟨S_, .i32⟩
  | 28 => ⟨S_, .f32⟩
  | 29 => ⟨S64, .f32⟩
  | 30 => ⟨S1x1x1x64, .f32⟩
  | 31 => ⟨S_, .f32⟩
  | 32 => ⟨S1x1x1x64, .f32⟩
  | 33 => ⟨S1x1x1x64, .f32⟩
  | 34 => ⟨S16x128x32x64, .f32⟩
  | 35 => ⟨S16x128x32x64, .f32⟩
  | 36 => ⟨S16x128x32x64, .f32⟩
  | 37 => ⟨S_, .f32⟩
  | 38 => ⟨S_, .f32⟩
  | 39 => ⟨S_, .f32⟩
  | 40 => ⟨S_, .f32⟩
  | 41 => ⟨S64, .f32⟩
  | 42 => ⟨S1x1x1x64, .f32⟩
  | 43 => ⟨S1x1x1x64, .f32⟩
  | 44 => ⟨S1x1x1x64, .f32⟩
  | 45 => ⟨S_, .f32⟩
  | 46 => ⟨S_, .i1⟩
  | 47 => ⟨S_, .f32⟩
  | 48 => ⟨S_, .f32⟩
  | 49 => ⟨S1x1x1x64, .f32⟩
  | 50 => ⟨S1x1x1x64, .f32⟩
  | 51 => ⟨S16x128x32x64, .f32⟩
  | 52 => ⟨S16x128x32x64, .f32⟩
  | 53 => ⟨S_, .f32⟩
  | 54 => ⟨S1x1x1x64, .f32⟩
  | 55 => ⟨S1x1x1x64, .f32⟩
  | 56 => ⟨S1x1x1x64, .f32⟩
  | 57 => ⟨S16x128x32x64, .f32⟩
  | 58 => ⟨S16x128x32x64, .f32⟩
  | 59 => ⟨S_, .f32⟩
  | 60 => ⟨S16x128x32x64, .f32⟩
  | 61 => ⟨S16x128x32x64, .f32⟩
  | 62 => ⟨S16x128x32x64, .f32⟩
  | 63 => ⟨S1x1x1x64, .f32⟩
  | 64 => ⟨S16x128x32x64, .f32⟩
  | 65 => ⟨S16x128x32x64, .f32⟩
  | 66 => ⟨S_, .f32⟩
  | 67 => ⟨S64, .f32⟩
  | 68 => ⟨S1x1x1x64, .f32⟩
  | 69 => ⟨S_, .f32⟩
  | 70 => ⟨S1x1x1x64, .f32⟩
  | 71 => ⟨S1x1x1x64, .f32⟩
  | 72 => ⟨S_, .i32⟩
  | 73 => ⟨S_, .f32⟩
  | 74 => ⟨S64, .f32⟩
  | 75 => ⟨S1x1x1x64, .f32⟩
  | 76 => ⟨S_, .f32⟩
  | 77 => ⟨S1x1x1x64, .f32⟩
  | 78 => ⟨S1x1x1x64, .f32⟩
  | 79 => ⟨S16x128x32x64, .f32⟩
  | 80 => ⟨S16x128x32x64, .f32⟩
  | 81 => ⟨S16x128x32x64, .f32⟩
  | 82 => ⟨S_, .f32⟩
  | 83 => ⟨S_, .f32⟩
  | 84 => ⟨S_, .f32⟩
  | 85 => ⟨S_, .f32⟩
  | 86 => ⟨S64, .f32⟩
  | 87 => ⟨S1x1x1x64, .f32⟩
  | 88 => ⟨S1x1x1x64, .f32⟩
  | 89 => ⟨S1x1x1x64, .f32⟩
  | 90 => ⟨S_, .f32⟩
  | 91 => ⟨S_, .i1⟩
  | 92 => ⟨S_, .f32⟩
  | 93 => ⟨S_, .f32⟩
  | 94 => ⟨S1x1x1x64, .f32⟩
  | 95 => ⟨S1x1x1x64, .f32⟩
  | 96 => ⟨S16x128x32x64, .f32⟩
  | 97 => ⟨S16x128x32x64, .f32⟩
  | 98 => ⟨S_, .f32⟩
  | 99 => ⟨S1x1x1x64, .f32⟩
  | 100 => ⟨S1x1x1x64, .f32⟩
  | 101 => ⟨S1x1x1x64, .f32⟩
  | 102 => ⟨S16x128x32x64, .f32⟩
  | 103 => ⟨S16x128x32x64, .f32⟩
  | 104 => ⟨S_, .f32⟩
  | 105 => ⟨S16x128x32x64, .f32⟩
  | 106 => ⟨S16x128x32x64, .f32⟩
  | 107 => ⟨S16x128x32x128, .f32⟩
  | 108 => ⟨S1x1x1x128, .f32⟩
  | 109 => ⟨S16x128x32x128, .f32⟩
  | 110 => ⟨S16x128x32x128, .f32⟩
  | 111 => ⟨S_, .f32⟩
  | 112 => ⟨S128, .f32⟩
  | 113 => ⟨S1x1x1x128, .f32⟩
  | 114 => ⟨S_, .f32⟩
  | 115 => ⟨S1x1x1x128, .f32⟩
  | 116 => ⟨S1x1x1x128, .f32⟩
  | 117 => ⟨S_, .i32⟩
  | 118 => ⟨S_, .f32⟩
  | 119 => ⟨S128, .f32⟩
  | 120 => ⟨S1x1x1x128, .f32⟩
  | 121 => ⟨S_, .f32⟩
  | 122 => ⟨S1x1x1x128, .f32⟩
  | 123 => ⟨S1x1x1x128, .f32⟩
  | 124 => ⟨S16x128x32x128, .f32⟩
  | 125 => ⟨S16x128x32x128, .f32⟩
  | 126 => ⟨S16x128x32x128, .f32⟩
  | 127 => ⟨S_, .f32⟩
  | _ => ⟨S65536x128, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S1x1x1x128, .f32⟩
  | 5 => ⟨S1x1x1x128, .f32⟩
  | 6 => ⟨S1x1x1x128, .f32⟩
  | 7 => ⟨S_, .f32⟩
  | 8 => ⟨S_, .i1⟩
  | 9 => ⟨S_, .f32⟩
  | 10 => ⟨S_, .f32⟩
  | 11 => ⟨S1x1x1x128, .f32⟩
  | 12 => ⟨S1x1x1x128, .f32⟩
  | 13 => ⟨S16x128x32x128, .f32⟩
  | 14 => ⟨S16x128x32x128, .f32⟩
  | 15 => ⟨S_, .f32⟩
  | 16 => ⟨S1x1x1x128, .f32⟩
  | 17 => ⟨S1x1x1x128, .f32⟩
  | 18 => ⟨S1x1x1x128, .f32⟩
  | 19 => ⟨S16x128x32x128, .f32⟩
  | 20 => ⟨S16x128x32x128, .f32⟩
  | 21 => ⟨S_, .f32⟩
  | 22 => ⟨S16x128x32x128, .f32⟩
  | 23 => ⟨S16x128x32x128, .f32⟩
  | 24 => ⟨S_, .f32⟩
  | 25 => ⟨S16x128x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_cst : Ref sig .tc := ⟨.hbm, 59, rfl⟩
abbrev main_call1_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_2 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_cst_3 : Ref sig .tc := ⟨.hbm, 90, rfl⟩
abbrev main_call2_v13 : Ref sig .tc := ⟨.hbm, 91, rfl⟩
abbrev main_call2_cst_4 : Ref sig .tc := ⟨.hbm, 92, rfl⟩
abbrev main_call2_call0_v0 : Ref sig .tc := ⟨.hbm, 93, rfl⟩
abbrev main_call2_call0_v1 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_5 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_call3_cst : Ref sig .tc := ⟨.hbm, 104, rfl⟩
abbrev main_call3_v0 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_cst_6 : Ref sig .tc := ⟨.hbm, 111, rfl⟩
abbrev main_v47 : Ref sig .tc := ⟨.hbm, 112, rfl⟩
abbrev main_v48 : Ref sig .tc := ⟨.hbm, 113, rfl⟩
abbrev main_cst_7 : Ref sig .tc := ⟨.hbm, 114, rfl⟩
abbrev main_v49 : Ref sig .tc := ⟨.hbm, 115, rfl⟩
abbrev main_v50 : Ref sig .tc := ⟨.hbm, 116, rfl⟩
abbrev main_c_8 : Ref sig .tc := ⟨.hbm, 117, rfl⟩
abbrev main_call4_cst : Ref sig .tc := ⟨.hbm, 118, rfl⟩
abbrev main_call4_v0 : Ref sig .tc := ⟨.hbm, 119, rfl⟩
abbrev main_call4_v1 : Ref sig .tc := ⟨.hbm, 120, rfl⟩
abbrev main_call4_cst_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_v6 : Ref sig .tc := ⟨.hbm, 126, rfl⟩
abbrev main_call4_v7 : Ref sig .tc := ⟨.hbm, 127, rfl⟩
abbrev main_call4_cst_1 : Ref sig .tc := ⟨.hbm, 128, rfl⟩
abbrev main_call4_v8 : Ref sig .tc := ⟨.hbm, 129, rfl⟩
abbrev main_call4_cst_2 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_v12 : Ref sig .tc := ⟨.hbm, 134, rfl⟩
abbrev main_call4_cst_3 : Ref sig .tc := ⟨.hbm, 135, rfl⟩
abbrev main_call4_v13 : Ref sig .tc := ⟨.hbm, 136, rfl⟩
abbrev main_call4_cst_4 : Ref sig .tc := ⟨.hbm, 137, rfl⟩
abbrev main_call4_call0_v0 : Ref sig .tc := ⟨.hbm, 138, rfl⟩
abbrev main_call4_call0_v1 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_9 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_call5_cst : Ref sig .tc := ⟨.hbm, 149, rfl⟩
abbrev main_call5_v0 : Ref sig .tc := ⟨.hbm, 150, rfl⟩
abbrev main_v59 : Ref sig .tc := ⟨.hbm, 151, rfl⟩
abbrev main_cst_10 : Ref sig .tc := ⟨.hbm, 152, rfl⟩
abbrev main_v60 : Ref sig .tc := ⟨.hbm, 153, rfl⟩

abbrev nD : Nat := 1
abbrev τ : Topo := Topo.v7x

variable {F : FTy → Type} [FloatOps F]
-- ==== Result.lean ====
abbrev S16x128x128 : Shape := ⟨3, ![16, 128, 128]⟩
abbrev S16x8x128 : Shape := ⟨3, ![16, 8, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S1x128 : Shape := ⟨2, ![1, 128]⟩
abbrev S16x2048x128 : Shape := ⟨3, ![16, 2048, 128]⟩
abbrev S16x8x256 : Shape := ⟨3, ![16, 8, 256]⟩
abbrev S1x128x128 : Shape := ⟨3, ![1, 128, 128]⟩
abbrev S1x8x128 : Shape := ⟨3, ![1, 8, 128]⟩
abbrev S1x2048x128 : Shape := ⟨3, ![1, 2048, 128]⟩
abbrev S1x8x256 : Shape := ⟨3, ![1, 8, 256]⟩
abbrev S8x128 : Shape := ⟨2, ![8, 128]⟩
abbrev S32x1 : Shape := ⟨2, ![32, 1]⟩
abbrev S1x1 : Shape := ⟨2, ![1, 1]⟩
abbrev S1 : Shape := ⟨1, ![1]⟩
abbrev S32x128 : Shape := ⟨2, ![32, 128]⟩
abbrev S1x64x1 : Shape := ⟨3, ![1, 64, 1]⟩
abbrev S32x64x128 : Shape := ⟨3, ![32, 64, 128]⟩
abbrev S32 : Shape := ⟨1, ![32]⟩
abbrev S32x1x128 : Shape := ⟨3, ![32, 1, 128]⟩
abbrev S2048x128 : Shape := ⟨2, ![2048, 128]⟩
abbrev S2048x1 : Shape := ⟨2, ![2048, 1]⟩
abbrev S2048x131 : Shape := ⟨2, ![2048, 131]⟩
abbrev S32x131 : Shape := ⟨2, ![32, 131]⟩
abbrev S32x64x131 : Shape := ⟨3, ![32, 64, 131]⟩
abbrev S32x1x131 : Shape := ⟨3, ![32, 1, 131]⟩
abbrev S1x256 : Shape := ⟨2, ![1, 256]⟩
abbrev S6x256 : Shape := ⟨2, ![6, 256]⟩
abbrev S8x256 : Shape := ⟨2, ![8, 256]⟩
abbrev S16x1x256 : Shape := ⟨3, ![16, 1, 256]⟩
abbrev S16x256 : Shape := ⟨2, ![16, 256]⟩
abbrev S16x2048x256 : Shape := ⟨3, ![16, 2048, 256]⟩
abbrev S1x2048x256 : Shape := ⟨3, ![1, 2048, 256]⟩
abbrev S2048x256 : Shape := ⟨2, ![2048, 256]⟩
abbrev S16x1x32 : Shape := ⟨3, ![16, 1, 32]⟩
abbrev S1x1x32 : Shape := ⟨3, ![1, 1, 32]⟩
abbrev S32x64x256 : Shape := ⟨3, ![32, 64, 256]⟩
abbrev S1x32 : Shape := ⟨2, ![1, 32]⟩
abbrev S16x32 : Shape := ⟨2, ![16, 32]⟩

abbrev nBuf : Space → Nat
  | .hbm => 19
  | .vmem => 33
  | .smem => 0
  | _ => 0

abbrev bufTy : (tb : Table) → Fin (tcTables nBuf tb) → BufTy
  | .hbm, ⟨0, _⟩ => ⟨S16x128x128, .f32⟩
  | .hbm, ⟨1, _⟩ => ⟨S16x8x128, .f32⟩
  | .hbm, ⟨2, _⟩ => ⟨S128x131, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S1x128, .f32⟩
  | .hbm, ⟨9, _⟩ => ⟨S16x2048x128, .f32⟩
  | .hbm, ⟨10, _⟩ => ⟨S16x8x256, .f32⟩
  | .hbm, ⟨11, _⟩ => ⟨S1x128, .f32⟩
  | .hbm, ⟨12, _⟩ => ⟨S16x2048x128, .f32⟩
  | .hbm, ⟨13, _⟩ => ⟨S16x8x256, .f32⟩
  | .hbm, ⟨14, _⟩ => ⟨S1x256, .f32⟩
  | .hbm, ⟨15, _⟩ => ⟨S16x2048x256, .f32⟩
  | .hbm, ⟨16, _⟩ => ⟨S16x8x256, .f32⟩
  | .hbm, ⟨17, _⟩ => ⟨S16x1x32, .f32⟩
  | .hbm, ⟨18, _⟩ => ⟨S16x32, .f32⟩
  | .local _ .vmem, ⟨0, _⟩ => ⟨S1x128x128, .f32⟩
  | .local _ .vmem, ⟨1, _⟩ => ⟨S1x128x128, .f32⟩
  | .local _ .vmem, ⟨2, _⟩ => ⟨S1x8x128, .f32⟩
  | .local _ .vmem, ⟨3, _⟩ => ⟨S1x8x128, .f32⟩
  | .local _ .vmem, ⟨4, _⟩ => ⟨S128x131, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | .local _ .vmem, ⟨8, _⟩ => ⟨S1x8x256, .f32⟩
  | .local _ .vmem, ⟨9, _⟩ => ⟨S1x8x256, .f32⟩
  | .local _ .vmem, ⟨10, _⟩ => ⟨S1x2048x128, .f32⟩
  | .local _ .vmem, ⟨11, _⟩ => ⟨S1x2048x128, .f32⟩
  | .local _ .vmem, ⟨12, _⟩ => ⟨S16x8x256, .f32⟩
  | .local _ .vmem, ⟨13, _⟩ => ⟨S128x128, .f32⟩
  | .local _ .vmem, ⟨14, _⟩ => ⟨S1x128, .f32⟩
  | .local _ .vmem, ⟨15, _⟩ => ⟨S1x2048x128, .f32⟩
  | .local _ .vmem, ⟨16, _⟩ => ⟨S1x2048x128, .f32⟩
  | .local _ .vmem, ⟨17, _⟩ => ⟨S1x8x256, .f32⟩
  | .local _ .vmem, ⟨18, _⟩ => ⟨S1x8x256, .f32⟩
  | .local _ .vmem, ⟨19, _⟩ => ⟨S1x2048x128, .f32⟩
  | .local _ .vmem, ⟨20, _⟩ => ⟨S1x2048x128, .f32⟩
  | .local _ .vmem, ⟨21, _⟩ => ⟨S16x8x256, .f32⟩
  | .local _ .vmem, ⟨22, _⟩ => ⟨S256x128, .f32⟩
  | .local _ .vmem, ⟨23, _⟩ => ⟨S1x256, .f32⟩
  | .local _ .vmem, ⟨24, _⟩ => ⟨S1x2048x256, .f32⟩
  | .local _ .vmem, ⟨25, _⟩ => ⟨S1x2048x256, .f32⟩
  | .local _ .vmem, ⟨26, _⟩ => ⟨S1x8x256, .f32⟩
  | .local _ .vmem, ⟨27, _⟩ => ⟨S1x8x256, .f32⟩
  | .local _ .vmem, ⟨28, _⟩ => ⟨S1x2048x256, .f32⟩
  | .local _ .vmem, ⟨29, _⟩ => ⟨S1x2048x256, .f32⟩
  | .local _ .vmem, ⟨30, _⟩ => ⟨S16x8x256, .f32⟩
  | .local _ .vmem, ⟨31, _⟩ => ⟨S1x1x32, .f32⟩
  | .local _ .vmem, ⟨32, _⟩ => ⟨S1x1x32, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8 : BitVec 32 := 0#32
  let c32_i32 : BitVec 32 := 32#32
  let v14 : BitVec 32 := Scalar.addi c0_i32_8 c32_i32
  let c1_i32 : BitVec 32 := 1#32
  ⟨c0_i32_8, v14, c1_i32⟩
@[reducible] def k0_t2_loop : Scf.Loop 32 :=
  let c0_i32_11 : BitVec 32 := 0#32
  let c64_i32 : BitVec 32 := 64#32
  let v33 : BitVec 32 := Scalar.addi c0_i32_11 c64_i32
  let c1_i32_12 : BitVec 32 := 1#32
  ⟨c0_i32_11, v33, c1_i32_12⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x131 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ResultReferenceIdeal.lean ====
abbrev S16x128x128 : Shape := ⟨3, ![16, 128, 128]⟩
abbrev S16x8x128 : Shape := ⟨3, ![16, 8, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S16x3x128 : Shape := ⟨3, ![16, 3, 128]⟩
abbrev S16x128x3 : Shape := ⟨3, ![16, 128, 3]⟩
abbrev S_ : Shape := ⟨0, ![]⟩
abbrev S16x128 : Shape := ⟨2, ![16, 128]⟩
abbrev S16 : Shape := ⟨1, ![16]⟩
abbrev S32x16 : Shape := ⟨2, ![32, 16]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x3 : Shape := ⟨3, ![16, 1, 3]⟩
abbrev S1x16 : Shape := ⟨2, ![1, 16]⟩
abbrev S16x32 : Shape := ⟨2, ![16, 32]⟩
abbrev S16x32x1 : Shape := ⟨3, ![16, 32, 1]⟩
abbrev S16x32x3 : Shape := ⟨3, ![16, 32, 3]⟩
abbrev S16x1x128 : Shape := ⟨3, ![16, 1, 128]⟩
abbrev S16x32x128 : Shape := ⟨3, ![16, 32, 128]⟩
abbrev S16x32x64 : Shape := ⟨3, ![16, 32, 64]⟩
abbrev S16x32x64x1 : Shape := ⟨4, ![16, 32, 64, 1]⟩
abbrev S16x32x64x3 : Shape := ⟨4, ![16, 32, 64, 3]⟩
abbrev S16x32x1x3 : Shape := ⟨4, ![16, 32, 1, 3]⟩
abbrev S16x32x64x128 : Shape := ⟨4, ![16, 32, 64, 128]⟩
abbrev S16x32x64x131 : Shape := ⟨4, ![16, 32, 64, 131]⟩
abbrev S1x1x1x128 : Shape := ⟨4, ![1, 1, 1, 128]⟩
abbrev S16x32x64x256 : Shape := ⟨4, ![16, 32, 64, 256]⟩
abbrev S1x1x1x256 : Shape := ⟨4, ![1, 1, 1, 256]⟩
abbrev S16x32x256 : Shape := ⟨3, ![16, 32, 256]⟩

abbrev nBuf : Space → Nat
  | .hbm => 272
  | .vmem => 0
  | .smem => 0
  | _ => 0

abbrev hbmTy0_0 (i : Nat) : BufTy := match i % 128 with
  | 0 => ⟨S16x128x128, .f32⟩
  | 1 => ⟨S16x8x128, .f32⟩
  | 2 => ⟨S128x131, .f32⟩
  | 3 => ⟨S128, .f32⟩
  | 4 => ⟨S128x128, .f32⟩
  | 5 => ⟨S128, .f32⟩
  | 6 => ⟨S256x128, .f32⟩
  | 7 => ⟨S256, .f32⟩
  | 8 => ⟨S16x3x128, .f32⟩
  | 9 => ⟨S16x128x3, .f32⟩
  | 10 => ⟨S_, .f32⟩
  | 11 => ⟨S16x128, .f32⟩
  | 12 => ⟨S_, .i32⟩
  | 13 => ⟨S16, .i32⟩
  | 14 => ⟨S_, .i32⟩
  | 15 => ⟨S32x16, .i32⟩
  | 16 => ⟨S_, .i32⟩
  | 17 => ⟨S16x128x3, .f32⟩
  | 18 => ⟨S_, .i32⟩
  | 19 => ⟨S16x128, .f32⟩
  | 20 => ⟨S16, .i32⟩
  | 21 => ⟨S32x16, .i32⟩
  | 22 => ⟨S_, .i32⟩
  | 23 => ⟨S_, .i1⟩
  | 24 => ⟨S16x1x1, .i32⟩
  | 25 => ⟨S_, .i32⟩
  | 26 => ⟨S16x1x1, .i32⟩
  | 27 => ⟨S16x1x1, .i1⟩
  | 28 => ⟨S_, .i32⟩
  | 29 => ⟨S16x1x1, .i32⟩
  | 30 => ⟨S16x1x1, .i32⟩
  | 31 => ⟨S16x1x1, .i32⟩
  | 32 => ⟨S1, .i32⟩
  | 33 => ⟨S_, .i32⟩
  | 34 => ⟨S16x1x1, .i32⟩
  | 35 => ⟨S16x1x1, .i1⟩
  | 36 => ⟨S1x1x1, .i32⟩
  | 37 => ⟨S16x1x1, .i32⟩
  | 38 => ⟨S16x1x1, .i1⟩
  | 39 => ⟨S16x1x1, .i1⟩
  | 40 => ⟨S_, .i1⟩
  | 41 => ⟨S16x1, .i1⟩
  | 42 => ⟨S16x1x3, .f32⟩
  | 43 => ⟨S16x1x3, .i1⟩
  | 44 => ⟨S_, .f32⟩
  | 45 => ⟨S16x1x3, .f32⟩
  | 46 => ⟨S16x1x3, .f32⟩
  | 47 => ⟨S16x128x3, .f32⟩
  | 48 => ⟨S16x128x3, .f32⟩
  | 49 => ⟨S16x128x3, .f32⟩
  | 50 => ⟨S_, .f32⟩
  | 51 => ⟨S16x128, .f32⟩
  | 52 => ⟨S16x128, .f32⟩
  | 53 => ⟨S16x128, .i32⟩
  | 54 => ⟨S_, .f32⟩
  | 55 => ⟨S_, .i32⟩
  | 56 => ⟨S16, .f32⟩
  | 57 => ⟨S16, .i32⟩
  | 58 => ⟨S1x16, .i32⟩
  | 59 => ⟨S_, .i32⟩
  | 60 => ⟨S32x16, .i32⟩
  | 61 => ⟨S_, .i32⟩
  | 62 => ⟨S_, .i32⟩
  | 63 => ⟨S16x32, .i32⟩
  | 64 => ⟨S16x32x1, .i32⟩
  | 65 => ⟨S_, .i32⟩
  | 66 => ⟨S16x32x1, .i32⟩
  | 67 => ⟨S16x32x1, .i1⟩
  | 68 => ⟨S_, .i32⟩
  | 69 => ⟨S16x32x1, .i32⟩
  | 70 => ⟨S16x32x1, .i32⟩
  | 71 => ⟨S16x32x1, .i32⟩
  | 72 => ⟨S1, .i32⟩
  | 73 => ⟨S_, .i32⟩
  | 74 => ⟨S16x32x1, .i32⟩
  | 75 => ⟨S16x32x1, .i1⟩
  | 76 => ⟨S1x1x1, .i32⟩
  | 77 => ⟨S16x32x1, .i32⟩
  | 78 => ⟨S16x32x1, .i1⟩
  | 79 => ⟨S16x32x1, .i1⟩
  | 80 => ⟨S_, .i1⟩
  | 81 => ⟨S16x32, .i1⟩
  | 82 => ⟨S16x32x3, .f32⟩
  | 83 => ⟨S16x32x3, .i1⟩
  | 84 => ⟨S_, .f32⟩
  | 85 => ⟨S16x32x3, .f32⟩
  | 86 => ⟨S16x32x3, .f32⟩
  | 87 => ⟨S16x32x3, .f32⟩
  | 88 => ⟨S_, .f32⟩
  | 89 => ⟨S16x32, .f32⟩
  | 90 => ⟨S16x32x1, .f32⟩
  | 91 => ⟨S16x128x3, .f32⟩
  | 92 => ⟨S_, .f32⟩
  | 93 => ⟨S16x128, .f32⟩
  | 94 => ⟨S16x1x128, .f32⟩
  | 95 => ⟨S16x32x128, .f32⟩
  | 96 => ⟨S16x32x128, .f32⟩
  | 97 => ⟨S16x32x128, .f32⟩
  | 98 => ⟨S16x32x128, .f32⟩
  | 99 => ⟨S_, .f32⟩
  | 100 => ⟨S16x32x128, .f32⟩
  | 101 => ⟨S16x32x128, .f32⟩
  | 102 => ⟨S16x32x128, .f32⟩
  | 103 => ⟨S_, .f32⟩
  | 104 => ⟨S16x32x128, .f32⟩
  | 105 => ⟨S16x32x128, .f32⟩
  | 106 => ⟨S16x32x128, .f32⟩
  | 107 => ⟨S16x32x128, .f32⟩
  | 108 => ⟨S16x32x64, .f32⟩
  | 109 => ⟨S16x32x64, .i32⟩
  | 110 => ⟨S_, .i32⟩
  | 111 => ⟨S16x32x64, .i32⟩
  | 112 => ⟨S16x32x64, .i1⟩
  | 113 => ⟨S_, .i32⟩
  | 114 => ⟨S16x32x64, .i32⟩
  | 115 => ⟨S16x32x64, .i32⟩
  | 116 => ⟨S16x32x64, .i32⟩
  | 117 => ⟨S16x32x64x1, .i32⟩
  | 118 => ⟨S16x32x64x3, .f32⟩
  | 119 => ⟨S16x32x1x3, .f32⟩
  | 120 => ⟨S16x32x64x3, .f32⟩
  | 121 => ⟨S16x32x64x3, .f32⟩
  | 122 => ⟨S16x128x128, .f32⟩
  | 123 => ⟨S_, .i32⟩
  | 124 => ⟨S16x32x64, .i32⟩
  | 125 => ⟨S16x32x64, .i1⟩
  | 126 => ⟨S_, .i32⟩
  | 127 => ⟨S16x32x64, .i32⟩
  | _ => ⟨S16x128x128, .f32⟩

abbrev hbmTy0_1 (i : Nat) : BufTy := match i % 128 with
  | 0 => ⟨S16x32x64, .i32⟩
  | 1 => ⟨S16x32x64, .i32⟩
  | 2 => ⟨S16x32x64x1, .i32⟩
  | 3 => ⟨S16x32x64x128, .f32⟩
  | 4 => ⟨S16x32x64x131, .f32⟩
  | 5 => ⟨S16x32x64x128, .f32⟩
  | 6 => ⟨S1x1x1x128, .f32⟩
  | 7 => ⟨S16x32x64x128, .f32⟩
  | 8 => ⟨S16x32x64x128, .f32⟩
  | 9 => ⟨S_, .f32⟩
  | 10 => ⟨S128, .f32⟩
  | 11 => ⟨S1x1x1x128, .f32⟩
  | 12 => ⟨S_, .f32⟩
  | 13 => ⟨S1x1x1x128, .f32⟩
  | 14 => ⟨S1x1x1x128, .f32⟩
  | 15 => ⟨S_, .i32⟩
  | 16 => ⟨S_, .f32⟩
  | 17 => ⟨S128, .f32⟩
  | 18 => ⟨S1x1x1x128, .f32⟩
  | 19 => ⟨S_, .f32⟩
  | 20 => ⟨S1x1x1x128, .f32⟩
  | 21 => ⟨S1x1x1x128, .f32⟩
  | 22 => ⟨S16x32x64x128, .f32⟩
  | 23 => ⟨S16x32x64x128, .f32⟩
  | 24 => ⟨S16x32x64x128, .f32⟩
  | 25 => ⟨S_, .f32⟩
  | 26 => ⟨S_, .f32⟩
  | 27 => ⟨S_, .f32⟩
  | 28 => ⟨S_, .f32⟩
  | 29 => ⟨S128, .f32⟩
  | 30 => ⟨S1x1x1x128, .f32⟩
  | 31 => ⟨S1x1x1x128, .f32⟩
  | 32 => ⟨S1x1x1x128, .f32⟩
  | 33 => ⟨S_, .f32⟩
  | 34 => ⟨S_, .i1⟩
  | 35 => ⟨S_, .f32⟩
  | 36 => ⟨S_, .f32⟩
  | 37 => ⟨S1x1x1x128, .f32⟩
  | 38 => ⟨S1x1x1x128, .f32⟩
  | 39 => ⟨S16x32x64x128, .f32⟩
  | 40 => ⟨S16x32x64x128, .f32⟩
  | 41 => ⟨S_, .f32⟩
  | 42 => ⟨S1x1x1x128, .f32⟩
  | 43 => ⟨S1x1x1x128, .f32⟩
  | 44 => ⟨S1x1x1x128, .f32⟩
  | 45 => ⟨S16x32x64x128, .f32⟩
  | 46 => ⟨S16x32x64x128, .f32⟩
  | 47 => ⟨S_, .f32⟩
  | 48 => ⟨S16x32x64x128, .f32⟩
  | 49 => ⟨S16x32x64x128, .f32⟩
  | 50 => ⟨S16x32x64x128, .f32⟩
  | 51 => ⟨S1x1x1x128, .f32⟩
  | 52 => ⟨S16x32x64x128, .f32⟩
  | 53 => ⟨S16x32x64x128, .f32⟩
  | 54 => ⟨S_, .f32⟩
  | 55 => ⟨S128, .f32⟩
  | 56 => ⟨S1x1x1x128, .f32⟩
  | 57 => ⟨S_, .f32⟩
  | 58 => ⟨S1x1x1x128, .f32⟩
  | 59 => ⟨S1x1x1x128, .f32⟩
  | 60 => ⟨S_, .i32⟩
  | 61 => ⟨S_, .f32⟩
  | 62 => ⟨S128, .f32⟩
  | 63 => ⟨S1x1x1x128, .f32⟩
  | 64 => ⟨S_, .f32⟩
  | 65 => ⟨S1x1x1x128, .f32⟩
  | 66 => ⟨S1x1x1x128, .f32⟩
  | 67 => ⟨S16x32x64x128, .f32⟩
  | 68 => ⟨S16x32x64x128, .f32⟩
  | 69 => ⟨S16x32x64x128, .f32⟩
  | 70 => ⟨S_, .f32⟩
  | 71 => ⟨S_, .f32⟩
  | 72 => ⟨S_, .f32⟩
  | 73 => ⟨S_, .f32⟩
  | 74 => ⟨S128, .f32⟩
  | 75 => ⟨S1x1x1x128, .f32⟩
  | 76 => ⟨S1x1x1x128, .f32⟩
  | 77 => ⟨S1x1x1x128, .f32⟩
  | 78 => ⟨S_, .f32⟩
  | 79 => ⟨S_, .i1⟩
  | 80 => ⟨S_, .f32⟩
  | 81 => ⟨S_, .f32⟩
  | 82 => ⟨S1x1x1x128, .f32⟩
  | 83 => ⟨S1x1x1x128, .f32⟩
  | 84 => ⟨S16x32x64x128, .f32⟩
  | 85 => ⟨S16x32x64x128, .f32⟩
  | 86 => ⟨S_, .f32⟩
  | 87 => ⟨S1x1x1x128, .f32⟩
  | 88 => ⟨S1x1x1x128, .f32⟩
  | 89 => ⟨S1x1x1x128, .f32⟩
  | 90 => ⟨S16x32x64x128, .f32⟩
  | 91 => ⟨S16x32x64x128, .f32⟩
  | 92 => ⟨S_, .f32⟩
  | 93 => ⟨S16x32x64x128, .f32⟩
  | 94 => ⟨S16x32x64x128, .f32⟩
  | 95 => ⟨S16x32x64x256, .f32⟩
  | 96 => ⟨S1x1x1x256, .f32⟩
  | 97 => ⟨S16x32x64x256, .f32⟩
  | 98 => ⟨S16x32x64x256, .f32⟩
  | 99 => ⟨S_, .f32⟩
  | 100 => ⟨S256, .f32⟩
  | 101 => ⟨S1x1x1x256, .f32⟩
  | 102 => ⟨S_, .f32⟩
  | 103 => ⟨S1x1x1x256, .f32⟩
  | 104 => ⟨S1x1x1x256, .f32⟩
  | 105 => ⟨S_, .i32⟩
  | 106 => ⟨S_, .f32⟩
  | 107 => ⟨S256, .f32⟩
  | 108 => ⟨S1x1x1x256, .f32⟩
  | 109 => ⟨S_, .f32⟩
  | 110 => ⟨S1x1x1x256, .f32⟩
  | 111 => ⟨S1x1x1x256, .f32⟩
  | 112 => ⟨S16x32x64x256, .f32⟩
  | 113 => ⟨S16x32x64x256, .f32⟩
  | 114 => ⟨S16x32x64x256, .f32⟩
  | 115 => ⟨S_, .f32⟩
  | 116 => ⟨S_, .f32⟩
  | 117 => ⟨S_, .f32⟩
  | 118 => ⟨S_, .f32⟩
  | 119 => ⟨S256, .f32⟩
  | 120 => ⟨S1x1x1x256, .f32⟩
  | 121 => ⟨S1x1x1x256, .f32⟩
  | 122 => ⟨S1x1x1x256, .f32⟩
  | 123 => ⟨S_, .f32⟩
  | 124 => ⟨S_, .i1⟩
  | 125 => ⟨S_, .f32⟩
  | 126 => ⟨S_, .f32⟩
  | 127 => ⟨S1x1x1x256, .f32⟩
  | _ => ⟨S16x128x128, .f32⟩

abbrev hbmTy0_2 (i : Nat) : BufTy := match i % 128 with
  | 0 => ⟨S1x1x1x256, .f32⟩
  | 1 => ⟨S16x32x64x256, .f32⟩
  | 2 => ⟨S16x32x64x256, .f32⟩
  | 3 => ⟨S_, .f32⟩
  | 4 => ⟨S1x1x1x256, .f32⟩
  | 5 => ⟨S1x1x1x256, .f32⟩
  | 6 => ⟨S1x1x1x256, .f32⟩
  | 7 => ⟨S16x32x64x256, .f32⟩
  | 8 => ⟨S16x32x64x256, .f32⟩
  | 9 => ⟨S_, .f32⟩
  | 10 => ⟨S16x32x64x256, .f32⟩
  | 11 => ⟨S16x32x64x256, .f32⟩
  | 12 => ⟨S_, .f32⟩
  | 13 => ⟨S16x32x256, .f32⟩
  | 14 => ⟨S_, .f32⟩
  | 15 => ⟨S16x32, .f32⟩
  | _ => ⟨S16x128x128, .f32⟩

abbrev hbmTy (i : Nat) : BufTy := match i / 128 with
  | 0 => hbmTy0_0 i
  | 1 => hbmTy0_1 i
  | 2 => hbmTy0_2 i
  | _ => ⟨S16x128x128, .f32⟩

abbrev bufTy : (tb : Table) → Fin (tcTables nBuf tb) → BufTy
  | .hbm, ⟨i, _⟩ => hbmTy i
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_c_1 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_while0c_c_28 : Ref sig .tc := ⟨.hbm, 22, rfl⟩
abbrev main_while0c_v98 : Ref sig .tc := ⟨.hbm, 23, rfl⟩
abbrev main_while0b_v98 : Ref sig .tc := ⟨.hbm, 24, rfl⟩
abbrev main_while0b_call0_c : Ref sig .tc := ⟨.hbm, 25, rfl⟩
abbrev main_while0b_call0_v0 : Ref sig .tc := ⟨.hbm, 26, rfl⟩
abbrev main_while0b_call0_v1 : Ref sig .tc := ⟨.hbm, 27, rfl⟩
abbrev main_while0b_call0_c_0 : Ref sig .tc := ⟨.hbm, 28, rfl⟩
abbrev main_while0b_call0_v2 : Ref sig .tc := ⟨.hbm, 29, rfl⟩
abbrev main_while0b_call0_v3 : Ref sig .tc := ⟨.hbm, 30, rfl⟩
abbrev main_while0b_call0_v4 : Ref sig .tc := ⟨.hbm, 31, rfl⟩
abbrev main_while0b_call0_c_1 : Ref sig .tc := ⟨.hbm, 32, rfl⟩
abbrev main_while0b_call0_c_2 : Ref sig .tc := ⟨.hbm, 33, rfl⟩
abbrev main_while0b_call0_v5 : Ref sig .tc := ⟨.hbm, 34, rfl⟩
abbrev main_while0b_call0_v6 : Ref sig .tc := ⟨.hbm, 35, rfl⟩
abbrev main_while0b_call0_v7 : Ref sig .tc := ⟨.hbm, 36, rfl⟩
abbrev main_while0b_call0_v8 : Ref sig .tc := ⟨.hbm, 37, rfl⟩
abbrev main_while0b_call0_v9 : Ref sig .tc := ⟨.hbm, 38, rfl⟩
abbrev main_while0b_call0_v10 : Ref sig .tc := ⟨.hbm, 39, rfl⟩
abbrev main_while0b_call0_c_3 : Ref sig .tc := ⟨.hbm, 40, rfl⟩
abbrev main_while0b_call0_v11 : Ref sig .tc := ⟨.hbm, 41, rfl⟩
abbrev main_while0b_call0_v12 : Ref sig .tc := ⟨.hbm, 42, rfl⟩
abbrev main_while0b_call0_v13 : Ref sig .tc := ⟨.hbm, 43, rfl⟩
abbrev main_while0b_call0_cst : Ref sig .tc := ⟨.hbm, 44, rfl⟩
abbrev main_while0b_call0_v14 : Ref sig .tc := ⟨.hbm, 45, rfl⟩
abbrev main_while0b_v99 : Ref sig .tc := ⟨.hbm, 46, rfl⟩
abbrev main_while0b_v100 : Ref sig .tc := ⟨.hbm, 47, rfl⟩
abbrev main_while0b_v101 : Ref sig .tc := ⟨.hbm, 48, rfl⟩
abbrev main_while0b_v102 : Ref sig .tc := ⟨.hbm, 49, rfl⟩
abbrev main_while0b_cst_28 : Ref sig .tc := ⟨.hbm, 50, rfl⟩
abbrev main_while0b_v103 : Ref sig .tc := ⟨.hbm, 51, rfl⟩
abbrev main_while0b_v104 : Ref sig .tc := ⟨.hbm, 52, rfl⟩
abbrev main_while0b_call1_v0 : Ref sig .tc := ⟨.hbm, 53, rfl⟩
abbrev main_while0b_call1_cst : Ref sig .tc := ⟨.hbm, 54, rfl⟩
abbrev main_while0b_call1_c : Ref sig .tc := ⟨.hbm, 55, rfl⟩
abbrev main_while0b_call1_v1_0 : Ref sig .tc := ⟨.hbm, 56, rfl⟩
abbrev main_while0b_v105 : Ref sig .tc := ⟨.hbm, 57, rfl⟩
abbrev main_while0b_call2_v0 : Ref sig .tc := ⟨.hbm, 58, rfl⟩
abbrev main_while0b_call2_c : Ref sig .tc := ⟨.hbm, 59, rfl⟩
abbrev main_while0b_v106 : Ref sig .tc := ⟨.hbm, 60, rfl⟩
abbrev main_while0b_c_29 : Ref sig .tc := ⟨.hbm, 61, rfl⟩
abbrev main_while0b_v107 : Ref sig .tc := ⟨.hbm, 62, rfl⟩
abbrev main_v6 : Ref sig .tc := ⟨.hbm, 63, rfl⟩
abbrev main_v7 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_c_2 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_c_3 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v8 : Ref sig .tc := ⟨.hbm, 86, rfl⟩
abbrev main_v9 : Ref sig .tc := ⟨.hbm, 87, rfl⟩
abbrev main_cst_2 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_cst_3 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_cst_4 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_cst_5 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_values : Ref sig .tc := ⟨.hbm, 108, rfl⟩
abbrev main_indices : Ref sig .tc := ⟨.hbm, 109, rfl⟩
abbrev main_c_6 : Ref sig .tc := ⟨.hbm, 110, rfl⟩
abbrev main_v26 : Ref sig .tc := ⟨.hbm, 111, rfl⟩
abbrev main_v27 : Ref sig .tc := ⟨.hbm, 112, rfl⟩
abbrev main_c_7 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_c_8 : Ref sig .tc := ⟨.hbm, 123, rfl⟩
abbrev main_v37 : Ref sig .tc := ⟨.hbm, 124, rfl⟩
abbrev main_v38 : Ref sig .tc := ⟨.hbm, 125, rfl⟩
abbrev main_c_9 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_cst_10 : Ref sig .tc := ⟨.hbm, 137, rfl⟩
abbrev main_v49 : Ref sig .tc := ⟨.hbm, 138, rfl⟩
abbrev main_v50 : Ref sig .tc := ⟨.hbm, 139, rfl⟩
abbrev main_cst_11 : Ref sig .tc := ⟨.hbm, 140, rfl⟩
abbrev main_v51 : Ref sig .tc := ⟨.hbm, 141, rfl⟩
abbrev main_v52 : Ref sig .tc := ⟨.hbm, 142, rfl⟩
abbrev main_c_12 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_cst_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_v6 : Ref sig .tc := ⟨.hbm, 152, rfl⟩
abbrev main_call4_v7 : Ref sig .tc := ⟨.hbm, 153, rfl⟩
abbrev main_call4_cst_1 : Ref sig .tc := ⟨.hbm, 154, rfl⟩
abbrev main_call4_v8 : Ref sig .tc := ⟨.hbm, 155, rfl⟩
abbrev main_call4_cst_2 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_v12 : Ref sig .tc := ⟨.hbm, 160, rfl⟩
abbrev main_call4_cst_3 : Ref sig .tc := ⟨.hbm, 161, rfl⟩
abbrev main_call4_v13 : Ref sig .tc := ⟨.hbm, 162, rfl⟩
abbrev main_call4_cst_4 : Ref sig .tc := ⟨.hbm, 163, rfl⟩
abbrev main_call4_call0_v0 : Ref sig .tc := ⟨.hbm, 164, rfl⟩
abbrev main_call4_call0_v1 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_cst_13 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_call5_cst : Ref sig .tc := ⟨.hbm, 175, rfl⟩
abbrev main_call5_v0 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_cst_14 : Ref sig .tc := ⟨.hbm, 182, rfl⟩
abbrev main_v66 : Ref sig .tc := ⟨.hbm, 183, rfl⟩
abbrev main_v67 : Ref sig .tc := ⟨.hbm, 184, rfl⟩
abbrev main_cst_15 : Ref sig .tc := ⟨.hbm, 185, rfl⟩
abbrev main_v68 : Ref sig .tc := ⟨.hbm, 186, rfl⟩
abbrev main_v69 : Ref sig .tc := ⟨.hbm, 187, rfl⟩
abbrev main_c_16 : Ref sig .tc := ⟨.hbm, 188, rfl⟩
abbrev main_call6_cst : Ref sig .tc := ⟨.hbm, 189, rfl⟩
abbrev main_call6_v0 : Ref sig .tc := ⟨.hbm, 190, rfl⟩
abbrev main_call6_v1 : Ref sig .tc := ⟨.hbm, 191, rfl⟩
abbrev main_call6_cst_0 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_v5 : Ref sig .tc := ⟨.hbm, 196, rfl⟩
abbrev main_call6_v6 : Ref sig .tc := ⟨.hbm, 197, rfl⟩
abbrev main_call6_v7 : Ref sig .tc := ⟨.hbm, 198, rfl⟩
abbrev main_call6_cst_1 : Ref sig .tc := ⟨.hbm, 199, rfl⟩
abbrev main_call6_v8 : Ref sig .tc := ⟨.hbm, 200, rfl⟩
abbrev main_call6_cst_2 : Ref sig .tc := ⟨.hbm, 201, rfl⟩
abbrev main_call6_v9 : Ref sig .tc := ⟨.hbm, 202, rfl⟩
abbrev main_call6_v10 : Ref sig .tc := ⟨.hbm, 203, rfl⟩
abbrev main_call6_v11 : Ref sig .tc := ⟨.hbm, 204, rfl⟩
abbrev main_call6_v12 : Ref sig .tc := ⟨.hbm, 205, rfl⟩
abbrev main_call6_cst_3 : Ref sig .tc := ⟨.hbm, 206, rfl⟩
abbrev main_call6_v13 : Ref sig .tc := ⟨.hbm, 207, rfl⟩
abbrev main_call6_cst_4 : Ref sig .tc := ⟨.hbm, 208, rfl⟩
abbrev main_call6_call0_v0 : Ref sig .tc := ⟨.hbm, 209, rfl⟩
abbrev main_call6_call0_v1 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_cst_17 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_v77 : Ref sig .tc := ⟨.hbm, 219, rfl⟩
abbrev main_call7_cst : Ref sig .tc := ⟨.hbm, 220, rfl⟩
abbrev main_call7_v0 : Ref sig .tc := ⟨.hbm, 221, rfl⟩
abbrev main_v78 : Ref sig .tc := ⟨.hbm, 222, rfl⟩
abbrev main_v79 : Ref sig .tc := ⟨.hbm, 223, rfl⟩
abbrev main_v80 : Ref sig .tc := ⟨.hbm, 224, rfl⟩
abbrev main_v81 : Ref sig .tc := ⟨.hbm, 225, rfl⟩
abbrev main_v82 : Ref sig .tc := ⟨.hbm, 226, rfl⟩
abbrev main_cst_18 : Ref sig .tc := ⟨.hbm, 227, rfl⟩
abbrev main_v83 : Ref sig .tc := ⟨.hbm, 228, rfl⟩
abbrev main_v84 : Ref sig .tc := ⟨.hbm, 229, rfl⟩
abbrev main_cst_19 : Ref sig .tc := ⟨.hbm, 230, rfl⟩
abbrev main_v85 : Ref sig .tc := ⟨.hbm, 231, rfl⟩
abbrev main_v86 : Ref sig .tc := ⟨.hbm, 232, rfl⟩
abbrev main_c_20 : Ref sig .tc := ⟨.hbm, 233, rfl⟩
abbrev main_call8_cst : Ref sig .tc := ⟨.hbm, 234, rfl⟩
abbrev main_call8_v0 : Ref sig .tc := ⟨.hbm, 235, rfl⟩
abbrev main_call8_v1 : Ref sig .tc := ⟨.hbm, 236, rfl⟩
abbrev main_call8_cst_0 : Ref sig .tc := ⟨.hbm, 237, rfl⟩
abbrev main_call8_v2 : Ref sig .tc := ⟨.hbm, 238, rfl⟩
abbrev main_call8_v3 : Ref sig .tc := ⟨.hbm, 239, rfl⟩
abbrev main_call8_v4 : Ref sig .tc := ⟨.hbm, 240, rfl⟩
abbrev main_call8_v5 : Ref sig .tc := ⟨.hbm, 241, rfl⟩
abbrev main_call8_v6 : Ref sig .tc := ⟨.hbm, 242, rfl⟩
abbrev main_call8_v7 : Ref sig .tc := ⟨.hbm, 243, rfl⟩
abbrev main_call8_cst_1 : Ref sig .tc := ⟨.hbm, 244, rfl⟩
abbrev main_call8_v8 : Ref sig .tc := ⟨.hbm, 245, rfl⟩
abbrev main_call8_cst_2 : Ref sig .tc := ⟨.hbm, 246, rfl⟩
abbrev main_call8_v9 : Ref sig .tc := ⟨.hbm, 247, rfl⟩
abbrev main_call8_v10 : Ref sig .tc := ⟨.hbm, 248, rfl⟩
abbrev main_call8_v11 : Ref sig .tc := ⟨.hbm, 249, rfl⟩
abbrev main_call8_v12 : Ref sig .tc := ⟨.hbm, 250, rfl⟩
abbrev main_call8_cst_3 : Ref sig .tc := ⟨.hbm, 251, rfl⟩
abbrev main_call8_v13 : Ref sig .tc := ⟨.hbm, 252, rfl⟩
abbrev main_call8_cst_4 : Ref sig .tc := ⟨.hbm, 253, rfl⟩
abbrev main_call8_call0_v0 : Ref sig .tc := ⟨.hbm, 254, rfl⟩
abbrev main_call8_call0_v1 : Ref sig .tc := ⟨.hbm, 255, rfl⟩
abbrev main_v87 : Ref sig .tc := ⟨.hbm, 256, rfl⟩
abbrev main_v88 : Ref sig .tc := ⟨.hbm, 257, rfl⟩
abbrev main_v89 : Ref sig .tc := ⟨.hbm, 258, rfl⟩
abbrev main_cst_21 : Ref sig .tc := ⟨.hbm, 259, rfl⟩
abbrev main_v90 : Ref sig .tc := ⟨.hbm, 260, rfl⟩
abbrev main_v91 : Ref sig .tc := ⟨.hbm, 261, rfl⟩
abbrev main_v92 : Ref sig .tc := ⟨.hbm, 262, rfl⟩
abbrev main_v93 : Ref sig .tc := ⟨.hbm, 263, rfl⟩
abbrev main_v94 : Ref sig .tc := ⟨.hbm, 264, rfl⟩
abbrev main_call9_cst : Ref sig .tc := ⟨.hbm, 265, rfl⟩
abbrev main_call9_v0 : Ref sig .tc := ⟨.hbm, 266, rfl⟩
abbrev main_v95 : Ref sig .tc := ⟨.hbm, 267, rfl⟩
abbrev main_cst_22 : Ref sig .tc := ⟨.hbm, 268, rfl⟩
abbrev main_v96 : Ref sig .tc := ⟨.hbm, 269, rfl⟩
abbrev main_cst_23 : Ref sig .tc := ⟨.hbm, 270, rfl⟩
abbrev main_v97 : Ref sig .tc := ⟨.hbm, 271, rfl⟩

abbrev nD : Nat := 1
abbrev τ : Topo := Topo.v7x

variable {F : FTy → Type} [FloatOps F]

abbrev main_while0_count : Scf.Loop 32 := ⟨0#32, 32#32, 1#32⟩
-- ==== Centres.lean ====
abbrev S16x16384x6 : Shape := ⟨3, ![16, 16384, 6]⟩
abbrev S16x16384x1 : Shape := ⟨3, ![16, 16384, 1]⟩
abbrev S16x16384 : Shape := ⟨2, ![16, 16384]⟩
abbrev S16x8x128 : Shape := ⟨3, ![16, 8, 128]⟩
abbrev S8x16384 : Shape := ⟨2, ![8, 16384]⟩
abbrev S8x8x128 : Shape := ⟨3, ![8, 8, 128]⟩
abbrev S8x128 : Shape := ⟨2, ![8, 128]⟩
abbrev S8x1 : Shape := ⟨2, ![8, 1]⟩
abbrev S8 : Shape := ⟨1, ![8]⟩
abbrev S8x1x128 : Shape := ⟨3, ![8, 1, 128]⟩
abbrev S8x5x128 : Shape := ⟨3, ![8, 5, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x16384x6, .f32⟩
  | .hbm, ⟨1, _⟩ => ⟨S16x16384x1, .f32⟩
  | .hbm, ⟨2, _⟩ => ⟨S16x16384, .f32⟩
  | .hbm, ⟨3, _⟩ => ⟨S16x16384x1, .f32⟩
  | .hbm, ⟨4, _⟩ => ⟨S16x16384, .f32⟩
  | .hbm, ⟨5, _⟩ => ⟨S16x16384x1, .f32⟩
  | .hbm, ⟨6, _⟩ => ⟨S16x16384, .f32⟩
  | .hbm, ⟨7, _⟩ => ⟨S16x8x128, .f32⟩
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x16384, .f32⟩
  | .local _ .vmem, ⟨4, _⟩ => ⟨S8x16384, .f32⟩
  | .local _ .vmem, ⟨5, _⟩ => ⟨S8x16384, .f32⟩
  | .local _ .vmem, ⟨6, _⟩ => ⟨S8x8x128, .f32⟩
  | .local _ .vmem, ⟨7, _⟩ => ⟨S8x8x128, .f32⟩
  | _, _ => ⟨S16x16384x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_8 : BitVec 32 := 0#32
  let c128_i32 : BitVec 32 := 128#32
  let v13 : BitVec 32 := Scalar.addi c0_i32_8 c128_i32
  let c1_i32 : BitVec 32 := 1#32
  ⟨c0_i32_8, v13, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CentresReferenceIdeal.lean ====
abbrev S16x16384x6 : Shape := ⟨3, ![16, 16384, 6]⟩
abbrev S16x16384x3 : Shape := ⟨3, ![16, 16384, 3]⟩
abbrev S_ : Shape := ⟨0, ![]⟩
abbrev S16x16384 : Shape := ⟨2, ![16, 16384]⟩
abbrev S16 : Shape := ⟨1, ![16]⟩
abbrev S128x16 : Shape := ⟨2, ![128, 16]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x3 : Shape := ⟨3, ![16, 1, 3]⟩
abbrev S1x16 : Shape := ⟨2, ![1, 16]⟩
abbrev S16x128 : Shape := ⟨2, ![16, 128]⟩
abbrev S16x128x1 : Shape := ⟨3, ![16, 128, 1]⟩
abbrev S16x128x3 : Shape := ⟨3, ![16, 128, 3]⟩
abbrev S16x3x128 : Shape := ⟨3, ![16, 3, 128]⟩
abbrev S16x5x128 : Shape := ⟨3, ![16, 5, 128]⟩
abbrev S16x8x128 : Shape := ⟨3, ![16, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x16384x6, .f32⟩
  | .hbm, ⟨1, _⟩ => ⟨S16x16384x3, .f32⟩
  | .hbm, ⟨2, _⟩ => ⟨S_, .f32⟩
  | .hbm, ⟨3, _⟩ => ⟨S16x16384, .f32⟩
  | .hbm, ⟨4, _⟩ => ⟨S_, .i32⟩
  | .hbm, ⟨5, _⟩ => ⟨S16, .i32⟩
  | .hbm, ⟨6, _⟩ => ⟨S_, .i32⟩
  | .hbm, ⟨7, _⟩ => ⟨S128x16, .i32⟩
  | .hbm, ⟨8, _⟩ => ⟨S_, .i32⟩
  | .hbm, ⟨9, _⟩ => ⟨S16x16384x3, .f32⟩
  | .hbm, ⟨10, _⟩ => ⟨S_, .i32⟩
  | .hbm, ⟨11, _⟩ => ⟨S16x16384, .f32⟩
  | .hbm, ⟨12, _⟩ => ⟨S16, .i32⟩
  | .hbm, ⟨13, _⟩ => ⟨S128x16, .i32⟩
  | .hbm, ⟨14, _⟩ => ⟨S_, .i32⟩
  | .hbm, ⟨15, _⟩ => ⟨S_, .i1⟩
  | .hbm, ⟨16, _⟩ => ⟨S16x1x1, .i32⟩
  | .hbm, ⟨17, _⟩ => ⟨S_, .i32⟩
  | .hbm, ⟨18, _⟩ => ⟨S16x1x1, .i32⟩
  | .hbm, ⟨19, _⟩ => ⟨S16x1x1, .i1⟩
  | .hbm, ⟨20, _⟩ => ⟨S_, .i32⟩
  | .hbm, ⟨21, _⟩ => ⟨S16x1x1, .i32⟩
  | .hbm, ⟨22, _⟩ => ⟨S16x1x1, .i32⟩
  | .hbm, ⟨23, _⟩ => ⟨S16x1x1, .i32⟩
  | .hbm, ⟨24, _⟩ => ⟨S1, .i32⟩
  | .hbm, ⟨25, _⟩ => ⟨S_, .i32⟩
  | .hbm, ⟨26, _⟩ => ⟨S16x1x1, .i32⟩
  | .hbm, ⟨27, _⟩ => ⟨S16x1x1, .i1⟩
  | .hbm, ⟨28, _⟩ => ⟨S1x1x1, .i32⟩
  | .hbm, ⟨29, _⟩ => ⟨S16x1x1, .i32⟩
  | .hbm, ⟨30, _⟩ => ⟨S16x1x1, .i1⟩
  | .hbm, ⟨31, _⟩ => ⟨S16x1x1, .i1⟩
  | .hbm, ⟨32, _⟩ => ⟨S_, .i1⟩
  | .hbm, ⟨33, _⟩ => ⟨S16x1, .i1⟩
  | .hbm, ⟨34, _⟩ => ⟨S16x1x3, .f32⟩
  | .hbm, ⟨35, _⟩ => ⟨S16x1x3, .i1⟩
  | .hbm, ⟨36, _⟩ => ⟨S_, .f32⟩
  | .hbm, ⟨37, _⟩ => ⟨S16x1x3, .f32⟩
  | .hbm, ⟨38, _⟩ => ⟨S16x1x3, .f32⟩
  | .hbm, ⟨39, _⟩ => ⟨S16x16384x3, .f32⟩
  | .hbm, ⟨40, _⟩ => ⟨S16x16384x3, .f32⟩
  | .hbm, ⟨41, _⟩ => ⟨S16x16384x3, .f32⟩
  | .hbm, ⟨42, _⟩ => ⟨S_, .f32⟩
  | .hbm, ⟨43, _⟩ => ⟨S16x16384, .f32⟩
  | .hbm, ⟨44, _⟩ => ⟨S16x16384, .f32⟩
  | .hbm, ⟨45, _⟩ => ⟨S16x16384, .i32⟩
  | .hbm, ⟨46, _⟩ => ⟨S_, .f32⟩
  | .hbm, ⟨47, _⟩ => ⟨S_, .i32⟩
  | .hbm, ⟨48, _⟩ => ⟨S16, .f32⟩
  | .hbm, ⟨49, _⟩ => ⟨S16, .i32⟩
  | .hbm, ⟨50, _⟩ => ⟨S1x16, .i32⟩
  | .hbm, ⟨51, _⟩ => ⟨S_, .i32⟩
  | .hbm, ⟨52, _⟩ => ⟨S128x16, .i32⟩
  | .hbm, ⟨53, _⟩ => ⟨S_, .i32⟩
  | .hbm, ⟨54, _⟩ => ⟨S_, .i32⟩
  | .hbm, ⟨55, _⟩ => ⟨S16x128, .i32⟩
  | .hbm, ⟨56, _⟩ => ⟨S16x128x1, .i32⟩
  | .hbm, ⟨57, _⟩ => ⟨S_, .i32⟩
  | .hbm, ⟨58, _⟩ => ⟨S16x128x1, .i32⟩
  | .hbm, ⟨59, _⟩ => ⟨S16x128x1, .i1⟩
  | .hbm, ⟨60, _⟩ => ⟨S_, .i32⟩
  | .hbm, ⟨61, _⟩ => ⟨S16x128x1, .i32⟩
  | .hbm, ⟨62, _⟩ => ⟨S16x128x1, .i32⟩
  | .hbm, ⟨63, _⟩ => ⟨S16x128x1, .i32⟩
  | .hbm, ⟨64, _⟩ => ⟨S1, .i32⟩
  | .hbm, ⟨65, _⟩ => ⟨S_, .i32⟩
  | .hbm, ⟨66, _⟩ => ⟨S16x128x1, .i32⟩
  | .hbm, ⟨67, _⟩ => ⟨S16x128x1, .i1⟩
  | .hbm, ⟨68, _⟩ => ⟨S1x1x1, .i32⟩
  | .hbm, ⟨69, _⟩ => ⟨S16x128x1, .i32⟩
  | .hbm, ⟨70, _⟩ => ⟨S16x128x1, .i1⟩
  | .hbm, ⟨71, _⟩ => ⟨S16x128x1, .i1⟩
  | .hbm, ⟨72, _⟩ => ⟨S_, .i1⟩
  | .hbm, ⟨73, _⟩ => ⟨S16x128, .i1⟩
  | .hbm, ⟨74, _⟩ => ⟨S16x128x3, .f32⟩
  | .hbm, ⟨75, _⟩ => ⟨S16x128x3, .i1⟩
  | .hbm, ⟨76, _⟩ => ⟨S_, .f32⟩
  | .hbm, ⟨77, _⟩ => ⟨S16x128x3, .f32⟩
  | .hbm, ⟨78, _⟩ => ⟨S16x128x3, .f32⟩
  | .hbm, ⟨79, _⟩ => ⟨S16x3x128, .f32⟩
  | .hbm, ⟨80, _⟩ => ⟨S_, .f32⟩
  | .hbm, ⟨81, _⟩ => ⟨S16x5x128, .f32⟩
  | .hbm, ⟨82, _⟩ => ⟨S16x8x128, .f32⟩
  | _, _ => ⟨S16x16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_while0c_c_7 : Ref sig .tc := ⟨.hbm, 14, rfl⟩
abbrev main_while0c_v11 : Ref sig .tc := ⟨.hbm, 15, rfl⟩
abbrev main_while0b_v11 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_call0_v1 : Ref sig .tc := ⟨.hbm, 19, rfl⟩
abbrev main_while0b_call0_c_0 : Ref sig .tc := ⟨.hbm, 20, rfl⟩
abbrev main_while0b_call0_v2 : Ref sig .tc := ⟨.hbm, 21, rfl⟩
abbrev main_while0b_call0_v3 : Ref sig .tc := ⟨.hbm, 22, rfl⟩
abbrev main_while0b_call0_v4 : Ref sig .tc := ⟨.hbm, 23, rfl⟩
abbrev main_while0b_call0_c_1 : Ref sig .tc := ⟨.hbm, 24, rfl⟩
abbrev main_while0b_call0_c_2 : Ref sig .tc := ⟨.hbm, 25, rfl⟩
abbrev main_while0b_call0_v5 : Ref sig .tc := ⟨.hbm, 26, rfl⟩
abbrev main_while0b_call0_v6 : Ref sig .tc := ⟨.hbm, 27, rfl⟩
abbrev main_while0b_call0_v7 : Ref sig .tc := ⟨.hbm, 28, rfl⟩
abbrev main_while0b_call0_v8 : Ref sig .tc := ⟨.hbm, 29, rfl⟩
abbrev main_while0b_call0_v9 : Ref sig .tc := ⟨.hbm, 30, rfl⟩
abbrev main_while0b_call0_v10 : Ref sig .tc := ⟨.hbm, 31, rfl⟩
abbrev main_while0b_call0_c_3 : Ref sig .tc := ⟨.hbm, 32, rfl⟩
abbrev main_while0b_call0_v11 : Ref sig .tc := ⟨.hbm, 33, rfl⟩
abbrev main_while0b_call0_v12 : Ref sig .tc := ⟨.hbm, 34, rfl⟩
abbrev main_while0b_call0_v13 : Ref sig .tc := ⟨.hbm, 35, rfl⟩
abbrev main_while0b_call0_cst : Ref sig .tc := ⟨.hbm, 36, rfl⟩
abbrev main_while0b_call0_v14 : Ref sig .tc := ⟨.hbm, 37, rfl⟩
abbrev main_while0b_v12 : Ref sig .tc := ⟨.hbm, 38, rfl⟩
abbrev main_while0b_v13 : Ref sig .tc := ⟨.hbm, 39, rfl⟩
abbrev main_while0b_v14 : Ref sig .tc := ⟨.hbm, 40, rfl⟩
abbrev main_while0b_v15 : Ref sig .tc := ⟨.hbm, 41, rfl⟩
abbrev main_while0b_cst_7 : Ref sig .tc := ⟨.hbm, 42, rfl⟩
abbrev main_while0b_v16 : Ref sig .tc := ⟨.hbm, 43, rfl⟩
abbrev main_while0b_v17 : Ref sig .tc := ⟨.hbm, 44, rfl⟩
abbrev main_while0b_call1_v0 : Ref sig .tc := ⟨.hbm, 45, rfl⟩
abbrev main_while0b_call1_cst : Ref sig .tc := ⟨.hbm, 46, rfl⟩
abbrev main_while0b_call1_c : Ref sig .tc := ⟨.hbm, 47, rfl⟩
abbrev main_while0b_call1_v1_0 : Ref sig .tc := ⟨.hbm, 48, rfl⟩
abbrev main_while0b_v18 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_v19 : Ref sig .tc := ⟨.hbm, 52, rfl⟩
abbrev main_while0b_c_8 : Ref sig .tc := ⟨.hbm, 53, rfl⟩
abbrev main_while0b_v20 : Ref sig .tc := ⟨.hbm, 54, rfl⟩
abbrev main_v5 : Ref sig .tc := ⟨.hbm, 55, rfl⟩
abbrev main_v6 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_c_2 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_c_3 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v7 : Ref sig .tc := ⟨.hbm, 78, rfl⟩
abbrev main_v8 : Ref sig .tc := ⟨.hbm, 79, rfl⟩
abbrev main_cst_2 : Ref sig .tc := ⟨.hbm, 80, rfl⟩
abbrev main_v9 : Ref sig .tc := ⟨.hbm, 81, rfl⟩
abbrev main_v10 : Ref sig .tc := ⟨.hbm, 82, rfl⟩

abbrev nD : Nat := 1
abbrev τ : Topo := Topo.v7x

variable {F : FTy → Type} [FloatOps F]

abbrev main_while0_count : Scf.Loop 32 := ⟨0#32, 128#32, 1#32⟩
-- ==== Neighbours.lean ====
abbrev S16x16384x6 : Shape := ⟨3, ![16, 16384, 6]⟩
abbrev S16x8x128 : Shape := ⟨3, ![16, 8, 128]⟩
abbrev S16x16384x3 : Shape := ⟨3, ![16, 16384, 3]⟩
abbrev S16x3x16384 : Shape := ⟨3, ![16, 3, 16384]⟩
abbrev S16x128x32 : Shape := ⟨3, ![16, 128, 32]⟩
abbrev S1x8x128 : Shape := ⟨3, ![1, 8, 128]⟩
abbrev S1x3x16384 : Shape := ⟨3, ![1, 3, 16384]⟩
abbrev S1x128x32 : Shape := ⟨3, ![1, 128, 32]⟩
abbrev S8x128 : Shape := ⟨2, ![8, 128]⟩
abbrev S3x128 : Shape := ⟨2, ![3, 128]⟩
abbrev S3x16384 : Shape := ⟨2, ![3, 16384]⟩
abbrev S128 : Shape := ⟨1, ![128]⟩
abbrev S1x128 : Shape := ⟨2, ![1, 128]⟩
abbrev S16384 : Shape := ⟨1, ![16384]⟩
abbrev S1x16384 : Shape := ⟨2, ![1, 16384]⟩
abbrev S4x128 : Shape := ⟨2, ![4, 128]⟩
abbrev S4x16384 : Shape := ⟨2, ![4, 16384]⟩
abbrev S128x16384 : Shape := ⟨2, ![128, 16384]⟩
abbrev S128x32 : Shape := ⟨2, ![128, 32]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x16384x6, .f32⟩
  | .hbm, ⟨1, _⟩ => ⟨S16x8x128, .f32⟩
  | .hbm, ⟨2, _⟩ => ⟨S16x16384x3, .f32⟩
  | .hbm, ⟨3, _⟩ => ⟨S16x3x16384, .f32⟩
  | .hbm, ⟨4, _⟩ => ⟨S16x128x32, .i32⟩
  | .local _ .vmem, ⟨0, _⟩ => ⟨S1x8x128, .f32⟩
  | .local _ .vmem, ⟨1, _⟩ => ⟨S1x8x128, .f32⟩
  | .local _ .vmem, ⟨2, _⟩ => ⟨S1x3x16384, .f32⟩
  | .local _ .vmem, ⟨3, _⟩ => ⟨S1x3x16384, .f32⟩
  | .local _ .vmem, ⟨4, _⟩ => ⟨S1x128x32, .i32⟩
  | .local _ .vmem, ⟨5, _⟩ => ⟨S1x128x32, .i32⟩
  | _, _ => ⟨S16x16384x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_10 : BitVec 32 := 0#32
  let c32_i32 : BitVec 32 := 32#32
  let v24 : BitVec 32 := Scalar.addi c0_i32_10 c32_i32
  let c1_i32 : BitVec 32 := 1#32
  ⟨c0_i32_10, v24, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NeighboursReferenceIdeal.lean ====
abbrev S16x16384x6 : Shape := ⟨3, ![16, 16384, 6]⟩
abbrev S16x8x128 : Shape := ⟨3, ![16, 8, 128]⟩
abbrev S16x3x128 : Shape := ⟨3, ![16, 3, 128]⟩
abbrev S16x128x3 : Shape := ⟨3, ![16, 128, 3]⟩
abbrev S16x16384x3 : Shape := ⟨3, ![16, 16384, 3]⟩
abbrev S_ : Shape := ⟨0, ![]⟩
abbrev S16x128 : Shape := ⟨2, ![16, 128]⟩
abbrev S16x128x1 : Shape := ⟨3, ![16, 128, 1]⟩
abbrev S16x16384 : Shape := ⟨2, ![16, 16384]⟩
abbrev S16x1x16384 : Shape := ⟨3, ![16, 1, 16384]⟩
abbrev S16x128x16384 : Shape := ⟨3, ![16, 128, 16384]⟩
abbrev S16x128x32 : Shape := ⟨3, ![16, 128, 32]⟩
abbrev S16 : Shape := ⟨1, ![16]⟩
abbrev S16x1x1 : Shape := ⟨3, ![16, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x16384x6, .f32⟩
  | .hbm, ⟨1, _⟩ => ⟨S16x8x128, .f32⟩
  | .hbm, ⟨2, _⟩ => ⟨S16x3x128, .f32⟩
  | .hbm, ⟨3, _⟩ => ⟨S16x128x3, .f32⟩
  | .hbm, ⟨4, _⟩ => ⟨S16x16384x3, .f32⟩
  | .hbm, ⟨5, _⟩ => ⟨S16x128x3, .f32⟩
  | .hbm, ⟨6, _⟩ => ⟨S_, .f32⟩
  | .hbm, ⟨7, _⟩ => ⟨S16x128, .f32⟩
  | .hbm, ⟨8, _⟩ => ⟨S16x128x1, .f32⟩
  | .hbm, ⟨9, _⟩ => ⟨S16x16384x3, .f32⟩
  | .hbm, ⟨10, _⟩ => ⟨S_, .f32⟩
  | .hbm, ⟨11, _⟩ => ⟨S16x16384, .f32⟩
  | .hbm, ⟨12, _⟩ => ⟨S16x1x16384, .f32⟩
  | .hbm, ⟨13, _⟩ => ⟨S16x128x16384, .f32⟩
  | .hbm, ⟨14, _⟩ => ⟨S16x128x16384, .f32⟩
  | .hbm, ⟨15, _⟩ => ⟨S16x128x16384, .f32⟩
  | .hbm, ⟨16, _⟩ => ⟨S16x128x16384, .f32⟩
  | .hbm, ⟨17, _⟩ => ⟨S_, .f32⟩
  | .hbm, ⟨18, _⟩ => ⟨S16x128x16384, .f32⟩
  | .hbm, ⟨19, _⟩ => ⟨S16x128x16384, .f32⟩
  | .hbm, ⟨20, _⟩ => ⟨S16x128x16384, .f32⟩
  | .hbm, ⟨21, _⟩ => ⟨S_, .f32⟩
  | .hbm, ⟨22, _⟩ => ⟨S16x128x16384, .f32⟩
  | .hbm, ⟨23, _⟩ => ⟨S16x128x16384, .f32⟩
  | .hbm, ⟨24, _⟩ => ⟨S16x128x16384, .f32⟩
  | .hbm, ⟨25, _⟩ => ⟨S16x128x16384, .f32⟩
  | .hbm, ⟨26, _⟩ => ⟨S16x128x32, .f32⟩
  | .hbm, ⟨27, _⟩ => ⟨S16x128x32, .i32⟩
  | .hbm, ⟨28, _⟩ => ⟨S16, .i32⟩
  | .hbm, ⟨29, _⟩ => ⟨S16x1x1, .i32⟩
  | .hbm, ⟨30, _⟩ => ⟨S_, .i32⟩
  | .hbm, ⟨31, _⟩ => ⟨S16x1x1, .i32⟩
  | .hbm, ⟨32, _⟩ => ⟨S16x1x1, .i32⟩
  | .hbm, ⟨33, _⟩ => ⟨S16x128x32, .i32⟩
  | .hbm, ⟨34, _⟩ => ⟨S16x128x32, .i32⟩
  | _, _ => ⟨S16x16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_values : Ref sig .tc := ⟨.hbm, 26, rfl⟩
abbrev main_indices : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Rows.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are the ones the protocol asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call, and a task's two scratch buffers -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

local notation "tV" => (Memref.whole Cert.KernelIdeal.main_v1_scv : Memref Cert.KernelIdeal.sig Kind.scVector Space.hbm Cert.KernelIdeal.S262144x128 EltTy.f32)
local notation "iV" => (Memref.whole Cert.KernelIdeal.main_v2_scv : Memref Cert.KernelIdeal.sig Kind.scVector Space.hbm Cert.KernelIdeal.S65536 EltTy.i32)
local notation "oV" => (Memref.whole Cert.KernelIdeal.main_v3_scv : Memref Cert.KernelIdeal.sig Kind.scVector Space.hbm Cert.KernelIdeal.S65536x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-- The gathered array: row `j` is the row of the table that entry `j` of the list names. -/
def gathered (t : S262144x128.Idx → Elt F .f32) (i : S65536.Idx → Elt F .i32) : S65536x128.Idx → Elt F .f32 :=
  fun x => t fun
    | 0 => Fin.ofNat 262144 (i fun | 0 => x 0).toNat
    | 1 => x 1

/-- The rows of the result that round `r` of the task on core `c`, subcore `s` writes: 512 of them, the blocks of 512
    numbered by subcore, core and round. -/
def oSet (p : Fin 2 × Fin 16 × Fin 4) : Finset S65536x128.Idx :=
  Finset.univ.filter fun x => (x 0).val / 512 = 8 * p.2.1.val + 4 * p.1.val + p.2.2.val

/-! ## One task -/

section Tile

variable (d : Dev nD) (L : grid0.Coords)
variable [FloatOps F]

abbrev cV (L : grid0.Coords) : Fin τ.nSC := (L 0).castLE hcore0
abbrev jV (L : grid0.Coords) : Fin τ.nSub := (L 1).castLE hsub0
omit [FloatOps F] in
/-- The call runs on two cores. -/
theorem bound_zero : grid0.bound 0 = 2 := rfl
omit [FloatOps F] in
/-- Each core runs 16 workers. -/
theorem bound_one : grid0.bound 1 = 16 := rfl
abbrev cL (L : grid0.Coords) : Fin 2 := Fin.cast bound_zero (L 0)
abbrev jL (L : grid0.Coords) : Fin 16 := Fin.cast bound_one (L 1)

/-- The result's rows of the four rounds, as the task addresses them. -/
abbrev oK0 (L : grid0.Coords) : Memref sig .scVector .hbm S512x128 .f32 := (oV).slice (Rect.unit (s := S65536x128) (k0_off2 L 0#32) S512x128.size (k0_off2_inb L 0)) (fun _ => rfl)
abbrev oK1 (L : grid0.Coords) : Memref sig .scVector .hbm S512x128 .f32 := (oV).slice (Rect.unit (s := S65536x128) (k0_off2 L 512#32) S512x128.size (k0_off2_inb L 1)) (fun _ => rfl)
abbrev oK2 (L : grid0.Coords) : Memref sig .scVector .hbm S512x128 .f32 := (oV).slice (Rect.unit (s := S65536x128) (k0_off2 L 1024#32) S512x128.size (k0_off2_inb L 2)) (fun _ => rfl)
abbrev oK3 (L : grid0.Coords) : Memref sig .scVector .hbm S512x128 .f32 := (oV).slice (Rect.unit (s := S65536x128) (k0_off2 L 1536#32) S512x128.size (k0_off2_inb L 3)) (fun _ => rfl)

abbrev cell (d : Dev nD) (c : Fin τ.nSC) (i : Fin τ.nSub) (s : DmaSem sig) : GSem nD τ sig := (V d c i, .dma s)

omit [FloatOps F] in
/-- Separating conjunction is associative, as an equality. -/
theorem sep_assoc_eq (X Y Z : sProp 𝕄) : Idealize.SL.BI.sep iprop(X ∗ Y) Z = iprop(X ∗ Idealize.SL.BI.sep Y Z) :=
  Idealize.SL.BI.Entails.antisymm Idealize.SL.BI.sep_assoc Idealize.SL.BI.sep_assoc'

omit [FloatOps F] in
/-- The nine DMA cells are among the subcore's own: they are them, at zero, and the rest. -/
theorem ownSems0_V :
    (ownSems0 (V d (cV L) (jV L)) : sProp 𝕄)
      = iprop(semVal (cell d (cV L) (jV L) cc0_scratch2.sem) 0 ∗ semVal (cell d (cV L) (jV L) cc0_scoped0.sem) 0 ∗ semVal (cell d (cV L) (jV L) cc0_scoped1.sem) 0
          ∗ semVal (cell d (cV L) (jV L) cc0_scoped2.sem) 0 ∗ semVal (cell d (cV L) (jV L) cc0_scoped3.sem) 0 ∗ semVal (cell d (cV L) (jV L) cc0_scoped4.sem) 0
          ∗ semVal (cell d (cV L) (jV L) cc0_scoped5.sem) 0 ∗ semVal (cell d (cV L) (jV L) cc0_scoped6.sem) 0 ∗ semVal (cell d (cV L) (jV L) cc0_scoped7.sem) 0
          ∗ bigSep (ownCells (V d (cV L) (jV L)) \ (Finset.univ.image (cell d (cV L) (jV L)))) fun g => semVal g 0) := by
  unfold SparseCore.Cfg.ownSems0
  have hsub : Finset.univ.image (cell d (cV L) (jV L)) ⊆ ownCells (V d (cV L) (jV L)) := by
    intro g hg
    obtain ⟨s, -, rfl⟩ := Finset.mem_image.mp hg
    exact mem_ownCells.mpr ⟨rfl, (by decide : ∀ s : DmaSem sig, (SemLoc.dma s : SemLoc sig).isScoped .scVector = true) s⟩
  rw [bigSep_sdiff_split hsub, SparseCore.bigSep_image_of_injOn (fun a _ b _ e => by simpa [cell] using e),
    show (Finset.univ : Finset (DmaSem sig)) = {cc0_scratch2.sem, cc0_scoped0.sem, cc0_scoped1.sem, cc0_scoped2.sem, cc0_scoped3.sem, cc0_scoped4.sem, cc0_scoped5.sem, cc0_scoped6.sem, cc0_scoped7.sem} by decide]
  repeat rw [SparseCore.bigSep_insert' (by decide)]
  rw [bigSep_singleton]
  repeat rw [sep_assoc_eq]
  rfl

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words a task's list scratch holds once a slice of the index array has landed in it name rows of the table,
    whatever slice it is and whatever the scratch held before, when every entry of the array does. -/
theorem words_inb (fi : S65536.Idx → Elt F .i32) (hi : ∀ j, (fi j).toNat < 262144)
    (off : Fin 1 → ℕ) (h : ∀ a, off a + S512.size a ≤ S65536.size a) (g : S512.Idx → Elt F .i32) :
    ∀ x, ((sV).view.read (Elt F) ((sV).view.write (Elt F) g
        (ReadAs.same.apply (((iV).slice (Rect.unit (s := S65536) off S512.size h) (fun _ => rfl)).view.read (Elt F) fi)) Finset.univ) x).toNat
      < S262144x128.size gathers_S262144x128_S512x128.axis := by
  intro x
  rw [View.write_whole_univ]
  simp only [Memref.view_whole, View.read_whole]
  exact hi _

/-- What a task holds of the call's arrays: a share of the table and of the index array, and its four blocks of the
    result at contents `g`. -/
abbrev taskHolds (q : PosShare TreeShare) (t : Buf (Elt F) (tLoc d)) (fi : Buf (Elt F) (iLoc d)) (g : Buf (Elt F) (oLoc d)) : sProp 𝕄 :=
  iprop(((tV).view.loc (V d (cV L) (jV L)) ↦{q} t) ∗ ((iV).view.loc (V d (cV L) (jV L)) ↦{q} fi)
    ∗ ((oK0 L).view.loc (V d (cV L) (jV L)) ↦[(oK0 L).view.set]{fullShare} g)
    ∗ ((oK1 L).view.loc (V d (cV L) (jV L)) ↦[(oK1 L).view.set]{fullShare} g)
    ∗ ((oK2 L).view.loc (V d (cV L) (jV L)) ↦[(oK2 L).view.set]{fullShare} g)
    ∗ ((oK3 L).view.loc (V d (cV L) (jV L)) ↦[(oK3 L).view.set]{fullShare} g))

/-- Entry `k` of a list of 512 words in row-major order is its word at `k`. -/
theorem listEntry (k : Fin S512.numel) : (S512.rowMajor.symm k 0).val = k.val := by
  have h := Shape.rowMajor_val_one (S512.rowMajor.symm k)
  rw [Equiv.apply_symm_apply] at h
  exact h.symm

/-- The gather by a list whose words are the index array's entries `n`, `n + 1`, … brings the gathered array's rows
    `n`, `n + 1`, …. -/
theorem payload_eq (t : S262144x128.Idx → Elt F .f32) (fi : S65536.Idx → Elt F .i32) (n : ℕ) (hn : n + 512 ≤ 65536)
    (idx : S512.Idx → Elt F .i32) (hidx : ∀ z, idx z = fi fun | 0 => ⟨n + (z 0).val, by have : (z 0).val < 512 := (z 0).isLt; show n + (z 0).val < 65536; omega⟩)
    (hin : ∀ x, (idx x).toNat < S262144x128.size gathers_S262144x128_S512x128.axis) (y : S512x128.Idx) :
    SparseCore.gatherPayload gathers_S262144x128_S512x128 t (SparseCore.rows idx rfl hin) y
      = gathered t fi fun
          | 0 => ⟨n + (y 0).val, by have : (y 0).val < 512 := (y 0).isLt; show n + (y 0).val < 65536; omega⟩
          | 1 => y 1 := by
  unfold gathered SparseCore.gatherPayload
  refine congrArg t (funext fun a => Fin.ext ?_)
  match a with
  | 0 =>
    refine (congrArg Fin.val (Shape.Gathers.idx_axis gathers_S262144x128_S512x128 (SparseCore.rows idx rfl hin) y)).trans ?_
    have hz : S512.rowMajor.symm ((y 0).cast rfl) = fun | 0 => y 0 := by
      funext b
      match b with
      | 0 => exact Fin.ext (listEntry _)
    have hx := hidx (S512.rowMajor.symm ((y 0).cast rfl))
    have hb := hin (S512.rowMajor.symm ((y 0).cast rfl))
    show (idx (S512.rowMajor.symm ((y 0).cast rfl))).toNat = _ % 262144
    rw [hx] at hb ⊢
    have e : (fun | 0 => ⟨n + ((S512.rowMajor.symm ((y 0).cast rfl)) 0).val, by
          have : ((S512.rowMajor.symm ((y 0).cast rfl)) 0).val < 512 := Fin.isLt _
          show _ < 65536; omega⟩ : S65536.Idx)
        = fun | 0 => ⟨n + (y 0).val, by have : (y 0).val < 512 := (y 0).isLt; show n + (y 0).val < 65536; omega⟩ := by
      funext b
      match b with
      | 0 => exact Fin.ext (congrArg (n + ·) (listEntry _))
    rw [e] at hb ⊢
    exact (Nat.mod_eq_of_lt hb).symm
  | 1 => exact Shape.Gathers.idx_of_ne gathers_S262144x128_S512x128 (SparseCore.rows idx rfl hin) y 1 (by decide)

/-- A whole view, once a payload has been written through all of it, reads that payload. -/
theorem read_writes_whole {sig : RefSig} {κ : Kind} {sp : Space} {s : Shape} {e : EltTy} (v : View sig κ sp s e)
    (f : v.ty.Contents (Elt F)) (w : s.Idx → Elt F e) (ps : List (View.Piece (Elt F) s e)) :
    v.read (Elt F) (v.writes (Elt F) f (⟨Rect.whole s, w⟩ :: ps)) = w := by
  funext y
  have h := View.read_writes_cons_emb v f (Rect.whole s) w ps y
  rwa [Rect.emb_whole_apply] at h

/-- A buffer a payload has been written into through a view agrees on the view's elements with any contents that read
    as that payload. -/
theorem writes_eq_of_read {sig : RefSig} {κ : Kind} {sp : Space} {s : Shape} {e : EltTy} (v : View sig κ sp s e)
    (f g : v.ty.Contents (Elt F)) (w : s.Idx → Elt F e) (ps : List (View.Piece (Elt F) s e)) (h : v.read (Elt F) g = w) :
    ∀ x ∈ v.set, v.writes (Elt F) f (⟨Rect.whole s, w⟩ :: ps) x = g x := by
  intro x hx
  obtain ⟨y, -, rfl⟩ := Finset.mem_map.mp hx
  have e := congrFun ((read_writes_whole v f w ps).trans h.symm) y
  rw [View.read_apply, View.read_apply] at e
  exact (cast_inj _).mp e

/-- What one round writes out: the 512 rows of the table that entries `n`, `n + 1`, … of the index array name, gathered
    by the list fetched from there, are the gathered array's rows `n`, `n + 1`, …, and this is what the write-out leaves
    in the block of the result that begins at row `n`. -/
theorem block_eq (t : S262144x128.Idx → Elt F .f32) (fi : S65536.Idx → Elt F .i32) (fo : S65536x128.Idx → Elt F .f32)
    (n : ℕ) (off1 : Fin 1 → ℕ) (off2 : Fin 2 → ℕ) (e1 : off1 = ![n]) (e2 : off2 = ![n, 0])
    (h1 : ∀ a, off1 a + S512.size a ≤ S65536.size a) (h2 : ∀ a, off2 a + S512x128.size a ≤ S65536x128.size a)
    (g : S512.Idx → Elt F .i32) (fr : S512x128.Idx → Elt F .f32) (ps : List (View.Piece (Elt F) S512x128 .f32))
    (hin : ∀ x, ((sV).view.read (Elt F) ((sV).view.write (Elt F) g
        (ReadAs.same.apply (((iV).slice (Rect.unit (s := S65536) off1 S512.size h1) (fun _ => rfl)).view.read (Elt F) fi)) Finset.univ) x).toNat
      < S262144x128.size gathers_S262144x128_S512x128.axis)
    (w : S512x128.Idx → Elt F .f32)
    (hw : w = ReadAs.same.apply ((rV).view.read (Elt F) ((rV).view.writes (Elt F) fr
          (⟨Rect.whole S512x128, SparseCore.gatherPayload gathers_S262144x128_S512x128
            (((tV).slice (Rect.unit (s := S262144x128) ![0, 0] S262144x128.size inb_S262144x128_S262144x128_0_0) (fun _ => rfl)).view.read (Elt F) t)
            (SparseCore.rows ((sV).view.read (Elt F) ((sV).view.write (Elt F) g
              (ReadAs.same.apply (((iV).slice (Rect.unit (s := S65536) off1 S512.size h1) (fun _ => rfl)).view.read (Elt F) fi)) Finset.univ)) rfl hin)⟩ :: ps)))) :
    ∀ x ∈ ((oV).slice (Rect.unit (s := S65536x128) off2 S512x128.size h2) (fun _ => rfl)).view.set,
      ((oV).slice (Rect.unit (s := S65536x128) off2 S512x128.size h2) (fun _ => rfl)).view.writes (Elt F) fo [⟨Rect.whole S512x128, w⟩] x
        = gathered t fi x := by
  subst e1 e2
  have hn : n + 512 ≤ 65536 := h1 0
  refine writes_eq_of_read ((oV).slice (Rect.unit (s := S65536x128) ![n, 0] S512x128.size h2) (fun _ => rfl)).view fo (gathered t fi) w [] ?_
  refine Eq.trans ?_ (hw.trans (read_writes_whole (rV).view fr _ ps)).symm
  have ht : ((tV).slice (Rect.unit (s := S262144x128) ![0, 0] S262144x128.size inb_S262144x128_S262144x128_0_0) (fun _ => rfl)).view.read (Elt F) t = t := by
    funext x
    refine congrArg t (funext fun a => Fin.ext ?_)
    match a with
    | 0 => exact (Nat.zero_add _).trans (Nat.one_mul _)
    | 1 => exact (Nat.zero_add _).trans (Nat.one_mul _)
  refine Eq.trans ?_ (congrArg (fun u => SparseCore.gatherPayload gathers_S262144x128_S512x128 u
    (SparseCore.rows ((sV).view.read (Elt F) ((sV).view.write (Elt F) g
      (ReadAs.same.apply (((iV).slice (Rect.unit (s := S65536) ![n] S512.size h1) (fun _ => rfl)).view.read (Elt F) fi)) Finset.univ)) rfl hin)) ht).symm
  funext y
  refine Eq.trans ?_ (payload_eq t fi n hn _ ?_ hin y).symm
  · refine congrArg (gathered t fi) (funext fun a => Fin.ext ?_)
    match a with
    | 0 => exact congrArg (n + ·) (Nat.one_mul _)
    | 1 => exact (Nat.zero_add _).trans (Nat.one_mul _)
  · intro z
    rw [View.write_whole_univ]
    refine congrArg fi (funext fun a => Fin.ext ?_)
    match a with
    | 0 => exact congrArg (n + ·) (Nat.one_mul _)

end Tile

end Cert.Proof.Gather

end
-- ==== Proof.Tile.lean ====
module

public import proofs.«01_k».proof.Proof.Rows

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S262144x128 EltTy.f32)
local notation "iV" => (Memref.whole Cert.KernelIdeal.main_v2_scv : Memref Cert.KernelIdeal.sig Kind.scVector Space.hbm Cert.KernelIdeal.S65536 EltTy.i32)
local notation "oV" => (Memref.whole Cert.KernelIdeal.main_v3_scv : Memref Cert.KernelIdeal.sig Kind.scVector Space.hbm Cert.KernelIdeal.S65536x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

section Tile

variable (d : Dev nD) (L : grid0.Coords)
variable [FloatOps F]

set_option maxHeartbeats 4000000 in
theorem tile_body (hF : (K (F := F)).Facts) (t : Buf (Elt F) (tLoc d)) (fi : Buf (Elt F) (iLoc d)) (fo : Buf (Elt F) (oLoc d))
    (q : PosShare TreeShare) (hi : ∀ j, (fi j).toNat < 262144)
    (O : CellTallies nD τ sig (HIx 1)) (W : Waits sig (HIx 1)) (hO : ∀ g, O g none = 0) :
    iprop(levAts (K (F := F)).L (K (F := F)).lev ∗ emp
        ∗ taskHolds d L q t fi fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5 cc0_scoped6 cc0_scoped7)
          fun _ => iprop(taskHolds d L q t fi (gathered t fi)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ht, Hi, Ho0, Ho1, Ho2, Ho3⟩, ⟨⟨%fs, Hs⟩, ⟨%fr, Hr⟩, Hbufs⟩, ⟨HsG, Hs0, Hs1, Hs2, Hs3, Hs4, Hs5, Hs6, Hs7, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  have hin := words_inb (F := F) fi hi
  sl_exec
  sl_step
  isplitl [Ht Hi Ho0 Ho1 Ho2 Ho3]
  · isplitl [Ht]
    · iexact Ht
    isplitl [Hi]
    · iexact Hi
    isplitl [Ho0]
    · iapply (Entails.of_eq (pointsTo_congr (block_eq t fi fo _ _ _ (k0_off1_eq L 0) (k0_off2_eq L 0) _ _ _ fr _ (hin _ _ _) _ rfl)))
      iexact Ho0
    isplitl [Ho1]
    · iapply (Entails.of_eq (pointsTo_congr (block_eq t fi fo _ _ _ (k0_off1_eq L 1) (k0_off2_eq L 1) _ _ _ fr _ (hin _ _ _) _ rfl)))
      iexact Ho1
    isplitl [Ho2]
    · iapply (Entails.of_eq (pointsTo_congr (block_eq t fi fo _ _ _ (k0_off1_eq L 2) (k0_off2_eq L 2) _ _ _ fr _ (hin _ _ _) _ rfl)))
      iexact Ho2
    · iapply (Entails.of_eq (pointsTo_congr (block_eq t fi fo _ _ _ (k0_off1_eq L 3) (k0_off2_eq L 3) _ _ _ fr _ (hin _ _ _) _ rfl)))
      iexact Ho3
  isplitl [Hs' Hr' Hbufs]
  · isplitl [Hs']
    · iexists _; iexact Hs'
    isplitl [Hr']
    · iexists _; iexact Hr'
    · iexact Hbufs
  isplitl [HsG Hs0 Hs1 Hs2 Hs3 Hs4 Hs5 Hs6 Hs7 Hsems]
  · isplitl [HsG]; · iexact HsG
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists _
  isplitr
  swap
  · iexact HO
  ipureintro
  intro p hp
  iterate 12
    rcases Finset.mem_insert.mp hp with hp | hp
    · exact .inr (hp ▸ rfl)
  exact .inl hp

end Tile

end Cert.Proof.Gather

end
-- ==== Proof.Launch.lean ====
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S262144x128 EltTy.f32)
local notation "iV" => (Memref.whole Cert.KernelIdeal.main_v2_scv : Memref Cert.KernelIdeal.sig Kind.scVector Space.hbm Cert.KernelIdeal.S65536 EltTy.i32)
local notation "oV" => (Memref.whole Cert.KernelIdeal.main_v3_scv : Memref Cert.KernelIdeal.sig Kind.scVector Space.hbm Cert.KernelIdeal.S65536x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

section Tile

variable (d : Dev nD) (L : grid0.Coords)

/-- A block of 512 whole rows of the result that begins at a multiple of 512: the rows with that quotient. -/
theorem set_block (n : ℕ) (off : Fin 2 → ℕ) (e : off = ![512 * n, 0]) (h : ∀ a, off a + S512x128.size a ≤ S65536x128.size a) :
    ((oV).slice (Rect.unit (s := S65536x128) off S512x128.size h) (fun _ => rfl)).view.set
      = Finset.univ.filter fun x : S65536x128.Idx => (x 0).val / 512 = n := by
  subst e
  have hs : ((oV).slice (Rect.unit (s := S65536x128) ![512 * n, 0] S512x128.size h) (fun _ => rfl)).view.set
      = (Rect.unit (s := S65536x128) ![512 * n, 0] S512x128.size h).set := by
    show ((View.whole (main_v3_scv : Ref sig .scVector)).slice _).set = _
    rw [View.set_slice]; exact Finset.map_refl
  rw [hs]
  ext x
  rw [Rect.mem_set_unit, Finset.mem_filter]
  have h1 : (x 1).val < 128 := (x 1).isLt
  constructor
  · intro hx
    have h0 : 512 * n ≤ (x 0).val ∧ (x 0).val < 512 * n + 512 := hx 0
    exact ⟨Finset.mem_univ _, by omega⟩
  · rintro ⟨-, hx⟩ a
    match a with
    | 0 => show 512 * n ≤ (x 0).val ∧ (x 0).val < 512 * n + 512; omega
    | 1 => show 0 ≤ (x 1).val ∧ (x 1).val < 0 + 128; omega

/-- The block of round `r`, as the task addresses it, is the set of rows numbered by the task and the round. -/
theorem set_round (r : Fin 4) (off : Fin 2 → ℕ) (e : off = ![4096 * (L 1).val + 2048 * (L 0).val + 512 * r.val, 0])
    (h : ∀ a, off a + S512x128.size a ≤ S65536x128.size a) :
    ((oV).slice (Rect.unit (s := S65536x128) off S512x128.size h) (fun _ => rfl)).view.set = oSet (cL L, jL L, r) :=
  set_block (8 * (L 1).val + 4 * (L 0).val + r.val) off (e.trans (by congr 1; ring)) h

end Tile

section Launch

/-! ## What the call hands to each task -/

/-- The share of the table and of the index array that the task on core `c`, subcore `i` reads through. -/
def share (c : Fin 2) (i : Fin 16) : PosShare TreeShare :=
  pieceOf (pieceOf fullShare 2 (by decide) c) 16 (by decide) i

/-- The three arrays of the call, whole: the table, the index array and the result at contents `g`. -/
abbrev callHolds (d : Dev nD) (t : Buf (Elt F) (tLoc d)) (fi : Buf (Elt F) (iLoc d)) (g : Buf (Elt F) (oLoc d)) : sProp 𝕄 :=
  iprop((tLoc d ↦{fullShare} t) ∗ (iLoc d ↦{fullShare} fi) ∗ (oLoc d ↦{fullShare} g))

/-- What the task on core `c`, subcore `i` holds of them: its share of the table and of the index array, and the blocks
    of its four rounds of the result. -/
abbrev partHolds (d : Dev nD) (t : Buf (Elt F) (tLoc d)) (fi : Buf (Elt F) (iLoc d)) (g : Buf (Elt F) (oLoc d))
    (c : Fin 2) (i : Fin 16) : sProp 𝕄 :=
  iprop((tLoc d ↦{share c i} t) ∗ (iLoc d ↦{share c i} fi) ∗ (oLoc d ↦[oSet (c, i, 0)]{fullShare} g)
    ∗ (oLoc d ↦[oSet (c, i, 1)]{fullShare} g) ∗ (oLoc d ↦[oSet (c, i, 2)]{fullShare} g) ∗ (oLoc d ↦[oSet (c, i, 3)]{fullShare} g))

/-- Different blocks of the result share no element. -/
theorem oSet_disjoint : ∀ p ∈ (Finset.univ : Finset (Fin 2 × Fin 16 × Fin 4)), ∀ p' ∈ (Finset.univ : Finset (Fin 2 × Fin 16 × Fin 4)),
    p ≠ p' → Disjoint (oSet p) (oSet p') := by
  rintro ⟨c, i, r⟩ - ⟨c', i', r'⟩ - hne
  rw [Finset.disjoint_left]
  intro x hx hx'
  have h := (Finset.mem_filter.mp hx).2
  have h' := (Finset.mem_filter.mp hx').2
  refine hne ?_
  have := c.isLt; have := c'.isLt; have := i.isLt; have := i'.isLt; have := r.isLt; have := r'.isLt
  simp only at h h'
  refine Prod.ext (Fin.ext ?_) (Prod.ext (Fin.ext ?_) (Fin.ext ?_)) <;> simp only <;> omega

/-- The blocks of the result are all of it. -/
theorem oSet_cover : (Finset.univ : Finset (Fin 2 × Fin 16 × Fin 4)).biUnion oSet = Finset.univ := by
  ext x
  simp only [Finset.mem_biUnion, Finset.mem_univ, true_and, iff_true]
  have hx : (x 0).val < 65536 := (x 0).isLt
  refine ⟨(⟨(x 0).val / 512 / 4 % 2, by omega⟩, ⟨(x 0).val / 512 / 8, by omega⟩, ⟨(x 0).val / 512 % 4, by omega⟩), ?_⟩
  refine Finset.mem_filter.mpr ⟨Finset.mem_univ _, ?_⟩
  show (x 0).val / 512 = 8 * ((x 0).val / 512 / 8) + 4 * ((x 0).val / 512 / 4 % 2) + (x 0).val / 512 % 4
  omega

/-- A product over four indices, written out. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The result whole is the blocks of all tasks and rounds. -/
theorem out_parts (d : Dev nD) (g : Buf (Elt F) (oLoc d)) :
    (oLoc d ↦{fullShare} g : sProp 𝕄) = bigSep Finset.univ fun c : Fin 2 => bigSep Finset.univ fun i : Fin 16 =>
      iprop((oLoc d ↦[oSet (c, i, 0)]{fullShare} g) ∗ (oLoc d ↦[oSet (c, i, 1)]{fullShare} g) ∗ (oLoc d ↦[oSet (c, i, 2)]{fullShare} g)
        ∗ (oLoc d ↦[oSet (c, i, 3)]{fullShare} g)) := by
  have h : (oLoc d ↦{fullShare} g : sProp 𝕄) = bigSep Finset.univ fun p : Fin 2 × Fin 16 × Fin 4 => oLoc d ↦[oSet p]{fullShare} g := by
    rw [← pointsTo_biUnion Finset.univ (ℓ := oLoc d) oSet oSet_disjoint, oSet_cover]
  rw [h, bigSep_univ_prod]
  refine bigSep_congr fun c _ => ?_
  rw [bigSep_univ_prod]
  exact bigSep_congr fun i _ => bigSep_four fun r => oLoc d ↦[oSet (c, i, r)]{fullShare} g

/-- An array whole at the full share is the 32 tasks' shares of it. -/
theorem whole_shares {ℓ : Loc nD τ sig} (f : Buf (Elt F) ℓ) :
    (ℓ ↦{fullShare} f : sProp 𝕄) = bigSep Finset.univ fun c : Fin 2 => bigSep Finset.univ fun i : Fin 16 => ℓ ↦{share c i} f := by
  rw [pointsTo_piecesOf Finset.univ f (o := 2) (by decide) fullShare]
  exact bigSep_congr fun c _ => pointsTo_piecesOf Finset.univ f (o := 16) (by decide) _

/-- The call's arrays are the 32 tasks' parts of them. -/
theorem callHolds_parts (d : Dev nD) (t : Buf (Elt F) (tLoc d)) (fi : Buf (Elt F) (iLoc d)) (g : Buf (Elt F) (oLoc d)) :
    (callHolds d t fi g : sProp 𝕄) = bigSep Finset.univ fun c : Fin 2 => bigSep Finset.univ fun i : Fin 16 => partHolds d t fi g c i := by
  unfold callHolds partHolds
  rw [whole_shares t, whole_shares fi, out_parts]
  simp only [bigSep_sep']

variable [FloatOps F]

/-- What a task holds, in the program's own spelling, is the part of the call's arrays handed to it. -/
theorem taskHolds_eq (d : Dev nD) (L : grid0.Coords) (t : Buf (Elt F) (tLoc d)) (fi : Buf (Elt F) (iLoc d)) (g : Buf (Elt F) (oLoc d)) :
    (taskHolds d L (share (cL L) (jL L)) t fi g : sProp 𝕄) = partHolds d t fi g (cL L) (jL L) := by
  unfold taskHolds partHolds
  rw [← set_round L 0 _ (k0_off2_eq L 0) (k0_off2_inb L 0), ← set_round L 1 _ (k0_off2_eq L 1) (k0_off2_inb L 1),
    ← set_round L 2 _ (k0_off2_eq L 2) (k0_off2_inb L 2), ← set_round L 3 _ (k0_off2_eq L 3) (k0_off2_inb L 3)]
  rfl

end Launch

end Cert.Proof.Gather

end
-- ==== Proof.Run.lean ====
module

public import proofs.«01_k».proof.Proof.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held)

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S262144x128 EltTy.f32)
local notation "iV" => (Memref.whole Cert.KernelIdeal.main_v2_scv : Memref Cert.KernelIdeal.sig Kind.scVector Space.hbm Cert.KernelIdeal.S65536 EltTy.i32)
local notation "oV" => (Memref.whole Cert.KernelIdeal.main_v3_scv : Memref Cert.KernelIdeal.sig Kind.scVector Space.hbm Cert.KernelIdeal.S65536x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## The host's operations before the call -/

section Host

variable [FloatOps F]

/-- The host's operations before the call: the point clouds as rows, the padding value, the padded table, the flat index
    array. -/
def hostOps : List (HloOp τ sig (Elt F)) :=
  [StableHlo.reshape main_arg0 main_v0 (rfl : (.f32 : EltTy) = .f32) shapeCasts_S16x16384x6_S262144x6,
    StableHlo.nullary main_c (constantI S_ 32 0#32),
    StableHlo.TRef.unary (.of main_c : StableHlo.TRef sig ⟨S_, .i32⟩) main_call0.v0 (sitofp .f32),
    StableHlo.TRef.binary (.of main_v0 : StableHlo.TRef sig ⟨S262144x6, .f32⟩) main_call0.v0 main_call0.v1
      (fun x v => pad S262144x128 ![0, 0] ![0, 122] ![0, 0] x v pads_S262144x6_S262144x128_000_01220 h_S_),
    StableHlo.reshape main_arg1 main_v2 (rfl : (.i32 : EltTy) = .i32) shapeCasts_S16x128x32_S65536]

/-- The program is its host operations and then the SparseCore call. -/
theorem main_eq (d : Dev nD) : main (F := F) d = StableHlo.seq hostOps >>= fun _ => (sc.run d 0 >>= fun _ => pure ⟨⟩) := by
  simp only [main, fn_pad.body, hostOps, StableHlo.seq, bind_assoc, pure_bind]

variable (m : (ℓ : Loc nD τ sig) → Buf (Elt F) ℓ)

/-- The buffers' contents at the call. -/
def atCall (d : Dev nD) : Valuation τ sig (Elt F) := StableHlo.after hostOps fun b => m (d, b)

/-- The table the call reads. -/
def table (d : Dev nD) : Buf (Elt F) (tLoc d) := atCall m d (Proc.devRef .tc main_v1)
/-- The row numbers the call reads. -/
def index (d : Dev nD) : Buf (Elt F) (iLoc d) := atCall m d (Proc.devRef .tc main_v2)

/-- The table is the points, one row a point, padded with zeros. -/
theorem table_eq (d : Dev nD) :
    table m d = pad S262144x128 ![0, 0] ![0, 122] ![0, 0]
      (shapeCast S262144x6 (m ((SparseCore.T d).loc main_arg0)) shapeCasts_S16x16384x6_S262144x6)
      (sitofp .f32 (constantI S_ 32 0#32)) pads_S262144x6_S262144x128_000_01220 h_S_ := by
  rfl
/-- The row numbers are the argument's, flattened. -/
theorem index_eq (d : Dev nD) :
    index m d = shapeCast S65536 (m ((SparseCore.T d).loc main_arg1)) shapeCasts_S16x128x32_S65536 := by
  rfl
/-- The host operations leave the points as they were. -/
theorem arg0_kept (d : Dev nD) : atCall m d (Proc.devRef .tc main_arg0) = m ((SparseCore.T d).loc main_arg0) := by
  rfl
/-- The host operations leave the row numbers as they were. -/
theorem arg1_kept (d : Dev nD) : atCall m d (Proc.devRef .tc main_arg1) = m ((SparseCore.T d).loc main_arg1) := by
  rfl

/-- The host's buffers. -/
abbrev hostBufs : Finset (DevRef τ sig) :=
  {Proc.devRef .tc main_v1, Proc.devRef .tc main_v2, Proc.devRef .tc main_v3, Proc.devRef .tc main_arg0, Proc.devRef .tc main_arg1,
    Proc.devRef .tc main_v0, Proc.devRef .tc main_c, Proc.devRef .tc main_call0_v0}

/-- The host operations touch the host's buffers only. -/
theorem hostOps_bufs : ∀ op ∈ hostOps (F := F), op.bufs ⊆ hostBufs := by
  simp only [hostOps, List.forall_mem_cons, List.not_mem_nil, false_imp_iff, implies_true, and_true]
  exact ⟨show ({Proc.devRef .tc main_arg0, Proc.devRef .tc main_v0} : Finset (DevRef τ sig)) ⊆ hostBufs by decide,
    show ({Proc.devRef .tc main_c} : Finset (DevRef τ sig)) ⊆ hostBufs by decide,
    show ({Proc.devRef .tc main_c, Proc.devRef .tc main_call0_v0} : Finset (DevRef τ sig)) ⊆ hostBufs by decide,
    show ({Proc.devRef .tc main_v0, Proc.devRef .tc main_call0_v0, Proc.devRef .tc main_v1} : Finset (DevRef τ sig)) ⊆ hostBufs by decide,
    show ({Proc.devRef .tc main_arg1, Proc.devRef .tc main_v2} : Finset (DevRef τ sig)) ⊆ hostBufs by decide⟩
/-- The host operations allocate nothing. -/
theorem hostOps_fresh : ∀ op ∈ hostOps (F := F), op.fresh = ∅ := by
  simp only [hostOps, List.forall_mem_cons, List.not_mem_nil, false_imp_iff, implies_true, and_true]
  exact ⟨rfl, rfl, rfl, rfl, rfl⟩

omit [FloatOps F] in
/-- Holding the host's buffers is holding each of them. -/
theorem held_hostBufs (d : Dev nD) (W : Valuation τ sig (Elt F)) :
    (held (T d) hostBufs W : sProp 𝕄)
      = iprop((tLoc d ↦{fullShare} W (Proc.devRef .tc main_v1)) ∗ (iLoc d ↦{fullShare} W (Proc.devRef .tc main_v2))
          ∗ (oLoc d ↦{fullShare} W (Proc.devRef .tc main_v3)) ∗ ((SparseCore.T d).loc main_arg0 ↦{fullShare} W (Proc.devRef .tc main_arg0))
          ∗ ((SparseCore.T d).loc main_arg1 ↦{fullShare} W (Proc.devRef .tc main_arg1)) ∗ ((SparseCore.T d).loc main_v0 ↦{fullShare} W (Proc.devRef .tc main_v0))
          ∗ ((SparseCore.T d).loc main_c ↦{fullShare} W (Proc.devRef .tc main_c))
          ∗ ((SparseCore.T d).loc main_call0_v0 ↦{fullShare} W (Proc.devRef .tc main_call0_v0))) := by
  unfold StableHlo.held hostBufs
  repeat rw [SparseCore.bigSep_insert' (by decide)]
  rw [bigSep_singleton]

omit [FloatOps F] in
/-- The launch's buffers are the host's buffers. -/
theorem unscoped_held (d : Dev nD) :
    (unscopedBufs d (fun b => m ((SparseCore.T d).loc b)) : sProp 𝕄) = held (T d) hostBufs fun b => m (d, b) := by
  rw [held_hostBufs]
  unfold unscopedBufs
  rw [show (Finset.univ.filter fun b : Ref sig .tc => ¬ b.isScoped)
      = {main_v1, main_v2, main_v3, main_arg0, main_arg1, main_v0, main_c, main_call0_v0} by decide]
  repeat rw [SparseCore.bigSep_insert' (by decide)]
  rw [bigSep_singleton]

end Host

/-! ## The launch -/

section Run

variable (m : (ℓ : Loc nD τ sig) → Buf (Elt F) ℓ) (ρ : Dev nD → PrngReg)
variable [FloatOps F]

/-- The gathered array of the launch memory: what the call leaves in its result. -/
abbrev result (d : Dev nD) : Buf (Elt F) (oLoc d) := gathered (table m d) (index m d)

/-- What the proof asks of the launch memory: every entry of the index array names a row of the table. -/
def InRows : Prop := ∀ (d : Dev nD) (j : S65536.Idx), (index m d j).toNat < 262144

/-- The call runs on two cores. -/
theorem nCore_zero : (K (F := F)).nCore 0 = 2 := rfl
/-- Each core runs 16 workers. -/
theorem nSub_zero : (K (F := F)).nSub 0 = 16 := rfl

/-- Each core of the call takes its 16 tasks' parts of the three arrays, each task its own, and brings it back with the
    result's blocks at the gathered array. -/
def P : (K (F := F)).Pay (nD := nD) (Val := Elt F) (Name := ℕ) (U := UU) where
  st := fun q d c => match q with
    | 0 => bigSep Finset.univ fun i : Fin 16 => partHolds d (table m d) (index m d) (atCall m d (Proc.devRef .tc main_v3)) (Fin.cast nCore_zero c) i
  dn := fun q d c => match q with
    | 0 => bigSep Finset.univ fun i : Fin 16 => partHolds d (table m d) (index m d) (result m d) (Fin.cast nCore_zero c) i
  go := fun q d c i => match q with
    | 0 => partHolds d (table m d) (index m d) (atCall m d (Proc.devRef .tc main_v3)) (Fin.cast nCore_zero c) (Fin.cast nSub_zero i)
  td := fun q d c i => match q with
    | 0 => partHolds d (table m d) (index m d) (result m d) (Fin.cast nCore_zero c) (Fin.cast nSub_zero i)
  x := fun _ _ => iprop(emp)

instance P_storable : (P (F := F) m).IsStorable where
  st q d c := match q with
    | 0 => (inferInstance : BI.Storable (upEmb : UEmb _ 𝕄)
        (bigSep Finset.univ fun i : Fin 16 => partHolds d (table m d) (index m d) (atCall m d (Proc.devRef .tc main_v3)) (Fin.cast nCore_zero c) i))
  dn q d c := match q with
    | 0 => (inferInstance : BI.Storable (upEmb : UEmb _ 𝕄)
        (bigSep Finset.univ fun i : Fin 16 => partHolds d (table m d) (index m d) (result m d) (Fin.cast nCore_zero c) i))
  go q d c i := match q with
    | 0 => (inferInstance : BI.Storable (upEmb : UEmb _ 𝕄)
        (partHolds d (table m d) (index m d) (atCall m d (Proc.devRef .tc main_v3)) (Fin.cast nCore_zero c) (Fin.cast nSub_zero i)))
  td q d c i := match q with
    | 0 => (inferInstance : BI.Storable (upEmb : UEmb _ 𝕄)
        (partHolds d (table m d) (index m d) (result m d) (Fin.cast nCore_zero c) (Fin.cast nSub_zero i)))

/-- The grid coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a worker runs is the kernel's body at its coordinates. -/
theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5 cc0_scoped6 cc0_scoped7) ⟨⟩ c s := rfl

omit [FloatOps F] in
/-- A task waits for its own copies alone, so what it may have waited for besides is left open. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task, from its part of the arrays, leaves its blocks of the result at the gathered array. -/
theorem tileObl (hF : (K (F := F)).Facts) (hrows : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) hF (table m d) (index m d) (atCall m d (Proc.devRef .tc main_v3))
    (share (cL (coordsV ⟨_, hci.1⟩ ⟨_, hci.2⟩)) (jL (coordsV ⟨_, hci.1⟩ ⟨_, hci.2⟩))) (hrows d) O W hO
  simp only [taskHolds_eq] at h
  exact h.trans (wp_mono frame _ _ fun _ => waits_weaken)

/-- A core's part splits into its workers' parts and is put together again from them. -/
theorem vecSplit : (K (F := F)).VecSplit' (P m) 0 := by
  intro d c
  show (bigSep Finset.univ fun i : Fin 16 => partHolds d (table m d) (index m d) (atCall m d (Proc.devRef .tc main_v3)) (Fin.cast nCore_zero c) i)
    ⊢ |={Set.univ}=> iprop(
      (bigSep Finset.univ fun i : Fin 16 => partHolds d (table m d) (index m d) (atCall m d (Proc.devRef .tc main_v3)) (Fin.cast nCore_zero c) i)
      ∗ ((bigSep Finset.univ fun i : Fin 16 => partHolds d (table m d) (index m d) (result m d) (Fin.cast nCore_zero c) i)
          -∗ bigSep Finset.univ fun i : Fin 16 => partHolds d (table m d) (index m d) (result m d) (Fin.cast nCore_zero c) i))
  iintro H; imodintro
  isplitl [H]; · iexact H
  iintro H; iexact H

/-- The launch's ghost state: the handshakes', and no counter. -/
def u₀ : UU := (initOf (K (F := F)).hsCells (K (F := F)).hsToks, 1)

omit [FloatOps F] in
/-- A product of empty resources is empty. -/
theorem bigSep_emp' {I : Type} (s : Finset I) : (bigSep s fun _ => iprop(emp)) = (iprop(emp) : sProp 𝕄) := bigSep_emp_const s

/-- The launch resources as the protocol wants them. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What the cores start with is what the call holds. -/
theorem st0_eq (d : Dev nD) :
    (bigSep Finset.univ fun c : Fin ((K (F := F)).nCore 0) => (P m).st 0 d c) = callHolds d (table m d) (index m d) (atCall m d (Proc.devRef .tc main_v3)) :=
  (callHolds_parts d _ _ _).symm
/-- What the cores end with is what the call holds after it. -/
theorem dn0_eq (d : Dev nD) :
    (bigSep Finset.univ fun c : Fin ((K (F := F)).nCore 0) => (P m).dn 0 d c) = callHolds d (table m d) (index m d) (result m d) :=
  (callHolds_parts d _ _ _).symm

/-- What @main leaves: the two arguments at their launch contents, the result at the gathered array. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1)) ∗ (oLoc d ↦{fullShare} result m d))

/-- @main on a device's TensorCore: the host's operations, then the call from the three arrays they leave. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d hostBufs _ hostOps hostOps_bufs hostOps_fresh fun b => m (d, b)) $$ [Hb Hheld]
  · isplitl [Hb] <;> iassumption
  iintro ⟨Hb, Hheld⟩
  ihave Hh := (Entails.of_eq (show (held (d.tc : Thread nD τ) hostBufs (StableHlo.after hostOps fun b => m (d, b)) : sProp 𝕄) = _ from
    held_hostBufs (F := F) d (atCall m d))) $$ Hheld
  icases Hh with ⟨Ht, Hi, Ho, Ha0, Ha1, -⟩
  rw [wp_bind]
  iapply ((K (F := F)).wp_run (D (F := F)) 𝒱 (EH := EH) (P := P m) κ d 0) $$ [Hst Ht Hi Ho Ha0 Ha1 Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨-, -, Ho⟩
  rw [wp_pure]
  imodintro
  isplitl [Hst]; · iexact Hst
  isplitr [Hb Hts]
  · unfold FIN; rw [← arg0_kept m d, ← arg1_kept m d]
    isplitl [Ha0]; · iexact Ha0
    isplitl [Ha1]; · iexact Ha1
    iexact Ho
  isplitl [Hb] <;> iassumption

/-- What the claims read of a device's final memory: the result at the gathered array, the arguments as at launch. -/
def Final (d : Dev nD) (f : (ℓ : Loc nD τ sig) → Buf (Elt F) ℓ) : Prop :=
  f ((SparseCore.T d).loc main_arg0) = m ((SparseCore.T d).loc main_arg0) ∧ f ((SparseCore.T d).loc main_arg1) = m ((SparseCore.T d).loc main_arg1)
    ∧ f (oLoc d) = result m d

set_option maxRecDepth 16384 in
theorem hfin (d : Dev nD) (s' : Phys nD τ sig (Elt F)) : iprop(FIN m d ∗ SI s') ⊢ (⌜Final m d s'.mem.mem⌝ : sProp 𝕄) := by
  iintro ⟨⟨H0, H1, Ho⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := oLoc d) (I := Finset.univ) (q := fullShare) (f := result m d)) $$ [HSI Ho]
  · isplitl [HSI] <;> iassumption
  icases H with %h2
  ipureintro
  exact ⟨funext fun i => h0 i (Finset.mem_univ i), funext fun i => h1 i (Finset.mem_univ i), funext fun i => h2 i (Finset.mem_univ i)⟩

/-- The program's run, from any memory whose index array names rows of the table: it ends, every semaphore at zero, the
    arguments as they were, and the result is the gathered array. -/
theorem run_main [∀ e, Nonempty (Elt F e)] (hrows : InRows m) :
    θ_run (Cert.KernelIdeal.defs (F := F)) (Cert.KernelIdeal.threads (F := F)) ⟨m, fun _ => 0, ρ⟩
      fun r => (∀ c : Dev nD, Final m c r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hrows)
    (fun q _ => match q with | 0 => SparseCore.Cfg.VecSplit.of_plain (vecSplit m))
    m ρ main (fun _ => iprop(emp)) (FIN m) (u₀ (F := F)) (sep_elim_left.trans (hu₀ m)) (hmain m ρ) (fun d s' => Final m d s'.mem.mem) (hfin m) _ (fun _ h hz => ⟨h, hz⟩)

end Run

end Cert.Proof.Gather

end
-- ==== Proof.Value.lean ====
/- The value of the gathered rows. Under the precondition (every row number of a cloud's neighbours points into that
   cloud's own 16384 rows) the reference's result, lane by lane, is what the kernel's gather leaves: the table's row
   at that number, six lanes of the point and 122 zeros. -/
module

public import proofs.«01_k».proof.Defs
public import proofs.«01_k».proof.Proof.Run
public import proofs.«01_k».proof.Proof.Gen.ReferenceIdeal.Run
public import proofs.«01_k».proof.Proof.Gen.Pre_own_cloud
public import Idealize.ShloMosaic.Lib.Pointwise

@[expose] public section

set_option maxRecDepth 16384

noncomputable section

namespace Cert.Proof.Gather

open Idealize.ShloMosaic

/-! ## The row numbers -/

/-- Every row number of cloud `b` names one of the 16384 rows that the flat table holds of that cloud. -/
def Own (idx : IVec (⟨3, ![16, 128, 32]⟩ : Shape) 32) : Prop :=
  ∀ (b : Fin 16) (p : Fin 128) (s : Fin 32),
    16384 * b.val ≤ (idx (ix3 b p s)).toNat ∧ (idx (ix3 b p s)).toNat < 16384 * b.val + 16384

/-- A bit that holds a decision is one exactly where the decision is true. -/
theorem bit_eq_one (p : Bool) : BitVec.ofBool p = 1#1 ↔ p = true := by
  cases p <;> decide

/-- The conjunction of two such bits holds the conjunction of the decisions. -/
theorem bit_and (p q : Bool) : IntOp.andi (BitVec.ofBool p) (BitVec.ofBool q) = BitVec.ofBool (p && q) := by
  cases p <;> cases q <;> decide

/-- The precondition, as the claims state it, says `Own` of the row numbers. -/
theorem own_of_pre {F : FTy → Type} [FloatOps F] (points : FVec F Cert.Pre_own_cloud.S16x16384x6 .f32)
    (idx : IVec Cert.Pre_own_cloud.S16x128x32 32)
    (h : @Cert.Pre_own_cloud.fn Cert.Pre_own_cloud.Gen.facts F _ points idx = fun _ => 1#1) : Own idx := by
  intro b p s
  have e := congrFun h (ix3 b p s)
  unfold Cert.Pre_own_cloud.fn at e
  pointwise at e
  have hb := b.isLt
  simp only [IntOp.cmpi, bit_and, bit_eq_one, Bool.and_eq_true, BitVec.sle_eq_decide, BitVec.slt_eq_decide,
    decide_eq_true_eq, BitVec.toInt_eq_toNat_cond, IntOp.muli, IntOp.addi, BitVec.toNat_mul, BitVec.toNat_add,
    BitVec.toNat_ofNat] at e
  omega

section Reference

open Cert.ReferenceIdeal Cert.ReferenceIdeal.Gen

/-- A batched gather of the reference reads, in cloud `b`, the operand's row at the row number's signed value,
    clamped to the cloud's rows. -/
theorem gather_own {α : Type} (x : S16x16384x3.Idx → α) (i : IVec S16x128x32x1 32)
    (b : Fin 16) (p : Fin 128) (s : Fin 32) (l : Fin 3) :
    Host.gather gather_S16x16384x3_S16x128x32x1_S16x128x32x3_3_1_0_0_1_3_113 x i (ix4 b p s l)
      = x (ix3 b ⟨min (i (ix4 b p s 0)).toInt.toNat 16383, by omega⟩ l) := by
  unfold Host.gather
  congr 1
  funext a
  refine Fin.ext ?_
  match a with
  | ⟨0, _⟩ => exact (Nat.zero_add _).trans rfl
  | ⟨1, _⟩ =>
    have hsi : ∀ h, gather_S16x16384x3_S16x128x32x1_S16x128x32x3_3_1_0_0_1_3_113.siIdx (ix4 b p s l) ⟨0, h⟩
        = ix4 b p s 0 := by
      intro h; funext c; refine Fin.ext ?_
      match c with
      | ⟨0, _⟩ => rfl
      | ⟨1, _⟩ => rfl
      | ⟨2, _⟩ => rfl
      | ⟨3, _⟩ => rfl
    exact congrArg (fun j => min (i j).toInt.toNat 16383) (hsi _)
  | ⟨2, _⟩ => exact (Nat.zero_add _).trans rfl

/-- The row numbers counted from the cloud's own first row. -/
def fromOwn (idx : IVec S16x128x32 32) : IVec S16x128x32 32 :=
  subi idx (broadcastInDim S16x128x32 ![0, 1, 2] bcast_S16x1x1_S16x128x32_0_1_2
    (muli (broadcastInDim S16x1x1 ![] bcast_S_S16x1x1 (constantI S_ 32 16384#32))
      (broadcastInDim S16x1x1 ![0] bcast_S16_S16x1x1_0 (iotaInDim S16 32 0))))

/-- The same with a negative number counted from the cloud's end, as the reference's gathers take them. -/
def ownRow (idx : IVec S16x128x32 32) : IVec S16x128x32x1 32 :=
  broadcastInDim S16x128x32x1 ![0, 1, 2] bcast_S16x128x32_S16x128x32x1_0_1_2
    (select (cmpi .slt (fromOwn idx) (broadcastInDim S16x128x32 ![] bcast_S_S16x128x32 (constantI S_ 32 0#32)))
      (addi (fromOwn idx) (broadcastInDim S16x128x32 ![] bcast_S_S16x128x32 (constantI S_ 32 16384#32)))
      (fromOwn idx))

/-- The reference's result: the coordinates, the features and 122 zeros side by side, one row per row number. -/
def referenceRows (points : FVec Ideal S16x16384x6 .f32) (idx : IVec S16x128x32 32) : FVec Ideal S65536x128 .f32 :=
  shapeCast _
    (concatenate S16x128x32x128 3
      [⟨S16x128x32x6, (concatenate S16x128x32x6 3
          [⟨S16x128x32x3, (Host.gather gather_S16x16384x3_S16x128x32x1_S16x128x32x3_3_1_0_0_1_3_113
              (extractStridedSlice S16x16384x3 ![0, 0, 0] points slices_S16x16384x6_S16x16384x3_0_0_0) (ownRow idx))⟩,
           ⟨S16x128x32x3, (Host.gather gather_S16x16384x3_S16x128x32x1_S16x128x32x3_3_1_0_0_1_3_113
              (extractStridedSlice S16x16384x3 ![0, 0, 3] points slices_S16x16384x6_S16x16384x3_0_0_3) (ownRow idx))⟩]
          concatenates_S16x128x32x3_S16x128x32x3_S16x128x32x6_d3)⟩,
       ⟨S16x128x32x122, (broadcastInDim S16x128x32x122 ![] bcast_S_S16x128x32x122 (constant S_ .f32 0x00000000#32))⟩]
      concatenates_S16x128x32x6_S16x128x32x122_S16x128x32x128_d3)
    shapeCasts_S16x128x32x128_S65536x128

/-- Of a row number that points into its own cloud, the reference's gather takes the number less the cloud's first
    row: nothing is negative and nothing is clamped. -/
theorem ownRow_apply {idx : IVec S16x128x32 32} (h : Own idx) (b : Fin 16) (p : Fin 128) (s : Fin 32) :
    (ownRow idx (ix4 b p s 0)).toInt.toNat = (idx (ix3 b p s)).toNat - 16384 * b.val := by
  have hr := h b p s
  have hb := b.isLt
  unfold ownRow fromOwn
  pointwise
  have hv : (IntOp.subi (idx (ix3 b p s)) (IntOp.muli (16384#32) (BitVec.ofNat 32 b.val))).toNat
      = (idx (ix3 b p s)).toNat - 16384 * b.val := by
    simp only [IntOp.subi, IntOp.muli, BitVec.toNat_sub, BitVec.toNat_mul, BitVec.toNat_ofNat]
    omega
  generalize IntOp.subi (idx (ix3 b p s)) (IntOp.muli (16384#32) (BitVec.ofNat 32 b.val)) = v at hv ⊢
  have hn : IntOp.cmpi CmpIPredicate.slt v 0#32 = 0#1 := by
    have : v.slt 0#32 = false := by
      simp only [BitVec.slt_eq_decide, decide_eq_false_iff_not, BitVec.toInt_eq_toNat_cond, BitVec.toNat_ofNat]
      omega
    show BitVec.ofBool (v.slt 0#32) = 0#1
    rw [this]; rfl
  rw [hn]
  show v.toInt.toNat = _
  rw [BitVec.toInt_eq_toNat_cond]
  omega

/-- The reference's result at row `n`, lane `l`: below lane 6 the point that the row number names, zero beyond. -/
theorem referenceRows_apply {points : FVec Ideal S16x16384x6 .f32} {idx : IVec S16x128x32 32} (h : Own idx)
    (n : Fin 65536) (l : Fin 128) :
    referenceRows points idx (ix2 n l)
      = if hl : l.val < 6 then
          points (ix3 ⟨n.val / 4096, by omega⟩
            ⟨(idx (ix3 ⟨n.val / 4096, by omega⟩ ⟨n.val / 32 % 128, by omega⟩ ⟨n.val % 32, by omega⟩)).toNat
              - 16384 * (n.val / 4096), by
                have := (h ⟨n.val / 4096, by omega⟩ ⟨n.val / 32 % 128, by omega⟩ ⟨n.val % 32, by omega⟩).2
                simp only at this
                omega⟩
            ⟨l.val, hl⟩)
        else 0 := by
  have hr := h ⟨n.val / 4096, by omega⟩ ⟨n.val / 32 % 128, by omega⟩ ⟨n.val % 32, by omega⟩
  simp only at hr
  unfold referenceRows
  pointwise [gather_own]
  split
  · split
    · congr 2
      refine Fin.ext ?_
      show min (ownRow idx _).toInt.toNat 16383 = _
      rw [ownRow_apply h]
      simp only
      omega
    · congr 2
      · refine Fin.ext ?_
        show min (ownRow idx _).toInt.toNat 16383 = _
        rw [ownRow_apply h]
        simp only
        omega
      · refine Fin.ext ?_
        show 3 + (l.val - 3) = l.val
        omega
  · rfl

end Reference

/-! ## The kernel's rows -/

section Kernel

open Cert.KernelIdeal Cert.KernelIdeal.Gen

/-- The table that the host hands the gather: a row per point, its six lanes followed by 122 zeros. -/
def paddedTable (points : FVec Ideal S16x16384x6 .f32) : FVec Ideal S262144x128 .f32 :=
  pad S262144x128 ![0, 0] ![0, 122] ![0, 0] (shapeCast S262144x6 points shapeCasts_S16x16384x6_S262144x6)
    (sitofp (F := Ideal) .f32 (constantI S_ 32 0#32)) pads_S262144x6_S262144x128_000_01220 h_S_

/-- The row numbers as one list. -/
def flatIndex (idx : IVec S16x128x32 32) : IVec S65536 32 := shapeCast S65536 idx shapeCasts_S16x128x32_S65536

/-- Row numbers of their own clouds are row numbers of the table. -/
theorem flatIndex_lt {idx : IVec S16x128x32 32} (h : Own idx) (j : S65536.Idx) : (flatIndex idx j).toNat < 262144 := by
  idx_vars j
  unfold flatIndex
  pointwise
  have hr := (h ⟨j0.val / 4096, by omega⟩ ⟨j0.val / 32 % 128, by omega⟩ ⟨j0.val % 32, by omega⟩).2
  simp only at hr
  refine lt_of_lt_of_le hr ?_
  omega

/-- The gather of the padded table is the reference's result, over the extended reals. -/
theorem gathered_eq {points : FVec Ideal S16x16384x6 .f32} {idx : IVec S16x128x32 32} (h : Own idx) :
    gathered (F := Ideal) (paddedTable points) (flatIndex idx) = referenceRows points idx := by
  funext x
  idx_vars x
  rw [referenceRows_apply h]
  have hr := h ⟨x0.val / 4096, by omega⟩ ⟨x0.val / 32 % 128, by omega⟩ ⟨x0.val % 32, by omega⟩
  simp only at hr
  unfold gathered paddedTable flatIndex
  pointwise
  split
  · have hv : ∀ k : Nat, k < 262144 → (Fin.ofNat 262144 k).val = k := fun k hk => Nat.mod_eq_of_lt hk
    have hk := hv _ (show (idx (ix3 ⟨x0.val / 4096, by omega⟩ ⟨x0.val / 32 % 128, by omega⟩
      ⟨x0.val % 32, by omega⟩)).toNat < 262144 by omega)
    congr 2 <;> refine Fin.ext ?_ <;> simp only [hk] <;> omega
  · show ((((0#32 : BitVec 32).toInt : ℤ) : ℝ) : EReal) = 0
    simp

end Kernel

end Cert.Proof.Gather

end
-- ==== Proof.Bits.lean ====
/- The frames. The machine-level program and its idealized copy are one program read over two kinds of float, so the
   run theorem, which is stated for any kind, gives both frames. -/
module

public import proofs.«01_k».proof.Proof.Value
public import proofs.«01_k».proof.Proof.Gen.Kernel

@[expose] public section

noncomputable section

namespace Cert.Proof.Gather

open Idealize.ShloMosaic Idealize.SL.Sem

/-- The index list that the call reads is inside the table, wherever the precondition holds of the arguments. -/
theorem inRows_of_pre {F : FTy → Type} [FloatOps F]
    (m : (ℓ : Loc Cert.KernelIdeal.nD Cert.KernelIdeal.τ Cert.KernelIdeal.sig) → Buf (Elt F) ℓ)
    (h : ∀ c : Dev Cert.KernelIdeal.nD, (@Cert.Pre_own_cloud.fn Cert.Pre_own_cloud.Gen.facts F _
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) = fun _ => 1#1) :
    InRows m := by
  intro d j
  rw [index_eq]
  exact flatIndex_lt (own_of_pre _ _ (h d)) j

/-- The machine-level program leaves its arguments as they were and every counter at zero. -/
theorem frame_bits : Cert.quiescent_Kernel (hKernel := Cert.Kernel.Gen.facts)
    (hPre_own_cloud := Cert.Pre_own_cloud.Gen.facts) := by
  intro m ρ h
  have hr := run_main (F := Bits) m ρ (inRows_of_pre (F := Bits) m h)
  exact (θ_run (Cert.KernelIdeal.defs (F := Bits)) (Cert.KernelIdeal.threads (F := Bits)) _).mono
    (fun _ q => ⟨fun c => ⟨(q.1 c).1, (q.1 c).2.1⟩, q.2⟩) hr

/-- So does the program over the extended reals. -/
theorem frame_ideal : Cert.quiescent_KernelIdeal (hKernelIdeal := Cert.KernelIdeal.Gen.facts)
    (hPre_own_cloud := Cert.Pre_own_cloud.Gen.facts) := by
  intro m ρ h
  exact (θ_run _ _ _).mono (fun _ q => ⟨fun c => ⟨(q.1 c).1, (q.1 c).2.1⟩, q.2⟩)
    (run_main (F := Ideal) m ρ (inRows_of_pre m h))

end Cert.Proof.Gather

end
-- ==== Proof.Norm.lean ====
/-
  BATCH NORMALISATION OVER THE REALS. A column of real values is normalised by its mean and its variance over all
  positions, `normed`. Two texts of it are shown to give that number at the ideal values: the one that gathers the sum and
  the sum of squares of the column (`normed_of_moments`), and the one that sums the squared deviations from the mean
  (`normed_of_deviations`). A convolution layer of width one over normalised columns, `layer`, is real as well, so the
  layers of a network can be followed as real functions from one to the next.
-/
module

public import Idealize.ShloMosaic.Lib.Pointwise
public import Idealize.ShloMosaic.Lib.Affine
public import Idealize.ShloMosaic.PureOps.Ideal

@[expose] public section

noncomputable section

namespace Cert.Proof.Norm

open Idealize.ShloMosaic

variable {ι κ : Type} [Fintype ι] [Fintype κ]

/-! ## Real sums and quotients among the ideal values -/

/-- A finite sum of reals is the same number among the ideal values. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real is the real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The square root of a nonnegative real is the real one. -/
theorem sqrt_coe (x : ℝ) (hx : 0 ≤ x) : Ideal.sqrt (x : EReal) = ((Real.sqrt x : ℝ) : EReal) := by
  show (if x < 0 then (⊥ : EReal) else (Real.sqrt x : EReal)) = _
  rw [if_neg (not_lt.mpr hx)]

/-- The reciprocal square root of a positive real is the real one. -/
theorem rsqrt_coe (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The maximum of two reals is the real one. -/
theorem max_coe (x y : ℝ) : max (x : EReal) (y : EReal) = ((max x y : ℝ) : EReal) :=
  (EReal.coe_strictMono.monotone.map_max).symm

/-- A value strictly between the infinities is a real. -/
theorem coe_toReal_of_abs_lt {x : EReal} (h : max x (-x) < ⊤) : ((x.toReal : ℝ) : EReal) = x := by
  refine EReal.coe_toReal (fun e => ?_) (fun e => ?_) <;> subst e <;> simp at h

/-! ## The numbers in the programs -/

/-- The small number added to a variance. -/
def eps : ℝ := 10995116 * (2 : ℝ) ^ (-40 : Int)

/-- The small number is positive. -/
theorem eps_pos : 0 < eps := by unfold eps; positivity

/-- The pattern of the small number. -/
theorem ofBits_eps : Ideal.ofBits .f32 925353388#32 = ((eps : ℝ) : EReal) := by
  simp [Ideal.ofBits, Ideal.ieee, eps]

/-- The pattern of 32768. -/
theorem ofBits_32768 : Ideal.ofBits .f32 1191182336#32 = ((32768 : ℝ) : EReal) := by
  simp [Ideal.ofBits, Ideal.ieee]; rw [← EReal.coe_mul]; norm_num

/-- The pattern of 65536. -/
theorem ofBits_65536 : Ideal.ofBits .f32 1199570944#32 = ((65536 : ℝ) : EReal) := by
  simp [Ideal.ofBits, Ideal.ieee]; rw [← EReal.coe_mul]; norm_num

/-- The pattern of minus infinity. -/
theorem ofBits_bot : Ideal.ofBits .f32 4286578688#32 = (⊥ : EReal) := by
  simp [Ideal.ofBits, Ideal.ieee]

/-- The integer zero as an ideal value. -/
theorem sitofp_zero : (FloatOps.sitofp .f32 (0#32 : BitVec 32) : Ideal .f32) = (0 : EReal) := by
  show ((((0#32 : BitVec 32).toInt : ℤ) : ℝ) : EReal) = 0
  simp

/-! ## The normalised column -/

/-- The mean of a column. -/
def mean (f : ι → ℝ) : ℝ := (∑ j, f j) / Fintype.card ι

/-- The variance of a column: the mean of the squared deviations from the mean. -/
def variance (f : ι → ℝ) : ℝ := (∑ j, (f j - mean f) * (f j - mean f)) / Fintype.card ι

/-- The column normalised to mean zero and variance one, cut off below at zero. -/
def normed (f : ι → ℝ) (i : ι) : ℝ := max ((f i - mean f) / Real.sqrt (variance f + eps)) 0

/-- A variance is not negative. -/
theorem variance_nonneg (f : ι → ℝ) : 0 ≤ variance f :=
  div_nonneg (Finset.sum_nonneg fun _ _ => mul_self_nonneg _) (Nat.cast_nonneg _)

/-- A variance with the small number added is positive. -/
theorem variance_add_eps_pos (f : ι → ℝ) : 0 < variance f + eps := add_pos_of_nonneg_of_pos (variance_nonneg f) eps_pos

/-- The variance is the mean of the squares less the square of the mean. -/
theorem variance_eq (f : ι → ℝ) (h : 0 < Fintype.card ι) :
    variance f = (∑ j, f j * f j) / Fintype.card ι - mean f * mean f := by
  have hn : (Fintype.card ι : ℝ) ≠ 0 := by exact_mod_cast h.ne'
  have e : ∀ j, (f j - mean f) * (f j - mean f) = f j * f j - 2 * mean f * f j + mean f * mean f := fun j => by ring
  have s : ∑ j, f j = Fintype.card ι * mean f := by unfold mean; field_simp
  unfold variance
  rw [Finset.sum_congr rfl fun j _ => e j, Finset.sum_add_distrib, Finset.sum_sub_distrib, ← Finset.mul_sum, s,
    Finset.sum_const, Finset.card_univ, nsmul_eq_mul]
  field_simp
  ring

/-- Renaming the positions of a column renames those of the normalised column. -/
theorem normed_equiv (e : κ ≃ ι) (f : ι → ℝ) (k : κ) : normed (fun k => f (e k)) k = normed f (e k) := by
  have hc : Fintype.card κ = Fintype.card ι := Fintype.card_congr e
  have hm : mean (fun k => f (e k)) = mean f := by
    unfold mean; rw [hc, Equiv.sum_comp e f]
  have hv : variance (fun k => f (e k)) = variance f := by
    unfold variance; rw [hc, hm, Equiv.sum_comp e fun j => (f j - mean f) * (f j - mean f)]
  unfold normed
  rw [hm, hv]

/-- The normalised value computed from the column's sum `s` and sum of squares `q`. -/
theorem normed_of_moments (f : ι → ℝ) (i : ι) (n : ℝ) (hn : n = Fintype.card ι) (h : 0 < Fintype.card ι)
    {N ε s q : EReal} (hN : N = (n : EReal)) (hε : ε = (eps : EReal))
    (hs : s = ∑ j, (f j : EReal)) (hq : q = ∑ j, (f j : EReal) * (f j : EReal)) :
    max (((f i : EReal) - Ideal.div s N) * Ideal.rsqrt (Ideal.div q N - Ideal.div s N * Ideal.div s N + ε)) 0
      = ((normed f i : ℝ) : EReal) := by
  have h0 : n ≠ 0 := by rw [hn]; exact_mod_cast h.ne'
  have hs' : Ideal.div s N = ((mean f : ℝ) : EReal) := by
    rw [hs, hN, ← coe_sum, div_coe _ _ h0, mean, hn]
  have hq' : Ideal.div q N = (((∑ j, f j * f j) / n : ℝ) : EReal) := by
    rw [hq, hN]
    simp_rw [← EReal.coe_mul]
    rw [← coe_sum, div_coe _ _ h0]
  have hv : Ideal.div q N - Ideal.div s N * Ideal.div s N + ε = ((variance f + eps : ℝ) : EReal) := by
    rw [hs', hq', hε, ← EReal.coe_mul, ← EReal.coe_sub, ← EReal.coe_add, variance_eq f h, hn]
  rw [hv, hs', rsqrt_coe _ (variance_add_eps_pos f), ← EReal.coe_sub, ← EReal.coe_mul, ← EReal.coe_zero, max_coe, normed,
    div_eq_mul_inv]

/-- The normalised value computed from the column's sum `s` and the sum `q` of its squared deviations. -/
theorem normed_of_deviations (f : ι → ℝ) (i : ι) (n : ℝ) (hn : n = Fintype.card ι) (h : 0 < Fintype.card ι)
    {N ε s q : EReal} (hN : N = (n : EReal)) (hε : ε = (eps : EReal))
    (hs : s = ∑ j, (f j : EReal))
    (hq : q = ∑ j, ((f j : EReal) - Ideal.div s N) * ((f j : EReal) - Ideal.div s N)) :
    max (Ideal.div ((f i : EReal) - Ideal.div s N) (Ideal.sqrt (Ideal.div q N + ε))) 0 = ((normed f i : ℝ) : EReal) := by
  have h0 : n ≠ 0 := by rw [hn]; exact_mod_cast h.ne'
  have hs' : Ideal.div s N = ((mean f : ℝ) : EReal) := by
    rw [hs, hN, ← coe_sum, div_coe _ _ h0, mean, hn]
  have hq' : Ideal.div q N = ((variance f : ℝ) : EReal) := by
    rw [hq, hs', hN]
    simp_rw [← EReal.coe_sub, ← EReal.coe_mul]
    rw [← coe_sum, div_coe _ _ h0, variance, hn]
  rw [hq', hs', hε, ← EReal.coe_add, sqrt_coe _ (variance_add_eps_pos f).le, ← EReal.coe_sub,
    div_coe _ _ (Real.sqrt_pos.mpr (variance_add_eps_pos f)).ne', ← EReal.coe_zero, max_coe, normed]

/-! ## A layer -/

/-- One layer: at each position the products of the normalised channels with the weights, and the bias added. -/
def layer {C O : Nat} (f : ι → Fin C → ℝ) (W : Fin O → Fin C → ℝ) (β : Fin O → ℝ) (i : ι) (o : Fin O) : ℝ :=
  ∑ c, normed (fun j => f j c) i * W o c + β o

/-- A layer summed among the ideal values, each normalised channel, weight and bias being the real one. -/
theorem layer_coe {C O : Nat} (f : ι → Fin C → ℝ) (W : Fin O → Fin C → ℝ) (β : Fin O → ℝ) (i : ι) (o : Fin O)
    {x w : Fin C → EReal} {b : EReal} (hx : ∀ c, x c = ((normed (fun j => f j c) i : ℝ) : EReal))
    (hw : ∀ c, w c = ((W o c : ℝ) : EReal)) (hb : b = ((β o : ℝ) : EReal)) :
    ∑ c, x c * w c + b = ((layer f W β i o : ℝ) : EReal) := by
  rw [layer, EReal.coe_add, coe_sum, hb]
  exact congrArg (· + _) (Finset.sum_congr rfl fun c _ => by rw [hx, hw, EReal.coe_mul])

/-- Renaming the positions of a layer's operand renames those of the layer. -/
theorem layer_equiv {C O : Nat} (e : κ ≃ ι) (f : ι → Fin C → ℝ) (W : Fin O → Fin C → ℝ) (β : Fin O → ℝ) (k : κ)
    (o : Fin O) : layer (fun k => f (e k)) W β k o = layer f W β (e k) o := by
  unfold layer
  exact congrArg (· + _) (Finset.sum_congr rfl fun c _ => by rw [normed_equiv e fun j => f j c])

/-! ## Arrays that hold real rows, and arrays that hold their moments -/

/-- The array holds, for batch `b` and point `q`, the real values `f (b, q)`. -/
def Rows {B Q C : Nat} (X : FVec Ideal ⟨3, ![B, Q, C]⟩ .f32) (f : Fin B × Fin Q → Fin C → ℝ) : Prop :=
  ∀ b q k, X (ix3 b q k) = ((f (b, q) k : ℝ) : EReal)

/-- The array holds in row 0 of each batch the sums, and in row 1 the sums of squares, of the columns of `f`, of which
    only the totals over all batches matter. -/
def Moments {B Q C : Nat} (S : FVec Ideal ⟨3, ![B, 8, 256]⟩ .f32) (f : Fin B × Fin Q → Fin C → ℝ) : Prop :=
  ∀ (k : Fin C) (h : k.val < 256),
    ∑ b, S (ix3 b 0 ⟨k.val, h⟩) = ∑ p, ((f p k : ℝ) : EReal)
    ∧ ∑ b, S (ix3 b 1 ⟨k.val, h⟩) = ∑ p, ((f p k : ℝ) : EReal) * ((f p k : ℝ) : EReal)

/-- The array holds the real matrix `W`. -/
def Matrix {O C : Nat} (X : FVec Ideal ⟨2, ![O, C]⟩ .f32) (W : Fin O → Fin C → ℝ) : Prop :=
  ∀ o k, X (ix2 o k) = ((W o k : ℝ) : EReal)

/-! ## Positions: a batch and the points in it, or a batch, a group and the points of the group -/

/-- A group and a place in it against the place in the batch, the groups laid end to end. -/
def place (b r s : Nat) : Fin b × Fin r × Fin s ≃ Fin b × Fin (r * s) :=
  Equiv.prodCongr (Equiv.refl _) finProdFinEquiv

/-- The group of a point of a batch whose points lie in groups of 32. -/
def group {P : Nat} (q : Fin (P * 32)) : Fin P := ⟨q.val / 32, by omega⟩

/-- The sum over batches of the sums over the points of a batch is the sum over all positions. -/
theorem sum_sum {b q : Nat} (g : Fin b × Fin q → EReal) : ∑ i, ∑ j, g (i, j) = ∑ p, g p :=
  (Fintype.sum_prod_type g).symm

/-- The array holds, for batch `b`, group `r` and place `s`, the real values of `f` at that place of the batch. -/
def Grouped {B R S C : Nat} (X : FVec Ideal ⟨4, ![B, R, S, C]⟩ .f32) (f : Fin B × Fin (R * S) → Fin C → ℝ) : Prop :=
  ∀ b r s k, X (ix4 b r s k) = ((f (place B R S (b, r, s)) k : ℝ) : EReal)

/-- The sum of an array over its first three axes, at a channel: the sum over all places. -/
theorem hostReduceAdd_columns {B R S C : Nat} (h : (⟨4, ![B, R, S, C]⟩ : Shape).ReducesTo [0, 1, 2] ⟨1, ![C]⟩)
    (X : FVec Ideal ⟨4, ![B, R, S, C]⟩ .f32) (z : EReal) (k : Fin C) :
    Ideal.hostReduceAdd h X z (ix1 k) = z + ∑ p : Fin B × Fin R × Fin S, X (ix4 p.1 p.2.1 p.2.2 k) := by
  unfold Ideal.hostReduceAdd
  congr 1
  symm
  refine Finset.sum_bij (fun p _ => ix4 p.1 p.2.1 p.2.2 k) (fun p _ => ?_) (fun p _ p' _ e => ?_) (fun i hi => ?_) (fun _ _ => rfl)
  · refine Finset.mem_filter.mpr ⟨Finset.mem_univ _, funext fun a => ?_⟩
    have ha : a = 0 := Subsingleton.elim _ _
    subst ha
    rfl
  · have h0 := congrFun e 0; have h1 := congrFun e 1; have h2 := congrFun e 2
    exact Prod.ext h0 (Prod.ext h1 h2)
  · have hk : i 3 = k := Fin.ext (congrArg Fin.val (congrFun (Finset.mem_filter.mp hi).2 0))
    refine ⟨(i 0, i 1, i 2), Finset.mem_univ _, ?_⟩
    funext a
    match a with
    | ⟨0, _⟩ => rfl
    | ⟨1, _⟩ => rfl
    | ⟨2, _⟩ => rfl
    | ⟨3, _⟩ => exact hk.symm

/-- A grouped array normalised as the references write it: its mean and variance from sums over the first three axes, the
    variance taken only where the count, less the zero degrees of freedom given up, is positive. -/
theorem normed_of_grouped {B R S C : Nat} {X : FVec Ideal ⟨4, ![B, R, S, C]⟩ .f32} {f : Fin B × Fin (R * S) → Fin C → ℝ}
    (hX : Grouped X f) (n : ℝ) (hn : n = Fintype.card (Fin B × Fin (R * S))) (h : 0 < Fintype.card (Fin B × Fin (R * S)))
    {N ε : EReal} (hN : N = (n : EReal)) (hε : ε = (eps : EReal)) (b : Fin B) (r : Fin R) (s : Fin S) (k : Fin C) (z : EReal) :
    max (Ideal.div (X (ix4 b r s k) - Ideal.div (∑ p : Fin B × Fin R × Fin S, X (ix4 p.1 p.2.1 p.2.2 k)) N)
      (Ideal.sqrt ((if 0 < N - (FloatOps.sitofp .f32 (0#32 : BitVec 32) : Ideal .f32) then
          Ideal.div (∑ p : Fin B × Fin R × Fin S,
            (X (ix4 p.1 p.2.1 p.2.2 k) - Ideal.div (∑ p : Fin B × Fin R × Fin S, X (ix4 p.1 p.2.1 p.2.2 k)) N)
              * (X (ix4 p.1 p.2.1 p.2.2 k) - Ideal.div (∑ p : Fin B × Fin R × Fin S, X (ix4 p.1 p.2.1 p.2.2 k)) N))
            (N - (FloatOps.sitofp .f32 (0#32 : BitVec 32) : Ideal .f32))
        else z) + ε))) 0
      = ((normed (fun p => f p k) (place B R S (b, r, s)) : ℝ) : EReal) := by
  have e : ∀ p : Fin B × Fin R × Fin S, X (ix4 p.1 p.2.1 p.2.2 k) = ((f (place B R S p) k : ℝ) : EReal) := fun p => hX _ _ _ _
  have hz : N - (FloatOps.sitofp .f32 (0#32 : BitVec 32) : Ideal .f32) = N := by rw [sitofp_zero, sub_zero]
  have hpos : 0 < N := by
    rw [hN, hn]; exact_mod_cast h
  rw [hz, if_pos hpos, hX b r s k]
  simp only [e]
  exact normed_of_deviations (fun p => f p k) (place B R S (b, r, s)) n hn h hN hε
    (Equiv.sum_comp (place B R S) fun p => ((f p k : ℝ) : EReal))
    (Equiv.sum_comp (place B R S) fun p => (((f p k : ℝ) : EReal) - Ideal.div _ N) * (((f p k : ℝ) : EReal) - Ideal.div _ N))

/-- The greatest value over pairs is the greatest over the second of the greatest over the first. -/
theorem sup_pairs {A B : Type} [Fintype A] [Fintype B] (f : A × B → EReal) :
    Finset.univ.sup f = Finset.univ.sup fun b => Finset.univ.sup fun a => f (a, b) := by
  rw [← Finset.univ_product_univ, Finset.sup_product_right]

/-! ## The first layer of an abstraction: six channels, of which the first three are taken less a centre's -/

/-- The six channels of a row, the first three less those of its centre. -/
def offset (g : Fin 6 → ℝ) (z : Fin 3 → ℝ) (k : Fin 6) : ℝ := if h : k.val < 3 then g k - z ⟨k.val, h⟩ else g k

/-- The products of these channels with the weights, and the bias added. -/
def lift {O : Nat} (g : Fin 6 → ℝ) (z : Fin 3 → ℝ) (W : Fin O → Fin 6 → ℝ) (β : Fin O → ℝ) (o : Fin O) : ℝ :=
  ∑ k, offset g z k * W o k + β o

/-- The products of a whole row, whose weights past the sixth channel are zero, less those of its centre, and the bias
    added: the products of the offset channels and the bias. The centre's products are subtracted once, after the sum. -/
theorem lift_coe {O : Nat} (g : Fin 6 → ℝ) (z : Fin 3 → ℝ) (W : Fin O → Fin 6 → ℝ) (β : Fin O → ℝ) (o : Fin O)
    {x w : Fin 128 → EReal} {y : Fin 3 → EReal} {b : EReal}
    (hx : ∀ k : Fin 6, x ⟨k.val, by omega⟩ = ((g k : ℝ) : EReal)) (hy : ∀ k, y k = ((z k : ℝ) : EReal))
    (hw : ∀ k : Fin 6, w ⟨k.val, by omega⟩ = ((W o k : ℝ) : EReal)) (h0 : ∀ k : Fin 128, 6 ≤ k.val → w k = 0)
    (hb : b = ((β o : ℝ) : EReal)) :
    ∑ k, x k * w k - ∑ k : Fin 3, y k * w ⟨k.val, by omega⟩ + b = ((lift g z W β o : ℝ) : EReal) := by
  have e1 : ∑ k, x k * w k = ((∑ k, g k * W o k : ℝ) : EReal) := by
    have s := Fin.sum_univ_add (fun k : Fin (6 + 122) => x k * w k)
    refine s.trans ?_
    rw [Finset.sum_eq_zero (s := Finset.univ) (f := fun k : Fin 122 => x (Fin.natAdd 6 k) * w (Fin.natAdd 6 k))
      (fun k _ => by rw [h0 (Fin.natAdd 6 k) (by simp), mul_zero]), add_zero, coe_sum]
    exact Finset.sum_congr rfl fun k _ => by rw [EReal.coe_mul, ← hx, ← hw]; rfl
  have e2 : ∑ k : Fin 3, y k * w ⟨k.val, by omega⟩ = ((∑ k : Fin 3, z k * W o ⟨k.val, by omega⟩ : ℝ) : EReal) := by
    rw [coe_sum]
    exact Finset.sum_congr rfl fun k _ => by rw [EReal.coe_mul, hy, ← hw]
  rw [e1, e2, hb, ← EReal.coe_sub, ← EReal.coe_add]
  congr 1
  unfold lift offset
  simp only [Fin.sum_univ_succ, Fin.sum_univ_zero]
  simp
  ring

/-- The same channels summed in two halves, the centre subtracted channel by channel. -/
theorem lift_halves {O : Nat} (g : Fin 6 → ℝ) (z : Fin 3 → ℝ) (W : Fin O → Fin 6 → ℝ) (β : Fin O → ℝ) (o : Fin O)
    {x x' y w w' : Fin 3 → EReal} {b : EReal} (hx : ∀ k, x k = ((g ⟨k.val, by omega⟩ : ℝ) : EReal))
    (hx' : ∀ k, x' k = ((g ⟨3 + k.val, by omega⟩ : ℝ) : EReal)) (hy : ∀ k, y k = ((z k : ℝ) : EReal))
    (hw : ∀ k, w k = ((W o ⟨k.val, by omega⟩ : ℝ) : EReal)) (hw' : ∀ k, w' k = ((W o ⟨3 + k.val, by omega⟩ : ℝ) : EReal))
    (hb : b = ((β o : ℝ) : EReal)) :
    ∑ k, (x k - y k) * w k + ∑ k, x' k * w' k + b = ((lift g z W β o : ℝ) : EReal) := by
  simp only [hx, hx', hy, hw, hw', hb, ← EReal.coe_sub, ← EReal.coe_mul, ← coe_sum, ← EReal.coe_add]
  congr 1
  unfold lift offset
  simp only [Fin.sum_univ_succ, Fin.sum_univ_zero]
  simp
  ring

/-! ## Preconditions: one bit that says something of every element -/

/-- A conjunction of bits over all elements is one exactly if every bit is. -/
theorem fold_andi (f : ι → BitVec 1) : Finset.univ.fold IntOp.andi 1#1 f = 1#1 ↔ ∀ k, f k = 1#1 := by
  have key : ∀ s : Finset ι, s.fold IntOp.andi 1#1 f = 1#1 ↔ ∀ k ∈ s, f k = 1#1 := by
    classical
    intro s
    induction s using Finset.induction_on with
    | empty => simp
    | insert a s ha ih => rw [Finset.fold_insert ha, IntOp.andi_eq_one, ih, Finset.forall_mem_insert]
  simpa using key Finset.univ

/-- The bit that says that a value lies strictly between the infinities says that it is a real. -/
theorem coe_toReal_of_bit {x : EReal}
    (h : BitVec.ofBool (decide ((FloatOps.absf (F := Ideal) (φ := .f32) x : EReal) < Ideal.ofBits .f32 2139095040#32)) = 1#1) :
    x = ((x.toReal : ℝ) : EReal) := by
  have e : Ideal.ofBits .f32 2139095040#32 = (⊤ : EReal) := by simp [Ideal.ofBits, Ideal.ieee]
  rw [e] at h
  refine (coe_toReal_of_abs_lt ?_).symm
  by_contra hn
  rw [decide_eq_false (show ¬ (FloatOps.absf (F := Ideal) (φ := .f32) x : EReal) < ⊤ from hn)] at h
  exact absurd h (by decide)

/-- The bit of a decided proposition is one only where it holds. -/
theorem of_bit {p : Prop} [Decidable p] (h : BitVec.ofBool (decide p) = 1#1) : p := by
  by_contra hn
  rw [decide_eq_false hn] at h
  exact absurd h (by decide)

end Cert.Proof.Norm

end
-- ==== Proof.FeaturesValue.lean ====
/-
  WHAT THE FIRST FOUR CALLS AFTER THE GATHER LEAVE. The call that multiplies the gathered rows, the two that normalise and
  multiply, and the one that normalises and takes the maxima of the groups are read block by block at the ideal values:
  each leaves the real layer of the real rows it finds, and beside it the moments of what it leaves.
-/
module

public import proofs.«01_k».proof.Proof.Norm
public import proofs.«01_k».proof.Proof.Gen.FeaturesIdeal.Frame
public import Idealize.ShloMosaic.Lib.Pipeline.ValueKit

@[expose] public section

set_option maxRecDepth 16384

noncomputable section

namespace Cert.Proof.FeaturesValue

open Idealize.ShloMosaic Idealize.ShloMosaic.TcCoe
open Cert.FeaturesIdeal Cert.FeaturesIdeal.Gen
open Cert.Proof.Norm

/-- All positions of the 16 batches of 4096 points: 128 groups of 32. -/
abbrev Pos : Type := Fin 16 × Fin 4096

/-- The number of positions, as the programs write it. -/
theorem card_pos : ((65536 : ℝ)) = (Fintype.card Pos : ℝ) := by simp [Pos]

/-- There are positions. -/
theorem card_pos_pos : 0 < Fintype.card Pos := by simp [Pos]

/-! ## The first call: the six channels of the rows less their centres -/

section First

variable {v0 : Vec Ideal S1x4096x128 .f32} {v2 : Vec Ideal S1x8x128 .f32} {v5 : Vec Ideal S64x128 .f32}
  {v14 : Vec Ideal S1x64 .f32} {G : Pos → Fin 6 → ℝ} {Z : Fin 16 × Fin 128 → Fin 3 → ℝ} {W : Fin 64 → Fin 6 → ℝ}
  {β : Fin 64 → ℝ} (t : Fin 16)

/-- A block of rows of batch `t` becomes the products of the offset channels of these rows. -/
theorem first_rows (h0 : ∀ q (k : Fin 6), v0 (ix3 0 q ⟨k.val, by omega⟩) = ((G (t, q) k : ℝ) : EReal))
    (h2 : ∀ p (k : Fin 3), v2 (ix3 0 ⟨k.val, by omega⟩ p) = ((Z (t, p) k : ℝ) : EReal))
    (hW : ∀ o (k : Fin 6), v5 (ix2 o ⟨k.val, by omega⟩) = ((W o k : ℝ) : EReal))
    (hW0 : ∀ o (k : Fin 128), 6 ≤ k.val → v5 (ix2 o k) = (0 : EReal))
    (hb : ∀ o, v14 (ix2 0 o) = ((β o : ℝ) : EReal)) (q : Fin 4096) (o : Fin 64) :
    k0_pay1 v0 v2 v5 v14 (ix2 q o) = ((lift (G (t, q)) (Z (t, group (P := 128) q)) W β o : ℝ) : EReal) := by
  unfold k0_pay1
  pointwise
  refine lift_coe (G (t, q)) (Z (t, group (P := 128) q)) W β o (fun k => h0 q k) (fun k => ?_) (fun k => hW o k) (fun k h => hW0 o k h) (hb o)
  exact h2 (group (P := 128) q) k

/-- The block written back is the block of rows. -/
theorem first_block (q : Fin 4096) (o : Fin 64) : k0_pay2 v0 v2 v5 v14 (ix3 0 q o) = k0_pay1 v0 v2 v5 v14 (ix2 q o) := by
  unfold k0_pay2
  pointwise

/-- The moments of the block are those of the block of rows, as the second call takes them. -/
theorem first_stats : k0_pay3 v0 v2 v5 v14 = k1_pay1 (k0_pay1 v0 v2 v5 v14) := rfl

end First

/-! ## The second call: 64 channels to 64 -/

section Second

variable {v0 : Vec Ideal S1x4096x64 .f32} {v2 : Vec Ideal S16x8x256 .f32} {v29 : Vec Ideal S64x64 .f32}
  {v31 : Vec Ideal S1x64 .f32} {Y : Pos → Fin 64 → ℝ} {W : Fin 64 → Fin 64 → ℝ} {β : Fin 64 → ℝ} (t : Fin 16)

/-- A block of rows of batch `t` becomes the layer of these rows. -/
theorem second_rows (h0 : ∀ q x, v0 (ix3 0 q x) = ((Y (t, q) x : ℝ) : EReal)) (h2 : Moments v2 Y) (hW : Matrix v29 W)
    (hb : ∀ o, v31 (ix2 0 o) = ((β o : ℝ) : EReal)) (q : Fin 4096) (o : Fin 64) :
    k1_pay2 v0 v2 v29 v31 (ix2 q o) = ((layer Y W β (t, q) o : ℝ) : EReal) := by
  unfold k1_pay2
  pointwise
  refine layer_coe Y W β (t, q) o (fun c => ?_) (fun c => hW o c) (hb o)
  rw [h0]
  exact normed_of_moments (fun p => Y p c) (t, q) _ card_pos card_pos_pos ofBits_65536 ofBits_eps (h2 c (by omega)).1 (h2 c (by omega)).2

/-- The block written back is the block of rows. -/
theorem second_block (q : Fin 4096) (o : Fin 64) : k1_pay3 v0 v2 v29 v31 (ix3 0 q o) = k1_pay2 v0 v2 v29 v31 (ix2 q o) := by
  unfold k1_pay3 k1_pay2
  pointwise

end Second

/-- Row 0 of the moments of a block holds the sums of its columns. -/
theorem second_sum (v : FVec Ideal S4096x64 .f32) (k : Fin 64) (h : k.val < 256) :
    k1_pay1 v (ix3 0 0 ⟨k.val, h⟩) = ∑ q, v (ix2 q k) := by
  unfold k1_pay1
  pointwise

/-- Row 1 of the moments of a block holds the sums of the squares of its columns. -/
theorem second_square (v : FVec Ideal S4096x64 .f32) (k : Fin 64) (h : k.val < 256) :
    k1_pay1 v (ix3 0 1 ⟨k.val, h⟩) = ∑ q, v (ix2 q k) * v (ix2 q k) := by
  unfold k1_pay1
  pointwise

/-! ## The third call: 64 channels to 128 -/

section Third

variable {v0 : Vec Ideal S1x4096x64 .f32} {v2 : Vec Ideal S16x8x256 .f32} {v29 : Vec Ideal S128x64 .f32}
  {v31 : Vec Ideal S1x128 .f32} {Y : Pos → Fin 64 → ℝ} {W : Fin 128 → Fin 64 → ℝ} {β : Fin 128 → ℝ} (t : Fin 16)

/-- A block of rows of batch `t` becomes the layer of these rows. -/
theorem third_rows (h0 : ∀ q x, v0 (ix3 0 q x) = ((Y (t, q) x : ℝ) : EReal)) (h2 : Moments v2 Y) (hW : Matrix v29 W)
    (hb : ∀ o, v31 (ix2 0 o) = ((β o : ℝ) : EReal)) (q : Fin 4096) (o : Fin 128) :
    k2_pay2 v0 v2 v29 v31 (ix2 q o) = ((layer Y W β (t, q) o : ℝ) : EReal) := by
  unfold k2_pay2
  pointwise
  refine layer_coe Y W β (t, q) o (fun c => ?_) (fun c => hW o c) (hb o)
  rw [h0]
  exact normed_of_moments (fun p => Y p c) (t, q) _ card_pos card_pos_pos ofBits_65536 ofBits_eps (h2 c (by omega)).1 (h2 c (by omega)).2

/-- The block written back is the block of rows. -/
theorem third_block (q : Fin 4096) (o : Fin 128) : k2_pay3 v0 v2 v29 v31 (ix3 0 q o) = k2_pay2 v0 v2 v29 v31 (ix2 q o) := by
  unfold k2_pay3 k2_pay2
  pointwise

end Third

/-- Row 0 of the moments of a block holds the sums of its columns. -/
theorem third_sum (v : FVec Ideal S4096x128 .f32) (k : Fin 128) (h : k.val < 256) :
    k2_pay1 v (ix3 0 0 ⟨k.val, h⟩) = ∑ q, v (ix2 q k) := by
  unfold k2_pay1
  pointwise

/-- Row 1 of the moments of a block holds the sums of the squares of its columns. -/
theorem third_square (v : FVec Ideal S4096x128 .f32) (k : Fin 128) (h : k.val < 256) :
    k2_pay1 v (ix3 0 1 ⟨k.val, h⟩) = ∑ q, v (ix2 q k) * v (ix2 q k) := by
  unfold k2_pay1
  pointwise

/-! ## The fourth call: the maximum over the places of a group -/

/-- Entry `(p, o)` of batch `t` is the greatest normalised value of channel `o` in group `p`. -/
theorem fourth_maxima {v0 : Vec Ideal S1x4096x128 .f32} {v2 : Vec Ideal S16x8x256 .f32} {Y : Pos → Fin 128 → ℝ} (t : Fin 16)
    (h0 : ∀ q x, v0 (ix3 0 q x) = ((Y (t, q) x : ℝ) : EReal)) (h2 : Moments v2 Y) (p : Fin 128) (o : Fin 128) :
    k3_pay1 v0 v2 (ix3 0 p o)
      = Finset.univ.sup fun s : Fin 32 => ((normed (fun p => Y p o) (t, finProdFinEquiv (p, s)) : ℝ) : EReal) := by
  unfold k3_pay1
  pointwise
  rw [ofBits_bot]
  show Finset.univ.sup _ = _
  refine congrArg _ (funext fun s => ?_)
  have e : (⟨p.val * 32 + s.val, by omega⟩ : Fin 4096) = finProdFinEquiv (p, s) :=
    Fin.ext (by simp [finProdFinEquiv]; omega)
  rw [h0, e]
  exact normed_of_moments (fun p => Y p o) (t, finProdFinEquiv (p, s)) _ card_pos card_pos_pos ofBits_65536 ofBits_eps
    (h2 o (by omega)).1 (h2 o (by omega)).2

/-! ## The arrays after each call -/

section Arrays

variable (V : (c : Dev nD) → (b : Ref sig .tc) → Buf (Elt Ideal) ((c : Thread nD τ).loc b)) (c : Dev nD)

/-- Where each window of the first call is at a point of its grid. -/
theorem index0 : ∀ t : Fin cfg0.N, win0_0.index t = ![(grid0.coords t 0).val, 0, 0] ∧ win0_1.index t = ![(grid0.coords t 0).val, 0, 0]
    ∧ win0_2.index t = ![0, 0] ∧ win0_3.index t = ![0, 0] ∧ win0_4.index t = ![(grid0.coords t 0).val, 0, 0]
    ∧ win0_5.index t = ![(grid0.coords t 0).val, 0, 0] := by decide +kernel

/-- Where each window of the second call is at a point of its grid. -/
theorem index1 : ∀ t : Fin cfg1.N, win1_0.index t = ![(grid1.coords t 0).val, 0, 0] ∧ win1_1.index t = ![0, 0, 0]
    ∧ win1_2.index t = ![0, 0] ∧ win1_3.index t = ![0, 0] ∧ win1_4.index t = ![(grid1.coords t 0).val, 0, 0]
    ∧ win1_5.index t = ![(grid1.coords t 0).val, 0, 0] := by decide +kernel

/-- Where each window of the third call is at a point of its grid. -/
theorem index2 : ∀ t : Fin cfg2.N, win2_0.index t = ![(grid2.coords t 0).val, 0, 0] ∧ win2_1.index t = ![0, 0, 0]
    ∧ win2_2.index t = ![0, 0] ∧ win2_3.index t = ![0, 0] ∧ win2_4.index t = ![(grid2.coords t 0).val, 0, 0]
    ∧ win2_5.index t = ![(grid2.coords t 0).val, 0, 0] := by decide +kernel

/-- Where each window of the fourth call is at a point of its grid. -/
theorem index3 : ∀ t : Fin cfg3.N, win3_0.index t = ![(grid3.coords t 0).val, 0, 0] ∧ win3_1.index t = ![0, 0, 0]
    ∧ win3_2.index t = ![(grid3.coords t 0).val, 0, 0] := by decide +kernel

section
variable {G : Pos → Fin 6 → ℝ} {Z : Fin 16 × Fin 128 → Fin 3 → ℝ} {W : Fin 64 → Fin 6 → ℝ} {β : Fin 64 → ℝ}
  (hX : ∀ b q (k : Fin 6), (V c main_v0 : FVec Ideal S16x4096x128 .f32) (ix3 b q ⟨k.val, by omega⟩) = ((G (b, q) k : ℝ) : EReal))
  (hZ : ∀ b p (k : Fin 3), (V c main_arg1 : FVec Ideal S16x8x128 .f32) (ix3 b ⟨k.val, by omega⟩ p) = ((Z (b, p) k : ℝ) : EReal))
  (hW : ∀ o (k : Fin 6), (V c main_v1 : FVec Ideal S64x128 .f32) (ix2 o ⟨k.val, by omega⟩) = ((W o k : ℝ) : EReal))
  (hW0 : ∀ o (k : Fin 128), 6 ≤ k.val → (V c main_v1 : FVec Ideal S64x128 .f32) (ix2 o k) = (0 : EReal))
  (hb : ∀ o, (V c main_v2 : FVec Ideal S1x64 .f32) (ix2 0 o) = ((β o : ℝ) : EReal))
include hX hZ hW hW0 hb

/-- The block of rows that the first call computes at a point of its grid. -/
theorem first_at (t : Fin cfg0.N) (q : Fin 4096) (o : Fin 64) :
    k0_pay1 (iblk0 V c 0 t) (iblk0 V c 1 t) (iblk0 V c 2 t) (iblk0 V c 3 t) (ix2 q o)
      = ((lift (G (grid0.coords t 0, q)) (Z (grid0.coords t 0, group (P := 128) q)) W β o : ℝ) : EReal) := by
  refine first_rows (grid0.coords t 0) (fun q k => ?_) (fun p k => ?_) (fun o k => ?_) (fun o k h => ?_) (fun o => ?_) q o
  · exact (show _ = V c main_v0 (ix3 (grid0.coords t 0) q ⟨k.val, by omega⟩) by blk_ext [iblk0, (index0 t).1]).trans (hX _ q k)
  · exact (show _ = V c main_arg1 (ix3 (grid0.coords t 0) ⟨k.val, by omega⟩ p) by blk_ext [iblk0, (index0 t).2.1]).trans (hZ _ p k)
  · exact (show _ = V c main_v1 (ix2 o ⟨k.val, by omega⟩) by blk_ext [iblk0, (index0 t).2.2.1]).trans (hW o k)
  · exact (show _ = V c main_v1 (ix2 o k) by blk_ext [iblk0, (index0 t).2.2.1]).trans (hW0 o k h)
  · exact (show _ = V c main_v2 (ix2 0 o) by blk_ext [iblk0, (index0 t).2.2.2.1]).trans (hb o)

/-- After the first call its rows are the products of the offset channels. -/
theorem first_array : Rows ((dat0 V c).arrAt 4 cfg0.N : FVec Ideal S16x4096x64 .f32)
    (fun p => lift (G p) (Z (p.1, group (P := 128) p.2)) W β) := by
  have e : (dat0 V c).arrAt 4 cfg0.N = fun i : S16x4096x64.Idx =>
      ((lift (G (i 0, i 1)) (Z (i 0, group (P := 128) (i 1))) W β (i 2) : ℝ) : EReal) := by
    refine (dat0 V c).arrAt_eq_of_covers 4 _ (by decide +kernel) fun t hf y => ?_
    blk_simp
    rw [after0_4]
    frame_out
    rw [show (((View.whole main_v3_0).slice (win0_4.rect t)).emb y) = ix3 (grid0.coords t 0) ⟨(y 1).val, (y 1).isLt⟩ ⟨(y 2).val, (y 2).isLt⟩ by
      blk_ext [(index0 t).2.2.2.2.1]]
    refine Eq.trans ?_ (first_at V c hX hZ hW hW0 hb t ⟨(y 1).val, (y 1).isLt⟩ ⟨(y 2).val, (y 2).isLt⟩)
    rw [← first_block]
    congr 1
    blk_ext
  intro b q k
  exact congrFun e (ix3 b q k)

/-- After the first call its moments are those of its rows. -/
theorem first_moments : Moments ((dat0 V c).arrAt 5 cfg0.N : FVec Ideal S16x8x256 .f32)
    (fun p => lift (G p) (Z (p.1, group (P := 128) p.2)) W β) := by
  have e : (dat0 V c).arrAt 5 cfg0.N = fun i : S16x8x256.Idx =>
      k1_pay1 (F := Ideal) (fun j => ((lift (G (i 0, j 0)) (Z (i 0, group (P := 128) (j 0))) W β (j 1) : ℝ) : EReal)) (ix3 0 (i 1) (i 2)) := by
    refine (dat0 V c).arrAt_eq_of_covers 5 _ (by decide +kernel) fun t hf y => ?_
    blk_simp
    rw [after0_5]
    frame_out
    rw [show (((View.whole main_v3_1).slice (win0_5.rect t)).emb y) = ix3 (grid0.coords t 0) ⟨(y 1).val, (y 1).isLt⟩ ⟨(y 2).val, (y 2).isLt⟩ by
      blk_ext [(index0 t).2.2.2.2.2]]
    rw [first_stats]
    refine congr (congrArg k1_pay1 (funext fun j => ?_)) ?_
    · idx_vars j
      exact first_at V c hX hZ hW hW0 hb t _ _
    · blk_ext
  intro k h
  refine ⟨?_, ?_⟩
  · rw [e]
    refine (Finset.sum_congr rfl fun b _ => second_sum _ k h).trans ?_
    exact sum_sum fun p : Pos => ((lift (G p) (Z (p.1, group (P := 128) p.2)) W β k : ℝ) : EReal)
  · rw [e]
    refine (Finset.sum_congr rfl fun b _ => second_square _ k h).trans ?_
    exact sum_sum fun p : Pos => ((lift (G p) (Z (p.1, group (P := 128) p.2)) W β k : ℝ) : EReal) * ((lift (G p) (Z (p.1, group (P := 128) p.2)) W β k : ℝ) : EReal)

end

section
variable {Y : Pos → Fin 64 → ℝ} {W : Fin 64 → Fin 64 → ℝ} {β : Fin 64 → ℝ}
  (hX : Rows (V c main_v3_0 : FVec Ideal S16x4096x64 .f32) Y) (hS : Moments (V c main_v3_1 : FVec Ideal S16x8x256 .f32) Y)
  (hW : Matrix (V c main_arg4 : FVec Ideal S64x64 .f32) W)
  (hb : ∀ o, (V c main_v4 : FVec Ideal S1x64 .f32) (ix2 0 o) = ((β o : ℝ) : EReal))
include hX hS hW hb

/-- The block of rows that the second call computes at a point of its grid. -/
theorem second_at (t : Fin cfg1.N) (q : Fin 4096) (o : Fin 64) :
    k1_pay2 (iblk1 V c 0 t) (iblk1 V c 1 t) (iblk1 V c 2 t) (iblk1 V c 3 t) (ix2 q o)
      = ((layer Y W β (grid1.coords t 0, q) o : ℝ) : EReal) := by
  refine second_rows (grid1.coords t 0) (fun q x => ?_) (fun k h => ?_) (fun o k => ?_) (fun o => ?_) q o
  · exact (show _ = V c main_v3_0 (ix3 (grid1.coords t 0) q x) by blk_ext [iblk1, (index1 t).1]).trans (hX _ q x)
  · have e : ∀ (b : Fin 16) (r : Fin 8) (x : Fin 256), iblk1 V c 1 t (ix3 b r x) = V c main_v3_1 (ix3 b r x) := fun b r x => by
      blk_ext [iblk1, (index1 t).2.1]
    simp only [e]
    exact hS k h
  · exact (show _ = V c main_arg4 (ix2 o k) by blk_ext [iblk1, (index1 t).2.2.1]).trans (hW o k)
  · exact (show _ = V c main_v4 (ix2 0 o) by blk_ext [iblk1, (index1 t).2.2.2.1]).trans (hb o)

/-- After the second call its rows are the layer. -/
theorem second_array : Rows ((dat1 V c).arrAt 4 cfg1.N : FVec Ideal S16x4096x64 .f32) (layer Y W β) := by
  have e : (dat1 V c).arrAt 4 cfg1.N = fun i : S16x4096x64.Idx => ((layer Y W β (i 0, i 1) (i 2) : ℝ) : EReal) := by
    refine (dat1 V c).arrAt_eq_of_covers 4 _ (by decide +kernel) fun t hf y => ?_
    blk_simp
    rw [after1_4]
    frame_out
    rw [show (((View.whole main_v5_0).slice (win1_4.rect t)).emb y) = ix3 (grid1.coords t 0) ⟨(y 1).val, (y 1).isLt⟩ ⟨(y 2).val, (y 2).isLt⟩ by
      blk_ext [(index1 t).2.2.2.2.1]]
    refine Eq.trans ?_ (second_at V c hX hS hW hb t ⟨(y 1).val, (y 1).isLt⟩ ⟨(y 2).val, (y 2).isLt⟩)
    rw [← second_block]
    congr 1
    blk_ext
  intro b q k
  exact congrFun e (ix3 b q k)

/-- After the second call its moments are those of the layer. -/
theorem second_moments : Moments ((dat1 V c).arrAt 5 cfg1.N : FVec Ideal S16x8x256 .f32) (layer Y W β) := by
  have e : (dat1 V c).arrAt 5 cfg1.N = fun i : S16x8x256.Idx =>
      k1_pay1 (F := Ideal) (fun j => ((layer Y W β (i 0, j 0) (j 1) : ℝ) : EReal)) (ix3 0 (i 1) (i 2)) := by
    refine (dat1 V c).arrAt_eq_of_covers 5 _ (by decide +kernel) fun t hf y => ?_
    blk_simp
    rw [after1_5]
    frame_out
    rw [show (((View.whole main_v5_1).slice (win1_5.rect t)).emb y) = ix3 (grid1.coords t 0) ⟨(y 1).val, (y 1).isLt⟩ ⟨(y 2).val, (y 2).isLt⟩ by
      blk_ext [(index1 t).2.2.2.2.2]]
    refine congr (congrArg k1_pay1 (funext fun j => ?_)) ?_
    · idx_vars j
      exact second_at V c hX hS hW hb t _ _
    · blk_ext
  intro k h
  refine ⟨?_, ?_⟩
  · rw [e]
    refine (Finset.sum_congr rfl fun b _ => second_sum _ k h).trans ?_
    exact sum_sum fun p => ((layer Y W β p k : ℝ) : EReal)
  · rw [e]
    refine (Finset.sum_congr rfl fun b _ => second_square _ k h).trans ?_
    exact sum_sum fun p => ((layer Y W β p k : ℝ) : EReal) * ((layer Y W β p k : ℝ) : EReal)

end

section
variable {Y : Pos → Fin 64 → ℝ} {W : Fin 128 → Fin 64 → ℝ} {β : Fin 128 → ℝ}
  (hX : Rows (V c main_v5_0 : FVec Ideal S16x4096x64 .f32) Y) (hS : Moments (V c main_v5_1 : FVec Ideal S16x8x256 .f32) Y)
  (hW : Matrix (V c main_arg6 : FVec Ideal S128x64 .f32) W)
  (hb : ∀ o, (V c main_v6 : FVec Ideal S1x128 .f32) (ix2 0 o) = ((β o : ℝ) : EReal))
include hX hS hW hb

/-- The block of rows that the third call computes at a point of its grid. -/
theorem third_at (t : Fin cfg2.N) (q : Fin 4096) (o : Fin 128) :
    k2_pay2 (iblk2 V c 0 t) (iblk2 V c 1 t) (iblk2 V c 2 t) (iblk2 V c 3 t) (ix2 q o)
      = ((layer Y W β (grid2.coords t 0, q) o : ℝ) : EReal) := by
  refine third_rows (grid2.coords t 0) (fun q x => ?_) (fun k h => ?_) (fun o k => ?_) (fun o => ?_) q o
  · exact (show _ = V c main_v5_0 (ix3 (grid2.coords t 0) q x) by blk_ext [iblk2, (index2 t).1]).trans (hX _ q x)
  · have e : ∀ (b : Fin 16) (r : Fin 8) (x : Fin 256), iblk2 V c 1 t (ix3 b r x) = V c main_v5_1 (ix3 b r x) := fun b r x => by
      blk_ext [iblk2, (index2 t).2.1]
    simp only [e]
    exact hS k h
  · exact (show _ = V c main_arg6 (ix2 o k) by blk_ext [iblk2, (index2 t).2.2.1]).trans (hW o k)
  · exact (show _ = V c main_v6 (ix2 0 o) by blk_ext [iblk2, (index2 t).2.2.2.1]).trans (hb o)

/-- After the third call its rows are the layer. -/
theorem third_array : Rows ((dat2 V c).arrAt 4 cfg2.N : FVec Ideal S16x4096x128 .f32) (layer Y W β) := by
  have e : (dat2 V c).arrAt 4 cfg2.N = fun i : S16x4096x128.Idx => ((layer Y W β (i 0, i 1) (i 2) : ℝ) : EReal) := by
    refine (dat2 V c).arrAt_eq_of_covers 4 _ (by decide +kernel) fun t hf y => ?_
    blk_simp
    rw [after2_4]
    frame_out
    rw [show (((View.whole main_v7_0).slice (win2_4.rect t)).emb y) = ix3 (grid2.coords t 0) ⟨(y 1).val, (y 1).isLt⟩ ⟨(y 2).val, (y 2).isLt⟩ by
      blk_ext [(index2 t).2.2.2.2.1]]
    refine Eq.trans ?_ (third_at V c hX hS hW hb t ⟨(y 1).val, (y 1).isLt⟩ ⟨(y 2).val, (y 2).isLt⟩)
    rw [← third_block]
    congr 1
    blk_ext
  intro b q k
  exact congrFun e (ix3 b q k)

/-- After the third call its moments are those of the layer. -/
theorem third_moments : Moments ((dat2 V c).arrAt 5 cfg2.N : FVec Ideal S16x8x256 .f32) (layer Y W β) := by
  have e : (dat2 V c).arrAt 5 cfg2.N = fun i : S16x8x256.Idx =>
      k2_pay1 (F := Ideal) (fun j => ((layer Y W β (i 0, j 0) (j 1) : ℝ) : EReal)) (ix3 0 (i 1) (i 2)) := by
    refine (dat2 V c).arrAt_eq_of_covers 5 _ (by decide +kernel) fun t hf y => ?_
    blk_simp
    rw [after2_5]
    frame_out
    rw [show (((View.whole main_v7_1).slice (win2_5.rect t)).emb y) = ix3 (grid2.coords t 0) ⟨(y 1).val, (y 1).isLt⟩ ⟨(y 2).val, (y 2).isLt⟩ by
      blk_ext [(index2 t).2.2.2.2.2]]
    refine congr (congrArg k2_pay1 (funext fun j => ?_)) ?_
    · idx_vars j
      exact third_at V c hX hS hW hb t _ _
    · blk_ext
  intro k h
  refine ⟨?_, ?_⟩
  · rw [e]
    refine (Finset.sum_congr rfl fun b _ => third_sum _ k h).trans ?_
    exact sum_sum fun p => ((layer Y W β p k : ℝ) : EReal)
  · rw [e]
    refine (Finset.sum_congr rfl fun b _ => third_square _ k h).trans ?_
    exact sum_sum fun p => ((layer Y W β p k : ℝ) : EReal) * ((layer Y W β p k : ℝ) : EReal)

end

section
variable {Y : Pos → Fin 128 → ℝ} (hX : Rows (V c main_v7_0 : FVec Ideal S16x4096x128 .f32) Y)
  (hS : Moments (V c main_v7_1 : FVec Ideal S16x8x256 .f32) Y)
include hX hS

/-- After the fourth call entry `(p, o)` of batch `b` is the greatest normalised value of channel `o` in group `p`. -/
theorem fourth_array (b : Fin 16) (p o : Fin 128) : ((dat3 V c).arrAt 2 cfg3.N : FVec Ideal S16x128x128 .f32) (ix3 b p o)
    = Finset.univ.sup fun s : Fin 32 => ((normed (fun p => Y p o) (b, finProdFinEquiv (p, s)) : ℝ) : EReal) := by
  have e : (dat3 V c).arrAt 2 cfg3.N = fun i : S16x128x128.Idx => Finset.univ.sup fun s : Fin 32 =>
      ((normed (fun p => Y p (i 2)) (i 0, finProdFinEquiv (i 1, s)) : ℝ) : EReal) := by
    refine (dat3 V c).arrAt_eq_of_covers 2 _ (by decide +kernel) fun t hf y => ?_
    blk_simp
    rw [after3_2]
    frame_out
    rw [show (((View.whole main_v8).slice (win3_2.rect t)).emb y) = ix3 (grid3.coords t 0) ⟨(y 1).val, (y 1).isLt⟩ ⟨(y 2).val, (y 2).isLt⟩ by
      blk_ext [(index3 t).2.2]]
    refine Eq.trans ?_ (fourth_maxima (v0 := iblk3 V c 0 t) (v2 := iblk3 V c 1 t) (grid3.coords t 0) (fun q x => ?_) (fun k h => ?_)
      ⟨(y 1).val, (y 1).isLt⟩ ⟨(y 2).val, (y 2).isLt⟩)
    · congr 1
      blk_ext
    · exact (show _ = V c main_v7_0 (ix3 (grid3.coords t 0) q x) by blk_ext [iblk3, (index3 t).1]).trans (hX _ q x)
    · have e : ∀ (b : Fin 16) (r : Fin 8) (x : Fin 256), iblk3 V c 1 t (ix3 b r x) = V c main_v7_1 (ix3 b r x) := fun b r x => by
        blk_ext [iblk3, (index3 t).2.1]
      simp only [e]
      exact hS k h
  exact congrFun e (ix3 b p o)

end

end Arrays

end Cert.Proof.FeaturesValue

end
-- ==== Proof.FeaturesRun.lean ====
/-
  THE RUN OF THE FOUR CALLS AFTER THE GATHER. The program is run once with its result named by the contents at the end of the
  program, and that result is then read back through the four calls to the arguments.
-/
module

public import proofs.«01_k».proof.Proof.FeaturesValue
public import Idealize.ShloMosaic.Lib.Claim

@[expose] public section

set_option maxRecDepth 16384

noncomputable section

namespace Cert.Proof.FeaturesRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FeaturesIdeal Cert.FeaturesIdeal.Gen
open Cert.Proof.Norm Cert.Proof.FeaturesValue

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result at the contents that the program's steps give it and the arguments kept. -/
theorem run : θ_run defs (onTc (τ := τ) (main (F := F))) ⟨m, fun _ => 0, ρ⟩ (fun r => ∀ c : Dev nD,
      r.2.mem ((c.tc : Thread nD τ).loc main_v8) = W9 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v8 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Launch

section Value

variable (m : (ℓ : Loc nD τ sig) → Buf (Elt Ideal) ℓ) (ρ : Dev nD → PrngReg) (c : Dev nD)

/-- The rows as the first call finds them: batch by batch. -/
theorem rows0 (b : Fin 16) (q : Fin 4096) (k : Fin 128) : (V3 m ρ c main_v0 : FVec Ideal S16x4096x128 .f32) (ix3 b q k)
    = (m ((c.tc : Thread nD τ).loc main_arg0) : FVec Ideal S65536x128 .f32) (ix2 ⟨b.val * 4096 + q.val, by omega⟩ k) := by
  have e : V3 m ρ c main_v0 = W1 m ρ c (Proc.devRef .tc main_v0) :=
    (W3_of m ρ c main_v0 (by decide)).trans (W2_of m ρ c main_v0 (by decide))
  rw [e]
  show (StableHlo.after hostOps0 (W0 m ρ c) (Proc.devRef .tc main_v0) : FVec Ideal S16x4096x128 .f32) (ix3 b q k) = _
  after_results_simp
  pointwise

/-- The weights as the first call finds them: the argument, padded with the number zero. -/
theorem weights0 : (V3 m ρ c main_v1 : FVec Ideal S64x128 .f32)
    = pad (s := S64x6) (α := Ideal .f32) S64x128 ![0, 0] ![0, 122] ![0, 0] (m ((c.tc : Thread nD τ).loc main_arg2) : FVec Ideal S64x6 .f32)
        (sitofp .f32 (constantI S_ 32 0#32)) pads_S64x6_S64x128_000_01220 h_S_ := by
  have e : V3 m ρ c main_v1 = W2 m ρ c (Proc.devRef .tc main_v1) := W3_of m ρ c main_v1 (by decide)
  rw [e]
  show StableHlo.after hostOps0_1 (W1 m ρ c) (Proc.devRef .tc main_v1) = _
  after_results_simp
  rfl

/-- The six columns of the weights are those of the argument. -/
theorem weights0_six (o : Fin 64) (k : Fin 6) : (V3 m ρ c main_v1 : FVec Ideal S64x128 .f32) (ix2 o ⟨k.val, by omega⟩)
    = (m ((c.tc : Thread nD τ).loc main_arg2) : FVec Ideal S64x6 .f32) (ix2 o k) := by
  rw [weights0]
  pointwise

/-- Past the six columns the weights are zero. -/
theorem weights0_zero (o : Fin 64) (k : Fin 128) (h : 6 ≤ k.val) :
    (V3 m ρ c main_v1 : FVec Ideal S64x128 .f32) (ix2 o k) = (0 : EReal) := by
  rw [weights0]
  pointwise
  rw [dif_neg (by omega)]
  exact sitofp_zero

/-- The first bias as the first call finds it: one row. -/
theorem bias0 (o : Fin 64) : (V3 m ρ c main_v2 : FVec Ideal S1x64 .f32) (ix2 0 o)
    = (m ((c.tc : Thread nD τ).loc main_arg3) : FVec Ideal S64 .f32) (ix1 o) := by
  show (StableHlo.after hostOps0_2 (W2 m ρ c) (Proc.devRef .tc main_v2) : FVec Ideal S1x64 .f32) (ix2 0 o) = _
  after_results_simp
  pointwise

/-- The second bias as the second call finds it: one row. -/
theorem bias1 (o : Fin 64) : (V5 m ρ c main_v4 : FVec Ideal S1x64 .f32) (ix2 0 o)
    = (m ((c.tc : Thread nD τ).loc main_arg5) : FVec Ideal S64 .f32) (ix1 o) := by
  have e : W4 m ρ c (Proc.devRef .tc main_arg5) = m ((c.tc : Thread nD τ).loc main_arg5) := W4_args m ρ c main_arg5 (by decide)
  show (StableHlo.after hostOps1 (W4 m ρ c) (Proc.devRef .tc main_v4) : FVec Ideal S1x64 .f32) (ix2 0 o) = _
  after_results_simp
  rw [e]
  pointwise

/-- The third bias as the third call finds it: one row. -/
theorem bias2 (o : Fin 128) : (V7 m ρ c main_v6 : FVec Ideal S1x128 .f32) (ix2 0 o)
    = (m ((c.tc : Thread nD τ).loc main_arg7) : FVec Ideal S128 .f32) (ix1 o) := by
  have e : W6 m ρ c (Proc.devRef .tc main_arg7) = m ((c.tc : Thread nD τ).loc main_arg7) := W6_args m ρ c main_arg7 (by decide)
  show (StableHlo.after hostOps2 (W6 m ρ c) (Proc.devRef .tc main_v6) : FVec Ideal S1x128 .f32) (ix2 0 o) = _
  after_results_simp
  rw [e]
  pointwise

variable {G : Pos → Fin 6 → ℝ} {Z : Fin 16 × Fin 128 → Fin 3 → ℝ} {W₁ : Fin 64 → Fin 6 → ℝ} {β₁ : Fin 64 → ℝ}
  {W₂ : Fin 64 → Fin 64 → ℝ} {β₂ : Fin 64 → ℝ} {W₃ : Fin 128 → Fin 64 → ℝ} {β₃ : Fin 128 → ℝ}

/-- The features, entry by entry: the greatest value of a channel in a group after the three layers, normalised. -/
theorem features_value
    (hG : ∀ (b : Fin 16) (q : Fin 4096) (k : Fin 6), (m ((c.tc : Thread nD τ).loc main_arg0) : FVec Ideal S65536x128 .f32)
      (ix2 ⟨b.val * 4096 + q.val, by omega⟩ ⟨k.val, by omega⟩) = ((G (b, q) k : ℝ) : EReal))
    (hZ : ∀ (b : Fin 16) (p : Fin 128) (k : Fin 3), (m ((c.tc : Thread nD τ).loc main_arg1) : FVec Ideal S16x8x128 .f32)
      (ix3 b ⟨k.val, by omega⟩ p) = ((Z (b, p) k : ℝ) : EReal))
    (hW₁ : Matrix (m ((c.tc : Thread nD τ).loc main_arg2) : FVec Ideal S64x6 .f32) W₁)
    (hb₁ : ∀ o, (m ((c.tc : Thread nD τ).loc main_arg3) : FVec Ideal S64 .f32) (ix1 o) = ((β₁ o : ℝ) : EReal))
    (hW₂ : Matrix (m ((c.tc : Thread nD τ).loc main_arg4) : FVec Ideal S64x64 .f32) W₂)
    (hb₂ : ∀ o, (m ((c.tc : Thread nD τ).loc main_arg5) : FVec Ideal S64 .f32) (ix1 o) = ((β₂ o : ℝ) : EReal))
    (hW₃ : Matrix (m ((c.tc : Thread nD τ).loc main_arg6) : FVec Ideal S128x64 .f32) W₃)
    (hb₃ : ∀ o, (m ((c.tc : Thread nD τ).loc main_arg7) : FVec Ideal S128 .f32) (ix1 o) = ((β₃ o : ℝ) : EReal))
    (b : Fin 16) (p o : Fin 128) :
    (W9 m ρ c (Proc.devRef .tc main_v8) : FVec Ideal S16x128x128 .f32) (ix3 b p o)
      = Finset.univ.sup fun s : Fin 32 =>
          ((normed (fun p => layer (layer (fun p => lift (G p) (Z (p.1, group (P := 128) p.2)) W₁ β₁) W₂ β₂) W₃ β₃ p o)
            (b, finProdFinEquiv (p, s)) : ℝ) : EReal) := by
  have hZ1 := hZ
  rw [← W3_args m ρ c main_arg1 (by decide)] at hZ1
  have r1 := first_array (V3 m ρ) c (fun b q k => (rows0 m ρ c b q _).trans (hG b q k)) hZ1
    (fun o k => (weights0_six m ρ c o k).trans (hW₁ o k)) (weights0_zero m ρ c) fun o => (bias0 m ρ c o).trans (hb₁ o)
  have s1 := first_moments (V3 m ρ) c (fun b q k => (rows0 m ρ c b q _).trans (hG b q k)) hZ1
    (fun o k => (weights0_six m ρ c o k).trans (hW₁ o k)) (weights0_zero m ρ c) fun o => (bias0 m ρ c o).trans (hb₁ o)
  rw [← (W5_of m ρ c main_v3_0 (by decide)).trans (W4_arr m ρ c 4)] at r1
  rw [← (W5_of m ρ c main_v3_1 (by decide)).trans (W4_arr m ρ c 5)] at s1
  have hW2 := hW₂
  rw [← W5_args m ρ c main_arg4 (by decide)] at hW2
  have r2 := second_array (V5 m ρ) c r1 s1 hW2 fun o => (bias1 m ρ c o).trans (hb₂ o)
  have s2 := second_moments (V5 m ρ) c r1 s1 hW2 fun o => (bias1 m ρ c o).trans (hb₂ o)
  rw [← (W7_of m ρ c main_v5_0 (by decide)).trans (W6_arr m ρ c 4)] at r2
  rw [← (W7_of m ρ c main_v5_1 (by decide)).trans (W6_arr m ρ c 5)] at s2
  have hW3 := hW₃
  rw [← W7_args m ρ c main_arg6 (by decide)] at hW3
  have r3 := third_array (V7 m ρ) c r2 s2 hW3 fun o => (bias2 m ρ c o).trans (hb₃ o)
  have s3 := third_moments (V7 m ρ) c r2 s2 hW3 fun o => (bias2 m ρ c o).trans (hb₃ o)
  rw [← W8_arr m ρ c 4] at r3
  rw [← W8_arr m ρ c 5] at s3
  have r4 := fourth_array (V8 m ρ) c r3 s3 b p o
  rw [← W9_arr m ρ c 2] at r4
  exact r4

end Value

end Cert.Proof.FeaturesRun

end
-- ==== Proof.FeaturesReference.lean ====
/-
  THE REFERENCE'S FEATURES. Its three layers and its maxima are read place by place at the ideal values: with real
  arguments each is the real layer of the one before.
-/
module

public import proofs.«01_k».proof.Proof.Norm
public import proofs.«01_k».proof.Proof.Gen.FeaturesReferenceIdeal.Run

@[expose] public section

set_option maxRecDepth 16384

noncomputable section

namespace Cert.Proof.FeaturesReference

open Idealize.ShloMosaic Idealize.ShloMosaic.TcCoe
open Cert.FeaturesReferenceIdeal Cert.FeaturesReferenceIdeal.Gen Cert.FeaturesReferenceIdeal.Value
open Cert.Proof.Norm

/-- The number of positions, as the programs write it. -/
theorem card_pos : ((65536 : ℝ)) = (Fintype.card (Fin 16 × Fin (128 * 32)) : ℝ) := by simp

/-- There are positions. -/
theorem card_pos_pos : 0 < Fintype.card (Fin 16 × Fin (128 * 32)) := by simp

variable (V : Valuation τ sig (Elt Ideal))
  {G : Fin 16 × Fin 4096 → Fin 6 → ℝ} {Z : Fin 16 × Fin 128 → Fin 3 → ℝ} {W₁ : Fin 64 → Fin 6 → ℝ} {β₁ : Fin 64 → ℝ}
  {W₂ : Fin 64 → Fin 64 → ℝ} {β₂ : Fin 64 → ℝ} {W₃ : Fin 128 → Fin 64 → ℝ} {β₃ : Fin 128 → ℝ}

/-- A group's centre is that of each of its places. -/
theorem group_place (b : Fin 16) (p : Fin 128) (s : Fin 32) : group (P := 128) (place 16 128 32 (b, p, s)).2 = p :=
  Fin.ext (by simp [group, place, finProdFinEquiv]; omega)

/-- The first layer of the reference, at the offset channels it computes first, is the real one. -/
theorem first_layer
    (hG : ∀ (b : Fin 16) (q : Fin 4096) (k : Fin 6), (V (Proc.devRef .tc main_arg0) : FVec Ideal S65536x128 .f32)
      (ix2 ⟨b.val * 4096 + q.val, by omega⟩ ⟨k.val, by omega⟩) = ((G (b, q) k : ℝ) : EReal))
    (hZ : ∀ (b : Fin 16) (p : Fin 128) (k : Fin 3), (V (Proc.devRef .tc main_arg1) : FVec Ideal S16x8x128 .f32)
      (ix3 b ⟨k.val, by omega⟩ p) = ((Z (b, p) k : ℝ) : EReal))
    (hW₁ : Matrix (V (Proc.devRef .tc main_arg2) : FVec Ideal S64x6 .f32) W₁)
    (hb₁ : ∀ o, (V (Proc.devRef .tc main_arg3) : FVec Ideal S64 .f32) (ix1 o) = ((β₁ o : ℝ) : EReal)) :
    Grouped (res_main_v12 V : FVec Ideal S16x128x32x64 .f32) (fun p => lift (G p) (Z (p.1, group (P := 128) p.2)) W₁ β₁) := by
  intro b p s o
  unfold res_main_v12 res_main_v0
  pointwise
  have hr : ∀ k : Fin 6, (V (Proc.devRef .tc main_arg0) : FVec Ideal S65536x128 .f32)
      (ix2 ⟨b.val * 4096 + p.val * 32 + s.val, by omega⟩ ⟨k.val, by omega⟩) = ((G (place 16 128 32 (b, p, s)) k : ℝ) : EReal) := fun k => by
    refine Eq.trans ?_ (hG b (place 16 128 32 (b, p, s)).2 k)
    congr 2
    exact Fin.ext (by simp [place, finProdFinEquiv]; omega)
  rw [group_place]
  exact lift_halves _ _ W₁ β₁ o (fun k => hr ⟨k.val, by omega⟩) (fun k => hr ⟨3 + k.val, by omega⟩) (fun k => hZ b p k)
    (fun k => hW₁ o _) (fun k => hW₁ o _) (hb₁ o)

/-- The second layer of the reference is the real layer of the first. -/
theorem second_layer {Y : Fin 16 × Fin 4096 → Fin 64 → ℝ}
    (hX : Grouped (res_main_v12 V : FVec Ideal S16x128x32x64 .f32) Y)
    (hW₂ : Matrix (V (Proc.devRef .tc main_arg4) : FVec Ideal S64x64 .f32) W₂)
    (hb₂ : ∀ o, (V (Proc.devRef .tc main_arg5) : FVec Ideal S64 .f32) (ix1 o) = ((β₂ o : ℝ) : EReal)) :
    Grouped (res_main_v29 V : FVec Ideal S16x128x32x64 .f32) (layer Y W₂ β₂) := by
  intro b r s o
  unfold res_main_v29 res_main_call0_v5 res_main_call0_v8
  pointwise [hostReduceAdd_columns]
  exact layer_coe Y W₂ β₂ (place 16 128 32 (b, r, s)) o
    (fun k => normed_of_grouped hX _ card_pos card_pos_pos ofBits_65536 ofBits_eps b r s k _) (fun k => hW₂ o k) (hb₂ o)

/-- The third layer of the reference is the real layer of the second. -/
theorem third_layer {Y : Fin 16 × Fin 4096 → Fin 64 → ℝ}
    (hX : Grouped (res_main_v29 V : FVec Ideal S16x128x32x64 .f32) Y)
    (hW₃ : Matrix (V (Proc.devRef .tc main_arg6) : FVec Ideal S128x64 .f32) W₃)
    (hb₃ : ∀ o, (V (Proc.devRef .tc main_arg7) : FVec Ideal S128 .f32) (ix1 o) = ((β₃ o : ℝ) : EReal)) :
    Grouped (res_main_v46 V : FVec Ideal S16x128x32x128 .f32) (layer Y W₃ β₃) := by
  intro b r s o
  unfold res_main_v46 res_main_call2_v5 res_main_call2_v8
  pointwise [hostReduceAdd_columns]
  exact layer_coe Y W₃ β₃ (place 16 128 32 (b, r, s)) o
    (fun k => normed_of_grouped hX _ card_pos card_pos_pos ofBits_65536 ofBits_eps b r s k _) (fun k => hW₃ o k) (hb₃ o)

/-- The reference's features: the greatest normalised value of a channel in a group. -/
theorem last_maxima {Y : Fin 16 × Fin 4096 → Fin 128 → ℝ}
    (hX : Grouped (res_main_v46 V : FVec Ideal S16x128x32x128 .f32) Y) (b : Fin 16) (p o : Fin 128) :
    (Host.reduce FloatOps.maximumf (maximumf (Host.divf (subf (res_main_v46 V) (broadcastInDim S16x128x32x128 ![0, 1, 2, 3] bcast_S1x1x1x128_S16x128x32x128_0_1_2_3 (Host.divf (broadcastInDim S1x1x1x128 ![3] bcast_S128_S1x1x1x128_3 (Host.reduceAdd (res_main_v46 V) (constant S_ .f32 0x00000000#32) reducesTo_S16x128x32x128_S128_d0_1_2 h_S_)) (broadcastInDim S1x1x1x128 ![] bcast_S_S1x1x1x128 (constant S_ .f32 0x47800000#32))))) (broadcastInDim S16x128x32x128 ![0, 1, 2, 3] bcast_S1x1x1x128_S16x128x32x128_0_1_2_3 (Host.sqrt (addf (select (broadcastInDim S1x1x1x128 ![] bcast_S_S1x1x1x128 (cmpf .ogt (res_main_call4_v8 V) (constant S_ .f32 0x00000000#32))) (Host.divf (broadcastInDim S1x1x1x128 ![3] bcast_S128_S1x1x1x128_3 (Host.reduceAdd (mulf (res_main_call4_v5 V) (res_main_call4_v5 V)) (constant S_ .f32 0x00000000#32) reducesTo_S16x128x32x128_S128_d0_1_2 h_S_)) (broadcastInDim S1x1x1x128 ![] bcast_S_S1x1x1x128 (res_main_call4_v8 V))) (broadcastInDim S1x1x1x128 ![] bcast_S_S1x1x1x128 (id (constant S_ .f32 0x7FC00000#32)))) (broadcastInDim S1x1x1x128 ![] bcast_S_S1x1x1x128 (constant S_ .f32 0x3727C5AC#32)))))) (broadcastInDim S16x128x32x128 ![] bcast_S_S16x128x32x128 (constant S_ .f32 0x00000000#32))) (constant S_ .f32 0xFF800000#32) reducesTo_S16x128x32x128_S16x128x128_d2 h_S_ : FVec Ideal S16x128x128 .f32) (ix3 b p o)
      = Finset.univ.sup fun s : Fin 32 => ((normed (fun p => Y p o) (b, finProdFinEquiv (p, s)) : ℝ) : EReal) := by
  unfold res_main_call4_v5 res_main_call4_v8
  pointwise [hostReduceAdd_columns]
  rw [ofBits_bot]
  refine (Shape.ReducesTo.fold_fiber_r4_a2 reducesTo_S16x128x32x128_S16x128x128_d2 (ix3 b p o) max ⊥ _).trans ?_
  show Finset.univ.sup _ = _
  exact congrArg _ (funext fun s => normed_of_grouped hX _ card_pos card_pos_pos ofBits_65536 ofBits_eps b p s o _)

end Cert.Proof.FeaturesReference

end
-- ==== Proof.FeaturesClaim.lean ====
/-
  THE FOUR CALLS AFTER THE GATHER AGAINST THEIR REFERENCE. What the precondition says of the arguments is read off: what the
  layers read is real. Then both programs' features are the same real expression of it.
-/
module

public import proofs.«01_k».proof.Defs
public import proofs.«01_k».proof.Proof.FeaturesRun
public import proofs.«01_k».proof.Proof.FeaturesReference
public import proofs.«01_k».proof.Proof.Gen.Pre_finite1

@[expose] public section

set_option maxRecDepth 16384

noncomputable section

namespace Cert.Proof.FeaturesClaim

open Idealize.ShloMosaic Idealize.ShloMosaic.TcCoe Idealize.SL.Sem Idealize.ShloMosaic.StableHlo
open Cert.Proof.Norm

/-- What the precondition says: the six channels of the rows, the three of the centres, the weights and the biases are
    real. -/
theorem facts_of_pre (g : FVec Ideal Cert.Pre_finite1.S65536x128 .f32) (z : FVec Ideal Cert.Pre_finite1.S16x8x128 .f32)
    (w₁ : FVec Ideal Cert.Pre_finite1.S64x6 .f32) (b₁ : FVec Ideal Cert.Pre_finite1.S64 .f32)
    (w₂ : FVec Ideal Cert.Pre_finite1.S64x64 .f32) (b₂ : FVec Ideal Cert.Pre_finite1.S64 .f32)
    (w₃ : FVec Ideal Cert.Pre_finite1.S128x64 .f32) (b₃ : FVec Ideal Cert.Pre_finite1.S128 .f32)
    (h : @Cert.Pre_finite1.fn Cert.Pre_finite1.Gen.facts Ideal _ g z w₁ b₁ w₂ b₂ w₃ b₃ = fun _ => 1#1) :
    ∃ (G : Fin 16 × Fin 4096 → Fin 6 → ℝ) (Z : Fin 16 × Fin 128 → Fin 3 → ℝ) (W₁ : Fin 64 → Fin 6 → ℝ) (β₁ : Fin 64 → ℝ)
      (W₂ : Fin 64 → Fin 64 → ℝ) (β₂ : Fin 64 → ℝ) (W₃ : Fin 128 → Fin 64 → ℝ) (β₃ : Fin 128 → ℝ),
      (∀ (b : Fin 16) (q : Fin 4096) (k : Fin 6), g (ix2 ⟨b.val * 4096 + q.val, by omega⟩ ⟨k.val, by omega⟩) = ((G (b, q) k : ℝ) : EReal))
      ∧ (∀ (b : Fin 16) (p : Fin 128) (k : Fin 3), z (ix3 b ⟨k.val, by omega⟩ p) = ((Z (b, p) k : ℝ) : EReal))
      ∧ Matrix w₁ W₁ ∧ (∀ o, b₁ (ix1 o) = ((β₁ o : ℝ) : EReal)) ∧ Matrix w₂ W₂ ∧ (∀ o, b₂ (ix1 o) = ((β₂ o : ℝ) : EReal))
      ∧ Matrix w₃ W₃ ∧ (∀ o, b₃ (ix1 o) = ((β₃ o : ℝ) : EReal)) := by
  have e := congrFun h ix0
  unfold Cert.Pre_finite1.fn Cert.Pre_finite1.fn_part1 Cert.Pre_finite1.fn_part2 at e
  pointwise at e
  simp only [IntOp.andi_eq_one, fold_andi] at e
  obtain ⟨⟨⟨⟨⟨⟨⟨hg, hz⟩, hw₁⟩, hb₁⟩, hw₂⟩, hb₂⟩, hw₃⟩, hb₃⟩ := e
  exact ⟨fun p k => (g (ix2 ⟨p.1.val * 4096 + p.2.val, by omega⟩ ⟨k.val, by omega⟩)).toReal,
    fun p k => (z (ix3 p.1 ⟨k.val, by omega⟩ p.2)).toReal,
    fun o k => (w₁ (ix2 o k)).toReal, fun o => (b₁ (ix1 o)).toReal, fun o k => (w₂ (ix2 o k)).toReal,
    fun o => (b₂ (ix1 o)).toReal, fun o k => (w₃ (ix2 o k)).toReal, fun o => (b₃ (ix1 o)).toReal,
    fun b q k => coe_toReal_of_bit (hg (⟨b.val * 4096 + q.val, by omega⟩, k)), fun b p k => coe_toReal_of_bit (hz (b, k, p)),
    fun o k => coe_toReal_of_bit (hw₁ (o, k)), fun o => coe_toReal_of_bit (hb₁ o),
    fun o k => coe_toReal_of_bit (hw₂ (o, k)), fun o => coe_toReal_of_bit (hb₂ o),
    fun o k => coe_toReal_of_bit (hw₃ (o, k)), fun o => coe_toReal_of_bit (hb₃ o)⟩

/-- Over the extended reals the program's features are the reference's. -/
theorem features_equal : Cert.algebraic_FeaturesIdeal_FeaturesReferenceIdeal_pre_finite1
    (hFeaturesIdeal := Cert.FeaturesIdeal.Gen.facts) (hFeaturesReferenceIdeal := Cert.FeaturesReferenceIdeal.Gen.facts)
    (hPre_finite1 := Cert.Pre_finite1.Gen.facts) := by
  intro m ρ m' ρ' hpre hargs
  refine ⟨fun c => Cert.FeaturesIdeal.Gen.W9 m ρ c (Proc.devRef .tc Cert.FeaturesIdeal.main_v8), ?_, ?_⟩
  · exact FeaturesRun.run (F := Ideal) m ρ
  · refine (θ_run _ _ _).mono (fun r q c => ⟨(q c).1.trans ?_, (q c).2⟩) (Cert.FeaturesReferenceIdeal.Value.run (F := Ideal) m' ρ')
    obtain ⟨G, Z, W₁, β₁, W₂, β₂, W₃, β₃, hG, hZ, hW₁, hb₁, hW₂, hb₂, hW₃, hb₃⟩ := facts_of_pre _ _ _ _ _ _ _ _ (hpre c)
    obtain ⟨a0, a1, a2, a3, a4, a5, a6, a7⟩ := hargs c
    funext i
    idx_vars i
    refine Eq.trans ?_ (FeaturesRun.features_value m ρ c hG hZ hW₁ hb₁ hW₂ hb₂ hW₃ hb₃ _ _ _).symm
    rw [← a0] at hG; rw [← a1] at hZ; rw [← a2] at hW₁; rw [← a3] at hb₁; rw [← a4] at hW₂; rw [← a5] at hb₂
    rw [← a6] at hW₃; rw [← a7] at hb₃
    have g1 := FeaturesReference.first_layer (launchContents m' c) hG hZ hW₁ hb₁
    have g2 := FeaturesReference.second_layer (launchContents m' c) g1 hW₂ hb₂
    exact FeaturesReference.last_maxima (launchContents m' c) (FeaturesReference.third_layer (launchContents m' c) g2 hW₃ hb₃) _ _ _

end Cert.Proof.FeaturesClaim

end
-- ==== Proof.Farthest.lean ====
/-
  THE CHOICE OF CENTRES as mathematics. A cloud of `n` points has three coordinates each, extended real numbers. The
  choice starts at point 0 with every distance at one same start value. One trip lowers the distance of each point to its
  squared distance from the point last chosen, and chooses the first point among those whose distance is greatest.
  The kernel finds that point as the least index among the maxima, the reference by a reduction of pairs of a distance and
  an index; both are shown here to find it.
-/
module

public import Idealize.ShloMosaic.Lib.Pipeline.ValueKit
public import Idealize.ShloMosaic.Lib.SortNet.Extract
public import Idealize.ShloMosaic.PureOps.Ideal.Laws
public import Idealize.ShloMosaic.PureOps.Reduce

@[expose] public section

noncomputable section

namespace Cert.Proof.Farthest

open Idealize.ShloMosaic

variable {n : ℕ} [NeZero n]

/-- Some index is the first of those at which the values are greatest. -/
theorem exists_first (d : Fin n → EReal) : ∃ p, (∀ j, d j ≤ d p) ∧ ∀ j, j < p → d j < d p := by
  obtain ⟨q, hq⟩ := Finite.exists_max d
  have hne : (Finset.univ.filter fun p => ∀ j, d j ≤ d p).Nonempty := ⟨q, by simpa using hq⟩
  have hmem := Finset.min'_mem _ hne
  refine ⟨_, (Finset.mem_filter.1 hmem).2, fun j hj => ?_⟩
  refine lt_of_le_of_ne ((Finset.mem_filter.1 hmem).2 j) fun he => ?_
  refine absurd (Finset.min'_le _ j (Finset.mem_filter.2 ⟨Finset.mem_univ _, fun k => ?_⟩)) (not_le.2 hj)
  rw [he]
  exact (Finset.mem_filter.1 hmem).2 k

/-- The first index at which the values are greatest. -/
def first (d : Fin n → EReal) : Fin n := (exists_first d).choose

/-- No value is above the one at that index. -/
theorem le_first (d : Fin n → EReal) (j : Fin n) : d j ≤ d (first d) := (exists_first d).choose_spec.1 j

/-- Every value before that index is below the one at it. -/
theorem lt_first (d : Fin n → EReal) {j : Fin n} (h : j < first d) : d j < d (first d) := (exists_first d).choose_spec.2 j h

/-- An index as a word of 32 bits, read as an integer. -/
theorem toInt_index (hn : n ≤ 2 ^ 30) (j : Fin n) : (BitVec.ofNat 32 j.val).toInt = (j.val : ℤ) := by
  have hj : j.val < 2 ^ 31 := by have := j.isLt; omega
  have e : (BitVec.ofNat 32 j.val).toNat = j.val := by rw [BitVec.toNat_ofNat]; exact Nat.mod_eq_of_lt (by omega)
  rw [BitVec.toInt_eq_toNat_of_lt (by omega), e]

/-- Indices that are the same word are the same. -/
theorem index_inj (hn : n ≤ 2 ^ 30) {i j : Fin n} (h : BitVec.ofNat 32 i.val = BitVec.ofNat 32 j.val) : i = j := by
  have := congrArg BitVec.toInt h
  rw [toInt_index hn, toInt_index hn] at this
  exact Fin.ext (by exact_mod_cast this)

/-- A choice on whether two small words are the same is a choice on whether the numbers are. -/
theorem select_index {α : Type} {i k : ℕ} (hi : i < 2 ^ 32) (hk : k < 2 ^ 32) (a b : α) :
    Scalar.select (IntOp.cmpi .eq (BitVec.ofNat 32 i) (BitVec.ofNat 32 k)) a b = if i = k then a else b := by
  by_cases h : i = k
  · subst h
    simp [Scalar.select, IntOp.cmpi]
  · have h' : BitVec.ofNat 32 i ≠ BitVec.ofNat 32 k := fun e => h (by
      have := congrArg BitVec.toNat e
      rwa [BitVec.toNat_ofNat, BitVec.toNat_ofNat, Nat.mod_eq_of_lt hi, Nat.mod_eq_of_lt hk] at this)
    have h'' : (BitVec.ofNat 32 i == BitVec.ofNat 32 k) = false := beq_false_of_ne h'
    simp [Scalar.select, IntOp.cmpi, h, h'']

/-- The least index among those whose value is a given one is the first of them. -/
theorem fold_index (hn : n ≤ 2 ^ 30) (d : Fin n → EReal) (v : EReal) (p : Fin n) (hp : d p = v)
    (hle : ∀ j, d j = v → p ≤ j) :
    Finset.univ.fold IntOp.minsi (2147483647#32)
        (fun j : Fin n => if d j = v then BitVec.ofNat 32 j.val else 1073741824#32) = BitVec.ofNat 32 p.val := by
  refine BitVec.eq_of_toInt_eq ?_
  rw [← Finset.fold_hom (op' := min) (m := BitVec.toInt) (fun x y => SortNet.toInt_minsi x y)]
  have hp' := p.isLt
  refine le_antisymm ?_ ?_
  · refine Finset.fold_min_le _ |>.2 (Or.inr ⟨p, Finset.mem_univ _, ?_⟩)
    rw [if_pos hp]
  · refine Finset.le_fold_min _ |>.2 ⟨?_, fun j _ => ?_⟩
    · rw [toInt_index hn]
      have : (2147483647#32).toInt = 2147483647 := by decide
      omega
    · by_cases h : d j = v
      · rw [if_pos h, toInt_index hn, toInt_index hn]
        exact_mod_cast hle j h
      · rw [if_neg h, toInt_index hn]
        have : (1073741824#32).toInt = 1073741824 := by decide
        omega

/-- The least index among those whose value is the greatest of all is the first of them. -/
theorem fold_least (hn : n ≤ 2 ^ 30) (d : Fin n → EReal) (b : EReal) (hb : b = ⊥) :
    Finset.univ.fold IntOp.minsi (2147483647#32)
        (fun j : Fin n => if d j = Finset.univ.fold max b d then BitVec.ofNat 32 j.val else 1073741824#32)
      = BitVec.ofNat 32 (first d).val := by
  have hm : Finset.univ.fold max b d = d (first d) := by
    subst hb
    refine le_antisymm ?_ ?_
    · exact Finset.fold_max_le _ |>.2 ⟨bot_le, fun j _ => le_first d j⟩
    · exact Finset.le_fold_max _ |>.2 (Or.inr ⟨first d, Finset.mem_univ _, le_rfl⟩)
  rw [hm]
  refine fold_index hn d _ (first d) rfl fun j h => not_lt.1 fun hlt => absurd h (lt_first d hlt).ne

/-! ## The reduction of pairs -/

/-- One pair of a value and an index comes no later than another: its value is greater, or as great with no later index. -/
def Before (a b : EReal × BitVec 32) : Prop := b.1 < a.1 ∨ (b.1 = a.1 ∧ a.2.toInt ≤ b.2.toInt)

/-- Each pair comes no later than itself. -/
theorem Before.refl (a : EReal × BitVec 32) : Before a a := Or.inr ⟨rfl, le_rfl⟩

/-- The order of pairs is transitive. -/
theorem Before.trans {a b c : EReal × BitVec 32} (h : Before a b) (h' : Before b c) : Before a c := by
  rcases h with h | ⟨h, g⟩ <;> rcases h' with h' | ⟨h', g'⟩
  · exact Or.inl (h'.trans h)
  · exact Or.inl (h' ▸ h)
  · exact Or.inl (h ▸ h')
  · exact Or.inr ⟨h'.trans h, g.trans g'⟩

/-- A reduction that keeps the earlier one of two pairs leaves a pair of the list that comes no later than any of it. -/
theorem foldl_before (f : EReal × BitVec 32 → EReal × BitVec 32 → EReal × BitVec 32)
    (hf : ∀ a b, (f a b = a ∨ f a b = b) ∧ Before (f a b) a ∧ Before (f a b) b) (l : List (EReal × BitVec 32)) :
    ∀ a, l.foldl f a ∈ a :: l ∧ ∀ q ∈ a :: l, Before (l.foldl f a) q := by
  induction l with
  | nil => exact fun a => ⟨by simp, fun q hq => by simp at hq; rw [hq]; exact Before.refl a⟩
  | cons b l ih =>
    intro a
    obtain ⟨h1, h2⟩ := ih (f a b)
    obtain ⟨h3, h4, h5⟩ := hf a b
    rw [List.foldl_cons]
    refine ⟨?_, fun q hq => ?_⟩
    · rcases List.mem_cons.1 h1 with h | h
      · rw [h]
        rcases h3 with h3 | h3 <;> simp [h3]
      · simp [h]
    · have h0 := h2 _ (List.mem_cons_self)
      rcases List.mem_cons.1 hq with rfl | hq
      · exact h0.trans h4
      · rcases List.mem_cons.1 hq with rfl | hq
        · exact h0.trans h5
        · exact h2 q (List.mem_cons_of_mem _ hq)

/-- Over the pairs of all values with their indices, from the least value with index 0, it leaves the first index at which
    the values are greatest. -/
theorem foldl_first (hn : n ≤ 2 ^ 30) (f : EReal × BitVec 32 → EReal × BitVec 32 → EReal × BitVec 32)
    (hf : ∀ a b, (f a b = a ∨ f a b = b) ∧ Before (f a b) a ∧ Before (f a b) b) (d : Fin n → EReal)
    (l : List (EReal × BitVec 32)) (hl : ∀ q, q ∈ l ↔ ∃ j : Fin n, q = (d j, BitVec.ofNat 32 j.val)) :
    (l.foldl f (⊥, 0#32)).2 = BitVec.ofNat 32 (first d).val := by
  obtain ⟨h1, h2⟩ := foldl_before f hf l (⊥, 0#32)
  have hp := h2 _ (List.mem_cons_of_mem _ ((hl _).2 ⟨first d, rfl⟩))
  have h0 : ∃ j : Fin n, l.foldl f (⊥, 0#32) = (d j, BitVec.ofNat 32 j.val) := by
    rcases List.mem_cons.1 h1 with h | h
    · refine ⟨0, ?_⟩
      have hz := h2 _ (List.mem_cons_of_mem _ ((hl _).2 ⟨0, rfl⟩))
      rw [h] at hz ⊢
      have : d 0 = ⊥ := by
        rcases hz with hz | ⟨hz, _⟩
        · exact absurd hz not_lt_bot
        · exact hz
      rw [this]
      simp
    · exact (hl _).1 h
  obtain ⟨j, hj⟩ := h0
  rw [hj] at hp ⊢
  have : first d = j := by
    rcases hp with hp | ⟨he, hle⟩
    · exact absurd hp (not_lt.2 (le_first d j))
    · rw [toInt_index hn, toInt_index hn] at hle
      have hle' : j ≤ first d := by exact_mod_cast hle
      rcases hle'.lt_or_eq with h | h
      · exact absurd he (lt_first d h).ne'
      · exact h.symm
  rw [this]

/-! ## The trips -/

section Trips

variable (x y z : Fin n → EReal) (b : EReal)

/-- The squared distance of point `j` from point `p`. -/
def square (p j : Fin n) : EReal :=
  (x j - x p) * (x j - x p) + (y j - y p) * (y j - y p) + (z j - z p) * (z j - z p)

/-- One trip: from the distances and the point last chosen to the lowered distances and the next point. -/
def advance (s : (Fin n → EReal) × Fin n) : (Fin n → EReal) × Fin n :=
  (fun j => min (s.1 j) (square x y z s.2 j), first fun j => min (s.1 j) (square x y z s.2 j))

/-- The distances and the point last chosen before trip `k`. -/
def trip : ℕ → (Fin n → EReal) × Fin n
  | 0 => (fun _ => b, 0)
  | k + 1 => advance x y z (trip k)

/-- The point that trip `k` records. -/
def chosen (k : ℕ) : Fin n := (trip x y z b k).2

/-- The coordinates of the points chosen: row `a` holds coordinate `a` of them, and zeros from row 3 on. -/
def entry (a : Fin 8) (k : ℕ) : EReal :=
  if a.val = 0 then x (chosen x y z b k) else if a.val = 1 then y (chosen x y z b k)
  else if a.val = 2 then z (chosen x y z b k) else 0

end Trips

end Cert.Proof.Farthest
-- ==== Proof.Nearest.lean ====
/-
  THE NEAREST POINTS as mathematics. Given a value for each of `n` points, the points are listed by the stable order of
  the values: a lesser value first, and of equal values the one of the lesser index. The kernel finds the list one point
  at a time: it takes the first index at which what remains is least and replaces the value there by one above all of
  them. The reference finds it by a stable sort. Both are shown here to find the same points.
-/
module

public import proofs.«01_k».proof.Proof.Farthest
public import Idealize.ShloMosaic.Lib.SortFacts

@[expose] public section

noncomputable section

namespace Cert.Proof.Nearest

open Idealize.ShloMosaic
open Cert.Proof.Farthest

variable {n : ℕ} (d : Fin n → EReal)

/-- The point at place `k` of the list. -/
def near (k : Fin n) : Fin n := sortedFrom (fun i j => decide (d i < d j)) k

/-- One point is ahead of another: its value is lesser, or the same with a lesser index. -/
def Ahead (i j : Fin n) : Prop := d i < d j ∨ (d i = d j ∧ i < j)

/-- To insert a point of lesser index than all of a list keeps the list in order. -/
theorem pairwise_insert (a : Fin n) (l : List (Fin n)) (ha : ∀ b ∈ l, a < b) (hl : l.Pairwise (Ahead d)) :
    (insertBefore (fun i j => decide (d i < d j)) a l).Pairwise (Ahead d) := by
  induction l with
  | nil => exact List.pairwise_singleton _ _
  | cons b l ih =>
    obtain ⟨hb, hl'⟩ := List.pairwise_cons.1 hl
    unfold insertBefore
    by_cases h : d b < d a
    · rw [if_pos (by simpa using h), List.pairwise_cons]
      refine ⟨fun c hc => ?_, ih (fun c hc => ha c (List.mem_cons_of_mem _ hc)) hl'⟩
      rcases List.mem_cons.1 ((perm_insertBefore _ a l).mem_iff.1 hc) with rfl | hc
      · exact Or.inl h
      · exact hb c hc
    · rw [if_neg (by simpa using h), List.pairwise_cons]
      refine ⟨fun c hc => ?_, hl⟩
      have hle : d a ≤ d c := by
        rcases List.mem_cons.1 hc with rfl | hc'
        · exact not_lt.1 h
        · rcases hb c hc' with g | g
          · exact (not_lt.1 h).trans g.le
          · exact (not_lt.1 h).trans g.1.le
      rcases hle.lt_or_eq with g | g
      · exact Or.inl g
      · exact Or.inr ⟨g, ha c hc⟩

/-- The list is in order. -/
theorem pairwise_sort (l : List (Fin n)) (hl : l.Pairwise (· < ·)) :
    (stableSort (fun i j => decide (d i < d j)) l).Pairwise (Ahead d) := by
  induction l with
  | nil => exact List.Pairwise.nil
  | cons a l ih =>
    obtain ⟨ha, hl'⟩ := List.pairwise_cons.1 hl
    unfold stableSort
    exact pairwise_insert d a _ (fun b hb => ha b ((perm_stableSort _ l).mem_iff.1 hb)) (ih hl')

/-- A point at an earlier place is ahead of one at a later place. -/
theorem near_ahead {i j : Fin n} (h : i < j) : Ahead d (near d i) (near d j) := by
  have := List.pairwise_iff_get.1 (pairwise_sort d (List.finRange n) (List.pairwise_lt_finRange n))
  exact this (i.cast (length_sortPositions n _).symm) (j.cast (length_sortPositions n _).symm) h

/-- Different places have different points. -/
theorem near_injective : Function.Injective (near d) := sortedFrom_injective _

/-- Every point has a place. -/
theorem near_surjective : Function.Surjective (near d) := sortedFrom_surjective _

/-- The values before trip `k`: those of the points of the first `k` places are replaced by `b`. -/
def remaining (b : EReal) (k : ℕ) (j : Fin n) : EReal :=
  open Classical in if ∃ i : Fin n, i.val < k ∧ near d i = j then b else d j

/-- Before the first trip nothing is replaced. -/
theorem remaining_zero (b : EReal) (j : Fin n) : remaining d b 0 j = d j := by
  unfold remaining
  rw [if_neg]
  rintro ⟨i, hi, _⟩
  omega

/-- Trip `k` replaces the value of the point at place `k`. -/
theorem remaining_succ (b : EReal) (k : Fin n) (j : Fin n) :
    remaining d b (k.val + 1) j = if j = near d k then b else remaining d b k.val j := by
  unfold remaining
  by_cases h : j = near d k
  · rw [if_pos h, if_pos ⟨k, by omega, h.symm⟩]
  · rw [if_neg h]
    refine if_congr ⟨?_, ?_⟩ rfl rfl
    · rintro ⟨i, hi, rfl⟩
      refine ⟨i, lt_of_le_of_ne (by omega) fun e => h ?_, rfl⟩
      rw [Fin.ext e]
    · rintro ⟨i, hi, e⟩
      exact ⟨i, by omega, e⟩

/-- The value of the point at place `k` is not replaced before trip `k`. -/
theorem remaining_near (b : EReal) (k : Fin n) : remaining d b k.val (near d k) = d (near d k) := by
  unfold remaining
  rw [if_neg]
  rintro ⟨i, hi, e⟩
  rw [near_injective d e] at hi
  omega

/-- Before trip `k` no value is below that of the point at place `k`, and those before it are above. -/
theorem remaining_least {b : EReal} (hb : ∀ j, d j < b) (k : Fin n) (j : Fin n) :
    d (near d k) ≤ remaining d b k.val j ∧ (remaining d b k.val j = d (near d k) → near d k ≤ j) := by
  unfold remaining
  by_cases h : ∃ i : Fin n, i.val < k.val ∧ near d i = j
  · rw [if_pos h]
    exact ⟨(hb _).le, fun e => absurd e (hb _).ne'⟩
  · rw [if_neg h]
    obtain ⟨i, rfl⟩ := near_surjective d j
    rcases lt_trichotomy i k with g | g | g
    · exact absurd ⟨i, g, rfl⟩ h
    · subst g
      exact ⟨le_rfl, fun _ => le_rfl⟩
    · rcases near_ahead d g with e | e
      · exact ⟨e.le, fun e' => absurd e' e.ne'⟩
      · exact ⟨e.1.le, fun _ => e.2.le⟩

/-- The least of what remains before trip `k` is the value of the point at place `k`. -/
theorem fold_remaining {b t : EReal} (hb : ∀ j, d j < b) (ht : t = ⊤) (k : Fin n) :
    Finset.univ.fold min t (remaining d b k.val) = d (near d k) := by
  subst ht
  refine le_antisymm ?_ ?_
  · exact Finset.fold_min_le _ |>.2 (Or.inr ⟨near d k, Finset.mem_univ _, (remaining_near d b k).le⟩)
  · exact Finset.le_fold_min _ |>.2 ⟨le_top, fun j _ => (remaining_least d hb k j).1⟩

/-- A point has none of the first `k` places. -/
def Left (k : ℕ) (j : Fin n) : Prop := ∀ i : Fin n, i.val < k → near d i ≠ j

/-- The value of a point that has none of the first places is not replaced; that of every other is. -/
theorem remaining_eq (b : EReal) (k : ℕ) (j : Fin n) :
    remaining d b k j = open Classical in if Left d k j then d j else b := by
  unfold remaining Left
  by_cases h : ∃ i : Fin n, i.val < k ∧ near d i = j
  · rw [if_pos h, if_neg (by push Not; exact h)]
  · rw [if_neg h, if_pos (by push Not at h; exact h)]

/-- The points that the point at place `k` is ahead of are those that have none of the places up to `k`. -/
theorem later (k j : Fin n) : d (near d k) < d j ∨ (d j = d (near d k) ∧ near d k < j) ↔ Left d (k.val + 1) j := by
  obtain ⟨i, rfl⟩ := near_surjective d j
  have e : Left d (k.val + 1) (near d i) ↔ k < i := by
    unfold Left
    refine ⟨fun h => ?_, fun h a ha g => ?_⟩
    · by_contra g
      exact h i (by omega) rfl
    · rw [near_injective d g] at ha
      omega
  rw [e]
  refine ⟨fun h => ?_, fun h => (near_ahead d h).imp id (And.imp Eq.symm id)⟩
  rcases lt_trichotomy k i with g | g | g
  · exact g
  · subst g
    rcases h with h | h
    · exact absurd h (lt_irrefl _)
    · exact absurd h.2 (lt_irrefl _)
  · rcases near_ahead d g with a | a <;> rcases h with h | h
    · exact absurd (a.trans h) (lt_irrefl _)
    · exact absurd h.1 a.ne
    · exact absurd a.1 h.ne'
    · exact absurd (a.2.trans h.2) (lt_irrefl _)

/-- The least index among those at which what remains before trip `k` is least is the point at place `k`. -/
theorem fold_near [NeZero n] (hn : n ≤ 2 ^ 30) {b t : EReal} (hb : ∀ j, d j < b) (ht : t = ⊤) (k : Fin n) (e : Fin n → EReal)
    (he : ∀ j, e j = remaining d b k.val j) :
    Finset.univ.fold IntOp.minsi (2147483647#32)
        (fun j : Fin n => if e j = Finset.univ.fold min t e then BitVec.ofNat 32 j.val else 1073741824#32)
      = BitVec.ofNat 32 (near d k).val := by
  obtain rfl : e = remaining d b k.val := funext he
  rw [fold_remaining d hb ht]
  exact fold_index hn _ _ (near d k) (remaining_near d b k) fun j => (remaining_least d hb k j).2

/-- A list by greater values first, whose order is the reverse of that of `d`, is the list of `d`. -/
theorem sorted_near (e : Fin n → EReal) (h : ∀ i j, e j < e i ↔ d i < d j) (k : Fin n) :
    sortedFrom (fun i j => Ideal.cmp .ogt (e i) (e j) == 1#1) k = near d k := by
  unfold near
  congr 1
  funext i j
  rw [Bool.eq_iff_iff]
  simp only [beq_iff_eq, decide_eq_true_eq, ← h]
  by_cases g : e j < e i <;> simp [Ideal.cmp, g]

end Cert.Proof.Nearest

end
-- ==== Proof.Group.lean ====
/-
  THE SECOND ABSTRACTION'S NEIGHBOURHOODS as mathematics. Each cloud has 128 points with three real coordinates and 128 real
  features. Of these, 32 centres are chosen (`Farthest`); the 64 nearest points of each centre (`Nearest`) form its
  neighbourhood, and each of them gives a row of 131 channels: its coordinates less the centre's, then its features. The
  first layer takes these rows to 128 channels.
-/
module

public import proofs.«01_k».proof.Proof.Nearest
public import proofs.«01_k».proof.Proof.Norm

@[expose] public section

noncomputable section

namespace Cert.Proof.Group

open Idealize.ShloMosaic Cert.Proof.Farthest Cert.Proof.Nearest Cert.Proof.Norm

/-- The distance that every point starts with. -/
abbrev start : EReal := Ideal.ofBits .f32 0x501502F9#32

/-- The number that takes the place of a distance already ranked. -/
abbrev far : EReal := Ideal.ofBits .f32 0x7149F2CA#32

/-- The least squared distance that the reference tells apart. -/
def tiny : ℝ := 9223372 * (2 : ℝ) ^ (-63 : Int)

/-- The pattern of that number. -/
theorem ofBits_tiny : Ideal.ofBits .f32 730643660#32 = ((tiny : ℝ) : EReal) := by
  simp [Ideal.ofBits, Ideal.ieee, tiny]

/-- The number two, as the program writes it. -/
theorem ofBits_two : Ideal.ofBits .f32 0x40000000#32 = ((2 : ℝ) : EReal) := by
  simp [Ideal.ofBits, Ideal.ieee]
  rw [← EReal.coe_mul]
  congr 1
  norm_num

/-- It is positive. -/
theorem tiny_pos : 0 < tiny := by unfold tiny; positivity

/-- Of numbers that are zero or can be told apart from zero, the root of the greater of the number and that least, with its
    sign changed, reverses the order. -/
theorem order_of_told {x y : ℝ} (hx : x = 0 ∨ tiny < x) (hy : y = 0 ∨ tiny < y) :
    ((-Real.sqrt (max y tiny) : ℝ) : EReal) < ((-Real.sqrt (max x tiny) : ℝ) : EReal) ↔ ((x : ℝ) : EReal) < ((y : ℝ) : EReal) := by
  rw [EReal.coe_lt_coe_iff, EReal.coe_lt_coe_iff, neg_lt_neg_iff,
    Real.sqrt_lt_sqrt_iff (le_trans tiny_pos.le (le_max_right _ _))]
  have t := tiny_pos
  rcases hx with a | a <;> rcases hy with b | b
  · rw [a, b]; simp
  · rw [a, max_eq_right t.le, max_eq_left b.le]; exact ⟨fun _ => t.trans b, fun _ => b⟩
  · rw [b, max_eq_right t.le, max_eq_left a.le]; exact ⟨fun g => absurd (g.trans a) (lt_irrefl _), fun g => absurd (g.trans (t.trans a)) (lt_irrefl _)⟩
  · rw [max_eq_left a.le, max_eq_left b.le]

section Cloud

variable (P : Fin 3 → Fin 128 → ℝ)

/-- A coordinate of the points, as extended real numbers. -/
def coords (a : Fin 3) : Fin 128 → EReal := fun j => ((P a j : ℝ) : EReal)

/-- The point that is centre `r`. -/
def centre (r : ℕ) : Fin 128 := chosen (coords P 0) (coords P 1) (coords P 2) start r

/-- The squared distance of two points. -/
def gap (p j : Fin 128) : ℝ :=
  (P 0 p - P 0 j) * (P 0 p - P 0 j) + (P 1 p - P 1 j) * (P 1 p - P 1 j) + (P 2 p - P 2 j) * (P 2 p - P 2 j)

/-- The squared distances from a point, as extended real numbers. -/
def gaps (p : Fin 128) : Fin 128 → EReal := fun j => ((gap P p j : ℝ) : EReal)

/-- The point at place `s` of the neighbourhood of centre `r`. -/
def neighbour (r : Fin 32) (s : Fin 64) : Fin 128 := near (gaps P (centre P r.val)) ⟨s.val, by omega⟩

/-- The 131 channels of that point: its coordinates less the centre's, then its features. -/
def feature (f : Fin 128 → Fin 128 → ℝ) (r : Fin 32) (s : Fin 64) (k : Fin 131) : ℝ :=
  if k.val < 1 then P 0 (neighbour P r s) - P 0 (centre P r.val)
  else if k.val - 1 < 1 then P 1 (neighbour P r s) - P 1 (centre P r.val)
  else if k.val - 1 - 1 < 1 then P 2 (neighbour P r s) - P 2 (centre P r.val)
  else f ⟨k.val - 1 - 1 - 1, by omega⟩ (neighbour P r s)

/-- The first layer at that point. -/
def mixed (f : Fin 128 → Fin 128 → ℝ) (W : Fin 128 → Fin 131 → ℝ) (β : Fin 128 → ℝ) (r : Fin 32) (s : Fin 64) (o : Fin 128) : ℝ :=
  ∑ k, feature P f r s k * W o k + β o

/-- The layer summed among the ideal values. -/
theorem mixed_coe (f : Fin 128 → Fin 128 → ℝ) (W : Fin 128 → Fin 131 → ℝ) (β : Fin 128 → ℝ) (r : Fin 32) (s : Fin 64) (o : Fin 128)
    {x w : Fin 131 → EReal} {b : EReal} (hx : ∀ k, x k = ((feature P f r s k : ℝ) : EReal))
    (hw : ∀ k, w k = ((W o k : ℝ) : EReal)) (hb : b = ((β o : ℝ) : EReal)) :
    ∑ k, x k * w k + b = ((mixed P f W β r s o : ℝ) : EReal) := by
  rw [mixed, EReal.coe_add, coe_sum, hb]
  exact congrArg (· + _) (Finset.sum_congr rfl fun k _ => by rw [hx, hw, EReal.coe_mul])

/-- The squared distances are zero or can be told apart from zero, and are below the number that replaces them. -/
structure Apart : Prop where
  /-- No squared distance is too small without being zero. -/
  tells : ∀ p j, gap P p j = 0 ∨ tiny < gap P p j
  /-- None is too great. -/
  below : ∀ p j, gaps P p j < far

variable {P}

/-- The reference's measure of nearness orders the points as their squared distances do. -/
theorem Apart.order (h : Apart P) (p i j : Fin 128) :
    ((-Real.sqrt (max (gap P p j) tiny) : ℝ) : EReal) < ((-Real.sqrt (max (gap P p i) tiny) : ℝ) : EReal)
      ↔ gaps P p i < gaps P p j :=
  order_of_told (h.tells p i) (h.tells p j)

end Cloud

/-- The rows of all clouds: place `s` of neighbourhood `r` is row `64 r + s` of its cloud. -/
def rows (P : Fin 16 → Fin 3 → Fin 128 → ℝ) (f : Fin 16 → Fin 128 → Fin 128 → ℝ) (W : Fin 128 → Fin 131 → ℝ) (β : Fin 128 → ℝ)
    (p : Fin 16 × Fin 2048) (o : Fin 128) : ℝ :=
  mixed (P p.1) (f p.1) W β ⟨p.2.val / 64, by omega⟩ ⟨p.2.val % 64, by omega⟩ o

end Cert.Proof.Group

end
-- ==== Proof.GroupValue.lean ====
/-
  WHAT THE CALL THAT FORMS THE NEIGHBOURHOODS LEAVES. At the ideal values its first loop takes the cloud of a block through
  the choice of 32 centres (`Farthest.trip`), its second loop marks the 64 nearest points of every centre one after another
  (`Nearest.near`), and the products with the marks bring their coordinates and features, so that the array written holds the
  first layer of the neighbourhoods (`Group.rows`) and the moments written are those of its rows.
-/
module

public import proofs.«01_k».proof.Proof.Group
public import proofs.«01_k».proof.Proof.Gen.ResultIdeal.Frame
public import Idealize.ShloMosaic.Lib.Pipeline.ValueKit

@[expose] public section

set_option maxRecDepth 16384

noncomputable section

namespace Cert.Proof.GroupValue

open Idealize.ShloMosaic Idealize.ShloMosaic.TcCoe
open Cert.ResultIdeal Cert.ResultIdeal.Gen
open Cert.Proof.Norm Cert.Proof.Farthest Cert.Proof.Nearest Cert.Proof.Group

/-! ## The loop that chooses the centres -/

/-- What that loop carries: the distances, the point last chosen, and the three columns of coordinates recorded. -/
abbrev Carried : Type :=
  FVec Ideal S1x128 .f32 × IVec S1x1 32 × FVec Ideal S32x1 .f32 × FVec Ideal S32x1 .f32 × FVec Ideal S32x1 .f32

section Trip

variable (v2 : Vec Ideal S1x8x128 .f32)

/-- One trip of the loop. -/
def body (t : Fin k0_t1_loop.trips) (s : Carried) : Carried :=
  (k0_pay18 v2 s.1 s.2.1, k0_pay19 v2 s.1 s.2.1, k0_pay21 v2 t s.2.1 s.2.2.1, k0_pay22 v2 t s.2.1 s.2.2.2.1,
    k0_pay23 v2 t s.2.1 s.2.2.2.2)

/-- One coordinate of the cloud of a block. -/
abbrev row (a : Fin 8) : Fin 128 → EReal := fun j => v2 (ix3 0 a j)

/-- The choice of centres of that cloud, before trip `k`. -/
abbrev state (k : ℕ) : (Fin 128 → EReal) × Fin 128 := trip (row v2 0) (row v2 1) (row v2 2) start k

/-- The sum in which every entry but that of the chosen point is replaced by zero is the entry of the chosen point. -/
theorem sum_chosen (v : Fin 128 → EReal) (a : BitVec 32) (p : Fin 128) (h : a = BitVec.ofNat 32 p.val) :
    ∑ j : Fin 128, Scalar.select (IntOp.cmpi .eq (BitVec.ofNat 32 j.val) a) (v j) 0 = v p := by
  rw [h, Finset.sum_congr rfl fun (j : Fin 128) _ =>
    select_index (k := p.val) (show j.val < 2 ^ 32 by omega) (by omega) (v j) (0 : EReal)]
  exact (Finset.sum_eq_single p (fun j _ hj => if_neg fun e => hj (Fin.ext e)) fun hp =>
    absurd (Finset.mem_univ _) hp).trans (if_pos rfl)

/-- The first coordinate of the chosen point. -/
theorem x_chosen (a : IVec S1x1 32) (p : Fin 128) (h : a (ix2 0 0) = BitVec.ofNat 32 p.val) :
    k0_pay15 v2 a (ix2 0 0) = row v2 0 p := by
  unfold k0_pay15 k0_pay14 k0_pay6 k0_pay5
  pointwise
  exact sum_chosen (row v2 0) _ p h

/-- The second coordinate of the chosen point. -/
theorem y_chosen (a : IVec S1x1 32) (p : Fin 128) (h : a (ix2 0 0) = BitVec.ofNat 32 p.val) :
    k0_pay16 v2 a (ix2 0 0) = row v2 1 p := by
  unfold k0_pay16 k0_pay14 k0_pay7 k0_pay5
  pointwise
  exact sum_chosen (row v2 1) _ p h

/-- The third coordinate of the chosen point. -/
theorem z_chosen (a : IVec S1x1 32) (p : Fin 128) (h : a (ix2 0 0) = BitVec.ofNat 32 p.val) :
    k0_pay17 v2 a (ix2 0 0) = row v2 2 p := by
  unfold k0_pay17 k0_pay14 k0_pay8 k0_pay5
  pointwise
  exact sum_chosen (row v2 2) _ p h

/-- The lowered distances. -/
theorem distance_apply (d : FVec Ideal S1x128 .f32) (a : IVec S1x1 32) (p : Fin 128)
    (h : a (ix2 0 0) = BitVec.ofNat 32 p.val) (j : Fin 128) :
    k0_pay18 v2 d a (ix2 0 j) = min (d (ix2 0 j)) (square (row v2 0) (row v2 1) (row v2 2) p j) := by
  unfold k0_pay18
  pointwise
  rw [x_chosen v2 a p h, y_chosen v2 a p h, z_chosen v2 a p h]
  unfold k0_pay6 k0_pay7 k0_pay8 k0_pay5
  pointwise
  rfl

/-- The next point. -/
theorem next_apply (d : FVec Ideal S1x128 .f32) (a : IVec S1x1 32) :
    k0_pay19 v2 d a (ix2 0 0) = BitVec.ofNat 32 (first fun j => k0_pay18 v2 d a (ix2 0 j)).val := by
  unfold k0_pay19
  pointwise
  exact fold_least (by norm_num) _ _ ofBits_bot

/-- What the loop carries before trip `k`. -/
structure At (k : ℕ) (s : Carried) : Prop where
  /-- The distances. -/
  distance : ∀ j, s.1 (ix2 0 j) = (state v2 k).1 j
  /-- The point last chosen. -/
  point : s.2.1 (ix2 0 0) = BitVec.ofNat 32 (state v2 k).2.val
  /-- The first coordinates recorded. -/
  xs : ∀ i : Fin 32, i.val < k → s.2.2.1 (ix2 i 0) = row v2 0 (state v2 i).2
  /-- The second coordinates recorded. -/
  ys : ∀ i : Fin 32, i.val < k → s.2.2.2.1 (ix2 i 0) = row v2 1 (state v2 i).2
  /-- The third coordinates recorded. -/
  zs : ∀ i : Fin 32, i.val < k → s.2.2.2.2 (ix2 i 0) = row v2 2 (state v2 i).2

/-- What the loop starts with. -/
theorem at_zero : At v2 0 (k0_pay9, k0_pay10, k0_pay11, k0_pay12, k0_pay13) where
  distance j := by
    show (k0_pay9 : FVec Ideal S1x128 .f32) (ix2 0 j) = start
    unfold k0_pay9
    pointwise
  point := by
    show k0_pay10 (ix2 0 0) = 0#32
    unfold k0_pay10
    pointwise
  xs _ h := absurd h (Nat.not_lt_zero _)
  ys _ h := absurd h (Nat.not_lt_zero _)
  zs _ h := absurd h (Nat.not_lt_zero _)

/-- A lane records at trip `t` where its number is that of the trip. -/
theorem lane (t : Fin k0_t1_loop.trips) (i : Fin 32) {α : Type} (a b : α) :
    Scalar.select (k0_pay20 t (ix2 i 0)) a b = if i.val = t.val then a else b := by
  unfold k0_pay20
  pointwise
  have ht : t.val < 32 := lt_of_lt_of_eq t.isLt (by decide)
  rw [show Scf.iv 0#32 1#32 t.val = BitVec.ofNat 32 t.val by simp [Scf.iv]]
  exact select_index (by omega) (by omega) a b

/-- A recorded column after a trip. -/
theorem recorded {k : ℕ} {f : ℕ → EReal} {s new : Fin 32 → EReal} {p : EReal} (hp : p = f k)
    (hn : ∀ i : Fin 32, new i = if i.val = k then p else s i) (hs : ∀ i : Fin 32, i.val < k → s i = f i)
    (i : Fin 32) (h : i.val < k + 1) : new i = f i := by
  rw [hn]
  by_cases e : i.val = k
  · rw [if_pos e, hp, e]
  · rw [if_neg e, hs i (by omega)]

/-- One trip of the loop is one trip of the choice. -/
theorem at_succ (t : Fin k0_t1_loop.trips) (s : Carried) (h : At v2 t s) : At v2 (t + 1) (body v2 t s) where
  distance j := by
    refine (distance_apply v2 s.1 s.2.1 _ h.point j).trans ?_
    rw [h.distance j]
    rfl
  point := by
    dsimp only [body]
    rw [next_apply]
    have e : (fun j => k0_pay18 v2 s.1 s.2.1 (ix2 0 j)) = (state v2 (t + 1)).1 := funext fun j => by
      rw [distance_apply v2 s.1 s.2.1 _ h.point j, h.distance j]
      rfl
    exact congrArg (fun d => BitVec.ofNat 32 (first d).val) e
  xs i hi := by
    refine recorded (f := fun i => row v2 0 (state v2 i).2) (new := fun i => k0_pay21 v2 t s.2.1 s.2.2.1 (ix2 i 0))
      (x_chosen v2 s.2.1 _ h.point) (fun i => ?_) h.xs i hi
    unfold k0_pay21
    pointwise
    exact lane t i _ _
  ys i hi := by
    refine recorded (f := fun i => row v2 1 (state v2 i).2) (new := fun i => k0_pay22 v2 t s.2.1 s.2.2.2.1 (ix2 i 0))
      (y_chosen v2 s.2.1 _ h.point) (fun i => ?_) h.ys i hi
    unfold k0_pay22
    pointwise
    exact lane t i _ _
  zs i hi := by
    refine recorded (f := fun i => row v2 2 (state v2 i).2) (new := fun i => k0_pay23 v2 t s.2.1 s.2.2.2.2 (ix2 i 0))
      (z_chosen v2 s.2.1 _ h.point) (fun i => ?_) h.zs i hi
    unfold k0_pay23
    pointwise
    exact lane t i _ _

/-- What a counted loop leaves, from what holds before its first trip and what every trip keeps. -/
theorem fold_holds {β : Type} {n : ℕ} (f : Fin n → β → β) (p : ℕ → β → Prop) (s : β) (h0 : p 0 s)
    (h : ∀ (t : Fin n) (s : β), p t.val s → p (t.val + 1) (f t s)) : p n (Scf.fold f s) := by
  rw [Scf.fold_eq]
  have e : ∀ k (hk : k ≤ n), p k (((List.finRange n).take k).foldl (fun s t => f t s) s) := by
    intro k
    induction k with
    | zero => exact fun _ => h0
    | succ k ih =>
      intro hk
      have h := h ⟨k, hk⟩ _ (ih (Nat.le_of_succ_le hk))
      rw [List.take_succ_eq_append_getElem (by simpa using hk), List.foldl_append]
      simpa using h
  have h := e _ le_rfl
  rwa [List.take_of_length_le (by simp)] at h

/-- What the loop carries when it ends. -/
theorem at_end : At v2 32 (Scf.fold (body v2) (k0_pay9, k0_pay10, k0_pay11, k0_pay12, k0_pay13)) :=
  fold_holds (body v2) (At v2) _ (at_zero v2) (at_succ v2)

end Trip

/-! ## The loop that marks the neighbours -/

section Mark

/-- What that loop carries: the distances not yet ranked, and the marks. -/
abbrev Marks : Type := FVec Ideal S32x128 .f32 × FVec Ideal S32x64x128 .f32

/-- One trip of the loop. -/
def mark (t : Fin k0_t2_loop.trips) (s : Marks) : Marks := (k0_pay28 s.1, k0_pay27 t s.1 s.2)

variable (D : FVec Ideal S32x128 .f32)

/-- The distances of the points from centre `r`. -/
abbrev line (r : Fin 32) : Fin 128 → EReal := fun j => D (ix2 r j)

/-- What the loop carries before trip `k`. -/
structure Marked (k : ℕ) (s : Marks) : Prop where
  /-- The distances of the points ranked before are replaced. -/
  rest : ∀ r j, s.1 (ix2 r j) = remaining (line D r) far k j
  /-- Each place before has the mark of its point. -/
  marks : ∀ (r : Fin 32) (i : Fin 64) (j : Fin 128), i.val < k →
    s.2 (ix3 r i j) = if j = near (line D r) ⟨i.val, by omega⟩ then 1 else 0

/-- What the loop starts with. -/
theorem marked_zero (a : FVec Ideal S32x64x128 .f32) : Marked D 0 (D, a) where
  rest r j := (remaining_zero (line D r) far j).symm
  marks _ _ _ h := absurd h (Nat.not_lt_zero _)

/-- The pattern of plus infinity. -/
theorem ofBits_top : Ideal.ofBits .f32 2139095040#32 = (⊤ : EReal) := by
  simp [Ideal.ofBits, Ideal.ieee]

/-- The integer one as an ideal value. -/
theorem sitofp_one : (FloatOps.sitofp .f32 (1#32 : BitVec 32) : Ideal .f32) = (1 : EReal) := by
  show ((((1#32 : BitVec 32).toInt : ℤ) : ℝ) : EReal) = 1
  simp

variable {D} (hD : ∀ r j, line D r j < far)
include hD

/-- The point that trip `k` marks is that at place `k`. -/
theorem knock (k : Fin 64) (s : Marks) (h : Marked D k.val s) (r : Fin 32) (j : Fin 128) {α : Type} (a b : α) :
    Scalar.select (k0_pay26 s.1 (ix2 r j)) a b = if j = near (line D r) ⟨k.val, by omega⟩ then a else b := by
  unfold k0_pay26
  pointwise
  have e := fold_near (line D r) (by norm_num) (hD r) ofBits_top ⟨k.val, by omega⟩ (fun j => s.1 (ix2 r j)) (h.rest r)
  rw [e, select_index (by omega) (by omega)]
  exact if_congr Fin.ext_iff.symm rfl rfl

/-- One trip of the loop marks one more place. -/
theorem marked_succ (t : Fin k0_t2_loop.trips) (s : Marks) (h : Marked D t.val s) : Marked D (t.val + 1) (mark t s) := by
  have ht : t.val < 64 := lt_of_lt_of_eq t.isLt (by decide)
  refine ⟨fun r j => ?_, fun r i j hi => ?_⟩
  · dsimp only [mark]
    unfold k0_pay28
    pointwise
    rw [knock hD ⟨t.val, ht⟩ s h r j, h.rest r j]
    exact (remaining_succ (line D r) far ⟨t.val, by omega⟩ j).symm
  · dsimp only [mark]
    unfold k0_pay27
    pointwise
    rw [show Scf.iv 0#32 1#32 t.val = BitVec.ofNat 32 t.val by simp [Scf.iv], select_index (by omega) (by omega)]
    by_cases e : i.val = t.val
    · rw [if_pos e]
      have k := knock hD ⟨t.val, ht⟩ s h r j (1 : EReal) 0
      simp only [← e] at k
      rw [← k]
      generalize k0_pay26 s.1 (ix2 r j) = w
      rcases w.eq_zero_or_eq_one with rfl | rfl
      · exact sitofp_zero
      · exact sitofp_one
    · rw [if_neg e, h.marks r i j (by omega)]

/-- What the loop carries when it ends. -/
theorem marked_end (a : FVec Ideal S32x64x128 .f32) : Marked D 64 (Scf.fold mark (D, a)) :=
  fold_holds mark (Marked D) _ (marked_zero D a) (marked_succ hD)

end Mark

/-! ## The block written -/

section Block

variable {v0 : Vec Ideal S1x128x128 .f32} {v2 : Vec Ideal S1x8x128 .f32} {v48 : Vec Ideal S128x131 .f32} {v50 : Vec Ideal S1x128 .f32}
  {P : Fin 3 → Fin 128 → ℝ} {f : Fin 128 → Fin 128 → ℝ} {W : Fin 128 → Fin 131 → ℝ} {β : Fin 128 → ℝ} {s : Carried} {u : Marks}

/-- The products with the marks of one place bring the entry of its point. -/
theorem sum_marked (a v : Fin 128 → EReal) (p : Fin 128) (h : ∀ j, a j = if j = p then 1 else 0) : ∑ j, a j * v j = v p := by
  simp only [h, ite_mul, one_mul, zero_mul, Finset.sum_ite_eq', Finset.mem_univ, if_true]

/-- The centres chosen are those of the cloud. -/
theorem state_point (hP : ∀ (a : Fin 3) j, v2 (ix3 0 ⟨a.val, by omega⟩ j) = ((P a j : ℝ) : EReal)) (k : ℕ) :
    (state v2 k).2 = centre P k := by
  have e0 : row v2 0 = coords P 0 := funext (hP 0)
  have e1 : row v2 1 = coords P 1 := funext (hP 1)
  have e2 : row v2 2 = coords P 2 := funext (hP 2)
  unfold state
  rw [e0, e1, e2]
  rfl

/-- The distances that the second loop starts with are those of the points from the centres. -/
theorem line_gaps (hP : ∀ (a : Fin 3) j, v2 (ix3 0 ⟨a.val, by omega⟩ j) = ((P a j : ℝ) : EReal)) (hs : At v2 32 s) (r : Fin 32) :
    line (k0_pay24 v2 s.2.2.1 s.2.2.2.1 s.2.2.2.2) r = gaps P (centre P r.val) := by
  funext j
  unfold line k0_pay24 k0_pay6 k0_pay7 k0_pay8 k0_pay5
  pointwise
  rw [hs.xs r r.isLt, hs.ys r r.isLt, hs.zs r r.isLt, state_point hP]
  have e0 (j : Fin 128) : v2 (ix3 0 0 j) = ((P 0 j : ℝ) : EReal) := hP 0 j
  have e1 (j : Fin 128) : v2 (ix3 0 1 j) = ((P 1 j : ℝ) : EReal) := hP 1 j
  have e2 (j : Fin 128) : v2 (ix3 0 2 j) = ((P 2 j : ℝ) : EReal) := hP 2 j
  unfold row gaps gap
  simp only [e0, e1, e2, EReal.coe_add, EReal.coe_mul, EReal.coe_sub]

/-- The rows of a block are the first layer of the neighbourhoods of its cloud. -/
theorem rows_block (h0 : ∀ k j, v0 (ix3 0 k j) = ((f k j : ℝ) : EReal))
    (hP : ∀ (a : Fin 3) j, v2 (ix3 0 ⟨a.val, by omega⟩ j) = ((P a j : ℝ) : EReal))
    (hW : Matrix v48 W) (hb : ∀ o, v50 (ix2 0 o) = ((β o : ℝ) : EReal)) (hs : At v2 32 s)
    (hu : Marked (k0_pay24 v2 s.2.2.1 s.2.2.2.1 s.2.2.2.2) 64 u) (q : Fin 2048) (o : Fin 128) :
    k0_pay1 (F := Ideal) (k0_pay4 v0) (k0_pay7 v2) (k0_pay8 v2) s.2.2.1 s.2.2.2.1 s.2.2.2.2 (k0_pay29 u.2) (k0_pay30 v2 u.2)
        (constant S2048x1 .f32 0x00000000#32) v48 v50 (ix2 q o)
      = ((mixed P f W β ⟨q.val / 64, by omega⟩ ⟨q.val % 64, by omega⟩ o : ℝ) : EReal) := by
  unfold k0_pay1
  pointwise
  refine mixed_coe P f W β _ _ o (fun k => ?_) (hW o) (hb o)
  have hr := hu.marks ⟨q.val / 64, by omega⟩ ⟨q.val % 64, by omega⟩
  rw [line_gaps hP hs] at hr
  have hm (v : Fin 128 → EReal) := sum_marked _ v _ fun j => hr j (by omega)
  have e0 (j : Fin 128) : v2 (ix3 0 0 j) = ((P 0 j : ℝ) : EReal) := hP 0 j
  have e1 (j : Fin 128) : v2 (ix3 0 1 j) = ((P 1 j : ℝ) : EReal) := hP 1 j
  have e2 (j : Fin 128) : v2 (ix3 0 2 j) = ((P 2 j : ℝ) : EReal) := hP 2 j
  have z (i : Fin 1) : i = 0 := Subsingleton.elim _ _
  have hx := hs.xs ⟨q.val / 64, by omega⟩ (by show q.val / 64 < 32; omega)
  have hy := hs.ys ⟨q.val / 64, by omega⟩ (by show q.val / 64 < 32; omega)
  have hz := hs.zs ⟨q.val / 64, by omega⟩ (by show q.val / 64 < 32; omega)
  rw [state_point hP] at hx hy hz
  unfold row at hx hy hz
  rw [e0] at hx
  rw [e1] at hy
  rw [e2] at hz
  unfold feature
  by_cases c0 : k.val < 1
  · simp only [c0, dif_pos, if_pos, z]
    unfold k0_pay30 k0_pay29 k0_pay6 k0_pay5
    pointwise
    rw [hm fun j => v2 (ix3 0 0 j), e0, hx, EReal.coe_sub]
    rfl
  · by_cases c1 : k.val - 1 < 1
    · simp only [c0, c1, dif_pos, if_pos, dif_neg, if_neg, not_false_eq_true, z]
      unfold k0_pay29 k0_pay7 k0_pay5
      pointwise
      rw [hm fun j => v2 (ix3 0 1 j), e1, hy, EReal.coe_sub]
      rfl
    · by_cases c2 : k.val - 1 - 1 < 1
      · simp only [c0, c1, c2, dif_pos, if_pos, dif_neg, if_neg, not_false_eq_true, z]
        unfold k0_pay29 k0_pay8 k0_pay5
        pointwise
        rw [hm fun j => v2 (ix3 0 2 j), e2, hz, EReal.coe_sub]
        rfl
      · simp only [c0, c1, c2, dif_neg, if_neg, not_false_eq_true]
        unfold k0_pay29 k0_pay4
        pointwise
        rw [hm fun j => v0 (ix3 0 ⟨k.val - 1 - 1 - 1, by omega⟩ j), h0]
        rfl

end Block

section Written

variable (v0 : Vec Ideal S1x128x128 .f32) (v2 : Vec Ideal S1x8x128 .f32) (v48 : Vec Ideal S128x131 .f32) (v50 : Vec Ideal S1x128 .f32)

/-- What the first loop leaves. -/
def ends : Carried := Scf.fold (body v2) (k0_pay9, k0_pay10, k0_pay11, k0_pay12, k0_pay13)

/-- What the second loop leaves. -/
def marked : Marks := Scf.fold mark (k0_pay24 v2 (ends v2).2.2.1 (ends v2).2.2.2.1 (ends v2).2.2.2.2, k0_pay25)

/-- The rows of a block. -/
def rows_of : FVec Ideal S2048x128 .f32 :=
  k0_pay1 (F := Ideal) (k0_pay4 v0) (k0_pay7 v2) (k0_pay8 v2) (ends v2).2.2.1 (ends v2).2.2.2.1 (ends v2).2.2.2.2
    (k0_pay29 (marked v2).2) (k0_pay30 v2 (marked v2).2) (constant S2048x1 .f32 0x00000000#32) v48 v50

/-- The block of rows written. -/
def block : FVec Ideal S1x2048x128 .f32 :=
  k0_pay2 (F := Ideal) (k0_pay4 v0) (k0_pay7 v2) (k0_pay8 v2) (ends v2).2.2.1 (ends v2).2.2.2.1 (ends v2).2.2.2.2
    (k0_pay29 (marked v2).2) (k0_pay30 v2 (marked v2).2) (constant S2048x1 .f32 0x00000000#32) v48 v50

/-- The block of moments written. -/
def moments : FVec Ideal S1x8x256 .f32 :=
  k0_pay3 (F := Ideal) (k0_pay4 v0) (k0_pay7 v2) (k0_pay8 v2) (ends v2).2.2.1 (ends v2).2.2.2.1 (ends v2).2.2.2.2
    (k0_pay29 (marked v2).2) (k0_pay30 v2 (marked v2).2) (constant S2048x1 .f32 0x00000000#32) v48 v50

/-- The block of rows written holds the rows. -/
theorem block_apply (q : Fin 2048) (o : Fin 128) : block v0 v2 v48 v50 (ix3 0 q o) = rows_of v0 v2 v48 v50 (ix2 q o) := by
  unfold block rows_of k0_pay2
  pointwise

/-- The block of moments written is that of the rows, as the next call forms it of its own. -/
theorem moments_eq : moments v0 v2 v48 v50 = k1_pay1 (rows_of v0 v2 v48 v50) := rfl

variable {v0 v2 v48 v50} {P : Fin 3 → Fin 128 → ℝ} {f : Fin 128 → Fin 128 → ℝ} {W : Fin 128 → Fin 131 → ℝ} {β : Fin 128 → ℝ}

/-- The rows are the first layer of the neighbourhoods. -/
theorem rows_of_apply (h0 : ∀ k j, v0 (ix3 0 k j) = ((f k j : ℝ) : EReal))
    (hP : ∀ (a : Fin 3) j, v2 (ix3 0 ⟨a.val, by omega⟩ j) = ((P a j : ℝ) : EReal)) (hA : Apart P)
    (hW : Matrix v48 W) (hb : ∀ o, v50 (ix2 0 o) = ((β o : ℝ) : EReal)) (q : Fin 2048) (o : Fin 128) :
    rows_of v0 v2 v48 v50 (ix2 q o) = ((mixed P f W β ⟨q.val / 64, by omega⟩ ⟨q.val % 64, by omega⟩ o : ℝ) : EReal) := by
  have hs : At v2 32 (ends v2) := at_end v2
  refine rows_block h0 hP hW hb hs (marked_end (fun r j => ?_) _) q o
  rw [line_gaps hP hs]
  exact hA.below _ j

end Written

/-! ## The arrays after the call -/

section Arrays

variable (V : (c : Dev nD) → (b : Ref sig .tc) → Buf (Elt Ideal) ((c : Thread nD τ).loc b)) (c : Dev nD)

/-- Where each window is at a point of the grid. -/
theorem index : ∀ t : Fin cfg0.N, win0_0.index t = ![(grid0.coords t 0).val, 0, 0] ∧ win0_1.index t = ![(grid0.coords t 0).val, 0, 0]
    ∧ win0_2.index t = ![0, 0] ∧ win0_3.index t = ![0, 0] ∧ win0_4.index t = ![(grid0.coords t 0).val, 0, 0]
    ∧ win0_5.index t = ![(grid0.coords t 0).val, 0, 0] := by decide +kernel

variable {P : Fin 16 → Fin 3 → Fin 128 → ℝ} {f : Fin 16 → Fin 128 → Fin 128 → ℝ} {W : Fin 128 → Fin 131 → ℝ} {β : Fin 128 → ℝ}
  (hF : ∀ b k j, (V c main_arg0 : FVec Ideal S16x128x128 .f32) (ix3 b k j) = ((f b k j : ℝ) : EReal))
  (hP : ∀ b (a : Fin 3) j, (V c main_arg1 : FVec Ideal S16x8x128 .f32) (ix3 b ⟨a.val, by omega⟩ j) = ((P b a j : ℝ) : EReal))
  (hA : ∀ b, Apart (P b)) (hW : Matrix (V c main_arg2 : FVec Ideal S128x131 .f32) W)
  (hb : ∀ o, (V c main_v0 : FVec Ideal S1x128 .f32) (ix2 0 o) = ((β o : ℝ) : EReal))
include hF hP hA hW hb

/-- The rows that the call computes at a point of its grid. -/
theorem rows_at (t : Fin cfg0.N) (q : Fin 2048) (o : Fin 128) :
    rows_of (iblk0 V c 0 t) (iblk0 V c 1 t) (iblk0 V c 2 t) (iblk0 V c 3 t) (ix2 q o)
      = ((rows P f W β (grid0.coords t 0, q) o : ℝ) : EReal) := by
  refine rows_of_apply (fun k j => ?_) (fun a j => ?_) (hA (grid0.coords t 0)) (fun o k => ?_) (fun o => ?_) q o
  · exact (show _ = V c main_arg0 (ix3 (grid0.coords t 0) k j) by blk_ext [iblk0, (index t).1]).trans (hF _ k j)
  · exact (show _ = V c main_arg1 (ix3 (grid0.coords t 0) ⟨a.val, by omega⟩ j) by blk_ext [iblk0, (index t).2.1]).trans (hP _ a j)
  · exact (show _ = V c main_arg2 (ix2 o k) by blk_ext [iblk0, (index t).2.2.1]).trans (hW o k)
  · exact (show _ = V c main_v0 (ix2 0 o) by blk_ext [iblk0, (index t).2.2.2.1]).trans (hb o)

/-- After the call its rows are the first layer of the neighbourhoods. -/
theorem rows_array : Rows ((dat0 V c).arrAt 4 cfg0.N : FVec Ideal S16x2048x128 .f32) (rows P f W β) := by
  have e : (dat0 V c).arrAt 4 cfg0.N = fun i : S16x2048x128.Idx => ((rows P f W β (i 0, i 1) (i 2) : ℝ) : EReal) := by
    refine (dat0 V c).arrAt_eq_of_covers 4 _ (by decide +kernel) fun t hf y => ?_
    blk_simp
    rw [after0_4]
    unfold outsAt0
    frame_out
    show block (iblk0 V c 0 t) (iblk0 V c 1 t) (iblk0 V c 2 t) (iblk0 V c 3 t) y = _
    rw [show (((View.whole main_v1_0).slice (win0_4.rect t)).emb y) = ix3 (grid0.coords t 0) ⟨(y 1).val, (y 1).isLt⟩ ⟨(y 2).val, (y 2).isLt⟩ by
      blk_ext [(index t).2.2.2.2.1]]
    refine Eq.trans ?_ (rows_at V c hF hP hA hW hb t ⟨(y 1).val, (y 1).isLt⟩ ⟨(y 2).val, (y 2).isLt⟩)
    rw [← block_apply]
    congr 1
    blk_ext
  intro b q k
  exact congrFun e (ix3 b q k)

/-- After the call its moments are those of these rows. -/
theorem moments_array : Moments ((dat0 V c).arrAt 5 cfg0.N : FVec Ideal S16x8x256 .f32) (rows P f W β) := by
  have e : (dat0 V c).arrAt 5 cfg0.N = fun i : S16x8x256.Idx =>
      k1_pay1 (F := Ideal) (fun j => ((rows P f W β (i 0, j 0) (j 1) : ℝ) : EReal)) (ix3 0 (i 1) (i 2)) := by
    refine (dat0 V c).arrAt_eq_of_covers 5 _ (by decide +kernel) fun t hf y => ?_
    blk_simp
    rw [after0_5]
    unfold outsAt0
    frame_out
    show moments (iblk0 V c 0 t) (iblk0 V c 1 t) (iblk0 V c 2 t) (iblk0 V c 3 t) y = _
    rw [moments_eq, show (((View.whole main_v1_1).slice (win0_5.rect t)).emb y) = ix3 (grid0.coords t 0) ⟨(y 1).val, (y 1).isLt⟩ ⟨(y 2).val, (y 2).isLt⟩ by
      blk_ext [(index t).2.2.2.2.2]]
    refine congr (congrArg k1_pay1 (funext fun j => ?_)) ?_
    · idx_vars j
      exact rows_at V c hF hP hA hW hb t _ _
    · blk_ext
  intro k h
  refine ⟨?_, ?_⟩
  · rw [e]
    refine (Finset.sum_congr rfl fun b _ => ?_).trans (sum_sum fun p => ((rows P f W β p k : ℝ) : EReal))
    unfold k1_pay1
    pointwise
  · rw [e]
    refine (Finset.sum_congr rfl fun b _ => ?_).trans (sum_sum fun p => ((rows P f W β p k : ℝ) : EReal) * ((rows P f W β p k : ℝ) : EReal))
    unfold k1_pay1
    pointwise

end Arrays

end Cert.Proof.GroupValue

end
-- ==== Proof.ResultValue.lean ====
/-
  WHAT THE LAST THREE CALLS LEAVE. The two calls that normalise and multiply, and the call that normalises and takes the
  maxima, are read block by block at the ideal values: where the rows on entry are real and the moments on entry are
  those of the rows, the rows on exit are the real layer (`Norm.layer`) of them and the moments on exit are its moments.
-/
module

public import proofs.«01_k».proof.Proof.Norm
public import proofs.«01_k».proof.Proof.Gen.ResultIdeal.Frame
public import Idealize.ShloMosaic.Lib.Pipeline.ValueKit

@[expose] public section

set_option maxRecDepth 16384

noncomputable section

namespace Cert.Proof.ResultValue

open Idealize.ShloMosaic Idealize.ShloMosaic.TcCoe
open Cert.ResultIdeal Cert.ResultIdeal.Gen
open Cert.Proof.Norm

/-- All positions of the 16 batches of 2048 points. -/
abbrev Pos : Type := Fin 16 × Fin 2048

/-- The number of positions, as the programs write it. -/
theorem card_pos : ((32768 : ℝ)) = (Fintype.card Pos : ℝ) := by simp [Pos]

/-- There are positions. -/
theorem card_pos_pos : 0 < Fintype.card Pos := by simp [Pos]

/-! ## The first call: 128 channels to 128 -/

section First

variable {v0 : Vec Ideal S1x2048x128 .f32} {v2 : Vec Ideal S16x8x256 .f32} {v28 : Vec Ideal S128x128 .f32}
  {v30 : Vec Ideal S1x128 .f32} {Y : Pos → Fin 128 → ℝ} {W : Fin 128 → Fin 128 → ℝ} {β : Fin 128 → ℝ} (t : Fin 16)

/-- A block of rows of batch `t` becomes the layer of these rows. -/
theorem first_rows (h0 : ∀ q x, v0 (ix3 0 q x) = ((Y (t, q) x : ℝ) : EReal)) (h2 : Moments v2 Y) (hW : Matrix v28 W)
    (hb : ∀ o, v30 (ix2 0 o) = ((β o : ℝ) : EReal)) (q : Fin 2048) (o : Fin 128) :
    k1_pay2 v0 v2 v28 v30 (ix2 q o) = ((layer Y W β (t, q) o : ℝ) : EReal) := by
  unfold k1_pay2
  pointwise
  refine layer_coe Y W β (t, q) o (fun c => ?_) (fun c => hW o c) (hb o)
  rw [h0]
  exact normed_of_moments (fun p => Y p c) (t, q) _ card_pos card_pos_pos ofBits_32768 ofBits_eps (h2 c _).1 (h2 c _).2

/-- The block written back is the block of rows. -/
theorem first_block (q : Fin 2048) (o : Fin 128) : k1_pay3 v0 v2 v28 v30 (ix3 0 q o) = k1_pay2 v0 v2 v28 v30 (ix2 q o) := by
  unfold k1_pay3 k1_pay2
  pointwise

end First

/-- Row 0 of the moments of a block holds the sums of its columns. -/
theorem first_sum (v : FVec Ideal S2048x128 .f32) (k : Fin 128) (h : k.val < 256) :
    k1_pay1 v (ix3 0 0 ⟨k.val, h⟩) = ∑ q, v (ix2 q k) := by
  unfold k1_pay1
  pointwise

/-- Row 1 of the moments of a block holds the sums of the squares of its columns. -/
theorem first_square (v : FVec Ideal S2048x128 .f32) (k : Fin 128) (h : k.val < 256) :
    k1_pay1 v (ix3 0 1 ⟨k.val, h⟩) = ∑ q, v (ix2 q k) * v (ix2 q k) := by
  unfold k1_pay1
  pointwise

/-! ## The second call: 128 channels to 256 -/

section Second

variable {v0 : Vec Ideal S1x2048x128 .f32} {v2 : Vec Ideal S16x8x256 .f32} {v29 : Vec Ideal S256x128 .f32}
  {v31 : Vec Ideal S1x256 .f32} {Y : Pos → Fin 128 → ℝ} {W : Fin 256 → Fin 128 → ℝ} {β : Fin 256 → ℝ} (t : Fin 16)

/-- A block of rows of batch `t` becomes the layer of these rows. -/
theorem second_rows (h0 : ∀ q x, v0 (ix3 0 q x) = ((Y (t, q) x : ℝ) : EReal)) (h2 : Moments v2 Y) (hW : Matrix v29 W)
    (hb : ∀ o, v31 (ix2 0 o) = ((β o : ℝ) : EReal)) (q : Fin 2048) (o : Fin 256) :
    k2_pay2 v0 v2 v29 v31 (ix2 q o) = ((layer Y W β (t, q) o : ℝ) : EReal) := by
  unfold k2_pay2
  pointwise
  refine layer_coe Y W β (t, q) o (fun c => ?_) (fun c => hW o c) (hb o)
  rw [h0]
  exact normed_of_moments (fun p => Y p c) (t, q) _ card_pos card_pos_pos ofBits_32768 ofBits_eps (h2 c _).1 (h2 c _).2

/-- The block written back is the block of rows. -/
theorem second_block (q : Fin 2048) (o : Fin 256) : k2_pay3 v0 v2 v29 v31 (ix3 0 q o) = k2_pay2 v0 v2 v29 v31 (ix2 q o) := by
  unfold k2_pay3 k2_pay2
  pointwise

end Second

/-- Row 0 of the moments of a block holds the sums of its columns. -/
theorem second_sum (v : FVec Ideal S2048x256 .f32) (k : Fin 256) (h : k.val < 256) :
    k2_pay1 v (ix3 0 0 ⟨k.val, h⟩) = ∑ q, v (ix2 q k) := by
  unfold k2_pay1
  pointwise

/-- Row 1 of the moments of a block holds the sums of the squares of its columns. -/
theorem second_square (v : FVec Ideal S2048x256 .f32) (k : Fin 256) (h : k.val < 256) :
    k2_pay1 v (ix3 0 1 ⟨k.val, h⟩) = ∑ q, v (ix2 q k) * v (ix2 q k) := by
  unfold k2_pay1
  pointwise

/-! ## The third call: the maximum over the places of a group and over the channels -/

/-- Entry `r` of batch `t` is the greatest normalised value of group `r`. -/
theorem third_maxima {v0 : Vec Ideal S1x2048x256 .f32} {v2 : Vec Ideal S16x8x256 .f32} {Y : Pos → Fin 256 → ℝ} (t : Fin 16)
    (h0 : ∀ q x, v0 (ix3 0 q x) = ((Y (t, q) x : ℝ) : EReal)) (h2 : Moments v2 Y) (r : Fin 32) :
    k3_pay1 v0 v2 (ix3 0 0 r)
      = Finset.univ.sup fun x : Fin 64 × Fin 256 => ((normed (fun p => Y p x.2) (t, finProdFinEquiv (r, x.1)) : ℝ) : EReal) := by
  unfold k3_pay1
  pointwise
  rw [ofBits_bot]
  show Finset.univ.sup _ = _
  refine congrArg _ (funext fun x => ?_)
  have e : (⟨r.val * 64 + x.1.val, by omega⟩ : Fin 2048) = finProdFinEquiv (r, x.1) :=
    Fin.ext (by simp [finProdFinEquiv]; omega)
  rw [h0, e]
  exact normed_of_moments (fun p => Y p x.2) (t, finProdFinEquiv (r, x.1)) _ card_pos card_pos_pos ofBits_32768 ofBits_eps
    (h2 x.2 x.2.isLt).1 (h2 x.2 x.2.isLt).2

/-! ## The arrays after each call -/

section Arrays

variable (V : (c : Dev nD) → (b : Ref sig .tc) → Buf (Elt Ideal) ((c : Thread nD τ).loc b)) (c : Dev nD)

/-- Where each window of the first call is at a point of its grid. -/
theorem index1 : ∀ t : Fin cfg1.N, win1_0.index t = ![(grid1.coords t 0).val, 0, 0] ∧ win1_1.index t = ![0, 0, 0]
    ∧ win1_2.index t = ![0, 0] ∧ win1_3.index t = ![0, 0] ∧ win1_4.index t = ![(grid1.coords t 0).val, 0, 0]
    ∧ win1_5.index t = ![(grid1.coords t 0).val, 0, 0] := by decide +kernel

/-- Where each window of the second call is at a point of its grid. -/
theorem index2 : ∀ t : Fin cfg2.N, win2_0.index t = ![(grid2.coords t 0).val, 0, 0] ∧ win2_1.index t = ![0, 0, 0]
    ∧ win2_2.index t = ![0, 0] ∧ win2_3.index t = ![0, 0] ∧ win2_4.index t = ![(grid2.coords t 0).val, 0, 0]
    ∧ win2_5.index t = ![(grid2.coords t 0).val, 0, 0] := by decide +kernel

/-- Where each window of the third call is at a point of its grid. -/
theorem index3 : ∀ t : Fin cfg3.N, win3_0.index t = ![(grid3.coords t 0).val, 0, 0] ∧ win3_1.index t = ![0, 0, 0]
    ∧ win3_2.index t = ![(grid3.coords t 0).val, 0, 0] := by decide +kernel

section
variable {Y : Pos → Fin 128 → ℝ} {W : Fin 128 → Fin 128 → ℝ} {β : Fin 128 → ℝ}
  (hX : Rows (V c main_v1_0 : FVec Ideal S16x2048x128 .f32) Y) (hS : Moments (V c main_v1_1 : FVec Ideal S16x8x256 .f32) Y)
  (hW : Matrix (V c main_arg4 : FVec Ideal S128x128 .f32) W)
  (hb : ∀ o, (V c main_v2 : FVec Ideal S1x128 .f32) (ix2 0 o) = ((β o : ℝ) : EReal))
include hX hS hW hb

/-- The block of rows that the first call computes at a point of its grid. -/
theorem first_at (t : Fin cfg1.N) (q : Fin 2048) (o : Fin 128) :
    k1_pay2 (iblk1 V c 0 t) (iblk1 V c 1 t) (iblk1 V c 2 t) (iblk1 V c 3 t) (ix2 q o)
      = ((layer Y W β (grid1.coords t 0, q) o : ℝ) : EReal) := by
  refine first_rows (grid1.coords t 0) (fun q x => ?_) (fun k h => ?_) (fun o k => ?_) (fun o => ?_) q o
  · exact (show _ = V c main_v1_0 (ix3 (grid1.coords t 0) q x) by blk_ext [iblk1, (index1 t).1]).trans (hX _ q x)
  · have e : ∀ (b : Fin 16) (r : Fin 8) (x : Fin 256), iblk1 V c 1 t (ix3 b r x) = V c main_v1_1 (ix3 b r x) := fun b r x => by
      blk_ext [iblk1, (index1 t).2.1]
    simp only [e]
    exact hS k h
  · exact (show _ = V c main_arg4 (ix2 o k) by blk_ext [iblk1, (index1 t).2.2.1]).trans (hW o k)
  · exact (show _ = V c main_v2 (ix2 0 o) by blk_ext [iblk1, (index1 t).2.2.2.1]).trans (hb o)

/-- After the first call its rows are the layer. -/
theorem first_array : Rows ((dat1 V c).arrAt 4 cfg1.N : FVec Ideal S16x2048x128 .f32) (layer Y W β) := by
  have e : (dat1 V c).arrAt 4 cfg1.N = fun i : S16x2048x128.Idx => ((layer Y W β (i 0, i 1) (i 2) : ℝ) : EReal) := by
    refine (dat1 V c).arrAt_eq_of_covers 4 _ (by decide +kernel) fun t hf y => ?_
    blk_simp
    rw [after1_4]
    frame_out
    rw [show (((View.whole main_v3_0).slice (win1_4.rect t)).emb y) = ix3 (grid1.coords t 0) ⟨(y 1).val, (y 1).isLt⟩ ⟨(y 2).val, (y 2).isLt⟩ by
      blk_ext [(index1 t).2.2.2.2.1]]
    refine Eq.trans ?_ (first_at V c hX hS hW hb t ⟨(y 1).val, (y 1).isLt⟩ ⟨(y 2).val, (y 2).isLt⟩)
    rw [← first_block]
    congr 1
    blk_ext
  intro b q k
  exact congrFun e (ix3 b q k)

/-- After the first call its moments are those of the layer. -/
theorem first_moments : Moments ((dat1 V c).arrAt 5 cfg1.N : FVec Ideal S16x8x256 .f32) (layer Y W β) := by
  have e : (dat1 V c).arrAt 5 cfg1.N = fun i : S16x8x256.Idx =>
      k1_pay1 (F := Ideal) (fun j => ((layer Y W β (i 0, j 0) (j 1) : ℝ) : EReal)) (ix3 0 (i 1) (i 2)) := by
    refine (dat1 V c).arrAt_eq_of_covers 5 _ (by decide +kernel) fun t hf y => ?_
    blk_simp
    rw [after1_5]
    frame_out
    rw [show (((View.whole main_v3_1).slice (win1_5.rect t)).emb y) = ix3 (grid1.coords t 0) ⟨(y 1).val, (y 1).isLt⟩ ⟨(y 2).val, (y 2).isLt⟩ by
      blk_ext [(index1 t).2.2.2.2.2]]
    refine congr (congrArg k1_pay1 (funext fun j => ?_)) ?_
    · idx_vars j
      exact first_at V c hX hS hW hb t _ _
    · blk_ext
  intro k h
  refine ⟨?_, ?_⟩
  · rw [e]
    refine (Finset.sum_congr rfl fun b _ => first_sum _ k h).trans ?_
    exact sum_sum fun p => ((layer Y W β p k : ℝ) : EReal)
  · rw [e]
    refine (Finset.sum_congr rfl fun b _ => first_square _ k h).trans ?_
    exact sum_sum fun p => ((layer Y W β p k : ℝ) : EReal) * ((layer Y W β p k : ℝ) : EReal)

end

section
variable {Y : Pos → Fin 128 → ℝ} {W : Fin 256 → Fin 128 → ℝ} {β : Fin 256 → ℝ}
  (hX : Rows (V c main_v3_0 : FVec Ideal S16x2048x128 .f32) Y) (hS : Moments (V c main_v3_1 : FVec Ideal S16x8x256 .f32) Y)
  (hW : Matrix (V c main_arg6 : FVec Ideal S256x128 .f32) W)
  (hb : ∀ o, (V c main_v4 : FVec Ideal S1x256 .f32) (ix2 0 o) = ((β o : ℝ) : EReal))
include hX hS hW hb

/-- The block of rows that the second call computes at a point of its grid. -/
theorem second_at (t : Fin cfg2.N) (q : Fin 2048) (o : Fin 256) :
    k2_pay2 (iblk2 V c 0 t) (iblk2 V c 1 t) (iblk2 V c 2 t) (iblk2 V c 3 t) (ix2 q o)
      = ((layer Y W β (grid2.coords t 0, q) o : ℝ) : EReal) := by
  refine second_rows (grid2.coords t 0) (fun q x => ?_) (fun k h => ?_) (fun o k => ?_) (fun o => ?_) q o
  · exact (show _ = V c main_v3_0 (ix3 (grid2.coords t 0) q x) by blk_ext [iblk2, (index2 t).1]).trans (hX _ q x)
  · have e : ∀ (b : Fin 16) (r : Fin 8) (x : Fin 256), iblk2 V c 1 t (ix3 b r x) = V c main_v3_1 (ix3 b r x) := fun b r x => by
      blk_ext [iblk2, (index2 t).2.1]
    simp only [e]
    exact hS k h
  · exact (show _ = V c main_arg6 (ix2 o k) by blk_ext [iblk2, (index2 t).2.2.1]).trans (hW o k)
  · exact (show _ = V c main_v4 (ix2 0 o) by blk_ext [iblk2, (index2 t).2.2.2.1]).trans (hb o)

/-- After the second call its rows are the layer. -/
theorem second_array : Rows ((dat2 V c).arrAt 4 cfg2.N : FVec Ideal S16x2048x256 .f32) (layer Y W β) := by
  have e : (dat2 V c).arrAt 4 cfg2.N = fun i : S16x2048x256.Idx => ((layer Y W β (i 0, i 1) (i 2) : ℝ) : EReal) := by
    refine (dat2 V c).arrAt_eq_of_covers 4 _ (by decide +kernel) fun t hf y => ?_
    blk_simp
    rw [after2_4]
    frame_out
    rw [show (((View.whole main_v5_0).slice (win2_4.rect t)).emb y) = ix3 (grid2.coords t 0) ⟨(y 1).val, (y 1).isLt⟩ ⟨(y 2).val, (y 2).isLt⟩ by
      blk_ext [(index2 t).2.2.2.2.1]]
    refine Eq.trans ?_ (second_at V c hX hS hW hb t ⟨(y 1).val, (y 1).isLt⟩ ⟨(y 2).val, (y 2).isLt⟩)
    rw [← second_block]
    congr 1
    blk_ext
  intro b q k
  exact congrFun e (ix3 b q k)

/-- After the second call its moments are those of the layer. -/
theorem second_moments : Moments ((dat2 V c).arrAt 5 cfg2.N : FVec Ideal S16x8x256 .f32) (layer Y W β) := by
  have e : (dat2 V c).arrAt 5 cfg2.N = fun i : S16x8x256.Idx =>
      k2_pay1 (F := Ideal) (fun j => ((layer Y W β (i 0, j 0) (j 1) : ℝ) : EReal)) (ix3 0 (i 1) (i 2)) := by
    refine (dat2 V c).arrAt_eq_of_covers 5 _ (by decide +kernel) fun t hf y => ?_
    blk_simp
    rw [after2_5]
    frame_out
    rw [show (((View.whole main_v5_1).slice (win2_5.rect t)).emb y) = ix3 (grid2.coords t 0) ⟨(y 1).val, (y 1).isLt⟩ ⟨(y 2).val, (y 2).isLt⟩ by
      blk_ext [(index2 t).2.2.2.2.2]]
    refine congr (congrArg k2_pay1 (funext fun j => ?_)) ?_
    · idx_vars j
      exact second_at V c hX hS hW hb t _ _
    · blk_ext
  intro k h
  refine ⟨?_, ?_⟩
  · rw [e]
    refine (Finset.sum_congr rfl fun b _ => second_sum _ k h).trans ?_
    exact sum_sum fun p => ((layer Y W β p k : ℝ) : EReal)
  · rw [e]
    refine (Finset.sum_congr rfl fun b _ => second_square _ k h).trans ?_
    exact sum_sum fun p => ((layer Y W β p k : ℝ) : EReal) * ((layer Y W β p k : ℝ) : EReal)

end

section
variable {Y : Pos → Fin 256 → ℝ} (hX : Rows (V c main_v5_0 : FVec Ideal S16x2048x256 .f32) Y)
  (hS : Moments (V c main_v5_1 : FVec Ideal S16x8x256 .f32) Y)
include hX hS

/-- After the third call entry `r` of batch `b` is the greatest normalised value of the group. -/
theorem third_array (b : Fin 16) (r : Fin 32) : ((dat3 V c).arrAt 2 cfg3.N : FVec Ideal S16x1x32 .f32) (ix3 b 0 r)
    = Finset.univ.sup fun x : Fin 64 × Fin 256 =>
        ((normed (fun p => Y p x.2) (b, finProdFinEquiv (r, x.1)) : ℝ) : EReal) := by
  have e : (dat3 V c).arrAt 2 cfg3.N = fun i : S16x1x32.Idx => Finset.univ.sup fun x : Fin 64 × Fin 256 =>
      ((normed (fun p => Y p x.2) (i 0, finProdFinEquiv (i 2, x.1)) : ℝ) : EReal) := by
    refine (dat3 V c).arrAt_eq_of_covers 2 _ (by decide +kernel) fun t hf y => ?_
    blk_simp
    rw [after3_2]
    frame_out
    rw [show (((View.whole main_v6).slice (win3_2.rect t)).emb y) = ix3 (grid3.coords t 0) 0 ⟨(y 2).val, (y 2).isLt⟩ by
      blk_ext [(index3 t).2.2]]
    refine Eq.trans ?_ (third_maxima (v0 := iblk3 V c 0 t) (v2 := iblk3 V c 1 t) (grid3.coords t 0) (fun q x => ?_) (fun k h => ?_) ⟨(y 2).val, (y 2).isLt⟩)
    · congr 1
      blk_ext
    · exact (show _ = V c main_v5_0 (ix3 (grid3.coords t 0) q x) by blk_ext [iblk3, (index3 t).1]).trans (hX _ q x)
    · have e : ∀ (b : Fin 16) (r : Fin 8) (x : Fin 256), iblk3 V c 1 t (ix3 b r x) = V c main_v5_1 (ix3 b r x) := fun b r x => by
        blk_ext [iblk3, (index3 t).2.1]
      simp only [e]
      exact hS k h
  exact congrFun e (ix3 b 0 r)

end

end Arrays

end Cert.Proof.ResultValue

end
-- ==== Proof.ResultRun.lean ====
/-
  THE RUN OF THE LAST FOUR CALLS. The program is run once with its result named by the contents at the end of the
  program, and that result is then read back through the four calls to the arguments.
-/
module

public import proofs.«01_k».proof.Proof.GroupValue
public import proofs.«01_k».proof.Proof.ResultValue
public import Idealize.ShloMosaic.Lib.Claim

@[expose] public section

set_option maxRecDepth 16384

noncomputable section

namespace Cert.Proof.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ResultIdeal Cert.ResultIdeal.Gen
open Cert.Proof.Norm Cert.Proof.Group Cert.Proof.ResultValue

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result at the contents that the program's steps give it and the arguments kept. -/
theorem run : θ_run defs (onTc (τ := τ) (main (F := F))) ⟨m, fun _ => 0, ρ⟩ (fun r => ∀ c : Dev nD,
      r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v7 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Launch

section Value

variable (m : (ℓ : Loc nD τ sig) → Buf (Elt Ideal) ℓ) (ρ : Dev nD → PrngReg) (c : Dev nD)

/-- The first bias as the first call finds it: one row. -/
theorem bias0 (o : Fin 128) : (V1 m ρ c main_v0 : FVec Ideal S1x128 .f32) (ix2 0 o)
    = (m ((c.tc : Thread nD τ).loc main_arg3) : FVec Ideal S128 .f32) (ix1 o) := by
  show (StableHlo.after hostOps0 (W0 m ρ c) (Proc.devRef .tc main_v0) : FVec Ideal S1x128 .f32) (ix2 0 o) = _
  after_results_simp
  pointwise

/-- The second bias as the second call finds it: one row. -/
theorem bias1 (o : Fin 128) : (V3 m ρ c main_v2 : FVec Ideal S1x128 .f32) (ix2 0 o)
    = (m ((c.tc : Thread nD τ).loc main_arg5) : FVec Ideal S128 .f32) (ix1 o) := by
  have e : W2 m ρ c (Proc.devRef .tc main_arg5) = m ((c.tc : Thread nD τ).loc main_arg5) := W2_args m ρ c main_arg5 (by decide)
  show (StableHlo.after hostOps1 (W2 m ρ c) (Proc.devRef .tc main_v2) : FVec Ideal S1x128 .f32) (ix2 0 o) = _
  after_results_simp
  rw [e]
  pointwise

/-- The third bias as the third call finds it: one row. -/
theorem bias2 (o : Fin 256) : (V5 m ρ c main_v4 : FVec Ideal S1x256 .f32) (ix2 0 o)
    = (m ((c.tc : Thread nD τ).loc main_arg7) : FVec Ideal S256 .f32) (ix1 o) := by
  have e : W4 m ρ c (Proc.devRef .tc main_arg7) = m ((c.tc : Thread nD τ).loc main_arg7) := W4_args m ρ c main_arg7 (by decide)
  show (StableHlo.after hostOps2 (W4 m ρ c) (Proc.devRef .tc main_v4) : FVec Ideal S1x256 .f32) (ix2 0 o) = _
  after_results_simp
  rw [e]
  pointwise

variable {P : Fin 16 → Fin 3 → Fin 128 → ℝ} {f : Fin 16 → Fin 128 → Fin 128 → ℝ} {W₀ : Fin 128 → Fin 131 → ℝ} {β₀ : Fin 128 → ℝ}
  {W₁ : Fin 128 → Fin 128 → ℝ} {β₁ : Fin 128 → ℝ} {W₂ : Fin 256 → Fin 128 → ℝ} {β₂ : Fin 256 → ℝ}

/-- The result, entry by entry: the greatest value of a neighbourhood after the three layers, normalised. -/
theorem result_value
    (hF : ∀ b k j, (m ((c.tc : Thread nD τ).loc main_arg0) : FVec Ideal S16x128x128 .f32) (ix3 b k j) = ((f b k j : ℝ) : EReal))
    (hP : ∀ b (a : Fin 3) j, (m ((c.tc : Thread nD τ).loc main_arg1) : FVec Ideal S16x8x128 .f32) (ix3 b ⟨a.val, by omega⟩ j)
      = ((P b a j : ℝ) : EReal))
    (hA : ∀ b, Apart (P b))
    (hW₀ : Matrix (m ((c.tc : Thread nD τ).loc main_arg2) : FVec Ideal S128x131 .f32) W₀)
    (hb₀ : ∀ o, (m ((c.tc : Thread nD τ).loc main_arg3) : FVec Ideal S128 .f32) (ix1 o) = ((β₀ o : ℝ) : EReal))
    (hW₁ : Matrix (m ((c.tc : Thread nD τ).loc main_arg4) : FVec Ideal S128x128 .f32) W₁)
    (hb₁ : ∀ o, (m ((c.tc : Thread nD τ).loc main_arg5) : FVec Ideal S128 .f32) (ix1 o) = ((β₁ o : ℝ) : EReal))
    (hW₂ : Matrix (m ((c.tc : Thread nD τ).loc main_arg6) : FVec Ideal S256x128 .f32) W₂)
    (hb₂ : ∀ o, (m ((c.tc : Thread nD τ).loc main_arg7) : FVec Ideal S256 .f32) (ix1 o) = ((β₂ o : ℝ) : EReal))
    (b : Fin 16) (r : Fin 32) :
    (W8 m ρ c (Proc.devRef .tc main_v7) : FVec Ideal S16x32 .f32) (ix2 b r)
      = Finset.univ.sup fun x : Fin 64 × Fin 256 =>
          ((normed (fun p => layer (layer (rows P f W₀ β₀) W₁ β₁) W₂ β₂ p x.2) (b, finProdFinEquiv (r, x.1)) : ℝ) : EReal) := by
  rw [← W1_args m ρ c main_arg0 (by decide)] at hF
  rw [← W1_args m ρ c main_arg1 (by decide)] at hP
  rw [← W1_args m ρ c main_arg2 (by decide)] at hW₀
  have r0 := GroupValue.rows_array (V1 m ρ) c hF hP hA hW₀ fun o => (bias0 m ρ c o).trans (hb₀ o)
  have s0 := GroupValue.moments_array (V1 m ρ) c hF hP hA hW₀ fun o => (bias0 m ρ c o).trans (hb₀ o)
  rw [← (W3_of m ρ c main_v1_0 (by decide)).trans (W2_arr m ρ c 4)] at r0
  rw [← (W3_of m ρ c main_v1_1 (by decide)).trans (W2_arr m ρ c 5)] at s0
  rw [← W3_args m ρ c main_arg4 (by decide)] at hW₁
  have r1 := first_array (V3 m ρ) c r0 s0 hW₁ fun o => (bias1 m ρ c o).trans (hb₁ o)
  have s1 := first_moments (V3 m ρ) c r0 s0 hW₁ fun o => (bias1 m ρ c o).trans (hb₁ o)
  rw [← (W5_of m ρ c main_v3_0 (by decide)).trans (W4_arr m ρ c 4)] at r1
  rw [← (W5_of m ρ c main_v3_1 (by decide)).trans (W4_arr m ρ c 5)] at s1
  rw [← W5_args m ρ c main_arg6 (by decide)] at hW₂
  have r2 := second_array (V5 m ρ) c r1 s1 hW₂ fun o => (bias2 m ρ c o).trans (hb₂ o)
  have s2 := second_moments (V5 m ρ) c r1 s1 hW₂ fun o => (bias2 m ρ c o).trans (hb₂ o)
  rw [← W6_arr m ρ c 4] at r2
  rw [← W6_arr m ρ c 5] at s2
  have r3 := third_array (V6 m ρ) c r2 s2 b r
  rw [← W7_arr m ρ c 2] at r3
  rw [← r3]
  show (StableHlo.after hostOps4 (W7 m ρ c) (Proc.devRef .tc main_v7) : FVec Ideal S16x32 .f32) (ix2 b r) = _
  after_results_simp
  pointwise

end Value

end Cert.Proof.ResultRun

end
-- ==== Proof.ResultReferenceRun.lean ====
/-
  THE RUN OF THE REFERENCE FOR THE RESULT. The program is a stretch of operations, a loop of 32 trips and seven further
  stretches: the centres are looked up, the neighbours are ranked, the neighbourhoods are formed, the first layer is
  applied, and then a normalisation before each of the two further layers and before the largest entries. The operations
  of each stretch are listed here as the program states them.
-/
module

public import proofs.«01_k».proof.Proof.Gen.ResultReferenceIdeal
public import Idealize.ShloMosaic.Lib.StableHlo.Run
public import Idealize.ShloMosaic.Lib.StableHlo.RunLoop
public import Idealize.ShloMosaic.Lib.StableHlo.RunClose
public import Idealize.ShloMosaic.Lib.StableHlo.RunRead
public import Idealize.ShloMosaic.Lib.Scf.Counter
public import Idealize.ShloMosaic.Lib.Scf.ExitTest
public import Idealize.ShloMosaic.Lib.Pipeline.Frame

@[expose] public section

set_option Elab.async false
set_option maxRecDepth 16384

noncomputable section

namespace Cert.Proof.ResultReferenceRun

open Cert.ResultReferenceIdeal Cert.ResultReferenceIdeal.Gen
open Idealize.ShloMosaic Idealize.ShloMosaic.TcCoe Idealize.ShloMosaic.StableHlo
open Idealize.SL Idealize.SL.RA Idealize.SL.BI Idealize.SL.Sem Idealize.SL.ProofMode
open scoped Idealize.SL.BI
open Idealize.SL.BI.BIBase Idealize.SL.BI.Laws

variable {F : FTy → Type} [FloatOps F]

/-- The operations before the loop. -/
abbrev firstOps : List (HloOp τ sig (Elt F)) :=
  [ unary main_arg1 main_v0 ((extractStridedSlice S16x3x128 ![0, 0, 0] · slices_S16x8x128_S16x3x128_0_0_0) : (⟨S16x8x128, .f32⟩ : BufTy).Contents (Elt F) → (⟨S16x3x128, .f32⟩ : BufTy).Contents (Elt F)),
    unary main_v0 main_v1 ((transpose S16x128x3 [0, 2, 1] · transposes_S16x3x128_S16x128x3_0_2_1) : (⟨S16x3x128, .f32⟩ : BufTy).Contents (Elt F) → (⟨S16x128x3, .f32⟩ : BufTy).Contents (Elt F)),
    nullary main_cst (constant S_ .f32 0x501502F9#32),
    unary main_cst main_v2 (broadcastInDim S16x128 ![] bcast_S_S16x128 : (⟨S_, .f32⟩ : BufTy).Contents (Elt F) → (⟨S16x128, .f32⟩ : BufTy).Contents (Elt F)),
    nullary main_c (constantI S_ 32 0#32),
    unary main_c main_v3 (broadcastInDim S16 ![] bcast_S_S16 : (⟨S_, .i32⟩ : BufTy).Contents (Elt F) → (⟨S16, .i32⟩ : BufTy).Contents (Elt F)),
    nullary main_c_0 (constantI S_ 32 0#32),
    unary main_c_0 main_v4 (broadcastInDim S32x16 ![] bcast_S_S32x16 : (⟨S_, .i32⟩ : BufTy).Contents (Elt F) → (⟨S32x16, .i32⟩ : BufTy).Contents (Elt F)),
    nullary main_c_1 (constantI S_ 32 0#32),
    unary main_v1 main_v5_0 id,
    unary main_c_1 main_v5_1 id,
    unary main_v2 main_v5_2 id,
    unary main_v3 main_v5_3 id,
    unary main_v4 main_v5_4 id ]

/-- The operations of one trip of the loop. -/
abbrev tripOps : List (HloOp τ sig (Elt F)) :=
  [ unary main_v5_3 main_while0b_v98 (broadcastInDim S16x1x1 ![0] bcast_S16_S16x1x1_0 : (⟨S16, .i32⟩ : BufTy).Contents (Elt F) → (⟨S16x1x1, .i32⟩ : BufTy).Contents (Elt F)),
    TRef.nullary (TRef.of (T := ⟨S_, .i32⟩) main_while0b_call0_c) (constantI S_ 32 0#32),
    TRef.unary (TRef.of (T := ⟨S_, .i32⟩) main_while0b_call0_c) (TRef.of (T := ⟨S16x1x1, .i32⟩) main_while0b_call0_v0) (broadcastInDim S16x1x1 ![] bcast_S_S16x1x1),
    TRef.binary (TRef.of (T := ⟨S16x1x1, .i32⟩) main_while0b_v98) (TRef.of (T := ⟨S16x1x1, .i32⟩) main_while0b_call0_v0) (TRef.of (T := ⟨S16x1x1, .i1⟩) main_while0b_call0_v1) (cmpi .slt),
    TRef.nullary (TRef.of (T := ⟨S_, .i32⟩) main_while0b_call0_c_0) (constantI S_ 32 128#32),
    TRef.unary (TRef.of (T := ⟨S_, .i32⟩) main_while0b_call0_c_0) (TRef.of (T := ⟨S16x1x1, .i32⟩) main_while0b_call0_v2) (broadcastInDim S16x1x1 ![] bcast_S_S16x1x1),
    TRef.binary (TRef.of (T := ⟨S16x1x1, .i32⟩) main_while0b_v98) (TRef.of (T := ⟨S16x1x1, .i32⟩) main_while0b_call0_v2) (TRef.of (T := ⟨S16x1x1, .i32⟩) main_while0b_call0_v3) addi,
    TRef.ternary (TRef.of (T := ⟨S16x1x1, .i1⟩) main_while0b_call0_v1) (TRef.of (T := ⟨S16x1x1, .i32⟩) main_while0b_call0_v3) (TRef.of (T := ⟨S16x1x1, .i32⟩) main_while0b_v98) (TRef.of (T := ⟨S16x1x1, .i32⟩) main_while0b_call0_v4) select,
    TRef.nullary (TRef.of (T := ⟨S1, .i32⟩) main_while0b_call0_c_1) (constantI S1 32 127#32),
    TRef.nullary (TRef.of (T := ⟨S_, .i32⟩) main_while0b_call0_c_2) (constantI S_ 32 0#32),
    TRef.unary (TRef.of (T := ⟨S_, .i32⟩) main_while0b_call0_c_2) (TRef.of (T := ⟨S16x1x1, .i32⟩) main_while0b_call0_v5) (broadcastInDim S16x1x1 ![] bcast_S_S16x1x1),
    TRef.binary (TRef.of (T := ⟨S16x1x1, .i32⟩) main_while0b_call0_v4) (TRef.of (T := ⟨S16x1x1, .i32⟩) main_while0b_call0_v5) (TRef.of (T := ⟨S16x1x1, .i1⟩) main_while0b_call0_v6) (cmpi .sge),
    TRef.unary (TRef.of (T := ⟨S1, .i32⟩) main_while0b_call0_c_1) (TRef.of (T := ⟨S1x1x1, .i32⟩) main_while0b_call0_v7) (broadcastInDim S1x1x1 ![2] bcast_S1_S1x1x1_2),
    TRef.unary (TRef.of (T := ⟨S1x1x1, .i32⟩) main_while0b_call0_v7) (TRef.of (T := ⟨S16x1x1, .i32⟩) main_while0b_call0_v8) (broadcastInDim S16x1x1 ![0, 1, 2] bcast_S1x1x1_S16x1x1_0_1_2),
    TRef.binary (TRef.of (T := ⟨S16x1x1, .i32⟩) main_while0b_call0_v4) (TRef.of (T := ⟨S16x1x1, .i32⟩) main_while0b_call0_v8) (TRef.of (T := ⟨S16x1x1, .i1⟩) main_while0b_call0_v9) (cmpi .sle),
    TRef.binary (TRef.of (T := ⟨S16x1x1, .i1⟩) main_while0b_call0_v6) (TRef.of (T := ⟨S16x1x1, .i1⟩) main_while0b_call0_v9) (TRef.of (T := ⟨S16x1x1, .i1⟩) main_while0b_call0_v10) andi,
    TRef.nullary (TRef.of (T := ⟨S_, .i1⟩) main_while0b_call0_c_3) (constantI S_ 1 1#1),
    TRef.binary (TRef.of (T := ⟨S16x1x1, .i1⟩) main_while0b_call0_v10) (TRef.of (T := ⟨S_, .i1⟩) main_while0b_call0_c_3) (TRef.of (T := ⟨S16x1, .i1⟩) main_while0b_call0_v11) (fun x v => Host.reduce IntOp.andi x v reducesTo_S16x1x1_S16x1_d2 h_S_),
    TRef.binary (TRef.of (T := ⟨S16x128x3, .f32⟩) main_v5_0) (TRef.of (T := ⟨S16x1x1, .i32⟩) main_while0b_call0_v4) (TRef.of (T := ⟨S16x1x3, .f32⟩) main_while0b_call0_v12) (fun x i => Host.gather gather_S16x128x3_S16x1x1_S16x1x3_2_1_0_0_1_2_113 x i),
    TRef.unary (TRef.of (T := ⟨S16x1, .i1⟩) main_while0b_call0_v11) (TRef.of (T := ⟨S16x1x3, .i1⟩) main_while0b_call0_v13) (broadcastInDim S16x1x3 ![0, 1] bcast_S16x1_S16x1x3_0_1),
    TRef.nullary (TRef.of (T := ⟨S_, .f32⟩) main_while0b_call0_cst) (constant S_ .f32 0x7FC00000#32),
    TRef.unary (TRef.of (T := ⟨S_, .f32⟩) main_while0b_call0_cst) (TRef.of (T := ⟨S16x1x3, .f32⟩) main_while0b_call0_v14) (broadcastInDim S16x1x3 ![] bcast_S_S16x1x3),
    TRef.ternary (TRef.of (T := ⟨S16x1x3, .i1⟩) main_while0b_call0_v13) (TRef.of (T := ⟨S16x1x3, .f32⟩) main_while0b_call0_v12) (TRef.of (T := ⟨S16x1x3, .f32⟩) main_while0b_call0_v14) (TRef.of (T := ⟨S16x1x3, .f32⟩) main_while0b_v99) select,
    unary main_while0b_v99 main_while0b_v100 (broadcastInDim S16x128x3 ![0, 1, 2] bcast_S16x1x3_S16x128x3_0_1_2 : (⟨S16x1x3, .f32⟩ : BufTy).Contents (Elt F) → (⟨S16x128x3, .f32⟩ : BufTy).Contents (Elt F)),
    binary main_v5_0 main_while0b_v100 main_while0b_v101 (subf : (⟨S16x128x3, .f32⟩ : BufTy).Contents (Elt F) → (⟨S16x128x3, .f32⟩ : BufTy).Contents (Elt F) → (⟨S16x128x3, .f32⟩ : BufTy).Contents (Elt F)),
    binary main_while0b_v101 main_while0b_v101 main_while0b_v102 (mulf : (⟨S16x128x3, .f32⟩ : BufTy).Contents (Elt F) → (⟨S16x128x3, .f32⟩ : BufTy).Contents (Elt F) → (⟨S16x128x3, .f32⟩ : BufTy).Contents (Elt F)),
    nullary main_while0b_cst_28 (constant S_ .f32 0x00000000#32),
    binary main_while0b_v102 main_while0b_cst_28 main_while0b_v103 ((fun x v => Host.reduceAdd x v reducesTo_S16x128x3_S16x128_d2 h_S_) : (⟨S16x128x3, .f32⟩ : BufTy).Contents (Elt F) → (⟨S_, .f32⟩ : BufTy).Contents (Elt F) → (⟨S16x128, .f32⟩ : BufTy).Contents (Elt F)),
    binary main_v5_2 main_while0b_v103 main_while0b_v104 (minimumf : (⟨S16x128, .f32⟩ : BufTy).Contents (Elt F) → (⟨S16x128, .f32⟩ : BufTy).Contents (Elt F) → (⟨S16x128, .f32⟩ : BufTy).Contents (Elt F)),
    TRef.nullary (TRef.of (T := ⟨S16x128, .i32⟩) main_while0b_call1_v0) (iotaInDim S16x128 32 1),
    TRef.nullary (TRef.of (T := ⟨S_, .f32⟩) main_while0b_call1_cst) (constant S_ .f32 0xFF800000#32),
    TRef.nullary (TRef.of (T := ⟨S_, .i32⟩) main_while0b_call1_c) (constantI S_ 32 0#32),
    TRef.quaternary (TRef.of (T := ⟨S16x128, .f32⟩) main_while0b_v104) (TRef.of (T := ⟨S16x128, .i32⟩) main_while0b_call1_v0) (TRef.of (T := ⟨S_, .f32⟩) main_while0b_call1_cst) (TRef.of (T := ⟨S_, .i32⟩) main_while0b_call1_c) (TRef.of (T := ⟨S16, .f32⟩) main_while0b_call1_v1_0) (fun x y u v j => (Host.argReduce reducer_argmax_f32_i32 x y u v reducesTo_S16x128_S16_d1 h_S_ j).1),
    TRef.quaternary (TRef.of (T := ⟨S16x128, .f32⟩) main_while0b_v104) (TRef.of (T := ⟨S16x128, .i32⟩) main_while0b_call1_v0) (TRef.of (T := ⟨S_, .f32⟩) main_while0b_call1_cst) (TRef.of (T := ⟨S_, .i32⟩) main_while0b_call1_c) (TRef.of (T := ⟨S16, .i32⟩) main_while0b_v105) (fun x y u v j => (Host.argReduce reducer_argmax_f32_i32 x y u v reducesTo_S16x128_S16_d1 h_S_ j).2),
    TRef.unary (TRef.of (T := ⟨S16, .i32⟩) main_v5_3) (TRef.of (T := ⟨S1x16, .i32⟩) main_while0b_call2_v0) (broadcastInDim S1x16 ![1] bcast_S16_S1x16_1),
    TRef.nullary (TRef.of (T := ⟨S_, .i32⟩) main_while0b_call2_c) (constantI S_ 32 0#32),
    TRef.binaryIndexed (TRef.of (T := ⟨S32x16, .i32⟩) main_v5_4) (TRef.of (T := ⟨S1x16, .i32⟩) main_while0b_call2_v0) ![(TRef.of (T := ⟨S_, .i32⟩) main_v5_1), (TRef.of (T := ⟨S_, .i32⟩) main_while0b_call2_c)] (TRef.of (T := ⟨S32x16, .i32⟩) main_while0b_v106) (fun x u i => Host.dynamicUpdateSlice x u (fun k => (i k (Shape.Idx.first h_S_)).toInt) updateFits_S32x16_S1x16),
    nullary main_while0b_c_29 (constantI S_ 32 1#32),
    binary main_v5_1 main_while0b_c_29 main_while0b_v107 (addi : (⟨S_, .i32⟩ : BufTy).Contents (Elt F) → (⟨S_, .i32⟩ : BufTy).Contents (Elt F) → (⟨S_, .i32⟩ : BufTy).Contents (Elt F)),
    unary main_while0b_v107 main_v5_1 id,
    unary main_while0b_v104 main_v5_2 id,
    unary main_while0b_v105 main_v5_3 id,
    unary main_while0b_v106 main_v5_4 id ]

/-- The operations that look up the centres. -/
abbrev lookOps : List (HloOp τ sig (Elt F)) :=
  [ unary main_v5_4 main_v6 ((transpose S16x32 [1, 0] · transposes_S32x16_S16x32_1_0) : (⟨S32x16, .i32⟩ : BufTy).Contents (Elt F) → (⟨S16x32, .i32⟩ : BufTy).Contents (Elt F)),
    unary main_v6 main_v7 (broadcastInDim S16x32x1 ![0, 1] bcast_S16x32_S16x32x1_0_1 : (⟨S16x32, .i32⟩ : BufTy).Contents (Elt F) → (⟨S16x32x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16x32x1, .i32⟩) main_call3_v0) (broadcastInDim S16x32x1 ![] bcast_S_S16x32x1),
    TRef.binary (TRef.of (T := ⟨S16x32x1, .i32⟩) main_v7) (TRef.of (T := ⟨S16x32x1, .i32⟩) main_call3_v0) (TRef.of (T := ⟨S16x32x1, .i1⟩) main_call3_v1) (cmpi .slt),
    TRef.nullary (TRef.of (T := ⟨S_, .i32⟩) main_call3_c_0) (constantI S_ 32 128#32),
    TRef.unary (TRef.of (T := ⟨S_, .i32⟩) main_call3_c_0) (TRef.of (T := ⟨S16x32x1, .i32⟩) main_call3_v2) (broadcastInDim S16x32x1 ![] bcast_S_S16x32x1),
    TRef.binary (TRef.of (T := ⟨S16x32x1, .i32⟩) main_v7) (TRef.of (T := ⟨S16x32x1, .i32⟩) main_call3_v2) (TRef.of (T := ⟨S16x32x1, .i32⟩) main_call3_v3) addi,
    TRef.ternary (TRef.of (T := ⟨S16x32x1, .i1⟩) main_call3_v1) (TRef.of (T := ⟨S16x32x1, .i32⟩) main_call3_v3) (TRef.of (T := ⟨S16x32x1, .i32⟩) main_v7) (TRef.of (T := ⟨S16x32x1, .i32⟩) main_call3_v4) select,
    TRef.nullary (TRef.of (T := ⟨S1, .i32⟩) main_call3_c_1) (constantI S1 32 127#32),
    TRef.nullary (TRef.of (T := ⟨S_, .i32⟩) main_call3_c_2) (constantI S_ 32 0#32),
    TRef.unary (TRef.of (T := ⟨S_, .i32⟩) main_call3_c_2) (TRef.of (T := ⟨S16x32x1, .i32⟩) main_call3_v5) (broadcastInDim S16x32x1 ![] bcast_S_S16x32x1),
    TRef.binary (TRef.of (T := ⟨S16x32x1, .i32⟩) main_call3_v4) (TRef.of (T := ⟨S16x32x1, .i32⟩) main_call3_v5) (TRef.of (T := ⟨S16x32x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S16x32x1, .i32⟩) main_call3_v8) (broadcastInDim S16x32x1 ![0, 1, 2] bcast_S1x1x1_S16x32x1_0_1_2),
    TRef.binary (TRef.of (T := ⟨S16x32x1, .i32⟩) main_call3_v4) (TRef.of (T := ⟨S16x32x1, .i32⟩) main_call3_v8) (TRef.of (T := ⟨S16x32x1, .i1⟩) main_call3_v9) (cmpi .sle),
    TRef.binary (TRef.of (T := ⟨S16x32x1, .i1⟩) main_call3_v6) (TRef.of (T := ⟨S16x32x1, .i1⟩) main_call3_v9) (TRef.of (T := ⟨S16x32x1, .i1⟩) main_call3_v10) andi,
    TRef.nullary (TRef.of (T := ⟨S_, .i1⟩) main_call3_c_3) (constantI S_ 1 1#1),
    TRef.binary (TRef.of (T := ⟨S16x32x1, .i1⟩) main_call3_v10) (TRef.of (T := ⟨S_, .i1⟩) main_call3_c_3) (TRef.of (T := ⟨S16x32, .i1⟩) main_call3_v11) (fun x v => Host.reduce IntOp.andi x v reducesTo_S16x32x1_S16x32_d2 h_S_),
    TRef.binary (TRef.of (T := ⟨S16x128x3, .f32⟩) main_v1) (TRef.of (T := ⟨S16x32x1, .i32⟩) main_call3_v4) (TRef.of (T := ⟨S16x32x3, .f32⟩) main_call3_v12) (fun x i => Host.gather gather_S16x128x3_S16x32x1_S16x32x3_2_1_0_0_1_2_113 x i),
    TRef.unary (TRef.of (T := ⟨S16x32, .i1⟩) main_call3_v11) (TRef.of (T := ⟨S16x32x3, .i1⟩) main_call3_v13) (broadcastInDim S16x32x3 ![0, 1] bcast_S16x32_S16x32x3_0_1),
    TRef.nullary (TRef.of (T := ⟨S_, .f32⟩) main_call3_cst) (constant S_ .f32 0x7FC00000#32),
    TRef.unary (TRef.of (T := ⟨S_, .f32⟩) main_call3_cst) (TRef.of (T := ⟨S16x32x3, .f32⟩) main_call3_v14) (broadcastInDim S16x32x3 ![] bcast_S_S16x32x3),
    TRef.ternary (TRef.of (T := ⟨S16x32x3, .i1⟩) main_call3_v13) (TRef.of (T := ⟨S16x32x3, .f32⟩) main_call3_v12) (TRef.of (T := ⟨S16x32x3, .f32⟩) main_call3_v14) (TRef.of (T := ⟨S16x32x3, .f32⟩) main_v8) select ]

/-- The operations that rank the neighbours. -/
abbrev rankOps : List (HloOp τ sig (Elt F)) :=
  [ binary main_v8 main_v8 main_v9 (mulf : (⟨S16x32x3, .f32⟩ : BufTy).Contents (Elt F) → (⟨S16x32x3, .f32⟩ : BufTy).Contents (Elt F) → (⟨S16x32x3, .f32⟩ : BufTy).Contents (Elt F)),
    nullary main_cst_2 (constant S_ .f32 0x00000000#32),
    binary main_v9 main_cst_2 main_v10 ((fun x v => Host.reduceAdd x v reducesTo_S16x32x3_S16x32_d2 h_S_) : (⟨S16x32x3, .f32⟩ : BufTy).Contents (Elt F) → (⟨S_, .f32⟩ : BufTy).Contents (Elt F) → (⟨S16x32, .f32⟩ : BufTy).Contents (Elt F)),
    unary main_v10 main_v11 (broadcastInDim S16x32x1 ![0, 1] bcast_S16x32_S16x32x1_0_1 : (⟨S16x32, .f32⟩ : BufTy).Contents (Elt F) → (⟨S16x32x1, .f32⟩ : BufTy).Contents (Elt F)),
    binary main_v1 main_v1 main_v12 (mulf : (⟨S16x128x3, .f32⟩ : BufTy).Contents (Elt F) → (⟨S16x128x3, .f32⟩ : BufTy).Contents (Elt F) → (⟨S16x128x3, .f32⟩ : BufTy).Contents (Elt F)),
    nullary main_cst_3 (constant S_ .f32 0x00000000#32),
    binary main_v12 main_cst_3 main_v13 ((fun x v => Host.reduceAdd x v reducesTo_S16x128x3_S16x128_d2 h_S_) : (⟨S16x128x3, .f32⟩ : BufTy).Contents (Elt F) → (⟨S_, .f32⟩ : BufTy).Contents (Elt F) → (⟨S16x128, .f32⟩ : BufTy).Contents (Elt F)),
    unary main_v13 main_v14 (broadcastInDim S16x1x128 ![0, 2] bcast_S16x128_S16x1x128_0_2 : (⟨S16x128, .f32⟩ : BufTy).Contents (Elt F) → (⟨S16x1x128, .f32⟩ : BufTy).Contents (Elt F)),
    binary main_v8 main_v1 main_v15 ((fun l r => Host.dotGeneral dot_S16x32x3_S16x128x3_S16x32x128_2_2_1_1_0_0 none l r) : (⟨S16x32x3, .f32⟩ : BufTy).Contents (Elt F) → (⟨S16x128x3, .f32⟩ : BufTy).Contents (Elt F) → (⟨S16x32x128, .f32⟩ : BufTy).Contents (Elt F)),
    unary main_v11 main_v16 (broadcastInDim S16x32x128 ![0, 1, 2] bcast_S16x32x1_S16x32x128_0_1_2 : (⟨S16x32x1, .f32⟩ : BufTy).Contents (Elt F) → (⟨S16x32x128, .f32⟩ : BufTy).Contents (Elt F)),
    unary main_v14 main_v17 (broadcastInDim S16x32x128 ![0, 1, 2] bcast_S16x1x128_S16x32x128_0_1_2 : (⟨S16x1x128, .f32⟩ : BufTy).Contents (Elt F) → (⟨S16x32x128, .f32⟩ : BufTy).Contents (Elt F)),
    binary main_v16 main_v17 main_v18 (addf : (⟨S16x32x128, .f32⟩ : BufTy).Contents (Elt F) → (⟨S16x32x128, .f32⟩ : BufTy).Contents (Elt F) → (⟨S16x32x128, .f32⟩ : BufTy).Contents (Elt F)),
    nullary main_cst_4 (constant S_ .f32 0x40000000#32),
    unary main_cst_4 main_v19 (broadcastInDim S16x32x128 ![] bcast_S_S16x32x128 : (⟨S_, .f32⟩ : BufTy).Contents (Elt F) → (⟨S16x32x128, .f32⟩ : BufTy).Contents (Elt F)),
    binary main_v19 main_v15 main_v20 (mulf : (⟨S16x32x128, .f32⟩ : BufTy).Contents (Elt F) → (⟨S16x32x128, .f32⟩ : BufTy).Contents (Elt F) → (⟨S16x32x128, .f32⟩ : BufTy).Contents (Elt F)),
    binary main_v18 main_v20 main_v21 (subf : (⟨S16x32x128, .f32⟩ : BufTy).Contents (Elt F) → (⟨S16x32x128, .f32⟩ : BufTy).Contents (Elt F) → (⟨S16x32x128, .f32⟩ : BufTy).Contents (Elt F)),
    nullary main_cst_5 (constant S_ .f32 0x2B8CBCCC#32),
    unary main_cst_5 main_v22 (broadcastInDim S16x32x128 ![] bcast_S_S16x32x128 : (⟨S_, .f32⟩ : BufTy).Contents (Elt F) → (⟨S16x32x128, .f32⟩ : BufTy).Contents (Elt F)),
    binary main_v21 main_v22 main_v23 (maximumf : (⟨S16x32x128, .f32⟩ : BufTy).Contents (Elt F) → (⟨S16x32x128, .f32⟩ : BufTy).Contents (Elt F) → (⟨S16x32x128, .f32⟩ : BufTy).Contents (Elt F)),
    unary main_v23 main_v24 (Host.sqrt : (⟨S16x32x128, .f32⟩ : BufTy).Contents (Elt F) → (⟨S16x32x128, .f32⟩ : BufTy).Contents (Elt F)),
    unary main_v24 main_v25 (Host.negf : (⟨S16x32x128, .f32⟩ : BufTy).Contents (Elt F) → (⟨S16x32x128, .f32⟩ : BufTy).Contents (Elt F)),
    unary main_v25 main_values ((fun x => (Host.topK S16x32x64 2 (FloatOps.cmpfTotal .gt) x sliceFits_S16x32x128_S16x32x64).1) : (⟨S16x32x128, .f32⟩ : BufTy).Contents (Elt F) → (⟨S16x32x64, .f32⟩ : BufTy).Contents (Elt F)),
    unary main_v25 main_indices ((fun x => (Host.topK S16x32x64 2 (FloatOps.cmpfTotal .gt) x sliceFits_S16x32x128_S16x32x64).2) : (⟨S16x32x128, .f32⟩ : BufTy).Contents (Elt F) → (⟨S16x32x64, .i32⟩ : BufTy).Contents (Elt F)) ]

/-- The operations that form the neighbourhoods. -/
abbrev groupOps : List (HloOp τ sig (Elt F)) :=
  [ nullary main_c_6 (constantI S_ 32 0#32),
    unary main_c_6 main_v26 (broadcastInDim S16x32x64 ![] bcast_S_S16x32x64 : (⟨S_, .i32⟩ : BufTy).Contents (Elt F) → (⟨S16x32x64, .i32⟩ : BufTy).Contents (Elt F)),
    binary main_indices main_v26 main_v27 (cmpi .slt : (⟨S16x32x64, .i32⟩ : BufTy).Contents (Elt F) → (⟨S16x32x64, .i32⟩ : BufTy).Contents (Elt F) → (⟨S16x32x64, .i1⟩ : BufTy).Contents (Elt F)),
    nullary main_c_7 (constantI S_ 32 128#32),
    unary main_c_7 main_v28 (broadcastInDim S16x32x64 ![] bcast_S_S16x32x64 : (⟨S_, .i32⟩ : BufTy).Contents (Elt F) → (⟨S16x32x64, .i32⟩ : BufTy).Contents (Elt F)),
    binary main_indices main_v28 main_v29 (addi : (⟨S16x32x64, .i32⟩ : BufTy).Contents (Elt F) → (⟨S16x32x64, .i32⟩ : BufTy).Contents (Elt F) → (⟨S16x32x64, .i32⟩ : BufTy).Contents (Elt F)),
    ternary main_v27 main_v29 main_indices main_v30 (select : (⟨S16x32x64, .i1⟩ : BufTy).Contents (Elt F) → (⟨S16x32x64, .i32⟩ : BufTy).Contents (Elt F) → (⟨S16x32x64, .i32⟩ : BufTy).Contents (Elt F) → (⟨S16x32x64, .i32⟩ : BufTy).Contents (Elt F)),
    unary main_v30 main_v31 (broadcastInDim S16x32x64x1 ![0, 1, 2] bcast_S16x32x64_S16x32x64x1_0_1_2 : (⟨S16x32x64, .i32⟩ : BufTy).Contents (Elt F) → (⟨S16x32x64x1, .i32⟩ : BufTy).Contents (Elt F)),
    binary main_v1 main_v31 main_v32 ((fun x i => Host.gather gather_S16x128x3_S16x32x64x1_S16x32x64x3_3_1_0_0_1_3_113 x i) : (⟨S16x128x3, .f32⟩ : BufTy).Contents (Elt F) → (⟨S16x32x64x1, .i32⟩ : BufTy).Contents (Elt F) → (⟨S16x32x64x3, .f32⟩ : BufTy).Contents (Elt F)),
    unary main_v8 main_v33 (broadcastInDim S16x32x1x3 ![0, 1, 3] bcast_S16x32x3_S16x32x1x3_0_1_3 : (⟨S16x32x3, .f32⟩ : BufTy).Contents (Elt F) → (⟨S16x32x1x3, .f32⟩ : BufTy).Contents (Elt F)),
    unary main_v33 main_v34 (broadcastInDim S16x32x64x3 ![0, 1, 2, 3] bcast_S16x32x1x3_S16x32x64x3_0_1_2_3 : (⟨S16x32x1x3, .f32⟩ : BufTy).Contents (Elt F) → (⟨S16x32x64x3, .f32⟩ : BufTy).Contents (Elt F)),
    binary main_v32 main_v34 main_v35 (subf : (⟨S16x32x64x3, .f32⟩ : BufTy).Contents (Elt F) → (⟨S16x32x64x3, .f32⟩ : BufTy).Contents (Elt F) → (⟨S16x32x64x3, .f32⟩ : BufTy).Contents (Elt F)),
    unary main_arg0 main_v36 ((transpose S16x128x128 [0, 2, 1] · transposes_S16x128x128_S16x128x128_0_2_1) : (⟨S16x128x128, .f32⟩ : BufTy).Contents (Elt F) → (⟨S16x128x128, .f32⟩ : BufTy).Contents (Elt F)),
    nullary main_c_8 (constantI S_ 32 0#32),
    unary main_c_8 main_v37 (broadcastInDim S16x32x64 ![] bcast_S_S16x32x64 : (⟨S_, .i32⟩ : BufTy).Contents (Elt F) → (⟨S16x32x64, .i32⟩ : BufTy).Contents (Elt F)),
    binary main_indices main_v37 main_v38 (cmpi .slt : (⟨S16x32x64, .i32⟩ : BufTy).Contents (Elt F) → (⟨S16x32x64, .i32⟩ : BufTy).Contents (Elt F) → (⟨S16x32x64, .i1⟩ : BufTy).Contents (Elt F)),
    nullary main_c_9 (constantI S_ 32 128#32),
    unary main_c_9 main_v39 (broadcastInDim S16x32x64 ![] bcast_S_S16x32x64 : (⟨S_, .i32⟩ : BufTy).Contents (Elt F) → (⟨S16x32x64, .i32⟩ : BufTy).Contents (Elt F)),
    binary main_indices main_v39 main_v40 (addi : (⟨S16x32x64, .i32⟩ : BufTy).Contents (Elt F) → (⟨S16x32x64, .i32⟩ : BufTy).Contents (Elt F) → (⟨S16x32x64, .i32⟩ : BufTy).Contents (Elt F)),
    ternary main_v38 main_v40 main_indices main_v41 (select : (⟨S16x32x64, .i1⟩ : BufTy).Contents (Elt F) → (⟨S16x32x64, .i32⟩ : BufTy).Contents (Elt F) → (⟨S16x32x64, .i32⟩ : BufTy).Contents (Elt F) → (⟨S16x32x64, .i32⟩ : BufTy).Contents (Elt F)),
    unary main_v41 main_v42 (broadcastInDim S16x32x64x1 ![0, 1, 2] bcast_S16x32x64_S16x32x64x1_0_1_2 : (⟨S16x32x64, .i32⟩ : BufTy).Contents (Elt F) → (⟨S16x32x64x1, .i32⟩ : BufTy).Contents (Elt F)),
    binary main_v36 main_v42 main_v43 ((fun x i => Host.gather gather_S16x128x128_S16x32x64x1_S16x32x64x128_3_1_0_0_1_3_11128 x i) : (⟨S16x128x128, .f32⟩ : BufTy).Contents (Elt F) → (⟨S16x32x64x1, .i32⟩ : BufTy).Contents (Elt F) → (⟨S16x32x64x128, .f32⟩ : BufTy).Contents (Elt F)),
    binary main_v35 main_v43 main_v44 ((fun a b => concatenate S16x32x64x131 3 [⟨S16x32x64x3, a⟩, ⟨S16x32x64x128, b⟩] concatenates_S16x32x64x3_S16x32x64x128_S16x32x64x131_d3) : (⟨S16x32x64x3, .f32⟩ : BufTy).Contents (Elt F) → (⟨S16x32x64x128, .f32⟩ : BufTy).Contents (Elt F) → (⟨S16x32x64x131, .f32⟩ : BufTy).Contents (Elt F)) ]

/-- The operations of the first layer. -/
abbrev mixOps : List (HloOp τ sig (Elt F)) :=
  [ binary main_v44 main_arg2 main_v45 ((fun l r => Host.dotGeneral dot_S16x32x64x131_S128x131_S16x32x64x128_3_1_012_0_n_n none l r) : (⟨S16x32x64x131, .f32⟩ : BufTy).Contents (Elt F) → (⟨S128x131, .f32⟩ : BufTy).Contents (Elt F) → (⟨S16x32x64x128, .f32⟩ : BufTy).Contents (Elt F)),
    unary main_arg3 main_v46 (broadcastInDim S1x1x1x128 ![3] bcast_S128_S1x1x1x128_3 : (⟨S128, .f32⟩ : BufTy).Contents (Elt F) → (⟨S1x1x1x128, .f32⟩ : BufTy).Contents (Elt F)),
    unary main_v46 main_v47 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v45 main_v47 main_v48 (addf : (⟨S16x32x64x128, .f32⟩ : BufTy).Contents (Elt F) → (⟨S16x32x64x128, .f32⟩ : BufTy).Contents (Elt F) → (⟨S16x32x64x128, .f32⟩ : BufTy).Contents (Elt F)) ]

/-- The operations of the first normalisation and the second layer. -/
abbrev secondOps : List (HloOp τ sig (Elt F)) :=
  [ nullary main_cst_10 (constant S_ .f32 0x00000000#32),
    binary main_v48 main_cst_10 main_v49 ((fun x v => Host.reduceAdd x v reducesTo_S16x32x64x128_S128_d0_1_2 h_S_) : (⟨S16x32x64x128, .f32⟩ : BufTy).Contents (Elt F) → (⟨S_, .f32⟩ : BufTy).Contents (Elt F) → (⟨S128, .f32⟩ : BufTy).Contents (Elt F)),
    unary main_v49 main_v50 (broadcastInDim S1x1x1x128 ![3] bcast_S128_S1x1x1x128_3 : (⟨S128, .f32⟩ : BufTy).Contents (Elt F) → (⟨S1x1x1x128, .f32⟩ : BufTy).Contents (Elt F)),
    nullary main_cst_11 (constant S_ .f32 0x47000000#32),
    unary main_cst_11 main_v51 (broadcastInDim S1x1x1x128 ![] bcast_S_S1x1x1x128 : (⟨S_, .f32⟩ : BufTy).Contents (Elt F) → (⟨S1x1x1x128, .f32⟩ : BufTy).Contents (Elt F)),
    binary main_v50 main_v51 main_v52 (Host.divf : (⟨S1x1x1x128, .f32⟩ : BufTy).Contents (Elt F) → (⟨S1x1x1x128, .f32⟩ : BufTy).Contents (Elt F) → (⟨S1x1x1x128, .f32⟩ : BufTy).Contents (Elt F)),
    nullary main_c_12 (constantI S_ 32 0#32),
    TRef.nullary (TRef.of (T := ⟨S_, .f32⟩) main_call4_cst) (constant S_ .f32 0x00000000#32),
    TRef.binary (TRef.of (T := ⟨S16x32x64x128, .f32⟩) main_v48) (TRef.of (T := ⟨S_, .f32⟩) main_call4_cst) (TRef.of (T := ⟨S128, .f32⟩) main_call4_v0) (fun x v => Host.reduceAdd x v reducesTo_S16x32x64x128_S128_d0_1_2 h_S_),
    TRef.unary (TRef.of (T := ⟨S128, .f32⟩) main_call4_v0) (TRef.of (T := ⟨S1x1x1x128, .f32⟩) main_call4_v1) (broadcastInDim S1x1x1x128 ![3] bcast_S128_S1x1x1x128_3),
    TRef.nullary (TRef.of (T := ⟨S_, .f32⟩) main_call4_cst_0) (constant S_ .f32 0x47000000#32),
    TRef.unary (TRef.of (T := ⟨S_, .f32⟩) main_call4_cst_0) (TRef.of (T := ⟨S1x1x1x128, .f32⟩) main_call4_v2) (broadcastInDim S1x1x1x128 ![] bcast_S_S1x1x1x128),
    TRef.binary (TRef.of (T := ⟨S1x1x1x128, .f32⟩) main_call4_v1) (TRef.of (T := ⟨S1x1x1x128, .f32⟩) main_call4_v2) (TRef.of (T := ⟨S1x1x1x128, .f32⟩) main_call4_v3) Host.divf,
    TRef.unary (TRef.of (T := ⟨S1x1x1x128, .f32⟩) main_call4_v3) (TRef.of (T := ⟨S16x32x64x128, .f32⟩) main_call4_v4) (broadcastInDim S16x32x64x128 ![0, 1, 2, 3] bcast_S1x1x1x128_S16x32x64x128_0_1_2_3),
    TRef.binary (TRef.of (T := ⟨S16x32x64x128, .f32⟩) main_v48) (TRef.of (T := ⟨S16x32x64x128, .f32⟩) main_call4_v4) (TRef.of (T := ⟨S16x32x64x128, .f32⟩) main_call4_v5) subf,
    TRef.binary (TRef.of (T := ⟨S16x32x64x128, .f32⟩) main_call4_v5) (TRef.of (T := ⟨S16x32x64x128, .f32⟩) main_call4_v5) (TRef.of (T := ⟨S16x32x64x128, .f32⟩) main_call4_v6) mulf,
    TRef.unary (TRef.of (T := ⟨S_, .i32⟩) main_c_12) (TRef.of (T := ⟨S_, .f32⟩) main_call4_v7) (sitofp .f32),
    TRef.nullary (TRef.of (T := ⟨S_, .f32⟩) main_call4_cst_1) (constant S_ .f32 0x47000000#32),
    TRef.binary (TRef.of (T := ⟨S_, .f32⟩) main_call4_cst_1) (TRef.of (T := ⟨S_, .f32⟩) main_call4_v7) (TRef.of (T := ⟨S_, .f32⟩) main_call4_v8) subf,
    TRef.nullary (TRef.of (T := ⟨S_, .f32⟩) main_call4_cst_2) (constant S_ .f32 0x00000000#32),
    TRef.binary (TRef.of (T := ⟨S16x32x64x128, .f32⟩) main_call4_v6) (TRef.of (T := ⟨S_, .f32⟩) main_call4_cst_2) (TRef.of (T := ⟨S128, .f32⟩) main_call4_v9) (fun x v => Host.reduceAdd x v reducesTo_S16x32x64x128_S128_d0_1_2 h_S_),
    TRef.unary (TRef.of (T := ⟨S128, .f32⟩) main_call4_v9) (TRef.of (T := ⟨S1x1x1x128, .f32⟩) main_call4_v10) (broadcastInDim S1x1x1x128 ![3] bcast_S128_S1x1x1x128_3),
    TRef.unary (TRef.of (T := ⟨S_, .f32⟩) main_call4_v8) (TRef.of (T := ⟨S1x1x1x128, .f32⟩) main_call4_v11) (broadcastInDim S1x1x1x128 ![] bcast_S_S1x1x1x128),
    TRef.binary (TRef.of (T := ⟨S1x1x1x128, .f32⟩) main_call4_v10) (TRef.of (T := ⟨S1x1x1x128, .f32⟩) main_call4_v11) (TRef.of (T := ⟨S1x1x1x128, .f32⟩) main_call4_v12) Host.divf,
    TRef.nullary (TRef.of (T := ⟨S_, .f32⟩) main_call4_cst_3) (constant S_ .f32 0x00000000#32),
    TRef.binary (TRef.of (T := ⟨S_, .f32⟩) main_call4_v8) (TRef.of (T := ⟨S_, .f32⟩) main_call4_cst_3) (TRef.of (T := ⟨S_, .i1⟩) main_call4_v13) (cmpf .ogt),
    TRef.nullary (TRef.of (T := ⟨S_, .f32⟩) main_call4_cst_4) (constant S_ .f32 0x7FC00000#32),
    TRef.unary (TRef.of (T := ⟨S_, .f32⟩) main_call4_cst_4) (TRef.of (T := ⟨S_, .f32⟩) main_call4_call0_v0) id,
    TRef.unary (TRef.of (T := ⟨S_, .f32⟩) main_call4_call0_v0) (TRef.of (T := ⟨S1x1x1x128, .f32⟩) main_call4_call0_v1) (broadcastInDim S1x1x1x128 ![] bcast_S_S1x1x1x128),
    TRef.ternary (TRef.of (T := ⟨S_, .i1⟩) main_call4_v13) (TRef.of (T := ⟨S1x1x1x128, .f32⟩) main_call4_v12) (TRef.of (T := ⟨S1x1x1x128, .f32⟩) main_call4_call0_v1) (TRef.of (T := ⟨S1x1x1x128, .f32⟩) main_v53) (fun p a b => select (broadcastInDim S1x1x1x128 ![] bcast_S_S1x1x1x128 p) a b),
    unary main_v52 main_v54 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v48 main_v54 main_v55 (subf : (⟨S16x32x64x128, .f32⟩ : BufTy).Contents (Elt F) → (⟨S16x32x64x128, .f32⟩ : BufTy).Contents (Elt F) → (⟨S16x32x64x128, .f32⟩ : BufTy).Contents (Elt F)),
    nullary main_cst_13 (constant S_ .f32 0x3727C5AC#32),
    unary main_cst_13 main_v56 (broadcastInDim S1x1x1x128 ![] bcast_S_S1x1x1x128 : (⟨S_, .f32⟩ : BufTy).Contents (Elt F) → (⟨S1x1x1x128, .f32⟩ : BufTy).Contents (Elt F)),
    binary main_v53 main_v56 main_v57 (addf : (⟨S1x1x1x128, .f32⟩ : BufTy).Contents (Elt F) → (⟨S1x1x1x128, .f32⟩ : BufTy).Contents (Elt F) → (⟨S1x1x1x128, .f32⟩ : BufTy).Contents (Elt F)),
    unary main_v57 main_v58 (Host.sqrt : (⟨S1x1x1x128, .f32⟩ : BufTy).Contents (Elt F) → (⟨S1x1x1x128, .f32⟩ : BufTy).Contents (Elt F)),
    unary main_v58 main_v59 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v55 main_v59 main_v60 (Host.divf : (⟨S16x32x64x128, .f32⟩ : BufTy).Contents (Elt F) → (⟨S16x32x64x128, .f32⟩ : BufTy).Contents (Elt F) → (⟨S16x32x64x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x32x64x128, .f32⟩) main_call5_v0) (broadcastInDim S16x32x64x128 ![] bcast_S_S16x32x64x128),
    TRef.binary (TRef.of (T := ⟨S16x32x64x128, .f32⟩) main_v60) (TRef.of (T := ⟨S16x32x64x128, .f32⟩) main_call5_v0) (TRef.of (T := ⟨S16x32x64x128, .f32⟩) main_v61) maximumf,
    binary main_v61 main_arg4 main_v62 ((fun l r => Host.dotGeneral dot_S16x32x64x128_S128x128_S16x32x64x128_3_1_012_0_n_n none l r) : (⟨S16x32x64x128, .f32⟩ : BufTy).Contents (Elt F) → (⟨S128x128, .f32⟩ : BufTy).Contents (Elt F) → (⟨S16x32x64x128, .f32⟩ : BufTy).Contents (Elt F)),
    unary main_arg5 main_v63 (broadcastInDim S1x1x1x128 ![3] bcast_S128_S1x1x1x128_3 : (⟨S128, .f32⟩ : BufTy).Contents (Elt F) → (⟨S1x1x1x128, .f32⟩ : BufTy).Contents (Elt F)),
    unary main_v63 main_v64 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v62 main_v64 main_v65 (addf : (⟨S16x32x64x128, .f32⟩ : BufTy).Contents (Elt F) → (⟨S16x32x64x128, .f32⟩ : BufTy).Contents (Elt F) → (⟨S16x32x64x128, .f32⟩ : BufTy).Contents (Elt F)) ]

/-- The operations of the second normalisation and the third layer. -/
abbrev thirdOps : List (HloOp τ sig (Elt F)) :=
  [ nullary main_cst_14 (constant S_ .f32 0x00000000#32),
    binary main_v65 main_cst_14 main_v66 ((fun x v => Host.reduceAdd x v reducesTo_S16x32x64x128_S128_d0_1_2 h_S_) : (⟨S16x32x64x128, .f32⟩ : BufTy).Contents (Elt F) → (⟨S_, .f32⟩ : BufTy).Contents (Elt F) → (⟨S128, .f32⟩ : BufTy).Contents (Elt F)),
    unary main_v66 main_v67 (broadcastInDim S1x1x1x128 ![3] bcast_S128_S1x1x1x128_3 : (⟨S128, .f32⟩ : BufTy).Contents (Elt F) → (⟨S1x1x1x128, .f32⟩ : BufTy).Contents (Elt F)),
    nullary main_cst_15 (constant S_ .f32 0x47000000#32),
    unary main_cst_15 main_v68 (broadcastInDim S1x1x1x128 ![] bcast_S_S1x1x1x128 : (⟨S_, .f32⟩ : BufTy).Contents (Elt F) → (⟨S1x1x1x128, .f32⟩ : BufTy).Contents (Elt F)),
    binary main_v67 main_v68 main_v69 (Host.divf : (⟨S1x1x1x128, .f32⟩ : BufTy).Contents (Elt F) → (⟨S1x1x1x128, .f32⟩ : BufTy).Contents (Elt F) → (⟨S1x1x1x128, .f32⟩ : BufTy).Contents (Elt F)),
    nullary main_c_16 (constantI S_ 32 0#32),
    TRef.nullary (TRef.of (T := ⟨S_, .f32⟩) main_call6_cst) (constant S_ .f32 0x00000000#32),
    TRef.binary (TRef.of (T := ⟨S16x32x64x128, .f32⟩) main_v65) (TRef.of (T := ⟨S_, .f32⟩) main_call6_cst) (TRef.of (T := ⟨S128, .f32⟩) main_call6_v0) (fun x v => Host.reduceAdd x v reducesTo_S16x32x64x128_S128_d0_1_2 h_S_),
    TRef.unary (TRef.of (T := ⟨S128, .f32⟩) main_call6_v0) (TRef.of (T := ⟨S1x1x1x128, .f32⟩) main_call6_v1) (broadcastInDim S1x1x1x128 ![3] bcast_S128_S1x1x1x128_3),
    TRef.nullary (TRef.of (T := ⟨S_, .f32⟩) main_call6_cst_0) (constant S_ .f32 0x47000000#32),
    TRef.unary (TRef.of (T := ⟨S_, .f32⟩) main_call6_cst_0) (TRef.of (T := ⟨S1x1x1x128, .f32⟩) main_call6_v2) (broadcastInDim S1x1x1x128 ![] bcast_S_S1x1x1x128),
    TRef.binary (TRef.of (T := ⟨S1x1x1x128, .f32⟩) main_call6_v1) (TRef.of (T := ⟨S1x1x1x128, .f32⟩) main_call6_v2) (TRef.of (T := ⟨S1x1x1x128, .f32⟩) main_call6_v3) Host.divf,
    TRef.unary (TRef.of (T := ⟨S1x1x1x128, .f32⟩) main_call6_v3) (TRef.of (T := ⟨S16x32x64x128, .f32⟩) main_call6_v4) (broadcastInDim S16x32x64x128 ![0, 1, 2, 3] bcast_S1x1x1x128_S16x32x64x128_0_1_2_3),
    TRef.binary (TRef.of (T := ⟨S16x32x64x128, .f32⟩) main_v65) (TRef.of (T := ⟨S16x32x64x128, .f32⟩) main_call6_v4) (TRef.of (T := ⟨S16x32x64x128, .f32⟩) main_call6_v5) subf,
    TRef.binary (TRef.of (T := ⟨S16x32x64x128, .f32⟩) main_call6_v5) (TRef.of (T := ⟨S16x32x64x128, .f32⟩) main_call6_v5) (TRef.of (T := ⟨S16x32x64x128, .f32⟩) main_call6_v6) mulf,
    TRef.unary (TRef.of (T := ⟨S_, .i32⟩) main_c_16) (TRef.of (T := ⟨S_, .f32⟩) main_call6_v7) (sitofp .f32),
    TRef.nullary (TRef.of (T := ⟨S_, .f32⟩) main_call6_cst_1) (constant S_ .f32 0x47000000#32),
    TRef.binary (TRef.of (T := ⟨S_, .f32⟩) main_call6_cst_1) (TRef.of (T := ⟨S_, .f32⟩) main_call6_v7) (TRef.of (T := ⟨S_, .f32⟩) main_call6_v8) subf,
    TRef.nullary (TRef.of (T := ⟨S_, .f32⟩) main_call6_cst_2) (constant S_ .f32 0x00000000#32),
    TRef.binary (TRef.of (T := ⟨S16x32x64x128, .f32⟩) main_call6_v6) (TRef.of (T := ⟨S_, .f32⟩) main_call6_cst_2) (TRef.of (T := ⟨S128, .f32⟩) main_call6_v9) (fun x v => Host.reduceAdd x v reducesTo_S16x32x64x128_S128_d0_1_2 h_S_),
    TRef.unary (TRef.of (T := ⟨S128, .f32⟩) main_call6_v9) (TRef.of (T := ⟨S1x1x1x128, .f32⟩) main_call6_v10) (broadcastInDim S1x1x1x128 ![3] bcast_S128_S1x1x1x128_3),
    TRef.unary (TRef.of (T := ⟨S_, .f32⟩) main_call6_v8) (TRef.of (T := ⟨S1x1x1x128, .f32⟩) main_call6_v11) (broadcastInDim S1x1x1x128 ![] bcast_S_S1x1x1x128),
    TRef.binary (TRef.of (T := ⟨S1x1x1x128, .f32⟩) main_call6_v10) (TRef.of (T := ⟨S1x1x1x128, .f32⟩) main_call6_v11) (TRef.of (T := ⟨S1x1x1x128, .f32⟩) main_call6_v12) Host.divf,
    TRef.nullary (TRef.of (T := ⟨S_, .f32⟩) main_call6_cst_3) (constant S_ .f32 0x00000000#32),
    TRef.binary (TRef.of (T := ⟨S_, .f32⟩) main_call6_v8) (TRef.of (T := ⟨S_, .f32⟩) main_call6_cst_3) (TRef.of (T := ⟨S_, .i1⟩) main_call6_v13) (cmpf .ogt),
    TRef.nullary (TRef.of (T := ⟨S_, .f32⟩) main_call6_cst_4) (constant S_ .f32 0x7FC00000#32),
    TRef.unary (TRef.of (T := ⟨S_, .f32⟩) main_call6_cst_4) (TRef.of (T := ⟨S_, .f32⟩) main_call6_call0_v0) id,
    TRef.unary (TRef.of (T := ⟨S_, .f32⟩) main_call6_call0_v0) (TRef.of (T := ⟨S1x1x1x128, .f32⟩) main_call6_call0_v1) (broadcastInDim S1x1x1x128 ![] bcast_S_S1x1x1x128),
    TRef.ternary (TRef.of (T := ⟨S_, .i1⟩) main_call6_v13) (TRef.of (T := ⟨S1x1x1x128, .f32⟩) main_call6_v12) (TRef.of (T := ⟨S1x1x1x128, .f32⟩) main_call6_call0_v1) (TRef.of (T := ⟨S1x1x1x128, .f32⟩) main_v70) (fun p a b => select (broadcastInDim S1x1x1x128 ![] bcast_S_S1x1x1x128 p) a b),
    unary main_v69 main_v71 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v65 main_v71 main_v72 (subf : (⟨S16x32x64x128, .f32⟩ : BufTy).Contents (Elt F) → (⟨S16x32x64x128, .f32⟩ : BufTy).Contents (Elt F) → (⟨S16x32x64x128, .f32⟩ : BufTy).Contents (Elt F)),
    nullary main_cst_17 (constant S_ .f32 0x3727C5AC#32),
    unary main_cst_17 main_v73 (broadcastInDim S1x1x1x128 ![] bcast_S_S1x1x1x128 : (⟨S_, .f32⟩ : BufTy).Contents (Elt F) → (⟨S1x1x1x128, .f32⟩ : BufTy).Contents (Elt F)),
    binary main_v70 main_v73 main_v74 (addf : (⟨S1x1x1x128, .f32⟩ : BufTy).Contents (Elt F) → (⟨S1x1x1x128, .f32⟩ : BufTy).Contents (Elt F) → (⟨S1x1x1x128, .f32⟩ : BufTy).Contents (Elt F)),
    unary main_v74 main_v75 (Host.sqrt : (⟨S1x1x1x128, .f32⟩ : BufTy).Contents (Elt F) → (⟨S1x1x1x128, .f32⟩ : BufTy).Contents (Elt F)),
    unary main_v75 main_v76 (broadcastInDim S16x32x64x128 ![0, 1, 2, 3] bcast_S1x1x1x128_S16x32x64x128_0_1_2_3 : (⟨S1x1x1x128, .f32⟩ : BufTy).Contents (Elt F) → (⟨S16x32x64x128, .f32⟩ : BufTy).Contents (Elt F)),
    binary main_v72 main_v76 main_v77 (Host.divf : (⟨S16x32x64x128, .f32⟩ : BufTy).Contents (Elt F) → (⟨S16x32x64x128, .f32⟩ : BufTy).Contents (Elt F) → (⟨S16x32x64x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x32x64x128, .f32⟩) main_call7_v0) (broadcastInDim S16x32x64x128 ![] bcast_S_S16x32x64x128),
    TRef.binary (TRef.of (T := ⟨S16x32x64x128, .f32⟩) main_v77) (TRef.of (T := ⟨S16x32x64x128, .f32⟩) main_call7_v0) (TRef.of (T := ⟨S16x32x64x128, .f32⟩) main_v78) maximumf,
    binary main_v78 main_arg6 main_v79 ((fun l r => Host.dotGeneral dot_S16x32x64x128_S256x128_S16x32x64x256_3_1_012_0_n_n none l r) : (⟨S16x32x64x128, .f32⟩ : BufTy).Contents (Elt F) → (⟨S256x128, .f32⟩ : BufTy).Contents (Elt F) → (⟨S16x32x64x256, .f32⟩ : BufTy).Contents (Elt F)),
    unary main_arg7 main_v80 (broadcastInDim S1x1x1x256 ![3] bcast_S256_S1x1x1x256_3 : (⟨S256, .f32⟩ : BufTy).Contents (Elt F) → (⟨S1x1x1x256, .f32⟩ : BufTy).Contents (Elt F)),
    unary main_v80 main_v81 (broadcastInDim S16x32x64x256 ![0, 1, 2, 3] bcast_S1x1x1x256_S16x32x64x256_0_1_2_3 : (⟨S1x1x1x256, .f32⟩ : BufTy).Contents (Elt F) → (⟨S16x32x64x256, .f32⟩ : BufTy).Contents (Elt F)),
    binary main_v79 main_v81 main_v82 (addf : (⟨S16x32x64x256, .f32⟩ : BufTy).Contents (Elt F) → (⟨S16x32x64x256, .f32⟩ : BufTy).Contents (Elt F) → (⟨S16x32x64x256, .f32⟩ : BufTy).Contents (Elt F)) ]

/-- The operations of the third normalisation and the largest entries. -/
abbrev lastOps : List (HloOp τ sig (Elt F)) :=
  [ nullary main_cst_18 (constant S_ .f32 0x00000000#32),
    binary main_v82 main_cst_18 main_v83 ((fun x v => Host.reduceAdd x v reducesTo_S16x32x64x256_S256_d0_1_2 h_S_) : (⟨S16x32x64x256, .f32⟩ : BufTy).Contents (Elt F) → (⟨S_, .f32⟩ : BufTy).Contents (Elt F) → (⟨S256, .f32⟩ : BufTy).Contents (Elt F)),
    unary main_v83 main_v84 (broadcastInDim S1x1x1x256 ![3] bcast_S256_S1x1x1x256_3 : (⟨S256, .f32⟩ : BufTy).Contents (Elt F) → (⟨S1x1x1x256, .f32⟩ : BufTy).Contents (Elt F)),
    nullary main_cst_19 (constant S_ .f32 0x47000000#32),
    unary main_cst_19 main_v85 (broadcastInDim S1x1x1x256 ![] bcast_S_S1x1x1x256 : (⟨S_, .f32⟩ : BufTy).Contents (Elt F) → (⟨S1x1x1x256, .f32⟩ : BufTy).Contents (Elt F)),
    binary main_v84 main_v85 main_v86 (Host.divf : (⟨S1x1x1x256, .f32⟩ : BufTy).Contents (Elt F) → (⟨S1x1x1x256, .f32⟩ : BufTy).Contents (Elt F) → (⟨S1x1x1x256, .f32⟩ : BufTy).Contents (Elt F)),
    nullary main_c_20 (constantI S_ 32 0#32),
    TRef.nullary (TRef.of (T := ⟨S_, .f32⟩) main_call8_cst) (constant S_ .f32 0x00000000#32),
    TRef.binary (TRef.of (T := ⟨S16x32x64x256, .f32⟩) main_v82) (TRef.of (T := ⟨S_, .f32⟩) main_call8_cst) (TRef.of (T := ⟨S256, .f32⟩) main_call8_v0) (fun x v => Host.reduceAdd x v reducesTo_S16x32x64x256_S256_d0_1_2 h_S_),
    TRef.unary (TRef.of (T := ⟨S256, .f32⟩) main_call8_v0) (TRef.of (T := ⟨S1x1x1x256, .f32⟩) main_call8_v1) (broadcastInDim S1x1x1x256 ![3] bcast_S256_S1x1x1x256_3),
    TRef.nullary (TRef.of (T := ⟨S_, .f32⟩) main_call8_cst_0) (constant S_ .f32 0x47000000#32),
    TRef.unary (TRef.of (T := ⟨S_, .f32⟩) main_call8_cst_0) (TRef.of (T := ⟨S1x1x1x256, .f32⟩) main_call8_v2) (broadcastInDim S1x1x1x256 ![] bcast_S_S1x1x1x256),
    TRef.binary (TRef.of (T := ⟨S1x1x1x256, .f32⟩) main_call8_v1) (TRef.of (T := ⟨S1x1x1x256, .f32⟩) main_call8_v2) (TRef.of (T := ⟨S1x1x1x256, .f32⟩) main_call8_v3) Host.divf,
    TRef.unary (TRef.of (T := ⟨S1x1x1x256, .f32⟩) main_call8_v3) (TRef.of (T := ⟨S16x32x64x256, .f32⟩) main_call8_v4) (broadcastInDim S16x32x64x256 ![0, 1, 2, 3] bcast_S1x1x1x256_S16x32x64x256_0_1_2_3),
    TRef.binary (TRef.of (T := ⟨S16x32x64x256, .f32⟩) main_v82) (TRef.of (T := ⟨S16x32x64x256, .f32⟩) main_call8_v4) (TRef.of (T := ⟨S16x32x64x256, .f32⟩) main_call8_v5) subf,
    TRef.binary (TRef.of (T := ⟨S16x32x64x256, .f32⟩) main_call8_v5) (TRef.of (T := ⟨S16x32x64x256, .f32⟩) main_call8_v5) (TRef.of (T := ⟨S16x32x64x256, .f32⟩) main_call8_v6) mulf,
    TRef.unary (TRef.of (T := ⟨S_, .i32⟩) main_c_20) (TRef.of (T := ⟨S_, .f32⟩) main_call8_v7) (sitofp .f32),
    TRef.nullary (TRef.of (T := ⟨S_, .f32⟩) main_call8_cst_1) (constant S_ .f32 0x47000000#32),
    TRef.binary (TRef.of (T := ⟨S_, .f32⟩) main_call8_cst_1) (TRef.of (T := ⟨S_, .f32⟩) main_call8_v7) (TRef.of (T := ⟨S_, .f32⟩) main_call8_v8) subf,
    TRef.nullary (TRef.of (T := ⟨S_, .f32⟩) main_call8_cst_2) (constant S_ .f32 0x00000000#32),
    TRef.binary (TRef.of (T := ⟨S16x32x64x256, .f32⟩) main_call8_v6) (TRef.of (T := ⟨S_, .f32⟩) main_call8_cst_2) (TRef.of (T := ⟨S256, .f32⟩) main_call8_v9) (fun x v => Host.reduceAdd x v reducesTo_S16x32x64x256_S256_d0_1_2 h_S_),
    TRef.unary (TRef.of (T := ⟨S256, .f32⟩) main_call8_v9) (TRef.of (T := ⟨S1x1x1x256, .f32⟩) main_call8_v10) (broadcastInDim S1x1x1x256 ![3] bcast_S256_S1x1x1x256_3),
    TRef.unary (TRef.of (T := ⟨S_, .f32⟩) main_call8_v8) (TRef.of (T := ⟨S1x1x1x256, .f32⟩) main_call8_v11) (broadcastInDim S1x1x1x256 ![] bcast_S_S1x1x1x256),
    TRef.binary (TRef.of (T := ⟨S1x1x1x256, .f32⟩) main_call8_v10) (TRef.of (T := ⟨S1x1x1x256, .f32⟩) main_call8_v11) (TRef.of (T := ⟨S1x1x1x256, .f32⟩) main_call8_v12) Host.divf,
    TRef.nullary (TRef.of (T := ⟨S_, .f32⟩) main_call8_cst_3) (constant S_ .f32 0x00000000#32),
    TRef.binary (TRef.of (T := ⟨S_, .f32⟩) main_call8_v8) (TRef.of (T := ⟨S_, .f32⟩) main_call8_cst_3) (TRef.of (T := ⟨S_, .i1⟩) main_call8_v13) (cmpf .ogt),
    TRef.nullary (TRef.of (T := ⟨S_, .f32⟩) main_call8_cst_4) (constant S_ .f32 0x7FC00000#32),
    TRef.unary (TRef.of (T := ⟨S_, .f32⟩) main_call8_cst_4) (TRef.of (T := ⟨S_, .f32⟩) main_call8_call0_v0) id,
    TRef.unary (TRef.of (T := ⟨S_, .f32⟩) main_call8_call0_v0) (TRef.of (T := ⟨S1x1x1x256, .f32⟩) main_call8_call0_v1) (broadcastInDim S1x1x1x256 ![] bcast_S_S1x1x1x256),
    TRef.ternary (TRef.of (T := ⟨S_, .i1⟩) main_call8_v13) (TRef.of (T := ⟨S1x1x1x256, .f32⟩) main_call8_v12) (TRef.of (T := ⟨S1x1x1x256, .f32⟩) main_call8_call0_v1) (TRef.of (T := ⟨S1x1x1x256, .f32⟩) main_v87) (fun p a b => select (broadcastInDim S1x1x1x256 ![] bcast_S_S1x1x1x256 p) a b),
    unary main_v86 main_v88 (broadcastInDim S16x32x64x256 ![0, 1, 2, 3] bcast_S1x1x1x256_S16x32x64x256_0_1_2_3 : (⟨S1x1x1x256, .f32⟩ : BufTy).Contents (Elt F) → (⟨S16x32x64x256, .f32⟩ : BufTy).Contents (Elt F)),
    binary main_v82 main_v88 main_v89 (subf : (⟨S16x32x64x256, .f32⟩ : BufTy).Contents (Elt F) → (⟨S16x32x64x256, .f32⟩ : BufTy).Contents (Elt F) → (⟨S16x32x64x256, .f32⟩ : BufTy).Contents (Elt F)),
    nullary main_cst_21 (constant S_ .f32 0x3727C5AC#32),
    unary main_cst_21 main_v90 (broadcastInDim S1x1x1x256 ![] bcast_S_S1x1x1x256 : (⟨S_, .f32⟩ : BufTy).Contents (Elt F) → (⟨S1x1x1x256, .f32⟩ : BufTy).Contents (Elt F)),
    binary main_v87 main_v90 main_v91 (addf : (⟨S1x1x1x256, .f32⟩ : BufTy).Contents (Elt F) → (⟨S1x1x1x256, .f32⟩ : BufTy).Contents (Elt F) → (⟨S1x1x1x256, .f32⟩ : BufTy).Contents (Elt F)),
    unary main_v91 main_v92 (Host.sqrt : (⟨S1x1x1x256, .f32⟩ : BufTy).Contents (Elt F) → (⟨S1x1x1x256, .f32⟩ : BufTy).Contents (Elt F)),
    unary main_v92 main_v93 (broadcastInDim S16x32x64x256 ![0, 1, 2, 3] bcast_S1x1x1x256_S16x32x64x256_0_1_2_3 : (⟨S1x1x1x256, .f32⟩ : BufTy).Contents (Elt F) → (⟨S16x32x64x256, .f32⟩ : BufTy).Contents (Elt F)),
    binary main_v89 main_v93 main_v94 (Host.divf : (⟨S16x32x64x256, .f32⟩ : BufTy).Contents (Elt F) → (⟨S16x32x64x256, .f32⟩ : BufTy).Contents (Elt F) → (⟨S16x32x64x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x32x64x256, .f32⟩) main_call9_v0) (broadcastInDim S16x32x64x256 ![] bcast_S_S16x32x64x256),
    TRef.binary (TRef.of (T := ⟨S16x32x64x256, .f32⟩) main_v94) (TRef.of (T := ⟨S16x32x64x256, .f32⟩) main_call9_v0) (TRef.of (T := ⟨S16x32x64x256, .f32⟩) main_v95) maximumf,
    nullary main_cst_22 (constant S_ .f32 0xFF800000#32),
    binary main_v95 main_cst_22 main_v96 ((fun x v => Host.reduce FloatOps.maximumf x v reducesTo_S16x32x64x256_S16x32x256_d2 h_S_) : (⟨S16x32x64x256, .f32⟩ : BufTy).Contents (Elt F) → (⟨S_, .f32⟩ : BufTy).Contents (Elt F) → (⟨S16x32x256, .f32⟩ : BufTy).Contents (Elt F)),
    nullary main_cst_23 (constant S_ .f32 0xFF800000#32),
    binary main_v96 main_cst_23 main_v97 ((fun x v => Host.reduce FloatOps.maximumf x v reducesTo_S16x32x256_S16x32_d2 h_S_) : (⟨S16x32x256, .f32⟩ : BufTy).Contents (Elt F) → (⟨S_, .f32⟩ : BufTy).Contents (Elt F) → (⟨S16x32, .f32⟩ : BufTy).Contents (Elt F)) ]

/-- The operations of the loop's condition. -/
abbrev testOps : List (HloOp τ sig (Elt F)) :=
  [ nullary main_while0c_c_28 (constantI S_ 32 32#32),
    binary main_v5_1 main_while0c_c_28 main_while0c_v98 (cmpi .slt : (⟨S_, .i32⟩ : BufTy).Contents (Elt F) → (⟨S_, .i32⟩ : BufTy).Contents (Elt F) → (⟨S_, .i1⟩ : BufTy).Contents (Elt F)) ]

/-- The operations before the loop name buffers of the program only. -/
theorem firstOps_sub : (firstOps : List (HloOp τ sig (Elt F))).Forall fun op => op.bufs ⊆ tcRefs τ sig :=
  ⟨unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

/-- The operations before the loop allocate nothing. -/
theorem firstOps_fresh : (firstOps : List (HloOp τ sig (Elt F))).Forall fun op => op.fresh = ∅ :=
  ⟨rfl, rfl, rfl, rfl, rfl, rfl, rfl, rfl, rfl, rfl, rfl, rfl, rfl, rfl⟩

/-- The operations of one trip of the loop name buffers of the program only. -/
theorem tripOps_sub : (tripOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., binaryIndexed_bufs_sub .., nullary_bufs_sub .., binary_bufs_sub .., unary_bufs_sub .., unary_bufs_sub .., unary_bufs_sub .., unary_bufs_sub ..⟩

/-- The operations of one trip of the loop allocate nothing. -/
theorem tripOps_fresh : (tripOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations that look up the centres name buffers of the program only. -/
theorem lookOps_sub : (lookOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations that look up the centres allocate nothing. -/
theorem lookOps_fresh : (lookOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The operations that rank the neighbours name buffers of the program only. -/
theorem rankOps_sub : (rankOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub ..⟩

/-- The operations that rank the neighbours allocate nothing. -/
theorem rankOps_fresh : (rankOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The operations that form the neighbourhoods name buffers of the program only. -/
theorem groupOps_sub : (groupOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The operations that form the neighbourhoods allocate nothing. -/
theorem groupOps_fresh : (groupOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The operations of the first layer name buffers of the program only. -/
theorem mixOps_sub : (mixOps : List (HloOp τ sig (Elt F))).Forall fun op => op.bufs ⊆ tcRefs τ sig :=
  ⟨binary_bufs_sub .., unary_bufs_sub .., unary_bufs_sub .., binary_bufs_sub ..⟩

/-- The operations of the first layer allocate nothing. -/
theorem mixOps_fresh : (mixOps : List (HloOp τ sig (Elt F))).Forall fun op => op.fresh = ∅ :=
  ⟨rfl, rfl, rfl, rfl⟩

/-- The operations of the first normalisation and the second layer name buffers of the program only. -/
theorem secondOps_sub : (secondOps : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The operations of the first normalisation and the second layer allocate nothing. -/
theorem secondOps_fresh : (secondOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of the second normalisation and the third layer name buffers of the program only. -/
theorem thirdOps_sub : (thirdOps : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The operations of the second normalisation and the third layer allocate nothing. -/
theorem thirdOps_fresh : (thirdOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of the third normalisation and the largest entries name buffers of the program only. -/
theorem lastOps_sub : (lastOps : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., binary_bufs_sub ..⟩

/-- The operations of the third normalisation and the largest entries allocate nothing. -/
theorem lastOps_fresh : (lastOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The stretches after the loop. -/
abbrev stretches : List (List (HloOp τ sig (Elt F))) := [lookOps, rankOps, groupOps, mixOps, secondOps, thirdOps, lastOps]

/-- One trip of the loop is its operations in order. -/
theorem trip_eq : main_while0_body (F := F) = Pipeline.chain ([tripOps].map fun ops => (seq ops : Prog _ PUnit)) := by
  chain_rfl

/-- The program is its first operations, the loop and the stretches after it. -/
theorem main_eq (c : Dev nD) : main (F := F) c = Pipeline.chain (([firstOps].map fun ops => (seq ops : Prog _ PUnit))
    ++ HostLoop.enter 0 :: stretches.map fun ops => (seq ops : Prog _ PUnit)) := by
  chain_rfl

/-- One trip adds one to the counter. -/
theorem trip_counter (X : Valuation τ sig (Elt F)) : (after tripOps X (Proc.devRef .tc main_v5_1) : IVec S_ 32)
    = addi (X (Proc.devRef .tc main_v5_1) : IVec S_ 32) (constantI S_ 32 1#32) := by
  after_results_simp
  rfl

/-- The counter starts at zero. -/
theorem first_counter (X : Valuation τ sig (Elt F)) : (after firstOps X (Proc.devRef .tc main_v5_1) : IVec S_ 32) = constantI S_ 32 0#32 := by
  after_results_simp
  rfl

/-- The condition changes no buffer but its own two. -/
theorem test_of (X : Valuation τ sig (Elt F)) {b : Ref sig .tc} (h : b ∉ [main_while0c_c_28, main_while0c_v98]) :
    after testOps X (Proc.devRef .tc b) = X (Proc.devRef .tc b) :=
  after_unwritten [main_while0c_c_28, main_while0c_v98] rfl h X

/-- The operations before the loop leave what they do not name as it was. -/
theorem first_of (X : Valuation τ sig (Elt F)) {b : Ref sig .tc} (h : b ∉ [main_v0, main_v1, main_cst, main_v2, main_c, main_v3, main_c_0, main_v4, main_c_1, main_v5_0, main_v5_1, main_v5_2, main_v5_3, main_v5_4]) :
    after firstOps X (Proc.devRef .tc b) = X (Proc.devRef .tc b) :=
  after_unwritten [main_v0, main_v1, main_cst, main_v2, main_c, main_v3, main_c_0, main_v4, main_c_1, main_v5_0, main_v5_1, main_v5_2, main_v5_3, main_v5_4] rfl h X

/-- One trip leaves what it does not name as it was. -/
theorem trip_of (X : Valuation τ sig (Elt F)) {b : Ref sig .tc} (h : b ∉ [main_while0b_v98, main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v99, main_while0b_v100, main_while0b_v101, main_while0b_v102, main_while0b_cst_28, main_while0b_v103, main_while0b_v104, main_while0b_call1_v0, main_while0b_call1_cst, main_while0b_call1_c, main_while0b_call1_v1_0, main_while0b_v105, main_while0b_call2_v0, main_while0b_call2_c, main_while0b_v106, main_while0b_c_29, main_while0b_v107, main_v5_1, main_v5_2, main_v5_3, main_v5_4]) :
    after tripOps X (Proc.devRef .tc b) = X (Proc.devRef .tc b) :=
  after_unwritten [main_while0b_v98, main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v99, main_while0b_v100, main_while0b_v101, main_while0b_v102, main_while0b_cst_28, main_while0b_v103, main_while0b_v104, main_while0b_call1_v0, main_while0b_call1_cst, main_while0b_call1_c, main_while0b_call1_v1_0, main_while0b_v105, main_while0b_call2_v0, main_while0b_call2_c, main_while0b_v106, main_while0b_c_29, main_while0b_v107, main_v5_1, main_v5_2, main_v5_3, main_v5_4] rfl h X

/-- The operations that look up the centres leave what they do not name as it was. -/
theorem look_of (X : Valuation τ sig (Elt F)) {b : Ref sig .tc} (h : b ∉ [main_v6, main_v7, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v8]) :
    after lookOps X (Proc.devRef .tc b) = X (Proc.devRef .tc b) :=
  after_unwritten [main_v6, main_v7, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v8] rfl h X

/-- The operations that rank the neighbours leave what they do not name as it was. -/
theorem rank_of (X : Valuation τ sig (Elt F)) {b : Ref sig .tc} (h : b ∉ [main_v9, main_cst_2, main_v10, main_v11, main_v12, main_cst_3, main_v13, main_v14, main_v15, main_v16, main_v17, main_v18, main_cst_4, main_v19, main_v20, main_v21, main_cst_5, main_v22, main_v23, main_v24, main_v25, main_values, main_indices]) :
    after rankOps X (Proc.devRef .tc b) = X (Proc.devRef .tc b) :=
  after_unwritten [main_v9, main_cst_2, main_v10, main_v11, main_v12, main_cst_3, main_v13, main_v14, main_v15, main_v16, main_v17, main_v18, main_cst_4, main_v19, main_v20, main_v21, main_cst_5, main_v22, main_v23, main_v24, main_v25, main_values, main_indices] rfl h X

/-- The operations that form the neighbourhoods leave what they do not name as it was. -/
theorem group_of (X : Valuation τ sig (Elt F)) {b : Ref sig .tc} (h : b ∉ [main_c_6, main_v26, main_v27, main_c_7, main_v28, main_v29, main_v30, main_v31, main_v32, main_v33, main_v34, main_v35, main_v36, main_c_8, main_v37, main_v38, main_c_9, main_v39, main_v40, main_v41, main_v42, main_v43, main_v44]) :
    after groupOps X (Proc.devRef .tc b) = X (Proc.devRef .tc b) :=
  after_unwritten [main_c_6, main_v26, main_v27, main_c_7, main_v28, main_v29, main_v30, main_v31, main_v32, main_v33, main_v34, main_v35, main_v36, main_c_8, main_v37, main_v38, main_c_9, main_v39, main_v40, main_v41, main_v42, main_v43, main_v44] rfl h X

/-- The operations of the first layer leave what they do not name as it was. -/
theorem mix_of (X : Valuation τ sig (Elt F)) {b : Ref sig .tc} (h : b ∉ [main_v45, main_v46, main_v47, main_v48]) :
    after mixOps X (Proc.devRef .tc b) = X (Proc.devRef .tc b) :=
  after_unwritten [main_v45, main_v46, main_v47, main_v48] rfl h X

/-- The operations of the first normalisation and the second layer leave what they do not name as it was. -/
theorem second_of (X : Valuation τ sig (Elt F)) {b : Ref sig .tc} (h : b ∉ [main_cst_10, main_v49, main_v50, main_cst_11, main_v51, main_v52, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v53, main_v54, main_v55, main_cst_13, main_v56, main_v57, main_v58, main_v59, main_v60, main_call5_cst, main_call5_v0, main_v61, main_v62, main_v63, main_v64, main_v65]) :
    after secondOps X (Proc.devRef .tc b) = X (Proc.devRef .tc b) :=
  after_unwritten [main_cst_10, main_v49, main_v50, main_cst_11, main_v51, main_v52, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v53, main_v54, main_v55, main_cst_13, main_v56, main_v57, main_v58, main_v59, main_v60, main_call5_cst, main_call5_v0, main_v61, main_v62, main_v63, main_v64, main_v65] rfl h X

/-- The operations of the second normalisation and the third layer leave what they do not name as it was. -/
theorem third_of (X : Valuation τ sig (Elt F)) {b : Ref sig .tc} (h : b ∉ [main_cst_14, main_v66, main_v67, main_cst_15, main_v68, main_v69, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v70, main_v71, main_v72, main_cst_17, main_v73, main_v74, main_v75, main_v76, main_v77, main_call7_cst, main_call7_v0, main_v78, main_v79, main_v80, main_v81, main_v82]) :
    after thirdOps X (Proc.devRef .tc b) = X (Proc.devRef .tc b) :=
  after_unwritten [main_cst_14, main_v66, main_v67, main_cst_15, main_v68, main_v69, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v70, main_v71, main_v72, main_cst_17, main_v73, main_v74, main_v75, main_v76, main_v77, main_call7_cst, main_call7_v0, main_v78, main_v79, main_v80, main_v81, main_v82] rfl h X

/-- The operations of the third normalisation and the largest entries leave what they do not name as it was. -/
theorem last_of (X : Valuation τ sig (Elt F)) {b : Ref sig .tc} (h : b ∉ [main_cst_18, main_v83, main_v84, main_cst_19, main_v85, main_v86, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v87, main_v88, main_v89, main_cst_21, main_v90, main_v91, main_v92, main_v93, main_v94, main_call9_cst, main_call9_v0, main_v95, main_cst_22, main_v96, main_cst_23, main_v97]) :
    after lastOps X (Proc.devRef .tc b) = X (Proc.devRef .tc b) :=
  after_unwritten [main_cst_18, main_v83, main_v84, main_cst_19, main_v85, main_v86, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v87, main_v88, main_v89, main_cst_21, main_v90, main_v91, main_v92, main_v93, main_v94, main_call9_cst, main_call9_v0, main_v95, main_cst_22, main_v96, main_cst_23, main_v97] rfl h X

variable (m : (ℓ : Loc nD τ sig) → Buf (Elt F) ℓ)

/-- The buffers before trip `k`. -/
abbrev before (k : ℕ) (c : Dev nD) : Valuation τ sig (Elt F) := atTrip testOps [tripOps] (entryContents [firstOps] m) k c

/-- The counter before trip `k` is `k`. -/
theorem counter (k : ℕ) (c : Dev nD) : (before (F := F) m k c (Proc.devRef .tc main_v5_1) : IVec S_ 32) = fun _ => Scf.iv 0#32 1#32 k := by
  induction k with
  | zero => exact (first_counter (launchContents m c)).trans (funext fun _ => (Scf.iv_zero _ _).symm)
  | succ k ih =>
    refine (trip_counter (after testOps (before m k c))).trans (funext fun _ => ?_)
    rw [Scf.iv_succ, test_of _ (by decide), ih]
    rfl

/-- What an operation names that is a buffer of the program is held through the run. -/
theorem sub_uc (op : HloOp τ sig (Elt F)) (h : op.bufs ⊆ tcRefs τ sig) : op.bufs ⊆ Pipeline.ucRefs τ sig := fun b hb =>
  Finset.mem_filter.mpr ⟨h hb, fun h' => Bool.false_ne_true ((op.no_scoped b hb).symm.trans h')⟩

set_option backward.isDefEq.respectTransparency.types false in
/-- The condition, run for the `k`-th time, holds exactly when `k` is less than 32. -/
theorem cond : CondSpec pcfgs defs₀ loops (main_while0_cond (F := F)) testOps [tripOps] (entryContents [firstOps] m) 32 := by
  intro k hk c bd
  have hctr := counter m k c
  unfold main_while0_cond
  rw [wp_bind]
  iintro ⟨Hb, Hh⟩
  iapply (StableHlo.wp_hlo_within (Variants.lift Variants.none) (c : Thread nD τ) bd Set.univ (sub_uc _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_uc _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before m k c) main_v5_1 HostLoop.idx0)
        (HloOp.result _ (before m k c) main_while0c_c_28 HostLoop.idx0) = 1#1) (k < 32)
    rw [StableHlo.nullary_result_ne _ _ _ _ (by decide), StableHlo.nullary_result, hctr]
    exact Scf.cmpi_slt_iv_ub_iff (lb := 0#32) (ub := 32#32) (st := 1#32) (by decide) hk
  isplitl [Hb]; · iexact Hb
  rw [StableHlo.after_cons, StableHlo.after_cons, StableHlo.after_nil]; iexact Hh

/-- The reference's run: every buffer ends at what the operations compute. -/
theorem run (ρ : Dev nD → PrngReg) :
    θ_run (HostLoop.defs loops (Pipeline.defs (pcfgs (F := F)) defs₀)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = afterL stretches (after testOps (before m 32 c)) (Proc.devRef .tc b)) :=
  run_loop pcfgs defs₀ loops main 0 main_while0_cond main_while0_body rfl [firstOps] [tripOps] stretches testOps
    (Plain.cons firstOps_sub Plain.nil (List.forall_iff_forall_mem.mp firstOps_fresh))
    (Plain.cons tripOps_sub Plain.nil (List.forall_iff_forall_mem.mp tripOps_fresh))
    (Plain.cons lookOps_sub (Plain.cons rankOps_sub (Plain.cons groupOps_sub (Plain.cons mixOps_sub (Plain.cons secondOps_sub (Plain.cons thirdOps_sub (Plain.cons lastOps_sub Plain.nil (List.forall_iff_forall_mem.mp lastOps_fresh)) (List.forall_iff_forall_mem.mp thirdOps_fresh)) (List.forall_iff_forall_mem.mp secondOps_fresh)) (List.forall_iff_forall_mem.mp mixOps_fresh)) (List.forall_iff_forall_mem.mp groupOps_fresh)) (List.forall_iff_forall_mem.mp rankOps_fresh)) (List.forall_iff_forall_mem.mp lookOps_fresh))
    main_eq trip_eq 32 m ρ (cond m)

end Cert.Proof.ResultReferenceRun

end
-- ==== Proof.Lookup.lean ====
/-
  LOOK-UPS OF THE REFERENCES: the gathers that bring points of 16 clouds by their numbers, read at an index, and the
  reduction that gives the index of the greatest entry; and the loops' counter as a word.
-/
module

public import proofs.«01_k».proof.Proof.Farthest
public import proofs.«01_k».proof.Proof.Norm
public import Idealize.ShloMosaic.Lib.Pipeline.ValueKit
public import Idealize.ShloMosaic.Lib.WordCmp

@[expose] public section

set_option maxRecDepth 16384

noncomputable section

namespace Cert.Proof.Lookup

open Idealize.ShloMosaic
open Cert.Proof.Farthest Cert.Proof.Norm

/-! ## Points by their numbers -/

/-- The gather that brings, from each of 16 clouds of `N` points with `C` channels, the `R` points whose numbers are given. -/
abbrev cloudDims (N C R : ℕ)
    (wf : GatherDims.WF ⟨3, ![16, N, C]⟩ ⟨3, ![16, R, 1]⟩ ⟨3, ![16, R, C]⟩ [2] [1] [0] [1] [0] 2 ![1, 1, C]) :
    GatherDims ⟨3, ![16, N, C]⟩ ⟨3, ![16, R, 1]⟩ ⟨3, ![16, R, C]⟩ where
  offsetDims := [2]
  collapsedSliceDims := [1]
  operandBatchingDims := [0]
  startIndicesBatchingDims := [0]
  startIndexMap := [1]
  indexVectorDim := 2
  sliceSizes := ![1, 1, C]
  wf := wf

/-- The gather of points by their numbers, read at an index. -/
theorem gather_points {α : Type} {N C R : ℕ} [NeZero N] (hn : N ≤ 2 ^ 30) (wf)
    (x : (⟨3, ![16, N, C]⟩ : Shape).Idx → α) (w : IVec ⟨3, ![16, R, 1]⟩ 32) (b : Fin 16) (r : Fin R) (a : Fin C) (p : Fin N)
    (h : w (ix3 b r 0) = BitVec.ofNat 32 p.val) :
    Host.gather (cloudDims N C R wf) x w (ix3 b r a) = x (ix3 b p a) := by
  unfold Host.gather
  congr 1
  funext e
  refine Fin.ext ?_
  show (cloudDims N C R wf).start (ix3 b r a) w e + (cloudDims N C R wf).batchCoord (ix3 b r a) e
      + (cloudDims N C R wf).offCoord (ix3 b r a) e = _
  have he : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases he with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (cloudDims N C R wf).startIndexMap from List.mem_singleton.mpr rfl)]
    have hsi : (cloudDims N C R wf).siIdx (ix3 b r a) ⟨List.idxOf (1 : Fin 3) (cloudDims N C R wf).startIndexMap,
        List.idxOf_lt_length_iff.2 (List.mem_singleton.mpr rfl)⟩ = ix3 b r 0 := by
      funext c; refine Fin.ext ?_
      match c with
      | ⟨0, _⟩ => rfl
      | ⟨1, _⟩ => rfl
      | ⟨2, _⟩ => rfl
    rw [hsi, h, toInt_index hn]
    show min _ (N - 1) = _
    rw [Int.toNat_natCast]
    exact min_eq_left (by have := p.isLt; omega)
  · rw [GatherDims.batchCoord_eq_zero _ _ _ (fun h => by simp at h)]
    unfold GatherDims.start GatherDims.offCoord
    rw [dif_neg (show ¬ (2 : Fin 3) ∈ (cloudDims N C R wf).startIndexMap by simp),
      dif_pos (show (2 : Fin 3) ∈ (cloudDims N C R wf).sKept by rw [GatherDims.mem_sKept]; simp)]
    simp only [Nat.zero_add]
    rfl

/-- The gather that brings, from each of 16 clouds of `N` points with `C` channels, `R` groups of `S` points. -/
abbrev groupDims (N C R S : ℕ)
    (wf : GatherDims.WF ⟨3, ![16, N, C]⟩ ⟨4, ![16, R, S, 1]⟩ ⟨4, ![16, R, S, C]⟩ [3] [1] [0] [1] [0] 3 ![1, 1, C]) :
    GatherDims ⟨3, ![16, N, C]⟩ ⟨4, ![16, R, S, 1]⟩ ⟨4, ![16, R, S, C]⟩ where
  offsetDims := [3]
  collapsedSliceDims := [1]
  operandBatchingDims := [0]
  startIndicesBatchingDims := [0]
  startIndexMap := [1]
  indexVectorDim := 3
  sliceSizes := ![1, 1, C]
  wf := wf

/-- The gather of groups of points by their numbers, read at an index. -/
theorem gather_groups {α : Type} {N C R S : ℕ} [NeZero N] (hn : N ≤ 2 ^ 30) (wf)
    (x : (⟨3, ![16, N, C]⟩ : Shape).Idx → α) (w : IVec ⟨4, ![16, R, S, 1]⟩ 32) (b : Fin 16) (r : Fin R) (s : Fin S) (a : Fin C) (p : Fin N)
    (h : w (ix4 b r s 0) = BitVec.ofNat 32 p.val) :
    Host.gather (groupDims N C R S wf) x w (ix4 b r s a) = x (ix3 b p a) := by
  unfold Host.gather
  congr 1
  funext e
  refine Fin.ext ?_
  show (groupDims N C R S wf).start (ix4 b r s a) w e + (groupDims N C R S wf).batchCoord (ix4 b r s a) e
      + (groupDims N C R S wf).offCoord (ix4 b r s a) e = _
  have he : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases he with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (groupDims N C R S wf).startIndexMap from List.mem_singleton.mpr rfl)]
    have hsi : (groupDims N C R S wf).siIdx (ix4 b r s a) ⟨List.idxOf (1 : Fin 3) (groupDims N C R S wf).startIndexMap,
        List.idxOf_lt_length_iff.2 (List.mem_singleton.mpr rfl)⟩ = ix4 b r s 0 := by
      funext c; refine Fin.ext ?_
      match c with
      | ⟨0, _⟩ => rfl
      | ⟨1, _⟩ => rfl
      | ⟨2, _⟩ => rfl
      | ⟨3, _⟩ => rfl
    rw [hsi, h, toInt_index hn]
    show min _ (N - 1) = _
    rw [Int.toNat_natCast]
    exact min_eq_left (by have := p.isLt; omega)
  · rw [GatherDims.batchCoord_eq_zero _ _ _ (fun h => by simp at h)]
    unfold GatherDims.start GatherDims.offCoord
    rw [dif_neg (show ¬ (2 : Fin 3) ∈ (groupDims N C R S wf).startIndexMap by simp),
      dif_pos (show (2 : Fin 3) ∈ (groupDims N C R S wf).sKept by rw [GatherDims.mem_sKept]; simp)]
    simp only [Nat.zero_add]
    rfl

/-! ## The counter and the index of the greatest entry -/

/-- The counter before trip `k`, as a word. -/
theorem iv_index (k : ℕ) : Scf.iv 0#32 1#32 k = BitVec.ofNat 32 k := by
  simp [Scf.iv]

/-- Of two entries with their indices, the greater entry with its index, or where they are equal the lesser index; an entry
    that differs from itself is kept. -/
def keep (p q : EReal × BitVec 32) : EReal × BitVec 32 :=
  let ahead := IntOp.ori (Ideal.cmp .ogt p.1 q.1) (Ideal.cmp .une p.1 p.1)
  (Scalar.select ahead p.1 q.1,
    Scalar.select (IntOp.ori ahead (IntOp.andi (Ideal.cmp .oeq p.1 q.1) (IntOp.cmpi .slt p.2 q.2))) p.2 q.2)

/-- What is kept is one of the two, and comes before both. -/
theorem keep_before (p q : EReal × BitVec 32) :
    (keep p q = p ∨ keep p q = q) ∧ Before (keep p q) p ∧ Before (keep p q) q := by
  obtain ⟨a, i⟩ := p
  obtain ⟨b, j⟩ := q
  unfold keep
  simp only [Ideal.cmp]
  rw [show IntOp.cmpi .slt i j = BitVec.ofBool (i.slt j) from rfl]
  rcases lt_trichotomy a b with h | h | h
  · simp [h.not_gt, h.ne, Before, IntOp.ori, IntOp.andi, Scalar.select, h]
  · subst h
    by_cases g : i.slt j
    · have g' := BitVec.slt_iff_toInt_lt.1 g
      simp [g, Before, IntOp.ori, IntOp.andi, Scalar.select, g'.le]
    · have g' : ¬ i.toInt < j.toInt := fun e => g (BitVec.slt_iff_toInt_lt.2 e)
      simp [g, Before, IntOp.ori, IntOp.andi, Scalar.select, not_lt.1 g']
  · simp [h, h.ne', Before, IntOp.ori, IntOp.andi, Scalar.select]

/-- The reduction that keeps so gives, in each of 16 rows, the first index at which the entries are greatest. -/
theorem argReduce_first {N : ℕ} [NeZero N] (hn : N ≤ 2 ^ 30) (d : FVec Ideal ⟨2, ![16, N]⟩ .f32)
    (f : Ideal .f32 × BitVec 32 → Ideal .f32 × BitVec 32 → Ideal .f32 × BitVec 32) (hf : f = keep)
    (h : (⟨2, ![16, N]⟩ : Shape).ReducesTo [1] ⟨1, ![16]⟩) (h' : 0 < (⟨0, ![]⟩ : Shape).numel) (b : Fin 16) :
    (Host.argReduce f d (iotaInDim ⟨2, ![16, N]⟩ 32 1) (constant ⟨0, ![]⟩ .f32 0xFF800000#32 : FVec Ideal ⟨0, ![]⟩ .f32)
      (constantI ⟨0, ![]⟩ 32 0#32) h h' (ix1 b)).2 = BitVec.ofNat 32 (first fun j => d (ix2 b j)).val := by
  have hl : ∀ q, q ∈ Host.argReduceFiber d (iotaInDim ⟨2, ![16, N]⟩ 32 1) h (ix1 b)
      ↔ ∃ j : Fin N, q = (d (ix2 b j), BitVec.ofNat 32 j.val) := by
    intro q
    unfold Host.argReduceFiber
    rw [List.mem_map]
    constructor
    · rintro ⟨n, hn, rfl⟩
      have h0 : ((⟨2, ![16, N]⟩ : Shape).rowMajor.symm n) 0 = b := Fin.ext
        ((Shape.ReducesTo.drop_apply_val_of_eq h ((⟨2, ![16, N]⟩ : Shape).rowMajor.symm n) 0 0 Nat.zero_lt_one rfl).symm.trans
          (congrArg (fun j : (⟨1, ![16]⟩ : Shape).Idx => (j 0).val) (of_decide_eq_true (List.mem_filter.1 hn).2)))
      generalize (⟨2, ![16, N]⟩ : Shape).rowMajor.symm n = i at h0 ⊢
      refine ⟨i 1, ?_⟩
      subst h0
      refine Prod.ext (congrArg d ?_) rfl
      funext q
      match q with
      | ⟨0, _⟩ => rfl
      | ⟨1, _⟩ => rfl
    · rintro ⟨j, rfl⟩
      refine ⟨(⟨2, ![16, N]⟩ : Shape).rowMajor (ix2 b j), List.mem_filter.2 ⟨List.mem_finRange _, decide_eq_true ?_⟩, ?_⟩
      · rw [Equiv.symm_apply_apply]
        funext q
        obtain rfl : q = 0 := Subsingleton.elim _ _
        exact Fin.ext (Shape.ReducesTo.drop_apply_val_of_eq h (ix2 b j) 0 0 Nat.zero_lt_one rfl)
      · rw [Equiv.symm_apply_apply]
        rfl
  rw [Ideal.argReduce_eq_reduce2, Host.reduce2_eq_foldl_fiber]
  rw [show (constant ⟨0, ![]⟩ .f32 0xFF800000#32 : FVec Ideal ⟨0, ![]⟩ .f32) (Shape.Idx.first h') = (⊥ : EReal) from ofBits_bot,
    show constantI ⟨0, ![]⟩ 32 0#32 (Shape.Idx.first h') = 0#32 from rfl]
  generalize Host.argReduceFiber d (iotaInDim ⟨2, ![16, N]⟩ 32 1) h (ix1 b) = l at hl ⊢
  subst hf
  exact foldl_first hn _ keep_before _ _ hl

/-- A stable sort of values with their indices along an axis: an index of the result is that of the value that comes there. -/
theorem sort_index {s : Shape} {α : Type} (a : Fin s.rank) (gt : α → α → BitVec 1) (x : s.Idx → α) (j : s.Idx) :
    (Host.sort2 s a.val (fun l r => gt l.1 r.1) x fun i => if hd : a.val < s.rank then iotaInDim s 32 ⟨a.val, hd⟩ i else 0#32).2 j
      = BitVec.ofNat 32 (sortedFrom (fun k k' => gt (x (j.along a k)) (x (j.along a k')) == 1#1) (j a)).val := by
  unfold Host.sort2
  rw [dif_pos a.isLt]
  simp only [dif_pos a.isLt]
  generalize sortedFrom _ _ = k
  unfold iotaInDim Shape.Idx.along
  rw [Function.update_self]

/-- The indices of the greatest values along an axis, read where the result's index is that of the array. -/
theorem topK_index {s t : Shape} {α : Type} (a : Fin s.rank) (gt : α → α → BitVec 1) (x : s.Idx → α) (h : s.Slices (fun _ => 0) t)
    (i : t.Idx) (j : s.Idx) (hj : ∀ q : Fin s.rank, (j q).val = 0 + (i (q.cast h.1.symm)).val) :
    (Host.topK t a.val gt x h).2 i = BitVec.ofNat 32 (sortedFrom (fun k k' => gt (x (j.along a k)) (x (j.along a k')) == 1#1) (j a)).val :=
  (extractStridedSlice_apply _ _ h i j hj).trans (sort_index a gt x j)

end Cert.Proof.Lookup

end
-- ==== Proof.ResultReferenceLoop.lean ====
/-
  THE LOOP OF THE RESULT'S REFERENCE at the ideal values: it takes every cloud of 128 points through the trips of the choice
  of centres (`Farthest.trip`) and records the numbers of the 32 points chosen, and the look-up after it brings their
  coordinates.
-/
module

public import proofs.«01_k».proof.Proof.ResultReferenceRun
public import proofs.«01_k».proof.Proof.Lookup
public import proofs.«01_k».proof.Proof.Group

@[expose] public section

set_option maxRecDepth 16384

noncomputable section

namespace Cert.Proof.ResultReferenceLoop

open Idealize.ShloMosaic Idealize.ShloMosaic.TcCoe Idealize.ShloMosaic.StableHlo
open Cert.ResultReferenceIdeal Cert.ResultReferenceIdeal.Gen
open Cert.Proof.ResultReferenceRun Cert.Proof.Farthest Cert.Proof.Norm Cert.Proof.Lookup Cert.Proof.Group

/-! ## Points by their numbers -/

/-- A point's number is not negative. -/
theorem word_slt {p : Fin 128} : IntOp.cmpi .slt (BitVec.ofNat 32 p.val) 0#32 = 0#1 := by
  word_cmp
/-- A point's number is at least zero. -/
theorem word_sge {p : Fin 128} : IntOp.cmpi .sge (BitVec.ofNat 32 p.val) 0#32 = 1#1 := by
  word_cmp
/-- A point's number is at most the last one. -/
theorem word_sle {p : Fin 128} : IntOp.cmpi .sle (BitVec.ofNat 32 p.val) 127#32 = 1#1 := by
  word_cmp

/-- One point of each cloud, by its number: a negative number counts from the end, and a number out of range gives no number. -/
def taken (x : FVec Ideal S16x128x3 .f32) (i : IVec S16x1x1 32) : FVec Ideal S16x1x3 .f32 :=
  let w := select (cmpi .slt i (broadcastInDim S16x1x1 ![] bcast_S_S16x1x1 (constantI S_ 32 0#32)))
    (addi i (broadcastInDim S16x1x1 ![] bcast_S_S16x1x1 (constantI S_ 32 128#32))) i
  select (broadcastInDim S16x1x3 ![0, 1] bcast_S16x1_S16x1x3_0_1
      (Host.reduce IntOp.andi (andi (cmpi .sge w (broadcastInDim S16x1x1 ![] bcast_S_S16x1x1 (constantI S_ 32 0#32)))
        (cmpi .sle w (broadcastInDim S16x1x1 ![0, 1, 2] bcast_S1x1x1_S16x1x1_0_1_2 (broadcastInDim S1x1x1 ![2] bcast_S1_S1x1x1_2 (constantI S1 32 127#32)))))
        (constantI S_ 1 1#1) reducesTo_S16x1x1_S16x1_d2 h_S_))
    (Host.gather gather_S16x128x3_S16x1x1_S16x1x3_2_1_0_0_1_2_113 x w)
    (broadcastInDim S16x1x3 ![] bcast_S_S16x1x3 (constant S_ .f32 0x7FC00000#32))

/-- It is the point with that number. -/
theorem taken_apply (x : FVec Ideal S16x128x3 .f32) (i : IVec S16x1x1 32) (b : Fin 16) (a : Fin 3) (p : Fin 128)
    (h : i (ix3 b 0 0) = BitVec.ofNat 32 p.val) : taken x i (ix3 b 0 a) = x (ix3 b p a) := by
  have hs (x : Fin 1) : Scalar.select (IntOp.cmpi .slt (i (ix3 b 0 x)) 0#32) (IntOp.addi (i (ix3 b 0 x)) 128#32) (i (ix3 b 0 x))
      = BitVec.ofNat 32 p.val := by
    obtain rfl : x = 0 := Subsingleton.elim _ _
    rw [h, word_slt]; rfl
  unfold taken
  pointwise
  simp only [hs, word_sge, word_sle]
  rw [(fold_andi fun _ : Fin 1 => IntOp.andi 1#1 1#1).2 fun _ => rfl]
  refine gather_points (by norm_num) _ x _ b 0 a p ?_
  pointwise
  exact hs 0

/-- 32 points of each cloud, by their numbers, likewise. -/
def all_taken (x : FVec Ideal S16x128x3 .f32) (i : IVec S16x32x1 32) : FVec Ideal S16x32x3 .f32 :=
  let w := select (cmpi .slt i (broadcastInDim S16x32x1 ![] bcast_S_S16x32x1 (constantI S_ 32 0#32)))
    (addi i (broadcastInDim S16x32x1 ![] bcast_S_S16x32x1 (constantI S_ 32 128#32))) i
  select (broadcastInDim S16x32x3 ![0, 1] bcast_S16x32_S16x32x3_0_1
      (Host.reduce IntOp.andi (andi (cmpi .sge w (broadcastInDim S16x32x1 ![] bcast_S_S16x32x1 (constantI S_ 32 0#32)))
        (cmpi .sle w (broadcastInDim S16x32x1 ![0, 1, 2] bcast_S1x1x1_S16x32x1_0_1_2 (broadcastInDim S1x1x1 ![2] bcast_S1_S1x1x1_2 (constantI S1 32 127#32)))))
        (constantI S_ 1 1#1) reducesTo_S16x32x1_S16x32_d2 h_S_))
    (Host.gather gather_S16x128x3_S16x32x1_S16x32x3_2_1_0_0_1_2_113 x w)
    (broadcastInDim S16x32x3 ![] bcast_S_S16x32x3 (constant S_ .f32 0x7FC00000#32))

/-- They are the points with those numbers. -/
theorem all_taken_apply (x : FVec Ideal S16x128x3 .f32) (i : IVec S16x32x1 32) (b : Fin 16) (r : Fin 32) (a : Fin 3) (p : Fin 128)
    (h : i (ix3 b r 0) = BitVec.ofNat 32 p.val) : all_taken x i (ix3 b r a) = x (ix3 b p a) := by
  have hs (x : Fin 1) : Scalar.select (IntOp.cmpi .slt (i (ix3 b r x)) 0#32) (IntOp.addi (i (ix3 b r x)) 128#32) (i (ix3 b r x))
      = BitVec.ofNat 32 p.val := by
    obtain rfl : x = 0 := Subsingleton.elim _ _
    rw [h, word_slt]; rfl
  unfold all_taken
  pointwise
  simp only [hs, word_sge, word_sle]
  rw [(fold_andi fun _ : Fin 1 => IntOp.andi 1#1 1#1).2 fun _ => rfl]
  refine gather_points (by norm_num) _ x _ b r a p ?_
  pointwise
  exact hs 0

/-! ## One trip -/

/-- The distances lowered by those from the point last chosen. -/
def lowered (x : FVec Ideal S16x128x3 .f32) (d : FVec Ideal S16x128 .f32) (a : IVec S16 32) : FVec Ideal S16x128 .f32 :=
  let e := subf x (broadcastInDim S16x128x3 ![0, 1, 2] bcast_S16x1x3_S16x128x3_0_1_2 (taken x (broadcastInDim S16x1x1 ![0] bcast_S16_S16x1x1_0 a)))
  minimumf d (Host.reduceAdd (mulf e e) (constant S_ .f32 0x00000000#32) reducesTo_S16x128x3_S16x128_d2 h_S_)

/-- Each is the lesser of what it was and the squared distance from the point last chosen. -/
theorem lowered_apply (x : FVec Ideal S16x128x3 .f32) (d : FVec Ideal S16x128 .f32) (a : IVec S16 32) (b : Fin 16) (j p : Fin 128)
    (h : a (ix1 b) = BitVec.ofNat 32 p.val) :
    lowered x d a (ix2 b j) = min (d (ix2 b j)) (square (fun j => x (ix3 b j 0)) (fun j => x (ix3 b j 1)) (fun j => x (ix3 b j 2)) p j) := by
  have ht (q : Fin 3) : taken x (broadcastInDim S16x1x1 ![0] bcast_S16_S16x1x1_0 a) (ix3 b 0 q) = x (ix3 b p q) :=
    taken_apply x _ b q p (by pointwise; exact h)
  unfold lowered
  pointwise
  simp only [ht]
  rw [Fin.sum_univ_three]
  rfl

/-- The next point of each cloud: the index of the greatest distance. -/
def next (d : FVec Ideal S16x128 .f32) : IVec S16 32 := fun j =>
  (Host.argReduce reducer_argmax_f32_i32 d (iotaInDim S16x128 32 1) (constant S_ .f32 0xFF800000#32 : FVec Ideal S_ .f32) (constantI S_ 32 0#32)
    reducesTo_S16x128_S16_d1 h_S_ j).2

/-- It is the first index at which the distances are greatest. -/
theorem next_apply (d : FVec Ideal S16x128 .f32) (b : Fin 16) :
    next d (ix1 b) = BitVec.ofNat 32 (first fun j => d (ix2 b j)).val := by
  exact argReduce_first (by norm_num) d _ rfl _ _ b

/-- The numbers recorded, with those of the points last chosen as row `n`. -/
def recorded (r : IVec S32x16 32) (a : IVec S16 32) (n : IVec S_ 32) : IVec S32x16 32 :=
  Host.dynamicUpdateSlice r (broadcastInDim S1x16 ![1] bcast_S16_S1x16_1 a)
    (fun k => BitVec.toInt (![n, constantI S_ 32 0#32] k (Shape.Idx.first h_S_))) updateFits_S32x16_S1x16

/-- Row `k` holds the points last chosen, and the others are as they were. -/
theorem recorded_apply (r : IVec S32x16 32) (a : IVec S16 32) (k : Fin 32) (i : Fin 32) (b : Fin 16) :
   recorded r a (fun _ => Scf.iv 0#32 1#32 k.val) (ix2 i b) = if i = k then a (ix1 b) else r (ix2 i b) := by
  unfold recorded
  have hs : S32x16.Slices ![k.val, 0] S1x16 := ⟨rfl, fun q => by
    match q with
    | ⟨0, _⟩ => show k.val + 1 ≤ 32; omega
    | ⟨1, _⟩ => exact le_refl 16⟩
  refine (congrFun (WordCmp.dynamicUpdateSlice_eq_update r _ _ _ ![k.val, 0] hs fun q => ?_) _).trans ?_
  · match q with
    | ⟨0, _⟩ => show (Scf.iv 0#32 1#32 k.val).toInt = (k.val : ℤ); rw [iv_index, toInt_index (n := 32) (by norm_num)]
    | ⟨1, _⟩ => rfl
  pointwise
  have e : (k.val ≤ i.val ∧ i.val < k.val + 1) ↔ i = k := ⟨fun g => Fin.ext (by omega), fun g => by subst g; omega⟩
  simp only [e, dite_eq_ite]

/-! ## The operations of the program -/

section Ops

variable (X : Valuation τ sig (Elt Ideal))

/-- One trip lowers the distances. -/
theorem trip_distance : (after tripOps X (Proc.devRef .tc main_v5_2) : FVec Ideal S16x128 .f32)
    = lowered (X (Proc.devRef .tc main_v5_0)) (X (Proc.devRef .tc main_v5_2)) (X (Proc.devRef .tc main_v5_3)) := by
  after_results_simp
  rfl

/-- One trip chooses the next point. -/
theorem trip_next : (after tripOps X (Proc.devRef .tc main_v5_3) : IVec S16 32)
    = next (lowered (X (Proc.devRef .tc main_v5_0)) (X (Proc.devRef .tc main_v5_2)) (X (Proc.devRef .tc main_v5_3))) := by
  after_results_simp
  rfl

/-- One trip records the point it starts from. -/
theorem trip_recorded : (after tripOps X (Proc.devRef .tc main_v5_4) : IVec S32x16 32)
    = recorded (X (Proc.devRef .tc main_v5_4)) (X (Proc.devRef .tc main_v5_3)) (X (Proc.devRef .tc main_v5_1)) := by
  after_results_simp_entrywise
  rfl

/-- What follows the loop looks the recorded points up. -/
theorem look_result : (after lookOps X (Proc.devRef .tc main_v8) : FVec Ideal S16x32x3 .f32)
    = all_taken (X (Proc.devRef .tc main_v1)) (broadcastInDim S16x32x1 ![0, 1] bcast_S16x32_S16x32x1_0_1
        (transpose S16x32 [1, 0] (X (Proc.devRef .tc main_v5_4) : IVec S32x16 32) transposes_S32x16_S16x32_1_0)) := by
  after_results_simp
  rfl

/-- The points of the program, each with its three coordinates. -/
def pts (z : FVec Ideal S16x8x128 .f32) : FVec Ideal S16x128x3 .f32 :=
  transpose S16x128x3 [0, 2, 1] (extractStridedSlice S16x3x128 ![0, 0, 0] z slices_S16x8x128_S16x3x128_0_0_0) transposes_S16x3x128_S16x128x3_0_2_1

/-- They are the first three rows of the argument. -/
theorem pts_apply (z : FVec Ideal S16x8x128 .f32) (b : Fin 16) (j : Fin 128) (q : Fin 3) :
    pts z (ix3 b j q) = z (ix3 b ⟨q.val, by omega⟩ j) := by
  unfold pts
  pointwise

/-- The points before the loop. -/
theorem first_points : (after firstOps X (Proc.devRef .tc main_v1) : FVec Ideal S16x128x3 .f32) = pts (X (Proc.devRef .tc main_arg1)) := by
  after_results_simp
  rfl

/-- The loop takes the same points. -/
theorem first_carried : (after firstOps X (Proc.devRef .tc main_v5_0) : FVec Ideal S16x128x3 .f32) = pts (X (Proc.devRef .tc main_arg1)) := by
  after_results_simp
  rfl

/-- Every distance starts at the same number. -/
theorem first_distance (b : Fin 16) (j : Fin 128) : (after firstOps X (Proc.devRef .tc main_v5_2) : FVec Ideal S16x128 .f32) (ix2 b j)
    = Ideal.ofBits .f32 0x501502F9#32 := by
  after_results_simp
  rfl

/-- The first point chosen is point 0. -/
theorem first_next (b : Fin 16) : (after firstOps X (Proc.devRef .tc main_v5_3) : IVec S16 32) (ix1 b) = 0#32 := by
  after_results_simp
  rfl

end Ops

/-! ## The loop -/

section Loop

variable (m : (ℓ : Loc nD τ sig) → Buf (Elt Ideal) ℓ) (c : Dev nD) {P : Fin 16 → Fin 3 → Fin 128 → ℝ}

/-- The trips of cloud `b`. -/
abbrev at_trip (P : Fin 16 → Fin 3 → Fin 128 → ℝ) (b : Fin 16) (k : ℕ) : (Fin 128 → EReal) × Fin 128 :=
  trip (coords (P b) 0) (coords (P b) 1) (coords (P b) 2) start k

/-- A buffer that neither the condition nor a trip names is as it was before the loop. -/
theorem kept {b : Ref sig .tc} (h : ∀ X : Valuation τ sig (Elt Ideal), after tripOps X (Proc.devRef .tc b) = X (Proc.devRef .tc b))
    (h' : b ∉ [main_while0c_c_28, main_while0c_v98]) (k : ℕ) :
    before m k c (Proc.devRef .tc b) = after firstOps (launchContents m c) (Proc.devRef .tc b) := by
  induction k with
  | zero => rfl
  | succ k ih => exact ((h _).trans (test_of _ h')).trans ih

section Points

variable (hP : ∀ b (a : Fin 3) j, (m ((c.tc : Thread nD τ).loc main_arg1) : FVec Ideal S16x8x128 .f32) (ix3 b ⟨a.val, by omega⟩ j) = ((P b a j : ℝ) : EReal))
include hP

/-- The points the loop takes do not change. -/
theorem points (k : ℕ) (b : Fin 16) (j : Fin 128) (q : Fin 3) :
    (before m k c (Proc.devRef .tc main_v5_0) : FVec Ideal S16x128x3 .f32) (ix3 b j q) = coords (P b) q j := by
  rw [kept m c (b := main_v5_0) (fun X => trip_of X (by decide)) (by decide) k, first_carried, pts_apply]
  exact hP b q j

/-- The points after the loop. -/
theorem after_points (b : Fin 16) (j : Fin 128) (q : Fin 3) :
    (after testOps (before m 32 c) (Proc.devRef .tc main_v1) : FVec Ideal S16x128x3 .f32) (ix3 b j q) = ((P b q j : ℝ) : EReal) := by
  rw [test_of _ (by decide), kept m c (b := main_v1) (fun X => trip_of X (by decide)) (by decide) 32, first_points, pts_apply]
  exact hP b q j

/-- Before trip `k` the loop holds the distances of trip `k`, the point last chosen and the points recorded before. -/
theorem loop (k : ℕ) (hk : k ≤ 32) (b : Fin 16) :
    (∀ j, (before m k c (Proc.devRef .tc main_v5_2) : FVec Ideal S16x128 .f32) (ix2 b j) = (at_trip P b k).1 j)
      ∧ (before m k c (Proc.devRef .tc main_v5_3) : IVec S16 32) (ix1 b) = BitVec.ofNat 32 (at_trip P b k).2.val
      ∧ ∀ i : Fin 32, i.val < k → (before m k c (Proc.devRef .tc main_v5_4) : IVec S32x16 32) (ix2 i b)
          = BitVec.ofNat 32 (at_trip P b i.val).2.val := by
  induction k with
  | zero => exact ⟨fun j => first_distance _ b j, first_next _ b, fun i hi => absurd hi (Nat.not_lt_zero _)⟩
  | succ k ih =>
    obtain ⟨h1, h2, h3⟩ := ih (by omega)
    have hp := points m c hP k b
    have hc := counter m k c
    have t0 := test_of (before m k c) (b := main_v5_0) (by decide)
    have t1 := test_of (before m k c) (b := main_v5_1) (by decide)
    have t2 := test_of (before m k c) (b := main_v5_2) (by decide)
    have t3 := test_of (before m k c) (b := main_v5_3) (by decide)
    have t4 := test_of (before m k c) (b := main_v5_4) (by decide)
    have e2 := trip_distance (after testOps (before m k c))
    have e3 := trip_next (after testOps (before m k c))
    have e4 := trip_recorded (after testOps (before m k c))
    rw [t0, t2, t3] at e2 e3
    rw [t1, t3, t4, hc] at e4
    have hl (j : Fin 128) : lowered (before m k c (Proc.devRef .tc main_v5_0)) (before m k c (Proc.devRef .tc main_v5_2))
        (before m k c (Proc.devRef .tc main_v5_3)) (ix2 b j) = (at_trip P b (k + 1)).1 j := by
      rw [lowered_apply _ _ _ b j _ h2, h1]
      simp only [hp]
      rfl
    refine ⟨fun j => (congrFun e2 _).trans (hl j), (congrFun e3 _).trans ?_, fun i hi => (congrFun e4 _).trans ?_⟩
    · rw [next_apply]
      simp only [hl]
      rfl
    · refine (recorded_apply _ _ ⟨k, by omega⟩ i b).trans ?_
      by_cases h : i = ⟨k, by omega⟩
      · rw [if_pos h, h2, h]
      · rw [if_neg h]
        exact h3 i (lt_of_le_of_ne (by omega) fun e => h (Fin.ext e))

/-- The look-up brings the coordinates of the centres. -/
theorem centres (b : Fin 16) (r : Fin 32) (q : Fin 3) :
    (after lookOps (after testOps (before m 32 c)) (Proc.devRef .tc main_v8) : FVec Ideal S16x32x3 .f32) (ix3 b r q)
      = ((P b q (centre (P b) r.val) : ℝ) : EReal) := by
  have h4 := ((loop m c hP 32 le_rfl b).2.2 r r.isLt)
  rw [look_result]
  refine (all_taken_apply _ _ b r q (at_trip P b r.val).2 ?_).trans (after_points m c hP b _ q)
  rw [test_of _ (b := main_v5_4) (by decide)]
  pointwise
  exact h4

end Points

/-- A buffer that no operation up to the look-up names is as it was. -/
theorem argument {b : Ref sig .tc} (h0 : ∀ X : Valuation τ sig (Elt Ideal), after firstOps X (Proc.devRef .tc b) = X (Proc.devRef .tc b))
    (h1 : ∀ X : Valuation τ sig (Elt Ideal), after tripOps X (Proc.devRef .tc b) = X (Proc.devRef .tc b))
    (h2 : b ∉ [main_while0c_c_28, main_while0c_v98]) :
    after testOps (before m 32 c) (Proc.devRef .tc b) = launchContents m c (Proc.devRef .tc b) :=
  (test_of _ h2).trans ((kept m c h1 h2 32).trans (h0 _))

end Loop

end Cert.Proof.ResultReferenceLoop

end
-- ==== Proof.ResultReference.lean ====
/-
  THE REFERENCE OF THE RESULT at the ideal values, after its loop: it ranks the points of each cloud by their nearness to
  each centre, forms the neighbourhoods of the 64 nearest, takes them through three layers and keeps the greatest values.
  Where what comes in is real, each of these is the real one.
-/
module

public import proofs.«01_k».proof.Proof.ResultReferenceLoop

@[expose] public section

set_option maxRecDepth 16384

noncomputable section

namespace Cert.Proof.ResultReference

open Idealize.ShloMosaic Idealize.ShloMosaic.TcCoe Idealize.ShloMosaic.StableHlo
open Cert.ResultReferenceIdeal Cert.ResultReferenceIdeal.Gen
open Cert.Proof.ResultReferenceRun Cert.Proof.ResultReferenceLoop Cert.Proof.Nearest Cert.Proof.Lookup Cert.Proof.Group Cert.Proof.Norm

/-! ## The ranking -/

/-- The nearness of every point to every centre: the root of the squared distance, by the square of a difference and not
    below the least that is told apart, with its sign changed. -/
def measured (y : FVec Ideal S16x32x3 .f32) (x : FVec Ideal S16x128x3 .f32) : FVec Ideal S16x32x128 .f32 :=
  Host.negf (Host.sqrt (maximumf (subf
    (addf (broadcastInDim S16x32x128 ![0, 1, 2] bcast_S16x32x1_S16x32x128_0_1_2 (broadcastInDim S16x32x1 ![0, 1] bcast_S16x32_S16x32x1_0_1
        (Host.reduceAdd (mulf y y) (constant S_ .f32 0x00000000#32) reducesTo_S16x32x3_S16x32_d2 h_S_)))
      (broadcastInDim S16x32x128 ![0, 1, 2] bcast_S16x1x128_S16x32x128_0_1_2 (broadcastInDim S16x1x128 ![0, 2] bcast_S16x128_S16x1x128_0_2
        (Host.reduceAdd (mulf x x) (constant S_ .f32 0x00000000#32) reducesTo_S16x128x3_S16x128_d2 h_S_))))
    (mulf (broadcastInDim S16x32x128 ![] bcast_S_S16x32x128 (constant S_ .f32 0x40000000#32))
      (Host.dotGeneral dot_S16x32x3_S16x128x3_S16x32x128_2_2_1_1_0_0 none y x)))
    (broadcastInDim S16x32x128 ![] bcast_S_S16x32x128 (constant S_ .f32 0x2B8CBCCC#32))))

section Ranking

variable {P : Fin 16 → Fin 3 → Fin 128 → ℝ} {y : FVec Ideal S16x32x3 .f32} {x : FVec Ideal S16x128x3 .f32}

/-- Where the points are real, it is the root of the greater of the squared distance and that least, with its sign changed. -/
theorem measured_apply (hy : ∀ b r q, y (ix3 b r q) = ((P b q (centre (P b) r.val) : ℝ) : EReal))
    (hx : ∀ b j q, x (ix3 b j q) = ((P b q j : ℝ) : EReal)) (b : Fin 16) (r : Fin 32) (j : Fin 128) :
    measured y x (ix3 b r j) = ((-Real.sqrt (max (gap (P b) (centre (P b) r.val) j) tiny) : ℝ) : EReal) := by
  unfold measured
  pointwise
  simp only [hy, hx, ofBits_two, ofBits_tiny, Fin.sum_univ_three, ← EReal.coe_mul, ← EReal.coe_add, ← EReal.coe_sub]
  rw [max_coe, sqrt_coe _ (le_max_of_le_right tiny_pos.le), ← EReal.coe_neg]
  congr 4
  unfold gap
  ring

/-- The indices of the 64 greatest of the 128 values of each centre, the greatest first. -/
def ranked (x : FVec Ideal S16x32x128 .f32) : IVec S16x32x64 32 :=
  (Host.topK S16x32x64 2 (FloatOps.cmpfTotal .gt) x sliceFits_S16x32x128_S16x32x64).2

/-- Where the values are in the reverse order of others, they are the indices of the nearest by those. -/
theorem ranked_apply (x : FVec Ideal S16x32x128 .f32) (b : Fin 16) (r : Fin 32) (s : Fin 64) (d : Fin 128 → EReal)
    (h : ∀ i j, x (ix3 b r j) < x (ix3 b r i) ↔ d i < d j) :
    ranked x (ix3 b r s) = BitVec.ofNat 32 (near d ⟨s.val, by omega⟩).val := by
  have e (k : Fin 128) : (ix3 b r ⟨s.val, by omega⟩ : S16x32x128.Idx).along 2 k = ix3 b r k := by
    funext q
    match q with
    | ⟨0, _⟩ => rfl
    | ⟨1, _⟩ => rfl
    | ⟨2, _⟩ => rfl
  have he : (fun k k' : Fin 128 => FloatOps.cmpfTotal (F := Ideal) (φ := .f32) .gt (x ((ix3 b r ⟨s.val, by omega⟩ : S16x32x128.Idx).along 2 k))
      (x ((ix3 b r ⟨s.val, by omega⟩ : S16x32x128.Idx).along 2 k')) == 1#1)
      = fun i j => Ideal.cmp .ogt (x (ix3 b r i)) (x (ix3 b r j)) == 1#1 := by
    funext k k'
    rw [e, e]
    rfl
  rw [← sorted_near d (fun j => x (ix3 b r j)) h, ← he]
  refine topK_index (s := S16x32x128) 2 _ x _ (ix3 b r s) (ix3 b r ⟨s.val, by omega⟩) fun q => ?_
  match q with
  | ⟨0, _⟩ => exact (Nat.zero_add _).symm
  | ⟨1, _⟩ => exact (Nat.zero_add _).symm
  | ⟨2, _⟩ => exact (Nat.zero_add _).symm

end Ranking

/-! ## The neighbourhoods -/

/-- Numbers of points, of which a negative one counts from the end. -/
def wrapped (i : IVec S16x32x64 32) : IVec S16x32x64x1 32 :=
  broadcastInDim S16x32x64x1 ![0, 1, 2] bcast_S16x32x64_S16x32x64x1_0_1_2
    (select (cmpi .slt i (broadcastInDim S16x32x64 ![] bcast_S_S16x32x64 (constantI S_ 32 0#32)))
      (addi i (broadcastInDim S16x32x64 ![] bcast_S_S16x32x64 (constantI S_ 32 128#32))) i)

/-- The number of a point stays. -/
theorem wrapped_apply (i : IVec S16x32x64 32) (b : Fin 16) (r : Fin 32) (s : Fin 64) (p : Fin 128)
    (h : i (ix3 b r s) = BitVec.ofNat 32 p.val) : wrapped i (ix4 b r s 0) = BitVec.ofNat 32 p.val := by
  unfold wrapped
  pointwise
  rw [h, word_slt]
  rfl

/-- The neighbourhoods: the coordinates of each neighbour less the centre's, then its features. -/
def grouped (x : FVec Ideal S16x128x3 .f32) (y : FVec Ideal S16x32x3 .f32) (f : FVec Ideal S16x128x128 .f32) (i : IVec S16x32x64 32) :
    FVec Ideal S16x32x64x131 .f32 :=
  concatenate S16x32x64x131 3 [⟨S16x32x64x3, subf (Host.gather gather_S16x128x3_S16x32x64x1_S16x32x64x3_3_1_0_0_1_3_113 x (wrapped i))
      (broadcastInDim S16x32x64x3 ![0, 1, 2, 3] bcast_S16x32x1x3_S16x32x64x3_0_1_2_3 (broadcastInDim S16x32x1x3 ![0, 1, 3] bcast_S16x32x3_S16x32x1x3_0_1_3 y))⟩,
    ⟨S16x32x64x128, Host.gather gather_S16x128x128_S16x32x64x1_S16x32x64x128_3_1_0_0_1_3_11128
      (transpose S16x128x128 [0, 2, 1] f transposes_S16x128x128_S16x128x128_0_2_1) (wrapped i)⟩] concatenates_S16x32x64x3_S16x32x64x128_S16x32x64x131_d3

section Grouping

variable {P : Fin 16 → Fin 3 → Fin 128 → ℝ} {f : Fin 16 → Fin 128 → Fin 128 → ℝ} {W : Fin 128 → Fin 131 → ℝ} {β : Fin 128 → ℝ}
  {x : FVec Ideal S16x128x3 .f32} {y : FVec Ideal S16x32x3 .f32} {g : FVec Ideal S16x128x128 .f32} {i : IVec S16x32x64 32}

/-- Where the points and features are real and the numbers are those of the neighbours, they are the real channels. -/
theorem grouped_apply (hy : ∀ b r q, y (ix3 b r q) = ((P b q (centre (P b) r.val) : ℝ) : EReal))
    (hx : ∀ b j q, x (ix3 b j q) = ((P b q j : ℝ) : EReal)) (hg : ∀ b k j, g (ix3 b k j) = ((f b k j : ℝ) : EReal))
    (hi : ∀ b r s, i (ix3 b r s) = BitVec.ofNat 32 (neighbour (P b) r s).val) (b : Fin 16) (r : Fin 32) (s : Fin 64) (k : Fin 131) :
    grouped x y g i (ix4 b r s k) = ((feature (P b) (f b) r s k : ℝ) : EReal) := by
  have h3 (q : Fin 3) : Host.gather gather_S16x128x3_S16x32x64x1_S16x32x64x3_3_1_0_0_1_3_113 x (wrapped i) (ix4 b r s q)
      = ((P b q (neighbour (P b) r s) : ℝ) : EReal) :=
    (gather_groups (by norm_num) _ x _ b r s q _ (wrapped_apply i b r s _ (hi b r s))).trans (hx b _ q)
  have hf (q : Fin 128) : Host.gather gather_S16x128x128_S16x32x64x1_S16x32x64x128_3_1_0_0_1_3_11128
      (transpose S16x128x128 [0, 2, 1] g transposes_S16x128x128_S16x128x128_0_2_1) (wrapped i) (ix4 b r s q)
      = ((f b q (neighbour (P b) r s) : ℝ) : EReal) :=
    (gather_groups (by norm_num) _ _ _ b r s q _ (wrapped_apply i b r s _ (hi b r s))).trans (by pointwise; exact hg b q _)
  unfold grouped
  pointwise
  by_cases h : k.val < 3
  · rw [dif_pos h, h3, hy, ← EReal.coe_sub]
    obtain ⟨k, hk⟩ := k
    obtain rfl | rfl | rfl : k = 0 ∨ k = 1 ∨ k = 2 := by simp only at h; omega
    · rfl
    · rfl
    · rfl
  · rw [dif_neg h, hf]
    have e : feature (P b) (f b) r s k = f b ⟨k.val - 3, by omega⟩ (neighbour (P b) r s) := by
      unfold feature
      rw [if_neg (by omega), if_neg (by omega), if_neg (by omega)]
      rfl
    exact congrArg _ e.symm

/-- The first layer: the channels of the neighbourhoods, mixed. -/
def mix (u : FVec Ideal S16x32x64x131 .f32) (w : FVec Ideal S128x131 .f32) (v : FVec Ideal S128 .f32) : FVec Ideal S16x32x64x128 .f32 :=
  addf (Host.dotGeneral dot_S16x32x64x131_S128x131_S16x32x64x128_3_1_012_0_n_n none u w)
    (broadcastInDim S16x32x64x128 ![0, 1, 2, 3] bcast_S1x1x1x128_S16x32x64x128_0_1_2_3 (broadcastInDim S1x1x1x128 ![3] bcast_S128_S1x1x1x128_3 v))

/-- It is the real first layer. -/
theorem mix_apply {u : FVec Ideal S16x32x64x131 .f32} {w : FVec Ideal S128x131 .f32} {v : FVec Ideal S128 .f32}
    (hu : ∀ b r s k, u (ix4 b r s k) = ((feature (P b) (f b) r s k : ℝ) : EReal)) (hW : Matrix w W)
    (hb : ∀ o, v (ix1 o) = ((β o : ℝ) : EReal)) : Grouped (R := 32) (S := 64) (mix u w v) (rows P f W β) := by
  intro b r s o
  unfold mix
  pointwise
  refine (mixed_coe (P b) (f b) W β r s o (fun k => hu b r s k) (fun k => hW o k) (hb o)).trans ?_
  unfold rows
  have e1 : (⟨(finProdFinEquiv (r, s)).val / 64, by omega⟩ : Fin 32) = r := Fin.ext (by simp [finProdFinEquiv] <;> omega)
  have e2 : (⟨(finProdFinEquiv (r, s)).val % 64, by omega⟩ : Fin 64) = s := Fin.ext (by simp [finProdFinEquiv] <;> omega)
  show _ = ((mixed (P b) (f b) W β ⟨(finProdFinEquiv (r, s)).val / 64, _⟩ ⟨(finProdFinEquiv (r, s)).val % 64, _⟩ o : ℝ) : EReal)
  rw [e1, e2]

end Grouping

/-! ## The layers -/

/-- The number of positions, as the programs write it. -/
theorem card_pos : ((32768 : ℝ)) = (Fintype.card (Fin 16 × Fin (32 * 64)) : ℝ) := by simp

/-- There are positions. -/
theorem card_pos_pos : 0 < Fintype.card (Fin 16 × Fin (32 * 64)) := by simp

/-- The number of places that the program divides the variance by. -/
def places : FVec Ideal S_ .f32 := subf (constant S_ .f32 0x47000000#32) (sitofp .f32 (constantI S_ 32 0#32))

/-- An array less the mean of each channel. -/
def centred (x : FVec Ideal S16x32x64x128 .f32) : FVec Ideal S16x32x64x128 .f32 :=
  subf x (broadcastInDim S16x32x64x128 ![0, 1, 2, 3] bcast_S1x1x1x128_S16x32x64x128_0_1_2_3
    (Host.divf (broadcastInDim S1x1x1x128 ![3] bcast_S128_S1x1x1x128_3 (Host.reduceAdd x (constant S_ .f32 0x00000000#32) reducesTo_S16x32x64x128_S128_d0_1_2 h_S_))
      (broadcastInDim S1x1x1x128 ![] bcast_S_S1x1x1x128 (constant S_ .f32 0x47000000#32))))

/-- An array of 128 channels, each normalised over all places by its mean and its variance, and cut off at zero. -/
def normalised (x : FVec Ideal S16x32x64x128 .f32) : FVec Ideal S16x32x64x128 .f32 :=
  maximumf (Host.divf (centred x) (broadcastInDim S16x32x64x128 ![0, 1, 2, 3] bcast_S1x1x1x128_S16x32x64x128_0_1_2_3
    (Host.sqrt (addf (select (broadcastInDim S1x1x1x128 ![] bcast_S_S1x1x1x128 (cmpf .ogt places (constant S_ .f32 0x00000000#32)))
        (Host.divf (broadcastInDim S1x1x1x128 ![3] bcast_S128_S1x1x1x128_3
            (Host.reduceAdd (mulf (centred x) (centred x)) (constant S_ .f32 0x00000000#32) reducesTo_S16x32x64x128_S128_d0_1_2 h_S_))
          (broadcastInDim S1x1x1x128 ![] bcast_S_S1x1x1x128 places))
        (broadcastInDim S1x1x1x128 ![] bcast_S_S1x1x1x128 (id (constant S_ .f32 0x7FC00000#32))))
      (broadcastInDim S1x1x1x128 ![] bcast_S_S1x1x1x128 (constant S_ .f32 0x3727C5AC#32))))))
    (broadcastInDim S16x32x64x128 ![] bcast_S_S16x32x64x128 (constant S_ .f32 0x00000000#32))

/-- It is the real normalisation. -/
theorem normalised_apply {x : FVec Ideal S16x32x64x128 .f32} {Z : Fin 16 × Fin 2048 → Fin 128 → ℝ} (hX : Grouped (R := 32) (S := 64) x Z)
    (b : Fin 16) (r : Fin 32) (s : Fin 64) (k : Fin 128) :
    normalised x (ix4 b r s k) = ((normed (fun p => Z p k) (place 16 32 64 (b, r, s)) : ℝ) : EReal) := by
  unfold normalised centred places
  pointwise [hostReduceAdd_columns]
  exact normed_of_grouped hX _ card_pos card_pos_pos ofBits_32768 ofBits_eps b r s k _

/-- An array less the mean of each channel. -/
def wide_centred (x : FVec Ideal S16x32x64x256 .f32) : FVec Ideal S16x32x64x256 .f32 :=
  subf x (broadcastInDim S16x32x64x256 ![0, 1, 2, 3] bcast_S1x1x1x256_S16x32x64x256_0_1_2_3
    (Host.divf (broadcastInDim S1x1x1x256 ![3] bcast_S256_S1x1x1x256_3 (Host.reduceAdd x (constant S_ .f32 0x00000000#32) reducesTo_S16x32x64x256_S256_d0_1_2 h_S_))
      (broadcastInDim S1x1x1x256 ![] bcast_S_S1x1x1x256 (constant S_ .f32 0x47000000#32))))

/-- An array of 256 channels, each normalised over all places by its mean and its variance, and cut off at zero. -/
def wide_normalised (x : FVec Ideal S16x32x64x256 .f32) : FVec Ideal S16x32x64x256 .f32 :=
  maximumf (Host.divf (wide_centred x) (broadcastInDim S16x32x64x256 ![0, 1, 2, 3] bcast_S1x1x1x256_S16x32x64x256_0_1_2_3
    (Host.sqrt (addf (select (broadcastInDim S1x1x1x256 ![] bcast_S_S1x1x1x256 (cmpf .ogt places (constant S_ .f32 0x00000000#32)))
        (Host.divf (broadcastInDim S1x1x1x256 ![3] bcast_S256_S1x1x1x256_3
            (Host.reduceAdd (mulf (wide_centred x) (wide_centred x)) (constant S_ .f32 0x00000000#32) reducesTo_S16x32x64x256_S256_d0_1_2 h_S_))
          (broadcastInDim S1x1x1x256 ![] bcast_S_S1x1x1x256 places))
        (broadcastInDim S1x1x1x256 ![] bcast_S_S1x1x1x256 (id (constant S_ .f32 0x7FC00000#32))))
      (broadcastInDim S1x1x1x256 ![] bcast_S_S1x1x1x256 (constant S_ .f32 0x3727C5AC#32))))))
    (broadcastInDim S16x32x64x256 ![] bcast_S_S16x32x64x256 (constant S_ .f32 0x00000000#32))

/-- It is the real normalisation. -/
theorem wide_normalised_apply {x : FVec Ideal S16x32x64x256 .f32} {Z : Fin 16 × Fin 2048 → Fin 256 → ℝ} (hX : Grouped (R := 32) (S := 64) x Z)
    (b : Fin 16) (r : Fin 32) (s : Fin 64) (k : Fin 256) :
    wide_normalised x (ix4 b r s k) = ((normed (fun p => Z p k) (place 16 32 64 (b, r, s)) : ℝ) : EReal) := by
  unfold wide_normalised wide_centred places
  pointwise [hostReduceAdd_columns]
  exact normed_of_grouped hX _ card_pos card_pos_pos ofBits_32768 ofBits_eps b r s k _

/-- The second layer: the normalised channels, mixed. -/
def second_layer (x : FVec Ideal S16x32x64x128 .f32) (W : FVec Ideal S128x128 .f32) (β : FVec Ideal S128 .f32) : FVec Ideal S16x32x64x128 .f32 :=
  addf (Host.dotGeneral dot_S16x32x64x128_S128x128_S16x32x64x128_3_1_012_0_n_n none (normalised x) W)
    (broadcastInDim S16x32x64x128 ![0, 1, 2, 3] bcast_S1x1x1x128_S16x32x64x128_0_1_2_3 (broadcastInDim S1x1x1x128 ![3] bcast_S128_S1x1x1x128_3 β))

/-- It is the real layer. -/
theorem second_layer_apply {x : FVec Ideal S16x32x64x128 .f32} {w : FVec Ideal S128x128 .f32} {v : FVec Ideal S128 .f32}
    {Y : Fin 16 × Fin 2048 → Fin 128 → ℝ} {W : Fin 128 → Fin 128 → ℝ} {β : Fin 128 → ℝ}
    (hX : Grouped (R := 32) (S := 64) x Y) (hW : Matrix w W) (hb : ∀ o, v (ix1 o) = ((β o : ℝ) : EReal)) :
    Grouped (R := 32) (S := 64) (second_layer x w v) (layer Y W β) := by
  intro b r s o
  unfold second_layer
  pointwise
  exact layer_coe Y W β (place 16 32 64 (b, r, s)) o (fun k => normalised_apply hX b r s k) (fun k => hW o k) (hb o)

/-- The third layer: the normalised channels, mixed. -/
def third_layer (x : FVec Ideal S16x32x64x128 .f32) (W : FVec Ideal S256x128 .f32) (β : FVec Ideal S256 .f32) : FVec Ideal S16x32x64x256 .f32 :=
  addf (Host.dotGeneral dot_S16x32x64x128_S256x128_S16x32x64x256_3_1_012_0_n_n none (normalised x) W)
    (broadcastInDim S16x32x64x256 ![0, 1, 2, 3] bcast_S1x1x1x256_S16x32x64x256_0_1_2_3 (broadcastInDim S1x1x1x256 ![3] bcast_S256_S1x1x1x256_3 β))

/-- It is the real layer. -/
theorem third_layer_apply {x : FVec Ideal S16x32x64x128 .f32} {w : FVec Ideal S256x128 .f32} {v : FVec Ideal S256 .f32}
    {Y : Fin 16 × Fin 2048 → Fin 128 → ℝ} {W : Fin 256 → Fin 128 → ℝ} {β : Fin 256 → ℝ}
    (hX : Grouped (R := 32) (S := 64) x Y) (hW : Matrix w W) (hb : ∀ o, v (ix1 o) = ((β o : ℝ) : EReal)) :
    Grouped (R := 32) (S := 64) (third_layer x w v) (layer Y W β) := by
  intro b r s o
  unfold third_layer
  pointwise
  exact layer_coe Y W β (place 16 32 64 (b, r, s)) o (fun k => normalised_apply hX b r s k) (fun k => hW o k) (hb o)

/-- The greatest value of each group. -/
def maxima (x : FVec Ideal S16x32x64x256 .f32) : FVec Ideal S16x32 .f32 :=
  Host.reduce FloatOps.maximumf (Host.reduce FloatOps.maximumf x (constant S_ .f32 0xFF800000#32) reducesTo_S16x32x64x256_S16x32x256_d2 h_S_)
    (constant S_ .f32 0xFF800000#32) reducesTo_S16x32x256_S16x32_d2 h_S_

/-- It is the greatest over all places of the group and all channels. -/
theorem maxima_apply (x : FVec Ideal S16x32x64x256 .f32) (b : Fin 16) (r : Fin 32) :
    maxima x (ix2 b r) = Finset.univ.sup fun z : Fin 64 × Fin 256 => x (ix4 b r z.1 z.2) := by
  unfold maxima
  pointwise
  rw [ofBits_bot]
  refine Eq.trans ?_ (sup_pairs _).symm
  show Finset.univ.sup _ = _
  refine congrArg _ (funext fun k => ?_)
  rfl

/-! ## The operations of the program -/

section Ops

variable (X : Valuation τ sig (Elt Ideal))

/-- The operations rank the points. -/
theorem rank_result : (after rankOps X (Proc.devRef .tc main_indices) : IVec S16x32x64 32)
    = ranked (measured (X (Proc.devRef .tc main_v8)) (X (Proc.devRef .tc main_v1))) := by
  after_results_simp
  rfl

/-- The operations form the neighbourhoods. -/
theorem group_result : (after groupOps X (Proc.devRef .tc main_v44) : FVec Ideal S16x32x64x131 .f32)
    = grouped (X (Proc.devRef .tc main_v1)) (X (Proc.devRef .tc main_v8)) (X (Proc.devRef .tc main_arg0)) (X (Proc.devRef .tc main_indices)) := by
  after_results_simp
  rfl

/-- The operations of the first layer. -/
theorem mix_result : (after mixOps X (Proc.devRef .tc main_v48) : FVec Ideal S16x32x64x128 .f32)
    = mix (X (Proc.devRef .tc main_v44)) (X (Proc.devRef .tc main_arg2)) (X (Proc.devRef .tc main_arg3)) := by
  after_results_simp
  rfl

/-- The operations of the second layer. -/
theorem second_result : (after secondOps X (Proc.devRef .tc main_v65) : FVec Ideal S16x32x64x128 .f32)
    = second_layer (X (Proc.devRef .tc main_v48)) (X (Proc.devRef .tc main_arg4)) (X (Proc.devRef .tc main_arg5)) := by
  after_results_simp
  rfl

/-- The operations of the third layer. -/
theorem third_result : (after thirdOps X (Proc.devRef .tc main_v82) : FVec Ideal S16x32x64x256 .f32)
    = third_layer (X (Proc.devRef .tc main_v65)) (X (Proc.devRef .tc main_arg6)) (X (Proc.devRef .tc main_arg7)) := by
  after_results_simp
  rfl

/-- The operations that give the result. -/
theorem last_result : (after lastOps X (Proc.devRef .tc main_v97) : FVec Ideal S16x32 .f32)
    = maxima (wide_normalised (X (Proc.devRef .tc main_v82))) := by
  after_results_simp
  rfl

end Ops

/-! ## The result -/

section Result

variable (m : (ℓ : Loc nD τ sig) → Buf (Elt Ideal) ℓ) (c : Dev nD)

section Values

variable {P : Fin 16 → Fin 3 → Fin 128 → ℝ} {f : Fin 16 → Fin 128 → Fin 128 → ℝ}
  {W₀ : Fin 128 → Fin 131 → ℝ} {β₀ : Fin 128 → ℝ} {W₁ : Fin 128 → Fin 128 → ℝ} {β₁ : Fin 128 → ℝ} {W₂ : Fin 256 → Fin 128 → ℝ} {β₂ : Fin 256 → ℝ}

/-- The reference's result: the greatest normalised value of a neighbourhood. -/
theorem result
    (hF : ∀ b k j, (m ((c.tc : Thread nD τ).loc main_arg0) : FVec Ideal S16x128x128 .f32) (ix3 b k j) = ((f b k j : ℝ) : EReal))
    (hP : ∀ b (a : Fin 3) j, (m ((c.tc : Thread nD τ).loc main_arg1) : FVec Ideal S16x8x128 .f32) (ix3 b ⟨a.val, by omega⟩ j) = ((P b a j : ℝ) : EReal))
    (hA : ∀ b, Apart (P b))
    (hW₀ : Matrix (m ((c.tc : Thread nD τ).loc main_arg2) : FVec Ideal S128x131 .f32) W₀)
    (hb₀ : ∀ o, (m ((c.tc : Thread nD τ).loc main_arg3) : FVec Ideal S128 .f32) (ix1 o) = ((β₀ o : ℝ) : EReal))
    (hW₁ : Matrix (m ((c.tc : Thread nD τ).loc main_arg4) : FVec Ideal S128x128 .f32) W₁)
    (hb₁ : ∀ o, (m ((c.tc : Thread nD τ).loc main_arg5) : FVec Ideal S128 .f32) (ix1 o) = ((β₁ o : ℝ) : EReal))
    (hW₂ : Matrix (m ((c.tc : Thread nD τ).loc main_arg6) : FVec Ideal S256x128 .f32) W₂)
    (hb₂ : ∀ o, (m ((c.tc : Thread nD τ).loc main_arg7) : FVec Ideal S256 .f32) (ix1 o) = ((β₂ o : ℝ) : EReal))
    (b : Fin 16) (r : Fin 32) :
    (afterL stretches (after testOps (before m 32 c)) (Proc.devRef .tc main_v97) : FVec Ideal S16x32 .f32) (ix2 b r)
      = Finset.univ.sup fun x : Fin 64 × Fin 256 =>
          ((normed (fun p => layer (layer (rows P f W₀ β₀) W₁ β₁) W₂ β₂ p x.2) (b, finProdFinEquiv (r, x.1)) : ℝ) : EReal) := by
  show (after lastOps (after thirdOps (after secondOps (after mixOps (after groupOps (after rankOps (after lookOps
    (after testOps (before m 32 c)))))))) (Proc.devRef .tc main_v97) : FVec Ideal S16x32 .f32) (ix2 b r) = _
  have a0 := argument m c (b := main_arg0) (fun X => first_of X (by decide)) (fun X => trip_of X (by decide)) (by decide)
  have a2 := argument m c (b := main_arg2) (fun X => first_of X (by decide)) (fun X => trip_of X (by decide)) (by decide)
  have a3 := argument m c (b := main_arg3) (fun X => first_of X (by decide)) (fun X => trip_of X (by decide)) (by decide)
  have a4 := argument m c (b := main_arg4) (fun X => first_of X (by decide)) (fun X => trip_of X (by decide)) (by decide)
  have a5 := argument m c (b := main_arg5) (fun X => first_of X (by decide)) (fun X => trip_of X (by decide)) (by decide)
  have a6 := argument m c (b := main_arg6) (fun X => first_of X (by decide)) (fun X => trip_of X (by decide)) (by decide)
  have a7 := argument m c (b := main_arg7) (fun X => first_of X (by decide)) (fun X => trip_of X (by decide)) (by decide)
  have hx := after_points m c hP
  have hy := centres m c hP
  generalize after testOps (before m 32 c) = X at a0 a2 a3 a4 a5 a6 a7 hx hy ⊢
  have hi (b : Fin 16) (r : Fin 32) (s : Fin 64) :
      (after rankOps (after lookOps X) (Proc.devRef .tc main_indices) : IVec S16x32x64 32) (ix3 b r s)
        = BitVec.ofNat 32 (neighbour (P b) r s).val := by
    rw [rank_result, look_of _ (b := main_v1) (by decide)]
    refine ranked_apply _ b r s _ fun i j => ?_
    rw [measured_apply hy hx, measured_apply hy hx]
    exact (hA b).order _ i j
  have hu (b : Fin 16) (r : Fin 32) (s : Fin 64) (k : Fin 131) :
      (after groupOps (after rankOps (after lookOps X)) (Proc.devRef .tc main_v44) : FVec Ideal S16x32x64x131 .f32) (ix4 b r s k)
        = ((feature (P b) (f b) r s k : ℝ) : EReal) := by
    rw [group_result, rank_of _ (b := main_v1) (by decide), rank_of _ (b := main_v8) (by decide), rank_of _ (b := main_arg0) (by decide),
      look_of _ (b := main_v1) (by decide), look_of _ (b := main_arg0) (by decide), a0]
    exact grouped_apply hy hx hF hi b r s k
  have h0 : Grouped (R := 32) (S := 64) (after mixOps (after groupOps (after rankOps (after lookOps X))) (Proc.devRef .tc main_v48) : FVec Ideal S16x32x64x128 .f32)
      (rows P f W₀ β₀) := by
    rw [mix_result, group_of _ (b := main_arg2) (by decide), group_of _ (b := main_arg3) (by decide),
      rank_of _ (b := main_arg2) (by decide), rank_of _ (b := main_arg3) (by decide),
      look_of _ (b := main_arg2) (by decide), look_of _ (b := main_arg3) (by decide), a2, a3]
    exact mix_apply hu hW₀ hb₀
  have h1 : Grouped (R := 32) (S := 64) (after secondOps (after mixOps (after groupOps (after rankOps (after lookOps X)))) (Proc.devRef .tc main_v65) : FVec Ideal S16x32x64x128 .f32)
      (layer (rows P f W₀ β₀) W₁ β₁) := by
    rw [second_result, mix_of _ (b := main_arg4) (by decide), mix_of _ (b := main_arg5) (by decide),
      group_of _ (b := main_arg4) (by decide), group_of _ (b := main_arg5) (by decide),
      rank_of _ (b := main_arg4) (by decide), rank_of _ (b := main_arg5) (by decide),
      look_of _ (b := main_arg4) (by decide), look_of _ (b := main_arg5) (by decide), a4, a5]
    exact second_layer_apply h0 hW₁ hb₁
  have h2 : Grouped (R := 32) (S := 64) (after thirdOps (after secondOps (after mixOps (after groupOps (after rankOps (after lookOps X))))) (Proc.devRef .tc main_v82) : FVec Ideal S16x32x64x256 .f32)
      (layer (layer (rows P f W₀ β₀) W₁ β₁) W₂ β₂) := by
    rw [third_result, second_of _ (b := main_arg6) (by decide), second_of _ (b := main_arg7) (by decide),
      mix_of _ (b := main_arg6) (by decide), mix_of _ (b := main_arg7) (by decide),
      group_of _ (b := main_arg6) (by decide), group_of _ (b := main_arg7) (by decide),
      rank_of _ (b := main_arg6) (by decide), rank_of _ (b := main_arg7) (by decide),
      look_of _ (b := main_arg6) (by decide), look_of _ (b := main_arg7) (by decide), a6, a7]
    exact third_layer_apply h1 hW₂ hb₂
  rw [last_result, maxima_apply]
  exact congrArg _ (funext fun z => wide_normalised_apply h2 b r z.1 z.2)

end Values

/-- The arguments. -/
abbrev arguments : List (Ref sig .tc) := [main_arg0, main_arg1, main_arg2, main_arg3, main_arg4, main_arg5, main_arg6, main_arg7]

/-- No argument is in a list that misses them all. -/
theorem out {l : List (Ref sig .tc)} (hl : ∀ b ∈ arguments, b ∉ l) {b : Ref sig .tc} (h : b ∈ arguments) : b ∉ l := hl b h

/-- Every argument is as it was. -/
theorem argument_all {b : Ref sig .tc} (h : b ∈ arguments) :
    afterL stretches (after testOps (before m 32 c)) (Proc.devRef .tc b) = m ((c.tc : Thread nD τ).loc b) :=
  (last_of _ (out (by decide) h)).trans ((third_of _ (out (by decide) h)).trans ((second_of _ (out (by decide) h)).trans
    ((mix_of _ (out (by decide) h)).trans ((group_of _ (out (by decide) h)).trans ((rank_of _ (out (by decide) h)).trans
      ((look_of _ (out (by decide) h)).trans (argument m c (fun X => first_of X (out (by decide) h))
        (fun X => trip_of X (out (by decide) h)) (out (by decide) h))))))))

end Result

end Cert.Proof.ResultReference

end
-- ==== Proof.ResultClaim.lean ====
/-
  THE LAST FOUR CALLS AGAINST THEIR REFERENCE. What the precondition says of the arguments is read off: they are real, and
  the squared distances of the points are zero or can be told apart from zero. Then both programs' results are the same real
  expression of them.
-/
module

public import proofs.«01_k».proof.Defs
public import proofs.«01_k».proof.Proof.ResultRun
public import proofs.«01_k».proof.Proof.ResultReference
public import proofs.«01_k».proof.Proof.Gen.Pre_apart

@[expose] public section

set_option maxRecDepth 16384

noncomputable section

namespace Cert.Proof.ResultClaim

open Idealize.ShloMosaic Idealize.ShloMosaic.TcCoe Idealize.SL.Sem Idealize.ShloMosaic.StableHlo
open Cert.Proof.Group Cert.Proof.Norm

/-- What the precondition says: features, coordinates, weights and biases are real, and the points are apart. -/
theorem facts_of_pre (x : FVec Ideal Cert.Pre_apart.S16x128x128 .f32) (z : FVec Ideal Cert.Pre_apart.S16x8x128 .f32)
    (w₀ : FVec Ideal Cert.Pre_apart.S128x131 .f32) (b₀ : FVec Ideal Cert.Pre_apart.S128 .f32)
    (w₁ : FVec Ideal Cert.Pre_apart.S128x128 .f32) (b₁ : FVec Ideal Cert.Pre_apart.S128 .f32)
    (w₂ : FVec Ideal Cert.Pre_apart.S256x128 .f32) (b₂ : FVec Ideal Cert.Pre_apart.S256 .f32)
    (h : @Cert.Pre_apart.fn Cert.Pre_apart.Gen.facts Ideal _ x z w₀ b₀ w₁ b₁ w₂ b₂ = fun _ => 1#1) :
    ∃ (f : Fin 16 → Fin 128 → Fin 128 → ℝ) (P : Fin 16 → Fin 3 → Fin 128 → ℝ) (W₀ : Fin 128 → Fin 131 → ℝ) (β₀ : Fin 128 → ℝ)
      (W₁ : Fin 128 → Fin 128 → ℝ) (β₁ : Fin 128 → ℝ) (W₂ : Fin 256 → Fin 128 → ℝ) (β₂ : Fin 256 → ℝ),
      (∀ b k j, x (ix3 b k j) = ((f b k j : ℝ) : EReal))
        ∧ (∀ b (a : Fin 3) j, z (ix3 b ⟨a.val, by omega⟩ j) = ((P b a j : ℝ) : EReal)) ∧ (∀ b, Apart (P b))
        ∧ Matrix w₀ W₀ ∧ (∀ o, b₀ (ix1 o) = ((β₀ o : ℝ) : EReal)) ∧ Matrix w₁ W₁ ∧ (∀ o, b₁ (ix1 o) = ((β₁ o : ℝ) : EReal))
        ∧ Matrix w₂ W₂ ∧ (∀ o, b₂ (ix1 o) = ((β₂ o : ℝ) : EReal)) := by
  have e := congrFun h ix0
  unfold Cert.Pre_apart.fn Cert.Pre_apart.fn_part1 Cert.Pre_apart.fn_part2 Cert.Pre_apart.fn_part3 at e
  pointwise at e
  simp only [IntOp.andi_eq_one, fold_andi] at e
  obtain ⟨⟨⟨⟨⟨⟨⟨⟨hz, hx⟩, hw₀⟩, hb₀⟩, hw₁⟩, hb₁⟩, hw₂⟩, hb₂⟩, hA⟩ := e
  have hP (b : Fin 16) (a : Fin 3) (j : Fin 128) : z (ix3 b ⟨a.val, by omega⟩ j) = (((z (ix3 b ⟨a.val, by omega⟩ j)).toReal : ℝ) : EReal) :=
    coe_toReal_of_bit (hz (b, a, j))
  refine ⟨fun b k j => (x (ix3 b k j)).toReal, fun b a j => (z (ix3 b ⟨a.val, by omega⟩ j)).toReal, fun o k => (w₀ (ix2 o k)).toReal,
    fun o => (b₀ (ix1 o)).toReal, fun o k => (w₁ (ix2 o k)).toReal, fun o => (b₁ (ix1 o)).toReal, fun o k => (w₂ (ix2 o k)).toReal,
    fun o => (b₂ (ix1 o)).toReal, fun b k j => coe_toReal_of_bit (hx (b, k, j)), hP, fun b => ?_,
    fun o k => coe_toReal_of_bit (hw₀ (o, k)), fun o => coe_toReal_of_bit (hb₀ o), fun o k => coe_toReal_of_bit (hw₁ (o, k)),
    fun o => coe_toReal_of_bit (hb₁ o), fun o k => coe_toReal_of_bit (hw₂ (o, k)), fun o => coe_toReal_of_bit (hb₂ o)⟩
  have sum (p j : Fin 128) : (∑ a : Fin 3, (z (ix3 b ⟨a.val, by omega⟩ p) - z (ix3 b ⟨a.val, by omega⟩ j))
        * (z (ix3 b ⟨a.val, by omega⟩ p) - z (ix3 b ⟨a.val, by omega⟩ j)))
      = ((gap (fun a j => (z (ix3 b ⟨a.val, by omega⟩ j)).toReal) p j : ℝ) : EReal) := by
    rw [Fin.sum_univ_three, hP b 0 p, hP b 0 j, hP b 1 p, hP b 1 j, hP b 2 p, hP b 2 j]
    rfl
  refine ⟨fun p j => ?_, fun p j => ?_⟩
  · rcases IntOp.ori_eq_one.mp (hA (b, p, j)).1 with k | k
    · exact Or.inl (by have k := of_bit k; rw [sum] at k; exact_mod_cast k)
    · exact Or.inr (by have k := of_bit k; rw [sum, ofBits_tiny] at k; exact_mod_cast k)
  · have k := of_bit (hA (b, p, j)).2
    rw [sum] at k
    exact k

/-- Over the extended reals the program's result is the reference's. -/
theorem results_equal : Cert.algebraic_ResultIdeal_ResultReferenceIdeal_pre_apart
    (hResultIdeal := Cert.ResultIdeal.Gen.facts) (hResultReferenceIdeal := Cert.ResultReferenceIdeal.Gen.facts)
    (hPre_apart := Cert.Pre_apart.Gen.facts) := by
  intro m ρ m' ρ' hpre hargs
  refine ⟨fun c => Cert.ResultIdeal.Gen.W8 m ρ c (Proc.devRef .tc Cert.ResultIdeal.main_v7), ?_, ?_⟩
  · exact ResultRun.run (F := Ideal) m ρ
  · have k {b : Ref Cert.ResultReferenceIdeal.sig .tc} (c) (h : b ∈ ResultReference.arguments) := ResultReference.argument_all m' c h
    refine (θ_run _ _ _).mono (fun r q c => ⟨(q c Cert.ResultReferenceIdeal.main_v97 (by decide)).trans ?_,
      (q c _ (by decide)).trans (k c (by decide)), (q c _ (by decide)).trans (k c (by decide)), (q c _ (by decide)).trans (k c (by decide)),
      (q c _ (by decide)).trans (k c (by decide)), (q c _ (by decide)).trans (k c (by decide)), (q c _ (by decide)).trans (k c (by decide)),
      (q c _ (by decide)).trans (k c (by decide)), (q c _ (by decide)).trans (k c (by decide))⟩) (ResultReferenceRun.run (F := Ideal) m' ρ')
    obtain ⟨f, P, W₀, β₀, W₁, β₁, W₂, β₂, hF, hP, hA, hW₀, hb₀, hW₁, hb₁, hW₂, hb₂⟩ := facts_of_pre _ _ _ _ _ _ _ _ (hpre c)
    obtain ⟨a0, a1, a2, a3, a4, a5, a6, a7⟩ := hargs c
    funext i
    idx_vars i
    refine Eq.trans ?_ (ResultRun.result_value m ρ c hF hP hA hW₀ hb₀ hW₁ hb₁ hW₂ hb₂ _ _).symm
    rw [← a0] at hF; rw [← a1] at hP; rw [← a2] at hW₀; rw [← a3] at hb₀; rw [← a4] at hW₁; rw [← a5] at hb₁
    rw [← a6] at hW₂; rw [← a7] at hb₂
    exact ResultReference.result m' c hF hP hA hW₀ hb₀ hW₁ hb₁ hW₂ hb₂ _ _

/-- The reference's run, with the arguments as they were. -/
theorem frame_reference : Cert.quiescent_ResultReferenceIdeal (hResultReferenceIdeal := Cert.ResultReferenceIdeal.Gen.facts) := by
  intro m ρ _
  have k {b : Ref Cert.ResultReferenceIdeal.sig .tc} (c) (h : b ∈ ResultReference.arguments) := ResultReference.argument_all m c h
  exact (θ_run _ _ _).mono (fun r q => ⟨fun c => ⟨(q c _ (by decide)).trans (k c (by decide)), (q c _ (by decide)).trans (k c (by decide)),
    (q c _ (by decide)).trans (k c (by decide)), (q c _ (by decide)).trans (k c (by decide)), (q c _ (by decide)).trans (k c (by decide)),
    (q c _ (by decide)).trans (k c (by decide)), (q c _ (by decide)).trans (k c (by decide)), (q c _ (by decide)).trans (k c (by decide))⟩,
    sem_eq_zero_of_no_sems (by decide) r.2⟩) (ResultReferenceRun.run (F := Ideal) m ρ)

end Cert.Proof.ResultClaim

end
-- ==== Proof.CentresValue.lean ====
/-
  WHAT THE CALL FOR THE CENTRES LEAVES. At the ideal values each trip of its loop takes every cloud of a block through one
  trip of the choice of centres (`Farthest.trip`) and records the coordinates of the point that trip starts from, so that
  the array written holds the coordinates of the chosen points in its first three rows and zeros in the others.
-/
module

public import proofs.«01_k».proof.Proof.Farthest
public import proofs.«01_k».proof.Proof.Norm
public import proofs.«01_k».proof.Proof.Gen.CentresIdeal.Frame
public import Idealize.ShloMosaic.Lib.Pipeline.ValueKit

@[expose] public section

set_option maxRecDepth 16384

noncomputable section

namespace Cert.Proof.CentresValue

open Idealize.ShloMosaic Idealize.ShloMosaic.TcCoe
open Cert.CentresIdeal Cert.CentresIdeal.Gen
open Cert.Proof.Norm Cert.Proof.Farthest

/-- The distance that every point starts with. -/
abbrev start : EReal := Ideal.ofBits .f32 0x501502F9#32

/-- What the loop carries: the distances, the point last chosen, and the three arrays of coordinates recorded. -/
abbrev Carried : Type :=
  FVec Ideal S8x16384 .f32 × IVec S8x1 32 × FVec Ideal S8x128 .f32 × FVec Ideal S8x128 .f32 × FVec Ideal S8x128 .f32

section Trip

variable (v0 v2 v4 : Vec Ideal S8x16384 .f32)

/-- One trip of the loop. -/
def body (t : Fin k0_t1_loop.trips) (s : Carried) : Carried :=
  (k0_pay13 v0 v2 v4 s.1 s.2.1, k0_pay14 v0 v2 v4 s.1 s.2.1, k0_pay16 v0 t s.2.1 s.2.2.1, k0_pay17 v2 t s.2.1 s.2.2.2.1,
    k0_pay18 v4 t s.2.1 s.2.2.2.2)

/-- One coordinate of cloud `r` of a block. -/
abbrev row (v : Vec Ideal S8x16384 .f32) (r : Fin 8) : Fin 16384 → EReal := fun j => v (ix2 r j)

/-- The sum in which every entry but that of the chosen point is replaced by zero is the entry of the chosen point. -/
theorem sum_chosen (v : FVec Ideal S8x16384 .f32) (a : IVec S8x1 32) (r : Fin 8) (p : Fin 16384)
    (h : a (ix2 r 0) = BitVec.ofNat 32 p.val) :
    ∑ j : Fin 16384, Scalar.select (IntOp.cmpi .eq (BitVec.ofNat 32 j.val) (a (ix2 r 0))) (v (ix2 r j)) 0 = v (ix2 r p) := by
  rw [h, Finset.sum_congr rfl fun (j : Fin 16384) _ =>
    select_index (k := p.val) (show j.val < 2 ^ 32 by omega) (by omega) (v (ix2 r j)) (0 : EReal)]
  exact (Finset.sum_eq_single p (fun j _ hj => if_neg fun e => hj (Fin.ext e)) fun hp =>
    absurd (Finset.mem_univ _) hp).trans (if_pos rfl)

/-- The first coordinate of the chosen point. -/
theorem x_chosen (a : IVec S8x1 32) (r : Fin 8) (p : Fin 16384) (h : a (ix2 r 0) = BitVec.ofNat 32 p.val) :
    k0_pay10 v0 a (ix2 r 0) = v0 (ix2 r p) := by
  unfold k0_pay10 k0_pay9 k0_pay1
  pointwise
  exact sum_chosen v0 a r p h

/-- The second coordinate of the chosen point. -/
theorem y_chosen (a : IVec S8x1 32) (r : Fin 8) (p : Fin 16384) (h : a (ix2 r 0) = BitVec.ofNat 32 p.val) :
    k0_pay11 v2 a (ix2 r 0) = v2 (ix2 r p) := by
  unfold k0_pay11 k0_pay9 k0_pay2
  pointwise
  exact sum_chosen v2 a r p h

/-- The third coordinate of the chosen point. -/
theorem z_chosen (a : IVec S8x1 32) (r : Fin 8) (p : Fin 16384) (h : a (ix2 r 0) = BitVec.ofNat 32 p.val) :
    k0_pay12 v4 a (ix2 r 0) = v4 (ix2 r p) := by
  unfold k0_pay12 k0_pay9 k0_pay3
  pointwise
  exact sum_chosen v4 a r p h

/-- The lowered distances. -/
theorem distance_apply (d : FVec Ideal S8x16384 .f32) (a : IVec S8x1 32) (r : Fin 8) (p : Fin 16384)
    (h : a (ix2 r 0) = BitVec.ofNat 32 p.val) (j : Fin 16384) :
    k0_pay13 v0 v2 v4 d a (ix2 r j) = min (d (ix2 r j)) (square (row v0 r) (row v2 r) (row v4 r) p j) := by
  unfold k0_pay13
  pointwise
  rw [x_chosen v0 a r p h, y_chosen v2 a r p h, z_chosen v4 a r p h]
  unfold k0_pay1 k0_pay2 k0_pay3
  pointwise
  rfl

/-- The next point. -/
theorem next_apply (d : FVec Ideal S8x16384 .f32) (a : IVec S8x1 32) (r : Fin 8) :
    k0_pay14 v0 v2 v4 d a (ix2 r 0) = BitVec.ofNat 32 (first fun j => k0_pay13 v0 v2 v4 d a (ix2 r j)).val := by
  unfold k0_pay14
  pointwise
  exact fold_least (by norm_num) _ _ ofBits_bot

/-- What the loop carries before trip `k`, cloud by cloud. -/
structure At (k : ℕ) (s : Carried) : Prop where
  /-- The distances. -/
  distance : ∀ r j, s.1 (ix2 r j) = (trip (row v0 r) (row v2 r) (row v4 r) start k).1 j
  /-- The point last chosen. -/
  point : ∀ r, s.2.1 (ix2 r 0) = BitVec.ofNat 32 (chosen (row v0 r) (row v2 r) (row v4 r) start k).val
  /-- The first coordinates recorded. -/
  xs : ∀ r (i : Fin 128), i.val < k → s.2.2.1 (ix2 r i) = v0 (ix2 r (chosen (row v0 r) (row v2 r) (row v4 r) start i))
  /-- The second coordinates recorded. -/
  ys : ∀ r (i : Fin 128), i.val < k → s.2.2.2.1 (ix2 r i) = v2 (ix2 r (chosen (row v0 r) (row v2 r) (row v4 r) start i))
  /-- The third coordinates recorded. -/
  zs : ∀ r (i : Fin 128), i.val < k → s.2.2.2.2 (ix2 r i) = v4 (ix2 r (chosen (row v0 r) (row v2 r) (row v4 r) start i))

/-- What the loop starts with. -/
theorem at_zero : At v0 v2 v4 0 (k0_pay4, k0_pay5, k0_pay6, k0_pay7, k0_pay8) where
  distance r j := by
    show (k0_pay4 : FVec Ideal S8x16384 .f32) (ix2 r j) = start
    unfold k0_pay4
    pointwise
  point r := by
    show k0_pay5 (ix2 r 0) = 0#32
    unfold k0_pay5
    pointwise
  xs _ _ h := absurd h (Nat.not_lt_zero _)
  ys _ _ h := absurd h (Nat.not_lt_zero _)
  zs _ _ h := absurd h (Nat.not_lt_zero _)

/-- A lane records at trip `t` where its number is that of the trip. -/
theorem lane (t : Fin k0_t1_loop.trips) (r : Fin 8) (i : Fin 128) {α : Type} (a b : α) :
    Scalar.select (k0_pay15 t (ix2 r i)) a b = if i.val = t.val then a else b := by
  unfold k0_pay15
  pointwise
  have ht : t.val < 128 := lt_of_lt_of_eq t.isLt (by decide)
  rw [show Scf.iv 0#32 1#32 t.val = BitVec.ofNat 32 t.val by simp [Scf.iv]]
  exact select_index (by omega) (by omega) a b

/-- A recorded array after a trip. -/
theorem recorded {k : ℕ} {f : ℕ → EReal} {s new : Fin 128 → EReal} {p : EReal} (hp : p = f k)
    (hn : ∀ i : Fin 128, new i = if i.val = k then p else s i) (hs : ∀ i : Fin 128, i.val < k → s i = f i)
    (i : Fin 128) (h : i.val < k + 1) : new i = f i := by
  rw [hn]
  by_cases e : i.val = k
  · rw [if_pos e, hp, e]
  · rw [if_neg e, hs i (by omega)]

/-- One trip of the loop is one trip of the choice. -/
theorem at_succ (t : Fin k0_t1_loop.trips) (s : Carried) (h : At v0 v2 v4 t s) : At v0 v2 v4 (t + 1) (body v0 v2 v4 t s) where
  distance r j := by
    refine (distance_apply v0 v2 v4 s.1 s.2.1 r _ (h.point r) j).trans ?_
    rw [h.distance r j]
    rfl
  point r := by
    dsimp only [body]
    rw [next_apply]
    have e : (fun j => k0_pay13 v0 v2 v4 s.1 s.2.1 (ix2 r j))
        = (trip (row v0 r) (row v2 r) (row v4 r) start (t + 1)).1 := funext fun j => by
      rw [distance_apply v0 v2 v4 s.1 s.2.1 r _ (h.point r) j, h.distance r j]
      rfl
    exact congrArg (fun d => BitVec.ofNat 32 (first d).val) e
  xs r i hi := by
    refine recorded (f := fun i => v0 (ix2 r (chosen (row v0 r) (row v2 r) (row v4 r) start i)))
      (new := fun i => k0_pay16 v0 t s.2.1 s.2.2.1 (ix2 r i)) (x_chosen v0 s.2.1 r _ (h.point r)) (fun i => ?_) (h.xs r) i hi
    unfold k0_pay16
    pointwise
    exact lane t r i _ _
  ys r i hi := by
    refine recorded (f := fun i => v2 (ix2 r (chosen (row v0 r) (row v2 r) (row v4 r) start i)))
      (new := fun i => k0_pay17 v2 t s.2.1 s.2.2.2.1 (ix2 r i)) (y_chosen v2 s.2.1 r _ (h.point r)) (fun i => ?_) (h.ys r) i hi
    unfold k0_pay17
    pointwise
    exact lane t r i _ _
  zs r i hi := by
    refine recorded (f := fun i => v4 (ix2 r (chosen (row v0 r) (row v2 r) (row v4 r) start i)))
      (new := fun i => k0_pay18 v4 t s.2.1 s.2.2.2.2 (ix2 r i)) (z_chosen v4 s.2.1 r _ (h.point r)) (fun i => ?_) (h.zs r) i hi
    unfold k0_pay18
    pointwise
    exact lane t r i _ _

end Trip

section Arrays

variable (m : (ℓ : Loc nD τ sig) → Buf (Elt Ideal) ℓ) (c : Dev nD)

/-- Where each window is at a point of the grid. -/
theorem index : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0, 0] := by decide +kernel

/-- Row `a` of the array written is the array of coordinates recorded in place `a`, or zeros. -/
theorem written (X Y Z : FVec Ideal S8x128 .f32) (r a : Fin 8) (i : Fin 128) : k0_pay19 X Y Z (ix3 r a i)
    = if a.val = 0 then X (ix2 r i) else if a.val = 1 then Y (ix2 r i) else if a.val = 2 then Z (ix2 r i) else 0 := by
  unfold k0_pay19
  pointwise
  have := a.isLt
  split_ifs <;> first | rfl | omega

/-- The block written from what the loop carries at its end. -/
theorem block {v0 v2 v4 : Vec Ideal S8x16384 .f32} {s : Carried} (h : At v0 v2 v4 128 s) (r a : Fin 8) (i : Fin 128) :
    k0_pay19 s.2.2.1 s.2.2.2.1 s.2.2.2.2 (ix3 r a i) = entry (row v0 r) (row v2 r) (row v4 r) start a i := by
  rw [written, h.xs r i i.isLt, h.ys r i i.isLt, h.zs r i i.isLt]
  rfl

/-- What the loop carries when it ends, cloud by cloud. -/
theorem at_end (v0 v2 v4 : Vec Ideal S8x16384 .f32) :
    At v0 v2 v4 128 (Scf.fold (body v0 v2 v4) (k0_pay4, k0_pay5, k0_pay6, k0_pay7, k0_pay8)) := by
  rw [Scf.fold_eq]
  have e : ∀ k (hk : k ≤ k0_t1_loop.trips), At v0 v2 v4 k (((List.finRange k0_t1_loop.trips).take k).foldl
      (fun s t => body v0 v2 v4 t s) (k0_pay4, k0_pay5, k0_pay6, k0_pay7, k0_pay8)) := by
    intro k
    induction k with
    | zero => exact fun _ => at_zero v0 v2 v4
    | succ k ih =>
      intro hk
      have h := at_succ v0 v2 v4 ⟨k, hk⟩ _ (ih (Nat.le_of_succ_le hk))
      rw [List.take_succ_eq_append_getElem (by simpa using hk), List.foldl_append]
      simpa using h
  have h := e _ le_rfl
  rw [List.take_of_length_le (by simp)] at h
  exact h

/-- The entry at one place of the array written, from the arrays of the three coordinates. -/
def cell (i : S16x8x128.Idx) : EReal :=
  entry (fun j => (V m c main_v1 : FVec Ideal S16x16384 .f32) (ix2 (i 0) j))
    (fun j => (V m c main_v3 : FVec Ideal S16x16384 .f32) (ix2 (i 0) j))
    (fun j => (V m c main_v5 : FVec Ideal S16x16384 .f32) (ix2 (i 0) j)) start (i 1) (i 2)

/-- The number of a cloud from those of its block and of its place there. -/
def cloud (g : Fin 2) (r : Fin 8) : Fin 16 := ⟨g.val * 8 + r.val, by omega⟩

/-- What a block of the first coordinates holds of their array. -/
theorem x_read (A : Buf (Elt Ideal) ((c : Thread nD τ).loc (Pipeline.arrRef spec0 0))) (t : Fin cfg0.N) (r : Fin 8)
    (j : Fin 16384) : ((cfg0.win 0).blk t).view.read (Elt Ideal) A (ix2 r j) = A (ix2 (cloud (grid0.coords t 0) r) j) := by
  blk_ext [(index t).1, cloud]

/-- What a block of the second coordinates holds of their array. -/
theorem y_read (A : Buf (Elt Ideal) ((c : Thread nD τ).loc (Pipeline.arrRef spec0 1))) (t : Fin cfg0.N) (r : Fin 8)
    (j : Fin 16384) : ((cfg0.win 1).blk t).view.read (Elt Ideal) A (ix2 r j) = A (ix2 (cloud (grid0.coords t 0) r) j) := by
  blk_ext [(index t).2.1, cloud]

/-- What a block of the third coordinates holds of their array. -/
theorem z_read (A : Buf (Elt Ideal) ((c : Thread nD τ).loc (Pipeline.arrRef spec0 2))) (t : Fin cfg0.N) (r : Fin 8)
    (j : Fin 16384) : ((cfg0.win 2).blk t).view.read (Elt Ideal) A (ix2 r j) = A (ix2 (cloud (grid0.coords t 0) r) j) := by
  blk_ext [(index t).2.2.1, cloud]

/-- The first coordinates of a cloud of the block at a point of the grid. -/
theorem x_block (t : Fin cfg0.N) (r : Fin 8) : row (iblk m c 0 t) r
    = fun j => (V m c main_v1 : FVec Ideal S16x16384 .f32) (ix2 (cloud (grid0.coords t 0) r) j) :=
  funext fun j => x_read c (V m c main_v1) t r j

/-- The second coordinates of a cloud of the block at a point of the grid. -/
theorem y_block (t : Fin cfg0.N) (r : Fin 8) : row (iblk m c 1 t) r
    = fun j => (V m c main_v3 : FVec Ideal S16x16384 .f32) (ix2 (cloud (grid0.coords t 0) r) j) :=
  funext fun j => y_read c (V m c main_v3) t r j

/-- The third coordinates of a cloud of the block at a point of the grid. -/
theorem z_block (t : Fin cfg0.N) (r : Fin 8) : row (iblk m c 2 t) r
    = fun j => (V m c main_v5 : FVec Ideal S16x16384 .f32) (ix2 (cloud (grid0.coords t 0) r) j) :=
  funext fun j => z_read c (V m c main_v5) t r j

/-- After the call the array written holds the coordinates of the points chosen. -/
theorem centres_array : (dats m 0 c).arrAt 3 cfg0.N = cell m c := by
  refine (dats m 0 c).arrAt_eq_of_covers 3 _ (by decide +kernel) fun t hf y => ?_
  blk_simp
  rw [after0_3]
  unfold outsAt0
  frame_out
  have h := at_end (iblk m c 0 t) (iblk m c 1 t) (iblk m c 2 t)
  rw [show (((View.whole main_v6).slice (win0_3.rect t)).emb y)
      = ix3 (cloud (grid0.coords t 0) ⟨(y 0).val, (y 0).isLt⟩) ⟨(y 1).val, (y 1).isLt⟩ ⟨(y 2).val, (y 2).isLt⟩ by
    blk_ext [(index t).2.2.2, cloud]]
  refine Eq.trans ?_ ((block h ⟨(y 0).val, (y 0).isLt⟩ ⟨(y 1).val, (y 1).isLt⟩ ⟨(y 2).val, (y 2).isLt⟩).trans ?_)
  · congr 1
    blk_ext
  · rw [x_block, y_block, z_block]
    rfl

end Arrays

end Cert.Proof.CentresValue

end
-- ==== Proof.CentresReferenceRun.lean ====
/-
  THE RUN OF THE REFERENCE FOR THE CENTRES. The program is a stretch of operations, a loop of 128 trips and another stretch.
  The operations of each are listed here as the program states them, and every buffer ends at what the lists compute.
-/
module

public import proofs.«01_k».proof.Proof.Gen.CentresReferenceIdeal
public import Idealize.ShloMosaic.Lib.StableHlo.Run
public import Idealize.ShloMosaic.Lib.StableHlo.RunLoop
public import Idealize.ShloMosaic.Lib.StableHlo.RunClose
public import Idealize.ShloMosaic.Lib.StableHlo.RunRead
public import Idealize.ShloMosaic.Lib.Scf.Counter
public import Idealize.ShloMosaic.Lib.Scf.ExitTest
public import Idealize.ShloMosaic.Lib.Pipeline.Frame

@[expose] public section

set_option Elab.async false
set_option maxRecDepth 16384

noncomputable section

namespace Cert.Proof.CentresReferenceRun

open Cert.CentresReferenceIdeal Cert.CentresReferenceIdeal.Gen
open Idealize.ShloMosaic Idealize.ShloMosaic.TcCoe Idealize.ShloMosaic.StableHlo
open Idealize.SL Idealize.SL.RA Idealize.SL.BI Idealize.SL.Sem Idealize.SL.ProofMode
open scoped Idealize.SL.BI
open Idealize.SL.BI.BIBase Idealize.SL.BI.Laws

variable {F : FTy → Type} [FloatOps F]

/-- The operations before the loop. -/
abbrev firstOps : List (HloOp τ sig (Elt F)) :=
  [ unary main_arg0 main_v0 ((extractStridedSlice S16x16384x3 ![0, 0, 0] · slices_S16x16384x6_S16x16384x3_0_0_0) : (⟨S16x16384x6, .f32⟩ : BufTy).Contents (Elt F) → (⟨S16x16384x3, .f32⟩ : BufTy).Contents (Elt F)),
    nullary main_cst (constant S_ .f32 0x501502F9#32),
    unary main_cst main_v1 (broadcastInDim S16x16384 ![] bcast_S_S16x16384 : (⟨S_, .f32⟩ : BufTy).Contents (Elt F) → (⟨S16x16384, .f32⟩ : BufTy).Contents (Elt F)),
    nullary main_c (constantI S_ 32 0#32),
    unary main_c main_v2 (broadcastInDim S16 ![] bcast_S_S16 : (⟨S_, .i32⟩ : BufTy).Contents (Elt F) → (⟨S16, .i32⟩ : BufTy).Contents (Elt F)),
    nullary main_c_0 (constantI S_ 32 0#32),
    unary main_c_0 main_v3 (broadcastInDim S128x16 ![] bcast_S_S128x16 : (⟨S_, .i32⟩ : BufTy).Contents (Elt F) → (⟨S128x16, .i32⟩ : BufTy).Contents (Elt F)),
    nullary main_c_1 (constantI S_ 32 0#32),
    unary main_v0 main_v4_0 id,
    unary main_c_1 main_v4_1 id,
    unary main_v1 main_v4_2 id,
    unary main_v2 main_v4_3 id,
    unary main_v3 main_v4_4 id ]

/-- The operations of one trip of the loop. -/
abbrev tripOps : List (HloOp τ sig (Elt F)) :=
  [ unary main_v4_3 main_while0b_v11 (broadcastInDim S16x1x1 ![0] bcast_S16_S16x1x1_0 : (⟨S16, .i32⟩ : BufTy).Contents (Elt F) → (⟨S16x1x1, .i32⟩ : BufTy).Contents (Elt F)),
    TRef.nullary (TRef.of (T := ⟨S_, .i32⟩) main_while0b_call0_c) (constantI S_ 32 0#32),
    TRef.unary (TRef.of (T := ⟨S_, .i32⟩) main_while0b_call0_c) (TRef.of (T := ⟨S16x1x1, .i32⟩) main_while0b_call0_v0) (broadcastInDim S16x1x1 ![] bcast_S_S16x1x1),
    TRef.binary (TRef.of (T := ⟨S16x1x1, .i32⟩) main_while0b_v11) (TRef.of (T := ⟨S16x1x1, .i32⟩) main_while0b_call0_v0) (TRef.of (T := ⟨S16x1x1, .i1⟩) main_while0b_call0_v1) (cmpi .slt),
    TRef.nullary (TRef.of (T := ⟨S_, .i32⟩) main_while0b_call0_c_0) (constantI S_ 32 16384#32),
    TRef.unary (TRef.of (T := ⟨S_, .i32⟩) main_while0b_call0_c_0) (TRef.of (T := ⟨S16x1x1, .i32⟩) main_while0b_call0_v2) (broadcastInDim S16x1x1 ![] bcast_S_S16x1x1),
    TRef.binary (TRef.of (T := ⟨S16x1x1, .i32⟩) main_while0b_v11) (TRef.of (T := ⟨S16x1x1, .i32⟩) main_while0b_call0_v2) (TRef.of (T := ⟨S16x1x1, .i32⟩) main_while0b_call0_v3) addi,
    TRef.ternary (TRef.of (T := ⟨S16x1x1, .i1⟩) main_while0b_call0_v1) (TRef.of (T := ⟨S16x1x1, .i32⟩) main_while0b_call0_v3) (TRef.of (T := ⟨S16x1x1, .i32⟩) main_while0b_v11) (TRef.of (T := ⟨S16x1x1, .i32⟩) main_while0b_call0_v4) select,
    TRef.nullary (TRef.of (T := ⟨S1, .i32⟩) main_while0b_call0_c_1) (constantI S1 32 16383#32),
    TRef.nullary (TRef.of (T := ⟨S_, .i32⟩) main_while0b_call0_c_2) (constantI S_ 32 0#32),
    TRef.unary (TRef.of (T := ⟨S_, .i32⟩) main_while0b_call0_c_2) (TRef.of (T := ⟨S16x1x1, .i32⟩) main_while0b_call0_v5) (broadcastInDim S16x1x1 ![] bcast_S_S16x1x1),
    TRef.binary (TRef.of (T := ⟨S16x1x1, .i32⟩) main_while0b_call0_v4) (TRef.of (T := ⟨S16x1x1, .i32⟩) main_while0b_call0_v5) (TRef.of (T := ⟨S16x1x1, .i1⟩) main_while0b_call0_v6) (cmpi .sge),
    TRef.unary (TRef.of (T := ⟨S1, .i32⟩) main_while0b_call0_c_1) (TRef.of (T := ⟨S1x1x1, .i32⟩) main_while0b_call0_v7) (broadcastInDim S1x1x1 ![2] bcast_S1_S1x1x1_2),
    TRef.unary (TRef.of (T := ⟨S1x1x1, .i32⟩) main_while0b_call0_v7) (TRef.of (T := ⟨S16x1x1, .i32⟩) main_while0b_call0_v8) (broadcastInDim S16x1x1 ![0, 1, 2] bcast_S1x1x1_S16x1x1_0_1_2),
    TRef.binary (TRef.of (T := ⟨S16x1x1, .i32⟩) main_while0b_call0_v4) (TRef.of (T := ⟨S16x1x1, .i32⟩) main_while0b_call0_v8) (TRef.of (T := ⟨S16x1x1, .i1⟩) main_while0b_call0_v9) (cmpi .sle),
    TRef.binary (TRef.of (T := ⟨S16x1x1, .i1⟩) main_while0b_call0_v6) (TRef.of (T := ⟨S16x1x1, .i1⟩) main_while0b_call0_v9) (TRef.of (T := ⟨S16x1x1, .i1⟩) main_while0b_call0_v10) andi,
    TRef.nullary (TRef.of (T := ⟨S_, .i1⟩) main_while0b_call0_c_3) (constantI S_ 1 1#1),
    TRef.binary (TRef.of (T := ⟨S16x1x1, .i1⟩) main_while0b_call0_v10) (TRef.of (T := ⟨S_, .i1⟩) main_while0b_call0_c_3) (TRef.of (T := ⟨S16x1, .i1⟩) main_while0b_call0_v11) (fun x v => Host.reduce IntOp.andi x v reducesTo_S16x1x1_S16x1_d2 h_S_),
    TRef.binary (TRef.of (T := ⟨S16x16384x3, .f32⟩) main_v4_0) (TRef.of (T := ⟨S16x1x1, .i32⟩) main_while0b_call0_v4) (TRef.of (T := ⟨S16x1x3, .f32⟩) main_while0b_call0_v12) (fun x i => Host.gather gather_S16x16384x3_S16x1x1_S16x1x3_2_1_0_0_1_2_113 x i),
    TRef.unary (TRef.of (T := ⟨S16x1, .i1⟩) main_while0b_call0_v11) (TRef.of (T := ⟨S16x1x3, .i1⟩) main_while0b_call0_v13) (broadcastInDim S16x1x3 ![0, 1] bcast_S16x1_S16x1x3_0_1),
    TRef.nullary (TRef.of (T := ⟨S_, .f32⟩) main_while0b_call0_cst) (constant S_ .f32 0x7FC00000#32),
    TRef.unary (TRef.of (T := ⟨S_, .f32⟩) main_while0b_call0_cst) (TRef.of (T := ⟨S16x1x3, .f32⟩) main_while0b_call0_v14) (broadcastInDim S16x1x3 ![] bcast_S_S16x1x3),
    TRef.ternary (TRef.of (T := ⟨S16x1x3, .i1⟩) main_while0b_call0_v13) (TRef.of (T := ⟨S16x1x3, .f32⟩) main_while0b_call0_v12) (TRef.of (T := ⟨S16x1x3, .f32⟩) main_while0b_call0_v14) (TRef.of (T := ⟨S16x1x3, .f32⟩) main_while0b_v12) select,
    unary main_while0b_v12 main_while0b_v13 (broadcastInDim S16x16384x3 ![0, 1, 2] bcast_S16x1x3_S16x16384x3_0_1_2 : (⟨S16x1x3, .f32⟩ : BufTy).Contents (Elt F) → (⟨S16x16384x3, .f32⟩ : BufTy).Contents (Elt F)),
    binary main_v4_0 main_while0b_v13 main_while0b_v14 (subf : (⟨S16x16384x3, .f32⟩ : BufTy).Contents (Elt F) → (⟨S16x16384x3, .f32⟩ : BufTy).Contents (Elt F) → (⟨S16x16384x3, .f32⟩ : BufTy).Contents (Elt F)),
    binary main_while0b_v14 main_while0b_v14 main_while0b_v15 (mulf : (⟨S16x16384x3, .f32⟩ : BufTy).Contents (Elt F) → (⟨S16x16384x3, .f32⟩ : BufTy).Contents (Elt F) → (⟨S16x16384x3, .f32⟩ : BufTy).Contents (Elt F)),
    nullary main_while0b_cst_7 (constant S_ .f32 0x00000000#32),
    binary main_while0b_v15 main_while0b_cst_7 main_while0b_v16 ((fun x v => Host.reduceAdd x v reducesTo_S16x16384x3_S16x16384_d2 h_S_) : (⟨S16x16384x3, .f32⟩ : BufTy).Contents (Elt F) → (⟨S_, .f32⟩ : BufTy).Contents (Elt F) → (⟨S16x16384, .f32⟩ : BufTy).Contents (Elt F)),
    binary main_v4_2 main_while0b_v16 main_while0b_v17 (minimumf : (⟨S16x16384, .f32⟩ : BufTy).Contents (Elt F) → (⟨S16x16384, .f32⟩ : BufTy).Contents (Elt F) → (⟨S16x16384, .f32⟩ : BufTy).Contents (Elt F)),
    TRef.nullary (TRef.of (T := ⟨S16x16384, .i32⟩) main_while0b_call1_v0) (iotaInDim S16x16384 32 1),
    TRef.nullary (TRef.of (T := ⟨S_, .f32⟩) main_while0b_call1_cst) (constant S_ .f32 0xFF800000#32),
    TRef.nullary (TRef.of (T := ⟨S_, .i32⟩) main_while0b_call1_c) (constantI S_ 32 0#32),
    TRef.quaternary (TRef.of (T := ⟨S16x16384, .f32⟩) main_while0b_v17) (TRef.of (T := ⟨S16x16384, .i32⟩) main_while0b_call1_v0) (TRef.of (T := ⟨S_, .f32⟩) main_while0b_call1_cst) (TRef.of (T := ⟨S_, .i32⟩) main_while0b_call1_c) (TRef.of (T := ⟨S16, .f32⟩) main_while0b_call1_v1_0) (fun x y u v j => (Host.argReduce reducer_argmax_f32_i32 x y u v reducesTo_S16x16384_S16_d1 h_S_ j).1),
    TRef.quaternary (TRef.of (T := ⟨S16x16384, .f32⟩) main_while0b_v17) (TRef.of (T := ⟨S16x16384, .i32⟩) main_while0b_call1_v0) (TRef.of (T := ⟨S_, .f32⟩) main_while0b_call1_cst) (TRef.of (T := ⟨S_, .i32⟩) main_while0b_call1_c) (TRef.of (T := ⟨S16, .i32⟩) main_while0b_v18) (fun x y u v j => (Host.argReduce reducer_argmax_f32_i32 x y u v reducesTo_S16x16384_S16_d1 h_S_ j).2),
    TRef.unary (TRef.of (T := ⟨S16, .i32⟩) main_v4_3) (TRef.of (T := ⟨S1x16, .i32⟩) main_while0b_call2_v0) (broadcastInDim S1x16 ![1] bcast_S16_S1x16_1),
    TRef.nullary (TRef.of (T := ⟨S_, .i32⟩) main_while0b_call2_c) (constantI S_ 32 0#32),
    TRef.binaryIndexed (TRef.of (T := ⟨S128x16, .i32⟩) main_v4_4) (TRef.of (T := ⟨S1x16, .i32⟩) main_while0b_call2_v0) ![(TRef.of (T := ⟨S_, .i32⟩) main_v4_1), (TRef.of (T := ⟨S_, .i32⟩) main_while0b_call2_c)] (TRef.of (T := ⟨S128x16, .i32⟩) main_while0b_v19) (fun x u i => Host.dynamicUpdateSlice x u (fun k => (i k (Shape.Idx.first h_S_)).toInt) updateFits_S128x16_S1x16),
    nullary main_while0b_c_8 (constantI S_ 32 1#32),
    binary main_v4_1 main_while0b_c_8 main_while0b_v20 (addi : (⟨S_, .i32⟩ : BufTy).Contents (Elt F) → (⟨S_, .i32⟩ : BufTy).Contents (Elt F) → (⟨S_, .i32⟩ : BufTy).Contents (Elt F)),
    unary main_while0b_v20 main_v4_1 id,
    unary main_while0b_v17 main_v4_2 id,
    unary main_while0b_v18 main_v4_3 id,
    unary main_while0b_v19 main_v4_4 id ]

/-- The operations after the loop. -/
abbrev lastOps : List (HloOp τ sig (Elt F)) :=
  [ unary main_v4_4 main_v5 ((transpose S16x128 [1, 0] · transposes_S128x16_S16x128_1_0) : (⟨S128x16, .i32⟩ : BufTy).Contents (Elt F) → (⟨S16x128, .i32⟩ : BufTy).Contents (Elt F)),
    unary main_v5 main_v6 (broadcastInDim S16x128x1 ![0, 1] bcast_S16x128_S16x128x1_0_1 : (⟨S16x128, .i32⟩ : BufTy).Contents (Elt F) → (⟨S16x128x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16x128x1, .i32⟩) main_call3_v0) (broadcastInDim S16x128x1 ![] bcast_S_S16x128x1),
    TRef.binary (TRef.of (T := ⟨S16x128x1, .i32⟩) main_v6) (TRef.of (T := ⟨S16x128x1, .i32⟩) main_call3_v0) (TRef.of (T := ⟨S16x128x1, .i1⟩) main_call3_v1) (cmpi .slt),
    TRef.nullary (TRef.of (T := ⟨S_, .i32⟩) main_call3_c_0) (constantI S_ 32 16384#32),
    TRef.unary (TRef.of (T := ⟨S_, .i32⟩) main_call3_c_0) (TRef.of (T := ⟨S16x128x1, .i32⟩) main_call3_v2) (broadcastInDim S16x128x1 ![] bcast_S_S16x128x1),
    TRef.binary (TRef.of (T := ⟨S16x128x1, .i32⟩) main_v6) (TRef.of (T := ⟨S16x128x1, .i32⟩) main_call3_v2) (TRef.of (T := ⟨S16x128x1, .i32⟩) main_call3_v3) addi,
    TRef.ternary (TRef.of (T := ⟨S16x128x1, .i1⟩) main_call3_v1) (TRef.of (T := ⟨S16x128x1, .i32⟩) main_call3_v3) (TRef.of (T := ⟨S16x128x1, .i32⟩) main_v6) (TRef.of (T := ⟨S16x128x1, .i32⟩) main_call3_v4) select,
    TRef.nullary (TRef.of (T := ⟨S1, .i32⟩) main_call3_c_1) (constantI S1 32 16383#32),
    TRef.nullary (TRef.of (T := ⟨S_, .i32⟩) main_call3_c_2) (constantI S_ 32 0#32),
    TRef.unary (TRef.of (T := ⟨S_, .i32⟩) main_call3_c_2) (TRef.of (T := ⟨S16x128x1, .i32⟩) main_call3_v5) (broadcastInDim S16x128x1 ![] bcast_S_S16x128x1),
    TRef.binary (TRef.of (T := ⟨S16x128x1, .i32⟩) main_call3_v4) (TRef.of (T := ⟨S16x128x1, .i32⟩) main_call3_v5) (TRef.of (T := ⟨S16x128x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S16x128x1, .i32⟩) main_call3_v8) (broadcastInDim S16x128x1 ![0, 1, 2] bcast_S1x1x1_S16x128x1_0_1_2),
    TRef.binary (TRef.of (T := ⟨S16x128x1, .i32⟩) main_call3_v4) (TRef.of (T := ⟨S16x128x1, .i32⟩) main_call3_v8) (TRef.of (T := ⟨S16x128x1, .i1⟩) main_call3_v9) (cmpi .sle),
    TRef.binary (TRef.of (T := ⟨S16x128x1, .i1⟩) main_call3_v6) (TRef.of (T := ⟨S16x128x1, .i1⟩) main_call3_v9) (TRef.of (T := ⟨S16x128x1, .i1⟩) main_call3_v10) andi,
    TRef.nullary (TRef.of (T := ⟨S_, .i1⟩) main_call3_c_3) (constantI S_ 1 1#1),
    TRef.binary (TRef.of (T := ⟨S16x128x1, .i1⟩) main_call3_v10) (TRef.of (T := ⟨S_, .i1⟩) main_call3_c_3) (TRef.of (T := ⟨S16x128, .i1⟩) main_call3_v11) (fun x v => Host.reduce IntOp.andi x v reducesTo_S16x128x1_S16x128_d2 h_S_),
    TRef.binary (TRef.of (T := ⟨S16x16384x3, .f32⟩) main_v0) (TRef.of (T := ⟨S16x128x1, .i32⟩) main_call3_v4) (TRef.of (T := ⟨S16x128x3, .f32⟩) main_call3_v12) (fun x i => Host.gather gather_S16x16384x3_S16x128x1_S16x128x3_2_1_0_0_1_2_113 x i),
    TRef.unary (TRef.of (T := ⟨S16x128, .i1⟩) main_call3_v11) (TRef.of (T := ⟨S16x128x3, .i1⟩) main_call3_v13) (broadcastInDim S16x128x3 ![0, 1] bcast_S16x128_S16x128x3_0_1),
    TRef.nullary (TRef.of (T := ⟨S_, .f32⟩) main_call3_cst) (constant S_ .f32 0x7FC00000#32),
    TRef.unary (TRef.of (T := ⟨S_, .f32⟩) main_call3_cst) (TRef.of (T := ⟨S16x128x3, .f32⟩) main_call3_v14) (broadcastInDim S16x128x3 ![] bcast_S_S16x128x3),
    TRef.ternary (TRef.of (T := ⟨S16x128x3, .i1⟩) main_call3_v13) (TRef.of (T := ⟨S16x128x3, .f32⟩) main_call3_v12) (TRef.of (T := ⟨S16x128x3, .f32⟩) main_call3_v14) (TRef.of (T := ⟨S16x128x3, .f32⟩) main_v7) select,
    unary main_v7 main_v8 ((transpose S16x3x128 [0, 2, 1] · transposes_S16x128x3_S16x3x128_0_2_1) : (⟨S16x128x3, .f32⟩ : BufTy).Contents (Elt F) → (⟨S16x3x128, .f32⟩ : BufTy).Contents (Elt F)),
    nullary main_cst_2 (constant S_ .f32 0x00000000#32),
    unary main_cst_2 main_v9 (broadcastInDim S16x5x128 ![] bcast_S_S16x5x128 : (⟨S_, .f32⟩ : BufTy).Contents (Elt F) → (⟨S16x5x128, .f32⟩ : BufTy).Contents (Elt F)),
    binary main_v8 main_v9 main_v10 ((fun a b => concatenate S16x8x128 1 [⟨S16x3x128, a⟩, ⟨S16x5x128, b⟩] concatenates_S16x3x128_S16x5x128_S16x8x128_d1) : (⟨S16x3x128, .f32⟩ : BufTy).Contents (Elt F) → (⟨S16x5x128, .f32⟩ : BufTy).Contents (Elt F) → (⟨S16x8x128, .f32⟩ : BufTy).Contents (Elt F)) ]

/-- The operations of the loop's condition. -/
abbrev testOps : List (HloOp τ sig (Elt F)) :=
  [ nullary main_while0c_c_7 (constantI S_ 32 128#32),
    binary main_v4_1 main_while0c_c_7 main_while0c_v11 (cmpi .slt : (⟨S_, .i32⟩ : BufTy).Contents (Elt F) → (⟨S_, .i32⟩ : BufTy).Contents (Elt F) → (⟨S_, .i1⟩ : BufTy).Contents (Elt F)) ]

/-- The operations before the loop name buffers of the program only. -/
theorem firstOps_sub : (firstOps : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

/-- The operations before the loop allocate nothing. -/
theorem firstOps_fresh : (firstOps : List (HloOp τ sig (Elt F))).Forall fun op => op.fresh = ∅ :=
  ⟨rfl, rfl, rfl, rfl, rfl, rfl, rfl, rfl, rfl, rfl, rfl, rfl, rfl⟩

/-- The operations of one trip name buffers of the program only. -/
theorem tripOps_sub : (tripOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., binaryIndexed_bufs_sub .., nullary_bufs_sub .., binary_bufs_sub .., unary_bufs_sub .., unary_bufs_sub .., unary_bufs_sub .., unary_bufs_sub ..⟩

/-- The operations of one trip allocate nothing. -/
theorem tripOps_fresh : (tripOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations after the loop name buffers of the program only. -/
theorem lastOps_sub : (lastOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub ..⟩

/-- The operations after the loop allocate nothing. -/
theorem lastOps_fresh : (lastOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- One trip of the loop is its operations in order. -/
theorem trip_eq : main_while0_body (F := F) = Pipeline.chain ([tripOps].map fun ops => (seq ops : Prog _ PUnit)) := by
  chain_rfl

/-- The program is its first operations, the loop and its last operations. -/
theorem main_eq (c : Dev nD) : main (F := F) c = Pipeline.chain (([firstOps].map fun ops => (seq ops : Prog _ PUnit))
    ++ HostLoop.enter 0 :: [lastOps].map fun ops => (seq ops : Prog _ PUnit)) := by
  chain_rfl

/-- One trip adds one to the counter. -/
theorem trip_counter (X : Valuation τ sig (Elt F)) : (after tripOps X (Proc.devRef .tc main_v4_1) : IVec S_ 32)
    = addi (X (Proc.devRef .tc main_v4_1) : IVec S_ 32) (constantI S_ 32 1#32) := by
  after_results_simp
  rfl

/-- The counter starts at zero. -/
theorem first_counter (X : Valuation τ sig (Elt F)) : (after firstOps X (Proc.devRef .tc main_v4_1) : IVec S_ 32) = constantI S_ 32 0#32 := by
  after_results_simp
  rfl

/-- The condition changes no buffer but its own two. -/
theorem test_of (X : Valuation τ sig (Elt F)) {b : Ref sig .tc} (h : b ∉ [main_while0c_c_7, main_while0c_v11]) :
    after testOps X (Proc.devRef .tc b) = X (Proc.devRef .tc b) :=
  after_unwritten [main_while0c_c_7, main_while0c_v11] rfl h X

/-- The operations before the loop leave what they do not name as it was. -/
theorem first_of (X : Valuation τ sig (Elt F)) {b : Ref sig .tc} (h : b ∉ [main_v0, main_cst, main_v1, main_c, main_v2, main_c_0, main_v3, main_c_1, main_v4_0, main_v4_1, main_v4_2, main_v4_3, main_v4_4]) :
    after firstOps X (Proc.devRef .tc b) = X (Proc.devRef .tc b) :=
  after_unwritten [main_v0, main_cst, main_v1, main_c, main_v2, main_c_0, main_v3, main_c_1, main_v4_0, main_v4_1, main_v4_2, main_v4_3, main_v4_4] rfl h X

/-- One trip leaves what it does not name as it was. -/
theorem trip_of (X : Valuation τ sig (Elt F)) {b : Ref sig .tc} (h : b ∉ [main_while0b_v11, main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v12, main_while0b_v13, main_while0b_v14, main_while0b_v15, main_while0b_cst_7, main_while0b_v16, main_while0b_v17, main_while0b_call1_v0, main_while0b_call1_cst, main_while0b_call1_c, main_while0b_call1_v1_0, main_while0b_v18, main_while0b_call2_v0, main_while0b_call2_c, main_while0b_v19, main_while0b_c_8, main_while0b_v20, main_v4_1, main_v4_2, main_v4_3, main_v4_4]) :
    after tripOps X (Proc.devRef .tc b) = X (Proc.devRef .tc b) :=
  after_unwritten [main_while0b_v11, main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v12, main_while0b_v13, main_while0b_v14, main_while0b_v15, main_while0b_cst_7, main_while0b_v16, main_while0b_v17, main_while0b_call1_v0, main_while0b_call1_cst, main_while0b_call1_c, main_while0b_call1_v1_0, main_while0b_v18, main_while0b_call2_v0, main_while0b_call2_c, main_while0b_v19, main_while0b_c_8, main_while0b_v20, main_v4_1, main_v4_2, main_v4_3, main_v4_4] rfl h X

/-- The operations after the loop leave what they do not name as it was. -/
theorem last_of (X : Valuation τ sig (Elt F)) {b : Ref sig .tc} (h : b ∉ [main_v5, main_v6, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v7, main_v8, main_cst_2, main_v9, main_v10]) :
    after lastOps X (Proc.devRef .tc b) = X (Proc.devRef .tc b) :=
  after_unwritten [main_v5, main_v6, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v7, main_v8, main_cst_2, main_v9, main_v10] rfl h X

variable (m : (ℓ : Loc nD τ sig) → Buf (Elt F) ℓ)

/-- The buffers before trip `k`. -/
abbrev before (k : ℕ) (c : Dev nD) : Valuation τ sig (Elt F) := atTrip testOps [tripOps] (entryContents [firstOps] m) k c

/-- The counter before trip `k` is `k`. -/
theorem counter (k : ℕ) (c : Dev nD) : (before (F := F) m k c (Proc.devRef .tc main_v4_1) : IVec S_ 32) = fun _ => Scf.iv 0#32 1#32 k := by
  induction k with
  | zero => exact (first_counter (launchContents m c)).trans (funext fun _ => (Scf.iv_zero _ _).symm)
  | succ k ih =>
    refine (trip_counter (after testOps (before m k c))).trans (funext fun _ => ?_)
    rw [Scf.iv_succ, test_of _ (by decide), ih]
    rfl

/-- What an operation names that is a buffer of the program is held through the run. -/
theorem sub_uc (op : HloOp τ sig (Elt F)) (h : op.bufs ⊆ tcRefs τ sig) : op.bufs ⊆ Pipeline.ucRefs τ sig := fun b hb =>
  Finset.mem_filter.mpr ⟨h hb, fun h' => Bool.false_ne_true ((op.no_scoped b hb).symm.trans h')⟩

set_option backward.isDefEq.respectTransparency.types false in
/-- The condition, run for the `k`-th time, holds exactly when `k` is less than 128. -/
theorem cond : CondSpec pcfgs defs₀ loops (main_while0_cond (F := F)) testOps [tripOps] (entryContents [firstOps] m) 128 := by
  intro k hk c bd
  have hctr := counter m k c
  unfold main_while0_cond
  rw [wp_bind]
  iintro ⟨Hb, Hh⟩
  iapply (StableHlo.wp_hlo_within (Variants.lift Variants.none) (c : Thread nD τ) bd Set.univ (sub_uc _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_uc _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before m k c) main_v4_1 HostLoop.idx0)
        (HloOp.result _ (before m k c) main_while0c_c_7 HostLoop.idx0) = 1#1) (k < 128)
    rw [StableHlo.nullary_result_ne _ _ _ _ (by decide), StableHlo.nullary_result, hctr]
    exact Scf.cmpi_slt_iv_ub_iff (lb := 0#32) (ub := 128#32) (st := 1#32) (by decide) hk
  isplitl [Hb]; · iexact Hb
  rw [StableHlo.after_cons, StableHlo.after_cons, StableHlo.after_nil]; iexact Hh

/-- The reference's run: every buffer ends at what the operations compute. -/
theorem run (ρ : Dev nD → PrngReg) :
    θ_run (HostLoop.defs loops (Pipeline.defs (pcfgs (F := F)) defs₀)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = after lastOps (after testOps (before m 128 c)) (Proc.devRef .tc b)) :=
  run_loop pcfgs defs₀ loops main 0 main_while0_cond main_while0_body rfl [firstOps] [tripOps] [lastOps] testOps
    (Plain.cons firstOps_sub Plain.nil (List.forall_iff_forall_mem.mp firstOps_fresh))
    (Plain.cons tripOps_sub Plain.nil (List.forall_iff_forall_mem.mp tripOps_fresh))
    (Plain.cons lastOps_sub Plain.nil (List.forall_iff_forall_mem.mp lastOps_fresh))
    main_eq trip_eq 128 m ρ (cond m)

end Cert.Proof.CentresReferenceRun

end
-- ==== Proof.CentresReference.lean ====
/-
  THE REFERENCE FOR THE CENTRES at the ideal values: its loop takes every cloud through the trips of the choice of centres
  (`Farthest.trip`) and records the numbers of the points chosen, and what follows the loop looks their coordinates up.
-/
module

public import proofs.«01_k».proof.Proof.CentresReferenceRun
public import proofs.«01_k».proof.Proof.Lookup

@[expose] public section

set_option maxRecDepth 16384

noncomputable section

namespace Cert.Proof.CentresReference

open Idealize.ShloMosaic Idealize.ShloMosaic.TcCoe Idealize.ShloMosaic.StableHlo
open Cert.CentresReferenceIdeal Cert.CentresReferenceIdeal.Gen
open Cert.Proof.CentresReferenceRun Cert.Proof.Farthest Cert.Proof.Norm Cert.Proof.Lookup

/-! ## Points by their numbers -/

/-- A point's number is not negative. -/
theorem word_slt {p : Fin 16384} : IntOp.cmpi .slt (BitVec.ofNat 32 p.val) 0#32 = 0#1 := by
  word_cmp
/-- A point's number is at least zero. -/
theorem word_sge {p : Fin 16384} : IntOp.cmpi .sge (BitVec.ofNat 32 p.val) 0#32 = 1#1 := by
  word_cmp
/-- A point's number is at most the last one. -/
theorem word_sle {p : Fin 16384} : IntOp.cmpi .sle (BitVec.ofNat 32 p.val) 16383#32 = 1#1 := by
  word_cmp

/-- One point of each cloud, by its number: a negative number counts from the end, and a number out of range gives no number. -/
def taken (x : FVec Ideal S16x16384x3 .f32) (i : IVec S16x1x1 32) : FVec Ideal S16x1x3 .f32 :=
  let w := select (cmpi .slt i (broadcastInDim S16x1x1 ![] bcast_S_S16x1x1 (constantI S_ 32 0#32)))
    (addi i (broadcastInDim S16x1x1 ![] bcast_S_S16x1x1 (constantI S_ 32 16384#32))) i
  select (broadcastInDim S16x1x3 ![0, 1] bcast_S16x1_S16x1x3_0_1
      (Host.reduce IntOp.andi (andi (cmpi .sge w (broadcastInDim S16x1x1 ![] bcast_S_S16x1x1 (constantI S_ 32 0#32)))
        (cmpi .sle w (broadcastInDim S16x1x1 ![0, 1, 2] bcast_S1x1x1_S16x1x1_0_1_2 (broadcastInDim S1x1x1 ![2] bcast_S1_S1x1x1_2 (constantI S1 32 16383#32)))))
        (constantI S_ 1 1#1) reducesTo_S16x1x1_S16x1_d2 h_S_))
    (Host.gather gather_S16x16384x3_S16x1x1_S16x1x3_2_1_0_0_1_2_113 x w)
    (broadcastInDim S16x1x3 ![] bcast_S_S16x1x3 (constant S_ .f32 0x7FC00000#32))

/-- It is the point with that number. -/
theorem taken_apply (x : FVec Ideal S16x16384x3 .f32) (i : IVec S16x1x1 32) (b : Fin 16) (a : Fin 3) (p : Fin 16384)
    (h : i (ix3 b 0 0) = BitVec.ofNat 32 p.val) : taken x i (ix3 b 0 a) = x (ix3 b p a) := by
  have hs (x : Fin 1) : Scalar.select (IntOp.cmpi .slt (i (ix3 b 0 x)) 0#32) (IntOp.addi (i (ix3 b 0 x)) 16384#32) (i (ix3 b 0 x))
      = BitVec.ofNat 32 p.val := by
    obtain rfl : x = 0 := Subsingleton.elim _ _
    rw [h, word_slt]; rfl
  unfold taken
  pointwise
  simp only [hs, word_sge, word_sle]
  rw [(fold_andi fun _ : Fin 1 => IntOp.andi 1#1 1#1).2 fun _ => rfl]
  refine gather_points (by norm_num) _ x _ b 0 a p ?_
  pointwise
  exact hs 0

/-- 128 points of each cloud, by their numbers, likewise. -/
def all_taken (x : FVec Ideal S16x16384x3 .f32) (i : IVec S16x128x1 32) : FVec Ideal S16x128x3 .f32 :=
  let w := select (cmpi .slt i (broadcastInDim S16x128x1 ![] bcast_S_S16x128x1 (constantI S_ 32 0#32)))
    (addi i (broadcastInDim S16x128x1 ![] bcast_S_S16x128x1 (constantI S_ 32 16384#32))) i
  select (broadcastInDim S16x128x3 ![0, 1] bcast_S16x128_S16x128x3_0_1
      (Host.reduce IntOp.andi (andi (cmpi .sge w (broadcastInDim S16x128x1 ![] bcast_S_S16x128x1 (constantI S_ 32 0#32)))
        (cmpi .sle w (broadcastInDim S16x128x1 ![0, 1, 2] bcast_S1x1x1_S16x128x1_0_1_2 (broadcastInDim S1x1x1 ![2] bcast_S1_S1x1x1_2 (constantI S1 32 16383#32)))))
        (constantI S_ 1 1#1) reducesTo_S16x128x1_S16x128_d2 h_S_))
    (Host.gather gather_S16x16384x3_S16x128x1_S16x128x3_2_1_0_0_1_2_113 x w)
    (broadcastInDim S16x128x3 ![] bcast_S_S16x128x3 (constant S_ .f32 0x7FC00000#32))

/-- They are the points with those numbers. -/
theorem all_taken_apply (x : FVec Ideal S16x16384x3 .f32) (i : IVec S16x128x1 32) (b : Fin 16) (r : Fin 128) (a : Fin 3) (p : Fin 16384)
    (h : i (ix3 b r 0) = BitVec.ofNat 32 p.val) : all_taken x i (ix3 b r a) = x (ix3 b p a) := by
  have hs (x : Fin 1) : Scalar.select (IntOp.cmpi .slt (i (ix3 b r x)) 0#32) (IntOp.addi (i (ix3 b r x)) 16384#32) (i (ix3 b r x))
      = BitVec.ofNat 32 p.val := by
    obtain rfl : x = 0 := Subsingleton.elim _ _
    rw [h, word_slt]; rfl
  unfold all_taken
  pointwise
  simp only [hs, word_sge, word_sle]
  rw [(fold_andi fun _ : Fin 1 => IntOp.andi 1#1 1#1).2 fun _ => rfl]
  refine gather_points (by norm_num) _ x _ b r a p ?_
  pointwise
  exact hs 0

/-! ## One trip -/

/-- The distances lowered by those from the point last chosen. -/
def lowered (x : FVec Ideal S16x16384x3 .f32) (d : FVec Ideal S16x16384 .f32) (a : IVec S16 32) : FVec Ideal S16x16384 .f32 :=
  let e := subf x (broadcastInDim S16x16384x3 ![0, 1, 2] bcast_S16x1x3_S16x16384x3_0_1_2 (taken x (broadcastInDim S16x1x1 ![0] bcast_S16_S16x1x1_0 a)))
  minimumf d (Host.reduceAdd (mulf e e) (constant S_ .f32 0x00000000#32) reducesTo_S16x16384x3_S16x16384_d2 h_S_)

/-- Each is the lesser of what it was and the squared distance from the point last chosen. -/
theorem lowered_apply (x : FVec Ideal S16x16384x3 .f32) (d : FVec Ideal S16x16384 .f32) (a : IVec S16 32) (b : Fin 16) (j p : Fin 16384)
    (h : a (ix1 b) = BitVec.ofNat 32 p.val) :
    lowered x d a (ix2 b j) = min (d (ix2 b j)) (square (fun j => x (ix3 b j 0)) (fun j => x (ix3 b j 1)) (fun j => x (ix3 b j 2)) p j) := by
  have ht (q : Fin 3) : taken x (broadcastInDim S16x1x1 ![0] bcast_S16_S16x1x1_0 a) (ix3 b 0 q) = x (ix3 b p q) :=
    taken_apply x _ b q p (by pointwise; exact h)
  unfold lowered
  pointwise
  simp only [ht]
  rw [Fin.sum_univ_three]
  rfl

/-- The next point of each cloud: the index of the greatest distance. -/
def next (d : FVec Ideal S16x16384 .f32) : IVec S16 32 := fun j =>
  (Host.argReduce reducer_argmax_f32_i32 d (iotaInDim S16x16384 32 1) (constant S_ .f32 0xFF800000#32 : FVec Ideal S_ .f32) (constantI S_ 32 0#32)
    reducesTo_S16x16384_S16_d1 h_S_ j).2

/-- It is the first index at which the distances are greatest. -/
theorem next_apply (d : FVec Ideal S16x16384 .f32) (b : Fin 16) :
    next d (ix1 b) = BitVec.ofNat 32 (first fun j => d (ix2 b j)).val := by
  exact argReduce_first (by norm_num) d _ rfl _ _ b

/-- The numbers recorded, with those of the points last chosen as row `n`. -/
def recorded (r : IVec S128x16 32) (a : IVec S16 32) (n : IVec S_ 32) : IVec S128x16 32 :=
  Host.dynamicUpdateSlice r (broadcastInDim S1x16 ![1] bcast_S16_S1x16_1 a)
    (fun k => BitVec.toInt (![n, constantI S_ 32 0#32] k (Shape.Idx.first h_S_))) updateFits_S128x16_S1x16

/-- Row `k` holds the points last chosen, and the others are as they were. -/
theorem recorded_apply (r : IVec S128x16 32) (a : IVec S16 32) (k : Fin 128) (i : Fin 128) (b : Fin 16) :
   recorded r a (fun _ => Scf.iv 0#32 1#32 k.val) (ix2 i b) = if i = k then a (ix1 b) else r (ix2 i b) := by
  unfold recorded
  have hs : S128x16.Slices ![k.val, 0] S1x16 := ⟨rfl, fun q => by
    match q with
    | ⟨0, _⟩ => show k.val + 1 ≤ 128; omega
    | ⟨1, _⟩ => exact le_refl 16⟩
  refine (congrFun (WordCmp.dynamicUpdateSlice_eq_update r _ _ _ ![k.val, 0] hs fun q => ?_) _).trans ?_
  · match q with
    | ⟨0, _⟩ => show (Scf.iv 0#32 1#32 k.val).toInt = (k.val : ℤ); rw [iv_index, toInt_index (n := 128) (by norm_num)]
    | ⟨1, _⟩ => rfl
  pointwise
  have e : (k.val ≤ i.val ∧ i.val < k.val + 1) ↔ i = k := ⟨fun g => Fin.ext (by omega), fun g => by subst g; omega⟩
  simp only [e, dite_eq_ite]

/-! ## What follows the loop -/

/-- Coordinates as the first three rows, over rows of zeros. -/
def joined (x : FVec Ideal S16x128x3 .f32) : FVec Ideal S16x8x128 .f32 :=
  concatenate S16x8x128 1 [⟨S16x3x128, transpose S16x3x128 [0, 2, 1] x transposes_S16x128x3_S16x3x128_0_2_1⟩,
    ⟨S16x5x128, broadcastInDim S16x5x128 ![] bcast_S_S16x5x128 (constant S_ .f32 0x00000000#32 : FVec Ideal S_ .f32)⟩] concatenates_S16x3x128_S16x5x128_S16x8x128_d1

/-- Its rows, one by one. -/
theorem joined_apply (x : FVec Ideal S16x128x3 .f32) (b : Fin 16) (a : Fin 8) (i : Fin 128) :
    joined x (ix3 b a i) = if a.val = 0 then x (ix3 b i 0) else if a.val = 1 then x (ix3 b i 1) else if a.val = 2 then x (ix3 b i 2) else 0 := by
  unfold joined
  pointwise
  fin_cases a <;> rfl

/-! ## The operations of the program -/

section Ops

variable (X : Valuation τ sig (Elt Ideal))

/-- One trip lowers the distances. -/
theorem trip_distance : (after tripOps X (Proc.devRef .tc main_v4_2) : FVec Ideal S16x16384 .f32)
    = lowered (X (Proc.devRef .tc main_v4_0)) (X (Proc.devRef .tc main_v4_2)) (X (Proc.devRef .tc main_v4_3)) := by
  after_results_simp
  rfl

/-- One trip chooses the next point. -/
theorem trip_next : (after tripOps X (Proc.devRef .tc main_v4_3) : IVec S16 32)
    = next (lowered (X (Proc.devRef .tc main_v4_0)) (X (Proc.devRef .tc main_v4_2)) (X (Proc.devRef .tc main_v4_3))) := by
  after_results_simp
  rfl

/-- One trip records the point it starts from. -/
theorem trip_recorded : (after tripOps X (Proc.devRef .tc main_v4_4) : IVec S128x16 32)
    = recorded (X (Proc.devRef .tc main_v4_4)) (X (Proc.devRef .tc main_v4_3)) (X (Proc.devRef .tc main_v4_1)) := by
  after_results_simp_entrywise
  rfl

/-- What follows the loop looks the recorded points up. -/
theorem last_result : (after lastOps X (Proc.devRef .tc main_v10) : FVec Ideal S16x8x128 .f32)
    = joined (all_taken (X (Proc.devRef .tc main_v0)) (broadcastInDim S16x128x1 ![0, 1] bcast_S16x128_S16x128x1_0_1
        (transpose S16x128 [1, 0] (X (Proc.devRef .tc main_v4_4) : IVec S128x16 32) transposes_S128x16_S16x128_1_0))) := by
  after_results_simp
  rfl

/-- The points before the loop: the first three coordinates of the argument. -/
theorem first_points : (after firstOps X (Proc.devRef .tc main_v0) : FVec Ideal S16x16384x3 .f32)
    = extractStridedSlice S16x16384x3 ![0, 0, 0] (X (Proc.devRef .tc main_arg0) : FVec Ideal S16x16384x6 .f32) slices_S16x16384x6_S16x16384x3_0_0_0 := by
  after_results_simp

/-- The loop takes the same points. -/
theorem first_carried : (after firstOps X (Proc.devRef .tc main_v4_0) : FVec Ideal S16x16384x3 .f32)
    = extractStridedSlice S16x16384x3 ![0, 0, 0] (X (Proc.devRef .tc main_arg0) : FVec Ideal S16x16384x6 .f32) slices_S16x16384x6_S16x16384x3_0_0_0 := by
  after_results_simp
  rfl

/-- Every distance starts at the same number. -/
theorem first_distance (b : Fin 16) (j : Fin 16384) : (after firstOps X (Proc.devRef .tc main_v4_2) : FVec Ideal S16x16384 .f32) (ix2 b j)
    = Ideal.ofBits .f32 0x501502F9#32 := by
  after_results_simp
  rfl

/-- The first point chosen is point 0. -/
theorem first_next (b : Fin 16) : (after firstOps X (Proc.devRef .tc main_v4_3) : IVec S16 32) (ix1 b) = 0#32 := by
  after_results_simp
  rfl

end Ops

/-! ## The loop -/

section Loop

variable (m : (ℓ : Loc nD τ sig) → Buf (Elt Ideal) ℓ) (c : Dev nD)

/-- Coordinate `q` of the points of cloud `b`. -/
abbrev coord (b : Fin 16) (q : Fin 3) : Fin 16384 → EReal := fun j =>
  (m ((c.tc : Thread nD τ).loc main_arg0) : FVec Ideal S16x16384x6 .f32) (ix3 b j ⟨q.val, by omega⟩)

/-- The trips of cloud `b`. -/
abbrev at_trip (b : Fin 16) (k : ℕ) : (Fin 16384 → EReal) × Fin 16384 :=
  trip (coord m c b 0) (coord m c b 1) (coord m c b 2) (Ideal.ofBits .f32 0x501502F9#32) k

/-- A buffer that neither the condition nor a trip names is as it was before the loop. -/
theorem kept {b : Ref sig .tc} (h : ∀ X : Valuation τ sig (Elt Ideal), after tripOps X (Proc.devRef .tc b) = X (Proc.devRef .tc b))
    (h' : b ∉ [main_while0c_c_7, main_while0c_v11]) (k : ℕ) :
    before m k c (Proc.devRef .tc b) = after firstOps (launchContents m c) (Proc.devRef .tc b) := by
  induction k with
  | zero => rfl
  | succ k ih => exact ((h _).trans (test_of _ h')).trans ih

/-- The points the loop takes do not change. -/
theorem points (k : ℕ) (b : Fin 16) (j : Fin 16384) (q : Fin 3) :
    (before m k c (Proc.devRef .tc main_v4_0) : FVec Ideal S16x16384x3 .f32) (ix3 b j q) = coord m c b q j := by
  rw [kept m c (b := main_v4_0) (fun X => trip_of X (by decide)) (by decide) k, first_carried]
  pointwise

/-- Before trip `k` the loop holds the distances of trip `k`, the point last chosen and the points recorded before. -/
theorem loop (k : ℕ) (hk : k ≤ 128) (b : Fin 16) :
    (∀ j, (before m k c (Proc.devRef .tc main_v4_2) : FVec Ideal S16x16384 .f32) (ix2 b j) = (at_trip m c b k).1 j)
      ∧ (before m k c (Proc.devRef .tc main_v4_3) : IVec S16 32) (ix1 b) = BitVec.ofNat 32 (at_trip m c b k).2.val
      ∧ ∀ i : Fin 128, i.val < k → (before m k c (Proc.devRef .tc main_v4_4) : IVec S128x16 32) (ix2 i b)
          = BitVec.ofNat 32 (at_trip m c b i.val).2.val := by
  induction k with
  | zero => exact ⟨fun j => first_distance _ b j, first_next _ b, fun i hi => absurd hi (Nat.not_lt_zero _)⟩
  | succ k ih =>
    obtain ⟨h1, h2, h3⟩ := ih (by omega)
    have hp := points m c k b
    have hc := counter m k c
    have t0 := test_of (before m k c) (b := main_v4_0) (by decide)
    have t1 := test_of (before m k c) (b := main_v4_1) (by decide)
    have t2 := test_of (before m k c) (b := main_v4_2) (by decide)
    have t3 := test_of (before m k c) (b := main_v4_3) (by decide)
    have t4 := test_of (before m k c) (b := main_v4_4) (by decide)
    have e2 := trip_distance (after testOps (before m k c))
    have e3 := trip_next (after testOps (before m k c))
    have e4 := trip_recorded (after testOps (before m k c))
    rw [t0, t2, t3] at e2 e3
    rw [t1, t3, t4, hc] at e4
    have hl (j : Fin 16384) : lowered (before m k c (Proc.devRef .tc main_v4_0)) (before m k c (Proc.devRef .tc main_v4_2))
        (before m k c (Proc.devRef .tc main_v4_3)) (ix2 b j) = (at_trip m c b (k + 1)).1 j := by
      rw [lowered_apply _ _ _ b j _ h2, h1]
      simp only [hp]
      rfl
    refine ⟨fun j => (congrFun e2 _).trans (hl j), (congrFun e3 _).trans ?_, fun i hi => (congrFun e4 _).trans ?_⟩
    · rw [next_apply]
      simp only [hl]
      rfl
    · refine (recorded_apply _ _ ⟨k, by omega⟩ i b).trans ?_
      by_cases h : i = ⟨k, by omega⟩
      · rw [if_pos h, h2, h]
      · rw [if_neg h]
        exact h3 i (lt_of_le_of_ne (by omega) fun e => h (Fin.ext e))

/-- The reference's result holds the coordinates of the points chosen. -/
theorem result (b : Fin 16) (a : Fin 8) (i : Fin 128) :
    (after lastOps (after testOps (before m 128 c)) (Proc.devRef .tc main_v10) : FVec Ideal S16x8x128 .f32) (ix3 b a i)
      = entry (coord m c b 0) (coord m c b 1) (coord m c b 2) (Ideal.ofBits .f32 0x501502F9#32) a i.val := by
  have h0 : (before m 128 c (Proc.devRef .tc main_v0) : FVec Ideal S16x16384x3 .f32) = _ :=
    (kept m c (b := main_v0) (fun X => trip_of X (by decide)) (by decide) 128).trans (first_points _)
  have h4 := ((loop m c 128 le_rfl b).2.2 i i.isLt)
  rw [last_result, joined_apply, test_of _ (b := main_v0) (by decide), test_of _ (b := main_v4_4) (by decide), h0]
  have ht (q : Fin 3) := all_taken_apply
    (extractStridedSlice S16x16384x3 ![0, 0, 0] (launchContents m c (Proc.devRef .tc main_arg0) : FVec Ideal S16x16384x6 .f32) slices_S16x16384x6_S16x16384x3_0_0_0)
    (broadcastInDim S16x128x1 ![0, 1] bcast_S16x128_S16x128x1_0_1
        (transpose S16x128 [1, 0] (before m 128 c (Proc.devRef .tc main_v4_4) : IVec S128x16 32) transposes_S128x16_S16x128_1_0))
    b i q (at_trip m c b i.val).2 (by pointwise; exact h4)
  rw [ht, ht, ht]
  pointwise
  rfl

/-- The argument is as it was. -/
theorem argument : after lastOps (after testOps (before m 128 c)) (Proc.devRef .tc main_arg0) = m ((c.tc : Thread nD τ).loc main_arg0) :=
  (last_of _ (by decide)).trans ((test_of _ (by decide)).trans
    ((kept m c (fun X => trip_of X (by decide)) (by decide) 128).trans (first_of _ (by decide))))

end Loop

end Cert.Proof.CentresReference

end
-- ==== Proof.CentresClaim.lean ====
/-
  THE CALL FOR THE CENTRES AGAINST ITS REFERENCE. Both results hold the coordinates of the points chosen from the same
  clouds by the same trips, so they are equal, whatever the coordinates are.
-/
module

public import proofs.«01_k».proof.Defs
public import proofs.«01_k».proof.Proof.CentresValue
public import proofs.«01_k».proof.Proof.CentresReference

@[expose] public section

set_option maxRecDepth 16384

noncomputable section

namespace Cert.Proof.CentresClaim

open Idealize.ShloMosaic Idealize.ShloMosaic.TcCoe Idealize.SL.Sem Idealize.ShloMosaic.StableHlo
open Cert.Proof.Farthest

section Host

open Cert.CentresIdeal Cert.CentresIdeal.Gen

variable (m : (ℓ : Loc nD τ sig) → Buf (Elt Ideal) ℓ) (c : Dev nD)

/-- The first coordinates as the call finds them. -/
theorem x_host (b : Fin 16) (j : Fin 16384) : (V m c main_v1 : FVec Ideal S16x16384 .f32) (ix2 b j)
    = (m ((c.tc : Thread nD τ).loc main_arg0) : FVec Ideal S16x16384x6 .f32) (ix3 b j 0) := by
  show (after (hostOps0 (F := Ideal)) (fun b => m (c, b)) (Proc.devRef .tc main_v1) : FVec Ideal S16x16384 .f32) (ix2 b j) = _
  after_results_simp
  pointwise

/-- The second coordinates as the call finds them. -/
theorem y_host (b : Fin 16) (j : Fin 16384) : (V m c main_v3 : FVec Ideal S16x16384 .f32) (ix2 b j)
    = (m ((c.tc : Thread nD τ).loc main_arg0) : FVec Ideal S16x16384x6 .f32) (ix3 b j 1) := by
  show (after (hostOps0 (F := Ideal)) (fun b => m (c, b)) (Proc.devRef .tc main_v3) : FVec Ideal S16x16384 .f32) (ix2 b j) = _
  after_results_simp
  pointwise

/-- The third coordinates as the call finds them. -/
theorem z_host (b : Fin 16) (j : Fin 16384) : (V m c main_v5 : FVec Ideal S16x16384 .f32) (ix2 b j)
    = (m ((c.tc : Thread nD τ).loc main_arg0) : FVec Ideal S16x16384x6 .f32) (ix3 b j 2) := by
  show (after (hostOps0 (F := Ideal)) (fun b => m (c, b)) (Proc.devRef .tc main_v5) : FVec Ideal S16x16384 .f32) (ix2 b j) = _
  after_results_simp
  pointwise

/-- The program's run: the result holds the coordinates of the points chosen, and the argument is as it was. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v6) = CentresValue.cell m c
      ∧ r.2.mem ((c.tc : Thread nD τ).loc main_arg0) = m ((c.tc : Thread nD τ).loc main_arg0)) :=
  (θ_run _ _ _).mono (fun _ h c => ⟨((h.1 c).1 3).trans (CentresValue.centres_array m c), h.2 c⟩)
    (θ_run_and (run_main (F := Ideal) m ρ) (unchanged (F := Ideal) m ρ))

end Host

/-- The reference's run, with the argument as it was. -/
theorem frame_reference : Cert.quiescent_CentresReferenceIdeal (hCentresReferenceIdeal := Cert.CentresReferenceIdeal.Gen.facts) :=
  fun m ρ _ => (θ_run _ _ _).mono
    (fun r q => ⟨fun c => (q c Cert.CentresReferenceIdeal.main_arg0 (by decide)).trans (CentresReference.argument m c),
      sem_eq_zero_of_no_sems (by decide) r.2⟩)
    (CentresReferenceRun.run (F := Ideal) m ρ)

/-- Over the extended reals the program's result is the reference's. -/
theorem centres_equal : Cert.algebraic_CentresIdeal_CentresReferenceIdeal
    (hCentresIdeal := Cert.CentresIdeal.Gen.facts) (hCentresReferenceIdeal := Cert.CentresReferenceIdeal.Gen.facts) := by
  intro m ρ m' ρ' _ hargs
  refine ⟨fun c => CentresValue.cell m c, run m ρ, ?_⟩
  refine (θ_run _ _ _).mono (fun r q c => ⟨(q c Cert.CentresReferenceIdeal.main_v10 (by decide)).trans ?_,
    (q c Cert.CentresReferenceIdeal.main_arg0 (by decide)).trans (CentresReference.argument m' c)⟩) (CentresReferenceRun.run (F := Ideal) m' ρ')
  funext i
  idx_vars i
  refine (CentresReference.result m' c i0 i1 i2).trans ?_
  show _ = entry (fun j => (Cert.CentresIdeal.Gen.V m c Cert.CentresIdeal.main_v1 : FVec Ideal Cert.CentresIdeal.S16x16384 .f32) (ix2 i0 j))
    (fun j => (Cert.CentresIdeal.Gen.V m c Cert.CentresIdeal.main_v3 : FVec Ideal Cert.CentresIdeal.S16x16384 .f32) (ix2 i0 j))
    (fun j => (Cert.CentresIdeal.Gen.V m c Cert.CentresIdeal.main_v5 : FVec Ideal Cert.CentresIdeal.S16x16384 .f32) (ix2 i0 j)) _ i1 i2
  rw [funext (x_host m c i0), funext (y_host m c i0), funext (z_host m c i0)]
  unfold CentresReference.coord
  rw [hargs c]
  rfl

end Cert.Proof.CentresClaim

end
-- ==== Proof.Reach.lean ====
/-
  THE DISTANCES OF A CLOUD'S POINTS FROM GIVEN CENTRES as mathematics, and what is asked of them for the kernel's ranking
  and the reference's to be the same.
-/
module

public import proofs.«01_k».proof.Proof.Group

@[expose] public section

noncomputable section

namespace Cert.Proof.Reach

open Idealize.ShloMosaic
open Cert.Proof.Nearest Cert.Proof.Group

/-- A coordinate's row among the eight of the centres. -/
theorem lt_eight (a : Fin 3) : a.val < 8 := by omega

/-- A coordinate's column among the six of the points. -/
theorem lt_six (a : Fin 3) : a.val < 6 := by omega

variable (Q : Fin 3 → Fin 128 → ℝ) (P : Fin 3 → Fin 16384 → ℝ)

/-- The squared distance of a point from centre `r`. -/
def reach (r : Fin 128) (j : Fin 16384) : ℝ :=
  (Q 0 r - P 0 j) * (Q 0 r - P 0 j) + (Q 1 r - P 1 j) * (Q 1 r - P 1 j) + (Q 2 r - P 2 j) * (Q 2 r - P 2 j)

/-- The squared distances from centre `r`, as extended real numbers. -/
def reaches (r : Fin 128) : Fin 16384 → EReal := fun j => ((reach Q P r j : ℝ) : EReal)

/-- The point at place `s` of the neighbourhood of centre `r`. -/
def neighbour (r : Fin 128) (s : Fin 32) : Fin 16384 := near (reaches Q P r) ⟨s.val, by omega⟩

/-- The row of cloud `b`'s neighbour in the table of all points. -/
def row_number (b : Fin 16) (r : Fin 128) (s : Fin 32) : BitVec 32 :=
  BitVec.ofNat 32 (neighbour Q P r s).val + BitVec.ofNat 32 b.val * 16384#32

/-- The squared distances are zero or can be told apart from zero, and are below the number that replaces them. -/
structure Within : Prop where
  /-- No squared distance is too small without being zero. -/
  tells : ∀ r j, reach Q P r j = 0 ∨ tiny < reach Q P r j
  /-- None is too great. -/
  below : ∀ r j, reaches Q P r j < far

/-- No squared distance is negative. -/
theorem reach_nonneg (r : Fin 128) (j : Fin 16384) : 0 ≤ reach Q P r j := by
  unfold reach
  have h (x : ℝ) := mul_self_nonneg x
  exact add_nonneg (add_nonneg (h _) (h _)) (h _)

end Cert.Proof.Reach

end
-- ==== Proof.NeighboursValue.lean ====
/-
  WHAT THE CALL THAT RANKS THE POINTS LEAVES. At the ideal values each trip of its loop takes, for every centre, the first
  of the nearest points that the trips before have not taken (`Nearest.near`). The kernel does not mark the points taken: it
  keeps the distance and the index of the last one, and what is left are the points behind it in the order of distance
  and index.
-/
module

public import proofs.«01_k».proof.Proof.Reach
public import proofs.«01_k».proof.Proof.GroupValue
public import proofs.«01_k».proof.Proof.Gen.NeighboursIdeal.Frame
public import Idealize.ShloMosaic.Lib.Pipeline.ValueKit

@[expose] public section

set_option maxRecDepth 16384

noncomputable section

namespace Cert.Proof.NeighboursValue

open Idealize.ShloMosaic Idealize.ShloMosaic.TcCoe
open Cert.NeighboursIdeal Cert.NeighboursIdeal.Gen
open Cert.Proof.Norm Cert.Proof.Farthest Cert.Proof.Nearest Cert.Proof.Group Cert.Proof.Reach

/-- What the loop carries: the distance and the index of the point taken last, and the indices recorded. -/
abbrev Carried : Type := FVec Ideal S128x1 .f32 × IVec S128x1 32 × IVec S128x32 32

/-- The pattern of the number that the distance taken last starts with. -/
theorem ofBits_floor : Ideal.ofBits .f32 4048155338#32 = ((-(13234890 * (2 : ℝ) ^ (76 : Int)) : ℝ) : EReal) := by
  simp [Ideal.ofBits, Ideal.ieee]

/-- The pattern of minus two. -/
theorem ofBits_minus_two : Ideal.ofBits .f32 3221225472#32 = ((-2 : ℝ) : EReal) := by
  simp [Ideal.ofBits, Ideal.ieee]
  rw [← EReal.coe_mul]
  congr 1
  norm_num

/-- The bit of a decided proposition. -/
theorem bit_iff (p : Prop) [Decidable p] : BitVec.ofBool (decide p) = 1#1 ↔ p := by
  by_cases h : p <;> simp [h]

/-- A choice by a bit that says a proposition. -/
theorem select_of {α : Type} {w : BitVec 1} {p : Prop} [Decidable p] (h : w = 1#1 ↔ p) (a b : α) :
    Scalar.select w a b = if p then a else b := by
  by_cases g : p
  · rw [if_pos g, h.2 g]; rfl
  · rw [if_neg g, (w.eq_zero_or_eq_one).resolve_right (fun e => g (h.1 e))]; rfl

section Trip

variable (v0 : Vec Ideal S1x8x128 .f32) (v3 : Vec Ideal S1x3x16384 .f32)

/-- One trip of the loop. -/
def body (t : Fin k0_t1_loop.trips) (s : Carried) : Carried :=
  (k0_pay6 v0 v3 s.1 s.2.1, k0_pay7 v0 v3 s.1 s.2.1, k0_pay8 v0 v3 t s.1 s.2.1 s.2.2)

/-- The distances of the points from centre `r`. -/
abbrev line (r : Fin 128) : Fin 16384 → EReal := fun j => k0_pay1 v0 v3 (ix2 r j)

/-- Which points the loop takes to be left: those behind the one taken last. -/
theorem left_apply (a : FVec Ideal S128x1 .f32) (i : IVec S128x1 32) (r : Fin 128) (j : Fin 16384) :
    k0_pay5 v0 v3 a i (ix2 r j) = 1#1
      ↔ a (ix2 r 0) < line v0 v3 r j ∨ (line v0 v3 r j = a (ix2 r 0) ∧ IntOp.cmpi .sgt (BitVec.ofNat 32 j.val) (i (ix2 r 0)) = 1#1) := by
  unfold k0_pay5
  pointwise
  rw [IntOp.ori_eq_one, IntOp.andi_eq_one]
  exact or_congr (bit_iff _) (and_congr (bit_iff _) Iff.rfl)

/-- What the loop carries before trip `k`. -/
structure At (k : ℕ) (s : Carried) : Prop where
  /-- The points left are those without a place before `k`. -/
  left : ∀ r j, k0_pay5 v0 v3 s.1 s.2.1 (ix2 r j) = 1#1 ↔ Left (line v0 v3 r) k j
  /-- The indices of the points of the places before. -/
  out : ∀ (r : Fin 128) (i : Fin 32), i.val < k → s.2.2 (ix2 r i) = BitVec.ofNat 32 (near (line v0 v3 r) ⟨i.val, by omega⟩).val

variable {v0 v3}

/-- What the loop starts with. -/
theorem at_zero (h : ∀ r j, 0 ≤ line v0 v3 r j) : At v0 v3 0 (k0_pay2, k0_pay3, k0_pay4) where
  left r j := by
    rw [left_apply]
    refine ⟨fun _ i hi => absurd hi (Nat.not_lt_zero _), fun _ => Or.inl ?_⟩
    refine lt_of_lt_of_le ?_ (h r j)
    show (k0_pay2 : FVec Ideal S128x1 .f32) (ix2 r 0) < 0
    unfold k0_pay2
    pointwise
    rw [ofBits_floor]
    exact_mod_cast (by norm_num : -(13234890 * (2 : ℝ) ^ (76 : Int)) < 0)
  out _ _ h := absurd h (Nat.not_lt_zero _)

section Step

variable (hD : ∀ r j, line v0 v3 r j < far) (k : Fin 16384) (s : Carried) (h : At v0 v3 k.val s) (r : Fin 128)
include hD h

/-- The least distance of those left is that of the point at place `k`. -/
theorem least_apply : k0_pay6 v0 v3 s.1 s.2.1 (ix2 r 0) = line v0 v3 r (near (line v0 v3 r) k) := by
  classical
  unfold k0_pay6
  pointwise
  refine Eq.trans (congrArg (Finset.univ.fold min _) (funext fun j => ?_)) (fold_remaining (line v0 v3 r) (hD r) GroupValue.ofBits_top k)
  rw [remaining_eq, select_of (h.left r j)]

/-- The first index at which it is reached is that point's. -/
theorem taken_apply : k0_pay7 v0 v3 s.1 s.2.1 (ix2 r 0) = BitVec.ofNat 32 (near (line v0 v3 r) k).val := by
  classical
  unfold k0_pay7
  pointwise
  refine (Finset.fold_congr fun j _ => ?_).trans
    (fold_index (n := 16384) (by norm_num) (remaining (line v0 v3 r) far k.val) _ (near (line v0 v3 r) k) (remaining_near _ _ _)
      fun j => (remaining_least _ (hD r) k j).2)
  refine select_of ?_ _ _
  have e : line v0 v3 r j = k0_pay6 v0 v3 s.1 s.2.1 (ix2 r 0) ↔ line v0 v3 r j = line v0 v3 r (near (line v0 v3 r) k) :=
    Eq.congr_right (least_apply hD k s h r)
  refine IntOp.andi_eq_one.trans ((and_congr (h.left r j) ((bit_iff _).trans e)).trans ?_)
  rw [remaining_eq]
  by_cases g : Left (line v0 v3 r) k.val j
  · rw [if_pos g]
    exact and_iff_right g
  · rw [if_neg g]
    exact ⟨fun a => absurd a.1 g, fun a => absurd a (hD r _).ne'⟩

end Step

/-- One trip of the loop takes one more point. -/
theorem at_succ (hD : ∀ r j, line v0 v3 r j < far) (t : Fin k0_t1_loop.trips) (s : Carried) (h : At v0 v3 t.val s) :
    At v0 v3 (t.val + 1) (body v0 v3 t s) := by
  have ht : t.val < 32 := lt_of_lt_of_eq t.isLt (by decide)
  refine ⟨fun r j => ?_, fun r i hi => ?_⟩
  · dsimp only [body]
    rw [left_apply, least_apply hD ⟨t.val, by omega⟩ s h r, taken_apply hD ⟨t.val, by omega⟩ s h r, IntOp.cmpi_sgt,
      toInt_index (by norm_num), toInt_index (by norm_num)]
    refine Iff.trans ?_ (later (line v0 v3 r) ⟨t.val, by omega⟩ j)
    refine or_congr Iff.rfl (and_congr Iff.rfl ?_)
    exact Nat.cast_lt
  · dsimp only [body]
    unfold k0_pay8
    pointwise
    rw [show Scf.iv 0#32 1#32 t.val = BitVec.ofNat 32 t.val by simp [Scf.iv], select_index (by omega) (by omega)]
    by_cases e : i.val = t.val
    · rw [if_pos e, taken_apply hD ⟨t.val, by omega⟩ s h r]
      congr 3
      exact Fin.ext e.symm
    · rw [if_neg e, h.out r i (by omega)]

/-- What the loop carries when it ends. -/
theorem at_end (h0 : ∀ r j, 0 ≤ line v0 v3 r j) (hD : ∀ r j, line v0 v3 r j < far) :
    At v0 v3 32 (Scf.fold (body v0 v3) (k0_pay2, k0_pay3, k0_pay4)) :=
  GroupValue.fold_holds (body v0 v3) (At v0 v3) _ (at_zero h0) (at_succ hD)

end Trip

section Block

variable {v0 : Vec Ideal S1x8x128 .f32} {v3 : Vec Ideal S1x3x16384 .f32} {Q : Fin 3 → Fin 128 → ℝ} {P : Fin 3 → Fin 16384 → ℝ}
  (hQ : ∀ (a : Fin 3) r, v0 (ix3 0 ⟨a.val, by omega⟩ r) = ((Q a r : ℝ) : EReal)) (hP : ∀ a j, v3 (ix3 0 a j) = ((P a j : ℝ) : EReal))
include hQ hP

/-- The distances that the loop ranks are the squared distances of the points from the centres. -/
theorem line_apply (r : Fin 128) : line v0 v3 r = reaches Q P r := by
  funext j
  unfold line k0_pay1
  pointwise
  simp only [Fin.sum_univ_three, Finset.univ_unique, Finset.sum_singleton, hQ, hP, ofBits_minus_two, ← EReal.coe_mul, ← EReal.coe_add]
  unfold reaches reach
  congr 1
  ring

/-- The block written: the rows of the neighbours in the table of all points. -/
theorem block_apply (hW : Within Q P) (g : grid0.Coords) (r : Fin 128) (i : Fin 32) :
    k0_pay9 g (Scf.fold (body v0 v3) (k0_pay2, k0_pay3, k0_pay4)).2.2 (ix3 0 r i) = row_number Q P (g 0) r i := by
  have e := at_end (v0 := v0) (v3 := v3) (fun r j => by rw [line_apply hQ hP r]; exact EReal.coe_nonneg.mpr (reach_nonneg Q P r j))
    (fun r j => by rw [line_apply hQ hP r]; exact hW.below r j)
  have o := e.out r i i.isLt
  rw [line_apply hQ hP r] at o
  unfold k0_pay9
  pointwise
  rw [o]
  rfl

end Block

section Arrays

variable (m : (ℓ : Loc nD τ sig) → Buf (Elt Ideal) ℓ) (c : Dev nD)

/-- Where each window is at a point of the grid. -/
theorem index : ∀ t : Fin cfg0.N, win0_0.index t = ![(grid0.coords t 0).val, 0, 0] ∧ win0_1.index t = ![(grid0.coords t 0).val, 0, 0]
    ∧ win0_2.index t = ![(grid0.coords t 0).val, 0, 0] := by decide +kernel

/-- The coordinates as the call finds them. -/
theorem points_host (b : Fin 16) (a : Fin 3) (j : Fin 16384) : (V m c main_v1 : FVec Ideal S16x3x16384 .f32) (ix3 b a j)
    = (m ((c.tc : Thread nD τ).loc main_arg0) : FVec Ideal S16x16384x6 .f32) (ix3 b j ⟨a.val, by omega⟩) := by
  show (StableHlo.after (hostOps0 (F := Ideal)) (fun b => m (c, b)) (Proc.devRef .tc main_v1) : FVec Ideal S16x3x16384 .f32) (ix3 b a j) = _
  after_results_simp
  pointwise

/-- The centres as the call finds them. -/
theorem centres_host : V m c main_arg1 = m ((c.tc : Thread nD τ).loc main_arg1) := by
  show StableHlo.after (hostOps0 (F := Ideal)) (fun b => m (c, b)) (Proc.devRef .tc main_arg1) = _
  after_results_simp

variable {Q : Fin 16 → Fin 3 → Fin 128 → ℝ} {P : Fin 16 → Fin 3 → Fin 16384 → ℝ}
  (hQ : ∀ b (a : Fin 3) r, (m ((c.tc : Thread nD τ).loc main_arg1) : FVec Ideal S16x8x128 .f32) (ix3 b ⟨a.val, lt_eight a⟩ r) = ((Q b a r : ℝ) : EReal))
  (hP : ∀ b (a : Fin 3) j, (m ((c.tc : Thread nD τ).loc main_arg0) : FVec Ideal S16x16384x6 .f32) (ix3 b j ⟨a.val, lt_six a⟩) = ((P b a j : ℝ) : EReal))
  (hW : ∀ b, Within (Q b) (P b))
include hQ hP hW

/-- After the call its array holds the rows of the neighbours. -/
theorem rows_array : (dats m 0 c).arrAt 2 cfg0.N = fun i : S16x128x32.Idx => row_number (Q (i 0)) (P (i 0)) (i 0) (i 1) (i 2) := by
  refine (dats m 0 c).arrAt_eq_of_covers 2 _ (by decide +kernel) fun t hf y => ?_
  blk_simp
  rw [after0_2]
  unfold outsAt0
  frame_out
  have h := block_apply (v0 := iblk m c 0 t) (v3 := iblk m c 1 t) (Q := Q (grid0.coords t 0)) (P := P (grid0.coords t 0))
    (fun a r => (show _ = V m c main_arg1 (ix3 (grid0.coords t 0) ⟨a.val, by omega⟩ r) by blk_ext [iblk, (index t).1]).trans
      ((congrFun (centres_host m c) _).trans (hQ _ a r)))
    (fun a j => (show _ = V m c main_v1 (ix3 (grid0.coords t 0) a j) by blk_ext [iblk, (index t).2.1]).trans
      ((points_host m c _ a j).trans (hP _ a j)))
    (hW _) (grid0.coords t) ⟨(y 1).val, (y 1).isLt⟩ ⟨(y 2).val, (y 2).isLt⟩
  rw [show (((View.whole main_v2).slice (win0_2.rect t)).emb y) = ix3 (grid0.coords t 0) ⟨(y 1).val, (y 1).isLt⟩ ⟨(y 2).val, (y 2).isLt⟩ by
    blk_ext [(index t).2.2]]
  refine Eq.trans ?_ h
  congr 1
  blk_ext

end Arrays

end Cert.Proof.NeighboursValue

end
-- ==== Proof.NeighboursReference.lean ====
/-
  THE REFERENCE OF THE RANKING at the ideal values: it sorts the points of each cloud by their nearness to each centre and
  keeps the indices of the first 32. Where the points and the centres are real, these are the nearest points.
-/
module

public import proofs.«01_k».proof.Proof.Reach
public import proofs.«01_k».proof.Proof.Lookup
public import proofs.«01_k».proof.Proof.Norm
public import proofs.«01_k».proof.Proof.Gen.NeighboursReferenceIdeal.Run

@[expose] public section

set_option maxRecDepth 16384

noncomputable section

namespace Cert.Proof.NeighboursReference

open Idealize.ShloMosaic Idealize.ShloMosaic.TcCoe
open Cert.NeighboursReferenceIdeal Cert.NeighboursReferenceIdeal.Gen
open Cert.Proof.Nearest Cert.Proof.Lookup Cert.Proof.Group Cert.Proof.Norm Cert.Proof.Reach

/-- The centres, coordinates last. -/
def centres (z : FVec Ideal S16x8x128 .f32) : FVec Ideal S16x128x3 .f32 :=
  transpose S16x128x3 [0, 2, 1] (extractStridedSlice S16x3x128 ![0, 0, 0] z slices_S16x8x128_S16x3x128_0_0_0) transposes_S16x3x128_S16x128x3_0_2_1

/-- The points, without their features. -/
def points (x : FVec Ideal S16x16384x6 .f32) : FVec Ideal S16x16384x3 .f32 :=
  extractStridedSlice S16x16384x3 ![0, 0, 0] x slices_S16x16384x6_S16x16384x3_0_0_0

/-- The nearness of every point to every centre: the root of the squared distance, multiplied out and not below the
    least that is told apart, with its sign changed. -/
def measured (y : FVec Ideal S16x128x3 .f32) (x : FVec Ideal S16x16384x3 .f32) : FVec Ideal S16x128x16384 .f32 :=
  Host.negf (Host.sqrt (maximumf (subf
    (addf (broadcastInDim S16x128x16384 ![0, 1, 2] bcast_S16x128x1_S16x128x16384_0_1_2 (broadcastInDim S16x128x1 ![0, 1] bcast_S16x128_S16x128x1_0_1
        (Host.reduceAdd (mulf y y) (constant S_ .f32 0x00000000#32) reducesTo_S16x128x3_S16x128_d2 h_S_)))
      (broadcastInDim S16x128x16384 ![0, 1, 2] bcast_S16x1x16384_S16x128x16384_0_1_2 (broadcastInDim S16x1x16384 ![0, 2] bcast_S16x16384_S16x1x16384_0_2
        (Host.reduceAdd (mulf x x) (constant S_ .f32 0x00000000#32) reducesTo_S16x16384x3_S16x16384_d2 h_S_))))
    (mulf (broadcastInDim S16x128x16384 ![] bcast_S_S16x128x16384 (constant S_ .f32 0x40000000#32))
      (Host.dotGeneral dot_S16x128x3_S16x16384x3_S16x128x16384_2_2_1_1_0_0 none y x)))
    (broadcastInDim S16x128x16384 ![] bcast_S_S16x128x16384 (constant S_ .f32 0x2B8CBCCC#32))))

/-- The indices of the 32 greatest of the 16384 values of each centre, the greatest first. -/
def ranked (x : FVec Ideal S16x128x16384 .f32) : IVec S16x128x32 32 :=
  (Host.topK S16x128x32 2 (FloatOps.cmpfTotal .gt) x sliceFits_S16x128x16384_S16x128x32).2

/-- Where the values are in the reverse order of others, they are the indices of the nearest by those. -/
theorem ranked_apply (x : FVec Ideal S16x128x16384 .f32) (b : Fin 16) (r : Fin 128) (s : Fin 32) (d : Fin 16384 → EReal)
    (h : ∀ i j, x (ix3 b r j) < x (ix3 b r i) ↔ d i < d j) :
    ranked x (ix3 b r s) = BitVec.ofNat 32 (near d ⟨s.val, by omega⟩).val := by
  have e (k : Fin 16384) : (ix3 b r ⟨s.val, by omega⟩ : S16x128x16384.Idx).along 2 k = ix3 b r k := by
    funext q
    match q with
    | ⟨0, _⟩ => rfl
    | ⟨1, _⟩ => rfl
    | ⟨2, _⟩ => rfl
  have he : (fun k k' : Fin 16384 => FloatOps.cmpfTotal (F := Ideal) (φ := .f32) .gt (x ((ix3 b r ⟨s.val, by omega⟩ : S16x128x16384.Idx).along 2 k))
      (x ((ix3 b r ⟨s.val, by omega⟩ : S16x128x16384.Idx).along 2 k')) == 1#1)
      = fun i j => Ideal.cmp .ogt (x (ix3 b r i)) (x (ix3 b r j)) == 1#1 := by
    funext k k'
    rw [e, e]
    rfl
  rw [← sorted_near d (fun j => x (ix3 b r j)) h, ← he]
  refine topK_index (s := S16x128x16384) 2 _ x _ (ix3 b r s) (ix3 b r ⟨s.val, by omega⟩) fun q => ?_
  match q with
  | ⟨0, _⟩ => exact (Nat.zero_add _).symm
  | ⟨1, _⟩ => exact (Nat.zero_add _).symm
  | ⟨2, _⟩ => exact (Nat.zero_add _).symm

section Real

variable {Q : Fin 16 → Fin 3 → Fin 128 → ℝ} {P : Fin 16 → Fin 3 → Fin 16384 → ℝ} {z : FVec Ideal S16x8x128 .f32} {x : FVec Ideal S16x16384x6 .f32}
  (hQ : ∀ b (a : Fin 3) r, z (ix3 b ⟨a.val, lt_eight a⟩ r) = ((Q b a r : ℝ) : EReal))
  (hP : ∀ b (a : Fin 3) j, x (ix3 b j ⟨a.val, lt_six a⟩) = ((P b a j : ℝ) : EReal))
include hQ hP

/-- Where the points are real, the nearness is the root of the greater of the squared distance and that least, with its sign
    changed. -/
theorem measured_apply (b : Fin 16) (r : Fin 128) (j : Fin 16384) :
    measured (centres z) (points x) (ix3 b r j) = ((-Real.sqrt (max (reach (Q b) (P b) r j) tiny) : ℝ) : EReal) := by
  have hy (q : Fin 3) : centres z (ix3 b r q) = ((Q b q r : ℝ) : EReal) := by
    unfold centres
    pointwise
    exact hQ b q r
  have hx (q : Fin 3) : points x (ix3 b j q) = ((P b q j : ℝ) : EReal) := by
    unfold points
    pointwise
    exact hP b q j
  unfold measured
  pointwise
  simp only [hy, hx, ofBits_two, ofBits_tiny, Fin.sum_univ_three, ← EReal.coe_mul, ← EReal.coe_add, ← EReal.coe_sub]
  rw [max_coe, sqrt_coe _ (le_max_of_le_right tiny_pos.le), ← EReal.coe_neg]
  congr 4
  unfold reach
  ring

/-- The result: the rows of the neighbours in the table of all points. -/
theorem rows_apply (hW : ∀ b, Within (Q b) (P b)) (b : Fin 16) (r : Fin 128) (s : Fin 32) :
    addi (ranked (measured (centres z) (points x))) (broadcastInDim S16x128x32 ![0, 1, 2] bcast_S16x1x1_S16x128x32_0_1_2
      (muli (broadcastInDim S16x1x1 ![] bcast_S_S16x1x1 (constantI S_ 32 16384#32)) (broadcastInDim S16x1x1 ![0] bcast_S16_S16x1x1_0 (iotaInDim S16 32 0))))
      (ix3 b r s) = row_number (Q b) (P b) b r s := by
  have h := ranked_apply (measured (centres z) (points x)) b r s (reaches (Q b) (P b) r) fun i j => by
    rw [measured_apply hQ hP, measured_apply hQ hP]
    exact order_of_told ((hW b).tells r i) ((hW b).tells r j)
  generalize ranked (measured (centres z) (points x)) = w at h ⊢
  pointwise
  rw [h]
  unfold row_number Reach.neighbour IntOp.addi IntOp.muli
  rw [BitVec.mul_comm]

end Real

end Cert.Proof.NeighboursReference

end
-- ==== Proof.NeighboursClaim.lean ====
/-
  THE CALL THAT RANKS THE POINTS AGAINST ITS REFERENCE. What the precondition says of the arguments is read off; then both
  results name the same rows of the table of all points.
-/
module

public import proofs.«01_k».proof.Defs
public import proofs.«01_k».proof.Proof.NeighboursValue
public import proofs.«01_k».proof.Proof.NeighboursReference
public import proofs.«01_k».proof.Proof.Gen.Pre_within

@[expose] public section

set_option maxRecDepth 16384

noncomputable section

namespace Cert.Proof.NeighboursClaim

open Idealize.ShloMosaic Idealize.ShloMosaic.TcCoe Idealize.SL.Sem Idealize.ShloMosaic.StableHlo
open Cert.Proof.Group Cert.Proof.Norm Cert.Proof.Reach

/-- What the precondition says: the coordinates are real, and the points are within reach and told apart. -/
theorem facts_of_pre (x : FVec Ideal Cert.Pre_within.S16x16384x6 .f32) (z : FVec Ideal Cert.Pre_within.S16x8x128 .f32)
    (h : @Cert.Pre_within.fn Cert.Pre_within.Gen.facts Ideal _ x z = fun _ => 1#1) :
    ∃ (Q : Fin 16 → Fin 3 → Fin 128 → ℝ) (P : Fin 16 → Fin 3 → Fin 16384 → ℝ),
      (∀ b (a : Fin 3) r, z (ix3 b ⟨a.val, lt_eight a⟩ r) = ((Q b a r : ℝ) : EReal))
        ∧ (∀ b (a : Fin 3) j, x (ix3 b j ⟨a.val, lt_six a⟩) = ((P b a j : ℝ) : EReal)) ∧ ∀ b, Within (Q b) (P b) := by
  have e := congrFun h ix0
  unfold Cert.Pre_within.fn Cert.Pre_within.fn_part1 at e
  pointwise at e
  simp only [IntOp.andi_eq_one, fold_andi] at e
  obtain ⟨⟨hx, hz⟩, hW⟩ := e
  have hQ (b : Fin 16) (a : Fin 3) (r : Fin 128) : z (ix3 b ⟨a.val, lt_eight a⟩ r) = (((z (ix3 b ⟨a.val, lt_eight a⟩ r)).toReal : ℝ) : EReal) :=
    coe_toReal_of_bit (hz (b, a, r))
  have hP (b : Fin 16) (a : Fin 3) (j : Fin 16384) : x (ix3 b j ⟨a.val, lt_six a⟩) = (((x (ix3 b j ⟨a.val, lt_six a⟩)).toReal : ℝ) : EReal) :=
    coe_toReal_of_bit (hx (b, j, a))
  refine ⟨fun b a r => (z (ix3 b ⟨a.val, lt_eight a⟩ r)).toReal, fun b a j => (x (ix3 b j ⟨a.val, lt_six a⟩)).toReal, hQ, hP, fun b => ?_⟩
  have sum (r : Fin 128) (j : Fin 16384) : (∑ a : Fin 3, (z (ix3 b ⟨a.val, lt_eight a⟩ r) - x (ix3 b j ⟨a.val, lt_six a⟩))
        * (z (ix3 b ⟨a.val, lt_eight a⟩ r) - x (ix3 b j ⟨a.val, lt_six a⟩)))
      = ((reach (fun a r => (z (ix3 b ⟨a.val, lt_eight a⟩ r)).toReal) (fun a j => (x (ix3 b j ⟨a.val, lt_six a⟩)).toReal) r j : ℝ) : EReal) := by
    rw [Fin.sum_univ_three, hQ b 0 r, hP b 0 j, hQ b 1 r, hP b 1 j, hQ b 2 r, hP b 2 j]
    rfl
  refine ⟨fun r j => ?_, fun r j => ?_⟩
  · rcases IntOp.ori_eq_one.mp (hW (b, r, j)).1 with k | k
    · exact Or.inl (by have k := of_bit k; rw [sum] at k; exact_mod_cast k)
    · exact Or.inr (by have k := of_bit k; rw [sum, ofBits_tiny] at k; exact_mod_cast k)
  · have k := of_bit (hW (b, r, j)).2
    rw [sum] at k
    exact k

section Host

open Cert.NeighboursIdeal Cert.NeighboursIdeal.Gen

variable (m : (ℓ : Loc nD τ sig) → Buf (Elt Ideal) ℓ)

/-- The program's run: the result is what the call's array holds, and the arguments are as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.1 c).1 2, h.2 c⟩) (θ_run_and (run_main (F := Ideal) m ρ) (unchanged (F := Ideal) m ρ))

end Host

/-- The reference's run, with the arguments as they were. -/
theorem frame_reference : Cert.quiescent_NeighboursReferenceIdeal (hNeighboursReferenceIdeal := Cert.NeighboursReferenceIdeal.Gen.facts) :=
  fun m ρ _ => (θ_run _ _ _).mono
    (fun r q => ⟨fun c => (q c).2, sem_eq_zero_of_no_sems (by decide) r.2⟩)
    (Cert.NeighboursReferenceIdeal.Value.run (F := Ideal) m ρ)

/-- Over the extended reals the row numbers that the kernel gives are the reference's. -/
theorem rows_equal : Cert.algebraic_NeighboursIdeal_NeighboursReferenceIdeal_pre_within (hNeighboursIdeal := Cert.NeighboursIdeal.Gen.facts)
    (hNeighboursReferenceIdeal := Cert.NeighboursReferenceIdeal.Gen.facts) (hPre_within := Cert.Pre_within.Gen.facts) := by
  intro m ρ m' ρ' hpre hargs
  refine ⟨fun c => (Cert.NeighboursIdeal.Gen.dats m 0 c).arrAt 2 Cert.NeighboursIdeal.cfg0.N, run m ρ, ?_⟩
  refine (θ_run _ _ _).mono (fun r q c => ⟨(q c).1.trans ?_, (q c).2⟩) (Cert.NeighboursReferenceIdeal.Value.run (F := Ideal) m' ρ')
  obtain ⟨Q, P, hQ, hP, hW⟩ := facts_of_pre _ _ (hpre c)
  refine Eq.trans ?_ (NeighboursValue.rows_array m c hQ hP hW).symm
  rw [← (hargs c).1] at hP
  rw [← (hargs c).2] at hQ
  funext i
  idx_vars i
  exact NeighboursReference.rows_apply hQ hP hW i0 i1 i2

end Cert.Proof.NeighboursClaim

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_own_cloud
public import proofs.«01_k».proof.Proof.Value
public import proofs.«01_k».proof.Proof.Bits
public import proofs.«01_k».proof.Proof.Gen.Features.Frame
public import proofs.«01_k».proof.Proof.Gen.FeaturesIdeal.Frame
public import proofs.«01_k».proof.Proof.Gen.Result.Frame
public import proofs.«01_k».proof.Proof.Gen.ResultIdeal.Frame
public import proofs.«01_k».proof.Proof.FeaturesClaim
public import proofs.«01_k».proof.Proof.ResultClaim
public import proofs.«01_k».proof.Proof.Gen.Centres.Frame
public import proofs.«01_k».proof.Proof.Gen.CentresIdeal.Frame
public import proofs.«01_k».proof.Proof.CentresClaim
public import proofs.«01_k».proof.Proof.Gen.Neighbours.Frame
public import proofs.«01_k».proof.Proof.Gen.NeighboursIdeal.Frame
public import proofs.«01_k».proof.Proof.NeighboursClaim
public import Idealize.ShloMosaic.Adequacy
public import Idealize.ShloMosaic.Init

@[expose] public section

noncomputable section

namespace Cert.Proof

open Idealize.ShloMosaic Idealize.SL.Sem Cert.Proof.Gather

/-- The reference, a program of host operations without a semaphore, leaves its arguments as they were. -/
theorem frame_reference : Cert.quiescent_ReferenceIdeal (hReferenceIdeal := Cert.ReferenceIdeal.Gen.facts) :=
  fun m ρ _ => (θ_run _ _ _).mono
    (fun r q => ⟨fun c => (q c).2, sem_eq_zero_of_no_sems (by decide) r.2⟩)
    (Cert.ReferenceIdeal.Value.run (F := Ideal) m ρ)

/-- Over the extended reals the gathered rows are the reference's. -/
theorem rows_equal : Cert.algebraic_KernelIdeal_ReferenceIdeal (hKernelIdeal := Cert.KernelIdeal.Gen.facts)
    (hReferenceIdeal := Cert.ReferenceIdeal.Gen.facts) (hPre_own_cloud := Cert.Pre_own_cloud.Gen.facts) := by
  intro m ρ m' ρ' hpre hargs
  refine ⟨fun c => result m c, ?_, ?_⟩
  · exact (θ_run _ _ _).mono (fun _ q c => ⟨(q.1 c).2.2, (q.1 c).1, (q.1 c).2.1⟩)
      (run_main (F := Ideal) m ρ (inRows_of_pre m hpre))
  · refine (θ_run _ _ _).mono (fun r q c => ⟨(q c).1.trans ?_, (q c).2⟩)
      (Cert.ReferenceIdeal.Value.run (F := Ideal) m' ρ')
    rw [(hargs c).1, (hargs c).2]
    exact (gathered_eq (own_of_pre _ _ (hpre c))).symm

/-- The reference of the features leaves its arguments as they were. -/
theorem frame_features_reference :
    Cert.quiescent_FeaturesReferenceIdeal (hFeaturesReferenceIdeal := Cert.FeaturesReferenceIdeal.Gen.facts) :=
  fun m ρ _ => (θ_run _ _ _).mono
    (fun r q => ⟨fun c => (q c).2, sem_eq_zero_of_no_sems (by decide) r.2⟩)
    (Cert.FeaturesReferenceIdeal.Value.run (F := Ideal) m ρ)

/-- All the claims. -/
theorem claim : Cert.Claim :=
  ⟨Cert.Kernel.Gen.facts, Cert.KernelIdeal.Gen.facts, Cert.ReferenceIdeal.Gen.facts,
    Cert.Features.Gen.facts, Cert.FeaturesIdeal.Gen.facts, Cert.FeaturesReferenceIdeal.Gen.facts,
    Cert.Result.Gen.facts, Cert.ResultIdeal.Gen.facts, Cert.ResultReferenceIdeal.Gen.facts,
    Cert.Centres.Gen.facts, Cert.CentresIdeal.Gen.facts, Cert.CentresReferenceIdeal.Gen.facts,
    Cert.Neighbours.Gen.facts, Cert.NeighboursIdeal.Gen.facts, Cert.NeighboursReferenceIdeal.Gen.facts,
    Cert.Pre_own_cloud.Gen.facts, Cert.Pre_finite1.Gen.facts, Cert.Pre_apart.Gen.facts, Cert.Pre_within.Gen.facts,
    frame_bits, frame_ideal, frame_reference, fun m ρ _ => frame_reference m ρ trivial,
    fun m ρ _ => Cert.Features.Gen.frame m ρ, fun m ρ _ => Cert.FeaturesIdeal.Gen.frame m ρ,
    fun m ρ _ => Cert.FeaturesIdeal.Gen.frame m ρ, frame_features_reference, fun m ρ _ => frame_features_reference m ρ trivial,
    fun m ρ _ => Cert.Result.Gen.frame m ρ, fun m ρ _ => Cert.ResultIdeal.Gen.frame m ρ,
    fun m ρ _ => Cert.ResultIdeal.Gen.frame m ρ, ResultClaim.frame_reference, fun m ρ _ => ResultClaim.frame_reference m ρ trivial,
    fun m ρ _ => Cert.Centres.Gen.frame m ρ, fun m ρ _ => Cert.CentresIdeal.Gen.frame m ρ, CentresClaim.frame_reference,
    fun m ρ _ => Cert.Neighbours.Gen.frame m ρ, fun m ρ _ => Cert.NeighboursIdeal.Gen.frame m ρ,
    fun m ρ _ => Cert.NeighboursIdeal.Gen.frame m ρ, NeighboursClaim.frame_reference, fun m ρ _ => NeighboursClaim.frame_reference m ρ trivial,
    trivial, rows_equal, trivial, FeaturesClaim.features_equal, trivial, ResultClaim.results_equal,
    trivial, CentresClaim.centres_equal, trivial, NeighboursClaim.rows_equal⟩

end Cert.Proof

end
